-- ==== Defs.lean ====
def Pre_Moe [hPre_in_range : Cert.Pre_in_range.Facts] (m : (ℓ : Loc Cert.Moe.nD Cert.Moe.τ Cert.Moe.sig) → Buf (Elt Bits) ℓ) : Prop :=
  ∀ c : Dev Cert.Moe.nD,
    (Cert.Pre_in_range.fn (F := Bits) (m ((c.tc : Thread Cert.Moe.nD Cert.Moe.τ).loc Cert.Moe.main_arg0)) (m ((c.tc : Thread Cert.Moe.nD Cert.Moe.τ).loc Cert.Moe.main_arg1)) (m ((c.tc : Thread Cert.Moe.nD Cert.Moe.τ).loc Cert.Moe.main_arg2)) (m ((c.tc : Thread Cert.Moe.nD Cert.Moe.τ).loc Cert.Moe.main_arg3)) (m ((c.tc : Thread Cert.Moe.nD Cert.Moe.τ).loc Cert.Moe.main_arg4)) (m ((c.tc : Thread Cert.Moe.nD Cert.Moe.τ).loc Cert.Moe.main_arg5)) (m ((c.tc : Thread Cert.Moe.nD Cert.Moe.τ).loc Cert.Moe.main_arg6))) = (fun _ => 1#1)

def Pre_MoeIdeal [hPre_in_range : Cert.Pre_in_range.Facts] (m : (ℓ : Loc Cert.MoeIdeal.nD Cert.MoeIdeal.τ Cert.MoeIdeal.sig) → Buf (Elt Ideal) ℓ) : Prop :=
  ∀ c : Dev Cert.MoeIdeal.nD,
    (Cert.Pre_in_range.fn (F := Ideal) (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3)) (m ((c.tc : Thread Cert.MoeIdeal.nD Cert.MoeIdeal.τ).loc Cert.MoeIdeal.main_arg4)) (m ((c.tc : Thread Cert.MoeIdeal.nD Cert.MoeIdeal.τ).loc Cert.MoeIdeal.main_arg5)) (m ((c.tc : Thread Cert.MoeIdeal.nD Cert.MoeIdeal.τ).loc Cert.MoeIdeal.main_arg6))) = (fun _ => 1#1)

def Pre_MoeReferenceIdeal (m : (ℓ : Loc Cert.MoeReferenceIdeal.nD Cert.MoeReferenceIdeal.τ Cert.MoeReferenceIdeal.sig) → Buf (Elt Ideal) ℓ) : Prop :=
  True

def Pre_MoeReferenceIdeal_in_range [hPre_in_range : Cert.Pre_in_range.Facts] (m : (ℓ : Loc Cert.MoeReferenceIdeal.nD Cert.MoeReferenceIdeal.τ Cert.MoeReferenceIdeal.sig) → Buf (Elt Ideal) ℓ) : Prop :=
  ∀ c : Dev Cert.MoeReferenceIdeal.nD,
    (Cert.Pre_in_range.fn (F := Ideal) (m ((c.tc : Thread Cert.MoeReferenceIdeal.nD Cert.MoeReferenceIdeal.τ).loc Cert.MoeReferenceIdeal.main_arg0)) (m ((c.tc : Thread Cert.MoeReferenceIdeal.nD Cert.MoeReferenceIdeal.τ).loc Cert.MoeReferenceIdeal.main_arg1)) (m ((c.tc : Thread Cert.MoeReferenceIdeal.nD Cert.MoeReferenceIdeal.τ).loc Cert.MoeReferenceIdeal.main_arg2)) (m ((c.tc : Thread Cert.MoeReferenceIdeal.nD Cert.MoeReferenceIdeal.τ).loc Cert.MoeReferenceIdeal.main_arg3)) (m ((c.tc : Thread Cert.MoeReferenceIdeal.nD Cert.MoeReferenceIdeal.τ).loc Cert.MoeReferenceIdeal.main_arg4)) (m ((c.tc : Thread Cert.MoeReferenceIdeal.nD Cert.MoeReferenceIdeal.τ).loc Cert.MoeReferenceIdeal.main_arg5)) (m ((c.tc : Thread Cert.MoeReferenceIdeal.nD Cert.MoeReferenceIdeal.τ).loc Cert.MoeReferenceIdeal.main_arg6))) = (fun _ => 1#1)

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_scores_finite [hPre_scores_finite : Cert.Pre_scores_finite.Facts] (m : (ℓ : Loc Cert.AttnIdeal.nD Cert.AttnIdeal.τ Cert.AttnIdeal.sig) → Buf (Elt Ideal) ℓ) : Prop :=
  ∀ c : Dev Cert.AttnIdeal.nD,
    (Cert.Pre_scores_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7)) (m ((c.tc : Thread Cert.AttnIdeal.nD Cert.AttnIdeal.τ).loc Cert.AttnIdeal.main_arg8))) = (fun _ => 1#1)

def Pre_AttnReferenceIdeal (m : (ℓ : Loc Cert.AttnReferenceIdeal.nD Cert.AttnReferenceIdeal.τ Cert.AttnReferenceIdeal.sig) → Buf (Elt Ideal) ℓ) : Prop :=
  True

def Pre_AttnReferenceIdeal_scores_finite [hPre_scores_finite : Cert.Pre_scores_finite.Facts] (m : (ℓ : Loc Cert.AttnReferenceIdeal.nD Cert.AttnReferenceIdeal.τ Cert.AttnReferenceIdeal.sig) → Buf (Elt Ideal) ℓ) : Prop :=
  ∀ c : Dev Cert.AttnReferenceIdeal.nD,
    (Cert.Pre_scores_finite.fn (F := Ideal) (m ((c.tc : Thread Cert.AttnReferenceIdeal.nD Cert.AttnReferenceIdeal.τ).loc Cert.AttnReferenceIdeal.main_arg0)) (m ((c.tc : Thread Cert.AttnReferenceIdeal.nD Cert.AttnReferenceIdeal.τ).loc Cert.AttnReferenceIdeal.main_arg1)) (m ((c.tc : Thread Cert.AttnReferenceIdeal.nD Cert.AttnReferenceIdeal.τ).loc Cert.AttnReferenceIdeal.main_arg2)) (m ((c.tc : Thread Cert.AttnReferenceIdeal.nD Cert.AttnReferenceIdeal.τ).loc Cert.AttnReferenceIdeal.main_arg3)) (m ((c.tc : Thread Cert.AttnReferenceIdeal.nD Cert.AttnReferenceIdeal.τ).loc Cert.AttnReferenceIdeal.main_arg4)) (m ((c.tc : Thread Cert.AttnReferenceIdeal.nD Cert.AttnReferenceIdeal.τ).loc Cert.AttnReferenceIdeal.main_arg5)) (m ((c.tc : Thread Cert.AttnReferenceIdeal.nD Cert.AttnReferenceIdeal.τ).loc Cert.AttnReferenceIdeal.main_arg6)) (m ((c.tc : Thread Cert.AttnReferenceIdeal.nD Cert.AttnReferenceIdeal.τ).loc Cert.AttnReferenceIdeal.main_arg7)) (m ((c.tc : Thread Cert.AttnReferenceIdeal.nD Cert.AttnReferenceIdeal.τ).loc Cert.AttnReferenceIdeal.main_arg8))) = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjReferenceIdeal (m : (ℓ : Loc Cert.InProjReferenceIdeal.nD Cert.InProjReferenceIdeal.τ Cert.InProjReferenceIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjReferenceIdeal (m : (ℓ : Loc Cert.OutProjReferenceIdeal.nD Cert.OutProjReferenceIdeal.τ Cert.OutProjReferenceIdeal.sig) → Buf (Elt Ideal) ℓ) : Prop :=
  True

def quiescent_Moe [hMoe : Cert.Moe.Facts] [hPre_in_range : Cert.Pre_in_range.Facts] : Prop :=
  ∀ (m : (ℓ : Loc Cert.Moe.nD Cert.Moe.τ Cert.Moe.sig) → Buf (Elt Bits) ℓ) (g : Dev Cert.Moe.nD → PrngReg), Pre_Moe m →
    θ_run (Cert.Moe.defs (F := Bits)) (onTc (τ := Cert.Moe.τ) (Cert.Moe.main (F := Bits))) ⟨m, fun _ => 0, g⟩ (fun r => (∀ c : Dev Cert.Moe.nD,
      r.2.mem ((c.tc : Thread Cert.Moe.nD Cert.Moe.τ).loc Cert.Moe.main_arg0) = m ((c.tc : Thread Cert.Moe.nD Cert.Moe.τ).loc Cert.Moe.main_arg0)
      ∧ r.2.mem ((c.tc : Thread Cert.Moe.nD Cert.Moe.τ).loc Cert.Moe.main_arg1) = m ((c.tc : Thread Cert.Moe.nD Cert.Moe.τ).loc Cert.Moe.main_arg1)
      ∧ r.2.mem ((c.tc : Thread Cert.Moe.nD Cert.Moe.τ).loc Cert.Moe.main_arg2) = m ((c.tc : Thread Cert.Moe.nD Cert.Moe.τ).loc Cert.Moe.main_arg2)
      ∧ r.2.mem ((c.tc : Thread Cert.Moe.nD Cert.Moe.τ).loc Cert.Moe.main_arg3) = m ((c.tc : Thread Cert.Moe.nD Cert.Moe.τ).loc Cert.Moe.main_arg3)
      ∧ r.2.mem ((c.tc : Thread Cert.Moe.nD Cert.Moe.τ).loc Cert.Moe.main_arg4) = m ((c.tc : Thread Cert.Moe.nD Cert.Moe.τ).loc Cert.Moe.main_arg4)
      ∧ r.2.mem ((c.tc : Thread Cert.Moe.nD Cert.Moe.τ).loc Cert.Moe.main_arg5) = m ((c.tc : Thread Cert.Moe.nD Cert.Moe.τ).loc Cert.Moe.main_arg5)
      ∧ r.2.mem ((c.tc : Thread Cert.Moe.nD Cert.Moe.τ).loc Cert.Moe.main_arg6) = m ((c.tc : Thread Cert.Moe.nD Cert.Moe.τ).loc Cert.Moe.main_arg6))
      ∧ r.2.sem = fun _ => 0)

def quiescent_MoeIdeal [hMoeIdeal : Cert.MoeIdeal.Facts] [hPre_in_range : Cert.Pre_in_range.Facts] : Prop :=
  ∀ (m : (ℓ : Loc Cert.MoeIdeal.nD Cert.MoeIdeal.τ Cert.MoeIdeal.sig) → Buf (Elt Ideal) ℓ) (g : Dev Cert.MoeIdeal.nD → PrngReg), Pre_MoeIdeal m →
    θ_run (Cert.MoeIdeal.defs (F := Ideal)) (onTc (τ := Cert.MoeIdeal.τ) (Cert.MoeIdeal.main (F := Ideal))) ⟨m, fun _ => 0, g⟩ (fun r => (∀ c : Dev Cert.MoeIdeal.nD,
      r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
      ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
      ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
      ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
      ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
      ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
      ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6))
      ∧ r.2.sem = fun _ => 0)

def quiescent_MoeReferenceIdeal [hMoeReferenceIdeal : Cert.MoeReferenceIdeal.Facts] : Prop :=
  ∀ (m : (ℓ : Loc Cert.MoeReferenceIdeal.nD Cert.MoeReferenceIdeal.τ Cert.MoeReferenceIdeal.sig) → Buf (Elt Ideal) ℓ) (g : Dev Cert.MoeReferenceIdeal.nD → PrngReg), Pre_MoeReferenceIdeal m →
    θ_run (Cert.MoeReferenceIdeal.defs (F := Ideal)) (onTc (τ := Cert.MoeReferenceIdeal.τ) (Cert.MoeReferenceIdeal.main (F := Ideal))) ⟨m, fun _ => 0, g⟩ (fun r => (∀ c : Dev Cert.MoeReferenceIdeal.nD,
      r.2.mem ((c.tc : Thread Cert.MoeReferenceIdeal.nD Cert.MoeReferenceIdeal.τ).loc Cert.MoeReferenceIdeal.main_arg0) = m ((c.tc : Thread Cert.MoeReferenceIdeal.nD Cert.MoeReferenceIdeal.τ).loc Cert.MoeReferenceIdeal.main_arg0)
      ∧ r.2.mem ((c.tc : Thread Cert.MoeReferenceIdeal.nD Cert.MoeReferenceIdeal.τ).loc Cert.MoeReferenceIdeal.main_arg1) = m ((c.tc : Thread Cert.MoeReferenceIdeal.nD Cert.MoeReferenceIdeal.τ).loc Cert.MoeReferenceIdeal.main_arg1)
      ∧ r.2.mem ((c.tc : Thread Cert.MoeReferenceIdeal.nD Cert.MoeReferenceIdeal.τ).loc Cert.MoeReferenceIdeal.main_arg2) = m ((c.tc : Thread Cert.MoeReferenceIdeal.nD Cert.MoeReferenceIdeal.τ).loc Cert.MoeReferenceIdeal.main_arg2)
      ∧ r.2.mem ((c.tc : Thread Cert.MoeReferenceIdeal.nD Cert.MoeReferenceIdeal.τ).loc Cert.MoeReferenceIdeal.main_arg3) = m ((c.tc : Thread Cert.MoeReferenceIdeal.nD Cert.MoeReferenceIdeal.τ).loc Cert.MoeReferenceIdeal.main_arg3)
      ∧ r.2.mem ((c.tc : Thread Cert.MoeReferenceIdeal.nD Cert.MoeReferenceIdeal.τ).loc Cert.MoeReferenceIdeal.main_arg4) = m ((c.tc : Thread Cert.MoeReferenceIdeal.nD Cert.MoeReferenceIdeal.τ).loc Cert.MoeReferenceIdeal.main_arg4)
      ∧ r.2.mem ((c.tc : Thread Cert.MoeReferenceIdeal.nD Cert.MoeReferenceIdeal.τ).loc Cert.MoeReferenceIdeal.main_arg5) = m ((c.tc : Thread Cert.MoeReferenceIdeal.nD Cert.MoeReferenceIdeal.τ).loc Cert.MoeReferenceIdeal.main_arg5)
      ∧ r.2.mem ((c.tc : Thread Cert.MoeReferenceIdeal.nD Cert.MoeReferenceIdeal.τ).loc Cert.MoeReferenceIdeal.main_arg6) = m ((c.tc : Thread Cert.MoeReferenceIdeal.nD Cert.MoeReferenceIdeal.τ).loc Cert.MoeReferenceIdeal.main_arg6))
      ∧ r.2.sem = fun _ => 0)

def quiescent_MoeReferenceIdeal_pre_in_range [hMoeReferenceIdeal : Cert.MoeReferenceIdeal.Facts] [hPre_in_range : Cert.Pre_in_range.Facts] : Prop :=
  ∀ (m : (ℓ : Loc Cert.MoeReferenceIdeal.nD Cert.MoeReferenceIdeal.τ Cert.MoeReferenceIdeal.sig) → Buf (Elt Ideal) ℓ) (g : Dev Cert.MoeReferenceIdeal.nD → PrngReg), Pre_MoeReferenceIdeal_in_range m →
    θ_run (Cert.MoeReferenceIdeal.defs (F := Ideal)) (onTc (τ := Cert.MoeReferenceIdeal.τ) (Cert.MoeReferenceIdeal.main (F := Ideal))) ⟨m, fun _ => 0, g⟩ (fun r => (∀ c : Dev Cert.MoeReferenceIdeal.nD,
      r.2.mem ((c.tc : Thread Cert.MoeReferenceIdeal.nD Cert.MoeReferenceIdeal.τ).loc Cert.MoeReferenceIdeal.main_arg0) = m ((c.tc : Thread Cert.MoeReferenceIdeal.nD Cert.MoeReferenceIdeal.τ).loc Cert.MoeReferenceIdeal.main_arg0)
      ∧ r.2.mem ((c.tc : Thread Cert.MoeReferenceIdeal.nD Cert.MoeReferenceIdeal.τ).loc Cert.MoeReferenceIdeal.main_arg1) = m ((c.tc : Thread Cert.MoeReferenceIdeal.nD Cert.MoeReferenceIdeal.τ).loc Cert.MoeReferenceIdeal.main_arg1)
      ∧ r.2.mem ((c.tc : Thread Cert.MoeReferenceIdeal.nD Cert.MoeReferenceIdeal.τ).loc Cert.MoeReferenceIdeal.main_arg2) = m ((c.tc : Thread Cert.MoeReferenceIdeal.nD Cert.MoeReferenceIdeal.τ).loc Cert.MoeReferenceIdeal.main_arg2)
      ∧ r.2.mem ((c.tc : Thread Cert.MoeReferenceIdeal.nD Cert.MoeReferenceIdeal.τ).loc Cert.MoeReferenceIdeal.main_arg3) = m ((c.tc : Thread Cert.MoeReferenceIdeal.nD Cert.MoeReferenceIdeal.τ).loc Cert.MoeReferenceIdeal.main_arg3)
      ∧ r.2.mem ((c.tc : Thread Cert.MoeReferenceIdeal.nD Cert.MoeReferenceIdeal.τ).loc Cert.MoeReferenceIdeal.main_arg4) = m ((c.tc : Thread Cert.MoeReferenceIdeal.nD Cert.MoeReferenceIdeal.τ).loc Cert.MoeReferenceIdeal.main_arg4)
      ∧ r.2.mem ((c.tc : Thread Cert.MoeReferenceIdeal.nD Cert.MoeReferenceIdeal.τ).loc Cert.MoeReferenceIdeal.main_arg5) = m ((c.tc : Thread Cert.MoeReferenceIdeal.nD Cert.MoeReferenceIdeal.τ).loc Cert.MoeReferenceIdeal.main_arg5)
      ∧ r.2.mem ((c.tc : Thread Cert.MoeReferenceIdeal.nD Cert.MoeReferenceIdeal.τ).loc Cert.MoeReferenceIdeal.main_arg6) = m ((c.tc : Thread Cert.MoeReferenceIdeal.nD Cert.MoeReferenceIdeal.τ).loc Cert.MoeReferenceIdeal.main_arg6))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4)
      ∧ r.2.mem ((c.tc : Thread Cert.Attn.nD Cert.Attn.τ).loc Cert.Attn.main_arg5) = m ((c.tc : Thread Cert.Attn.nD Cert.Attn.τ).loc Cert.Attn.main_arg5)
      ∧ r.2.mem ((c.tc : Thread Cert.Attn.nD Cert.Attn.τ).loc Cert.Attn.main_arg6) = m ((c.tc : Thread Cert.Attn.nD Cert.Attn.τ).loc Cert.Attn.main_arg6)
      ∧ r.2.mem ((c.tc : Thread Cert.Attn.nD Cert.Attn.τ).loc Cert.Attn.main_arg7) = m ((c.tc : Thread Cert.Attn.nD Cert.Attn.τ).loc Cert.Attn.main_arg7)
      ∧ r.2.mem ((c.tc : Thread Cert.Attn.nD Cert.Attn.τ).loc Cert.Attn.main_arg8) = m ((c.tc : Thread Cert.Attn.nD Cert.Attn.τ).loc Cert.Attn.main_arg8))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
      ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6)
      ∧ r.2.mem ((c.tc : Thread Cert.AttnIdeal.nD Cert.AttnIdeal.τ).loc Cert.AttnIdeal.main_arg7) = m ((c.tc : Thread Cert.AttnIdeal.nD Cert.AttnIdeal.τ).loc Cert.AttnIdeal.main_arg7)
      ∧ r.2.mem ((c.tc : Thread Cert.AttnIdeal.nD Cert.AttnIdeal.τ).loc Cert.AttnIdeal.main_arg8) = m ((c.tc : Thread Cert.AttnIdeal.nD Cert.AttnIdeal.τ).loc Cert.AttnIdeal.main_arg8))
      ∧ r.2.sem = fun _ => 0)

def quiescent_AttnIdeal_pre_scores_finite [hAttnIdeal : Cert.AttnIdeal.Facts] [hPre_scores_finite : Cert.Pre_scores_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_scores_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
      ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6)
      ∧ r.2.mem ((c.tc : Thread Cert.AttnIdeal.nD Cert.AttnIdeal.τ).loc Cert.AttnIdeal.main_arg7) = m ((c.tc : Thread Cert.AttnIdeal.nD Cert.AttnIdeal.τ).loc Cert.AttnIdeal.main_arg7)
      ∧ r.2.mem ((c.tc : Thread Cert.AttnIdeal.nD Cert.AttnIdeal.τ).loc Cert.AttnIdeal.main_arg8) = m ((c.tc : Thread Cert.AttnIdeal.nD Cert.AttnIdeal.τ).loc Cert.AttnIdeal.main_arg8))
      ∧ r.2.sem = fun _ => 0)

def quiescent_AttnReferenceIdeal [hAttnReferenceIdeal : Cert.AttnReferenceIdeal.Facts] : Prop :=
  ∀ (m : (ℓ : Loc Cert.AttnReferenceIdeal.nD Cert.AttnReferenceIdeal.τ Cert.AttnReferenceIdeal.sig) → Buf (Elt Ideal) ℓ) (g : Dev Cert.AttnReferenceIdeal.nD → PrngReg), Pre_AttnReferenceIdeal m →
    θ_run (Cert.AttnReferenceIdeal.defs (F := Ideal)) (onTc (τ := Cert.AttnReferenceIdeal.τ) (Cert.AttnReferenceIdeal.main (F := Ideal))) ⟨m, fun _ => 0, g⟩ (fun r => (∀ c : Dev Cert.AttnReferenceIdeal.nD,
      r.2.mem ((c.tc : Thread Cert.AttnReferenceIdeal.nD Cert.AttnReferenceIdeal.τ).loc Cert.AttnReferenceIdeal.main_arg0) = m ((c.tc : Thread Cert.AttnReferenceIdeal.nD Cert.AttnReferenceIdeal.τ).loc Cert.AttnReferenceIdeal.main_arg0)
      ∧ r.2.mem ((c.tc : Thread Cert.AttnReferenceIdeal.nD Cert.AttnReferenceIdeal.τ).loc Cert.AttnReferenceIdeal.main_arg1) = m ((c.tc : Thread Cert.AttnReferenceIdeal.nD Cert.AttnReferenceIdeal.τ).loc Cert.AttnReferenceIdeal.main_arg1)
      ∧ r.2.mem ((c.tc : Thread Cert.AttnReferenceIdeal.nD Cert.AttnReferenceIdeal.τ).loc Cert.AttnReferenceIdeal.main_arg2) = m ((c.tc : Thread Cert.AttnReferenceIdeal.nD Cert.AttnReferenceIdeal.τ).loc Cert.AttnReferenceIdeal.main_arg2)
      ∧ r.2.mem ((c.tc : Thread Cert.AttnReferenceIdeal.nD Cert.AttnReferenceIdeal.τ).loc Cert.AttnReferenceIdeal.main_arg3) = m ((c.tc : Thread Cert.AttnReferenceIdeal.nD Cert.AttnReferenceIdeal.τ).loc Cert.AttnReferenceIdeal.main_arg3)
      ∧ r.2.mem ((c.tc : Thread Cert.AttnReferenceIdeal.nD Cert.AttnReferenceIdeal.τ).loc Cert.AttnReferenceIdeal.main_arg4) = m ((c.tc : Thread Cert.AttnReferenceIdeal.nD Cert.AttnReferenceIdeal.τ).loc Cert.AttnReferenceIdeal.main_arg4)
      ∧ r.2.mem ((c.tc : Thread Cert.AttnReferenceIdeal.nD Cert.AttnReferenceIdeal.τ).loc Cert.AttnReferenceIdeal.main_arg5) = m ((c.tc : Thread Cert.AttnReferenceIdeal.nD Cert.AttnReferenceIdeal.τ).loc Cert.AttnReferenceIdeal.main_arg5)
      ∧ r.2.mem ((c.tc : Thread Cert.AttnReferenceIdeal.nD Cert.AttnReferenceIdeal.τ).loc Cert.AttnReferenceIdeal.main_arg6) = m ((c.tc : Thread Cert.AttnReferenceIdeal.nD Cert.AttnReferenceIdeal.τ).loc Cert.AttnReferenceIdeal.main_arg6)
      ∧ r.2.mem ((c.tc : Thread Cert.AttnReferenceIdeal.nD Cert.AttnReferenceIdeal.τ).loc Cert.AttnReferenceIdeal.main_arg7) = m ((c.tc : Thread Cert.AttnReferenceIdeal.nD Cert.AttnReferenceIdeal.τ).loc Cert.AttnReferenceIdeal.main_arg7)
      ∧ r.2.mem ((c.tc : Thread Cert.AttnReferenceIdeal.nD Cert.AttnReferenceIdeal.τ).loc Cert.AttnReferenceIdeal.main_arg8) = m ((c.tc : Thread Cert.AttnReferenceIdeal.nD Cert.AttnReferenceIdeal.τ).loc Cert.AttnReferenceIdeal.main_arg8))
      ∧ r.2.sem = fun _ => 0)

def quiescent_AttnReferenceIdeal_pre_scores_finite [hAttnReferenceIdeal : Cert.AttnReferenceIdeal.Facts] [hPre_scores_finite : Cert.Pre_scores_finite.Facts] : Prop :=
  ∀ (m : (ℓ : Loc Cert.AttnReferenceIdeal.nD Cert.AttnReferenceIdeal.τ Cert.AttnReferenceIdeal.sig) → Buf (Elt Ideal) ℓ) (g : Dev Cert.AttnReferenceIdeal.nD → PrngReg), Pre_AttnReferenceIdeal_scores_finite m →
    θ_run (Cert.AttnReferenceIdeal.defs (F := Ideal)) (onTc (τ := Cert.AttnReferenceIdeal.τ) (Cert.AttnReferenceIdeal.main (F := Ideal))) ⟨m, fun _ => 0, g⟩ (fun r => (∀ c : Dev Cert.AttnReferenceIdeal.nD,
      r.2.mem ((c.tc : Thread Cert.AttnReferenceIdeal.nD Cert.AttnReferenceIdeal.τ).loc Cert.AttnReferenceIdeal.main_arg0) = m ((c.tc : Thread Cert.AttnReferenceIdeal.nD Cert.AttnReferenceIdeal.τ).loc Cert.AttnReferenceIdeal.main_arg0)
      ∧ r.2.mem ((c.tc : Thread Cert.AttnReferenceIdeal.nD Cert.AttnReferenceIdeal.τ).loc Cert.AttnReferenceIdeal.main_arg1) = m ((c.tc : Thread Cert.AttnReferenceIdeal.nD Cert.AttnReferenceIdeal.τ).loc Cert.AttnReferenceIdeal.main_arg1)
      ∧ r.2.mem ((c.tc : Thread Cert.AttnReferenceIdeal.nD Cert.AttnReferenceIdeal.τ).loc Cert.AttnReferenceIdeal.main_arg2) = m ((c.tc : Thread Cert.AttnReferenceIdeal.nD Cert.AttnReferenceIdeal.τ).loc Cert.AttnReferenceIdeal.main_arg2)
      ∧ r.2.mem ((c.tc : Thread Cert.AttnReferenceIdeal.nD Cert.AttnReferenceIdeal.τ).loc Cert.AttnReferenceIdeal.main_arg3) = m ((c.tc : Thread Cert.AttnReferenceIdeal.nD Cert.AttnReferenceIdeal.τ).loc Cert.AttnReferenceIdeal.main_arg3)
      ∧ r.2.mem ((c.tc : Thread Cert.AttnReferenceIdeal.nD Cert.AttnReferenceIdeal.τ).loc Cert.AttnReferenceIdeal.main_arg4) = m ((c.tc : Thread Cert.AttnReferenceIdeal.nD Cert.AttnReferenceIdeal.τ).loc Cert.AttnReferenceIdeal.main_arg4)
      ∧ r.2.mem ((c.tc : Thread Cert.AttnReferenceIdeal.nD Cert.AttnReferenceIdeal.τ).loc Cert.AttnReferenceIdeal.main_arg5) = m ((c.tc : Thread Cert.AttnReferenceIdeal.nD Cert.AttnReferenceIdeal.τ).loc Cert.AttnReferenceIdeal.main_arg5)
      ∧ r.2.mem ((c.tc : Thread Cert.AttnReferenceIdeal.nD Cert.AttnReferenceIdeal.τ).loc Cert.AttnReferenceIdeal.main_arg6) = m ((c.tc : Thread Cert.AttnReferenceIdeal.nD Cert.AttnReferenceIdeal.τ).loc Cert.AttnReferenceIdeal.main_arg6)
      ∧ r.2.mem ((c.tc : Thread Cert.AttnReferenceIdeal.nD Cert.AttnReferenceIdeal.τ).loc Cert.AttnReferenceIdeal.main_arg7) = m ((c.tc : Thread Cert.AttnReferenceIdeal.nD Cert.AttnReferenceIdeal.τ).loc Cert.AttnReferenceIdeal.main_arg7)
      ∧ r.2.mem ((c.tc : Thread Cert.AttnReferenceIdeal.nD Cert.AttnReferenceIdeal.τ).loc Cert.AttnReferenceIdeal.main_arg8) = m ((c.tc : Thread Cert.AttnReferenceIdeal.nD Cert.AttnReferenceIdeal.τ).loc Cert.AttnReferenceIdeal.main_arg8))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ r.2.sem = fun _ => 0)

def quiescent_InProjReferenceIdeal [hInProjReferenceIdeal : Cert.InProjReferenceIdeal.Facts] : Prop :=
  ∀ (m : (ℓ : Loc Cert.InProjReferenceIdeal.nD Cert.InProjReferenceIdeal.τ Cert.InProjReferenceIdeal.sig) → Buf (Elt Ideal) ℓ) (g : Dev Cert.InProjReferenceIdeal.nD → PrngReg), Pre_InProjReferenceIdeal m →
    θ_run (Cert.InProjReferenceIdeal.defs (F := Ideal)) (onTc (τ := Cert.InProjReferenceIdeal.τ) (Cert.InProjReferenceIdeal.main (F := Ideal))) ⟨m, fun _ => 0, g⟩ (fun r => (∀ c : Dev Cert.InProjReferenceIdeal.nD,
      r.2.mem ((c.tc : Thread Cert.InProjReferenceIdeal.nD Cert.InProjReferenceIdeal.τ).loc Cert.InProjReferenceIdeal.main_arg0) = m ((c.tc : Thread Cert.InProjReferenceIdeal.nD Cert.InProjReferenceIdeal.τ).loc Cert.InProjReferenceIdeal.main_arg0)
      ∧ r.2.mem ((c.tc : Thread Cert.InProjReferenceIdeal.nD Cert.InProjReferenceIdeal.τ).loc Cert.InProjReferenceIdeal.main_arg1) = m ((c.tc : Thread Cert.InProjReferenceIdeal.nD Cert.InProjReferenceIdeal.τ).loc Cert.InProjReferenceIdeal.main_arg1)
      ∧ r.2.mem ((c.tc : Thread Cert.InProjReferenceIdeal.nD Cert.InProjReferenceIdeal.τ).loc Cert.InProjReferenceIdeal.main_arg2) = m ((c.tc : Thread Cert.InProjReferenceIdeal.nD Cert.InProjReferenceIdeal.τ).loc Cert.InProjReferenceIdeal.main_arg2))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4)
      ∧ r.2.mem ((c.tc : Thread Cert.OutProj.nD Cert.OutProj.τ).loc Cert.OutProj.main_arg5) = m ((c.tc : Thread Cert.OutProj.nD Cert.OutProj.τ).loc Cert.OutProj.main_arg5)
      ∧ r.2.mem ((c.tc : Thread Cert.OutProj.nD Cert.OutProj.τ).loc Cert.OutProj.main_arg6) = m ((c.tc : Thread Cert.OutProj.nD Cert.OutProj.τ).loc Cert.OutProj.main_arg6)
      ∧ r.2.mem ((c.tc : Thread Cert.OutProj.nD Cert.OutProj.τ).loc Cert.OutProj.main_arg7) = m ((c.tc : Thread Cert.OutProj.nD Cert.OutProj.τ).loc Cert.OutProj.main_arg7)
      ∧ r.2.mem ((c.tc : Thread Cert.OutProj.nD Cert.OutProj.τ).loc Cert.OutProj.main_arg8) = m ((c.tc : Thread Cert.OutProj.nD Cert.OutProj.τ).loc Cert.OutProj.main_arg8))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
      ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
      ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6)
      ∧ r.2.mem ((c.tc : Thread Cert.OutProjIdeal.nD Cert.OutProjIdeal.τ).loc Cert.OutProjIdeal.main_arg7) = m ((c.tc : Thread Cert.OutProjIdeal.nD Cert.OutProjIdeal.τ).loc Cert.OutProjIdeal.main_arg7)
      ∧ r.2.mem ((c.tc : Thread Cert.OutProjIdeal.nD Cert.OutProjIdeal.τ).loc Cert.OutProjIdeal.main_arg8) = m ((c.tc : Thread Cert.OutProjIdeal.nD Cert.OutProjIdeal.τ).loc Cert.OutProjIdeal.main_arg8))
      ∧ r.2.sem = fun _ => 0)

def quiescent_OutProjReferenceIdeal [hOutProjReferenceIdeal : Cert.OutProjReferenceIdeal.Facts] : Prop :=
  ∀ (m : (ℓ : Loc Cert.OutProjReferenceIdeal.nD Cert.OutProjReferenceIdeal.τ Cert.OutProjReferenceIdeal.sig) → Buf (Elt Ideal) ℓ) (g : Dev Cert.OutProjReferenceIdeal.nD → PrngReg), Pre_OutProjReferenceIdeal m →
    θ_run (Cert.OutProjReferenceIdeal.defs (F := Ideal)) (onTc (τ := Cert.OutProjReferenceIdeal.τ) (Cert.OutProjReferenceIdeal.main (F := Ideal))) ⟨m, fun _ => 0, g⟩ (fun r => (∀ c : Dev Cert.OutProjReferenceIdeal.nD,
      r.2.mem ((c.tc : Thread Cert.OutProjReferenceIdeal.nD Cert.OutProjReferenceIdeal.τ).loc Cert.OutProjReferenceIdeal.main_arg0) = m ((c.tc : Thread Cert.OutProjReferenceIdeal.nD Cert.OutProjReferenceIdeal.τ).loc Cert.OutProjReferenceIdeal.main_arg0)
      ∧ r.2.mem ((c.tc : Thread Cert.OutProjReferenceIdeal.nD Cert.OutProjReferenceIdeal.τ).loc Cert.OutProjReferenceIdeal.main_arg1) = m ((c.tc : Thread Cert.OutProjReferenceIdeal.nD Cert.OutProjReferenceIdeal.τ).loc Cert.OutProjReferenceIdeal.main_arg1)
      ∧ r.2.mem ((c.tc : Thread Cert.OutProjReferenceIdeal.nD Cert.OutProjReferenceIdeal.τ).loc Cert.OutProjReferenceIdeal.main_arg2) = m ((c.tc : Thread Cert.OutProjReferenceIdeal.nD Cert.OutProjReferenceIdeal.τ).loc Cert.OutProjReferenceIdeal.main_arg2)
      ∧ r.2.mem ((c.tc : Thread Cert.OutProjReferenceIdeal.nD Cert.OutProjReferenceIdeal.τ).loc Cert.OutProjReferenceIdeal.main_arg3) = m ((c.tc : Thread Cert.OutProjReferenceIdeal.nD Cert.OutProjReferenceIdeal.τ).loc Cert.OutProjReferenceIdeal.main_arg3)
      ∧ r.2.mem ((c.tc : Thread Cert.OutProjReferenceIdeal.nD Cert.OutProjReferenceIdeal.τ).loc Cert.OutProjReferenceIdeal.main_arg4) = m ((c.tc : Thread Cert.OutProjReferenceIdeal.nD Cert.OutProjReferenceIdeal.τ).loc Cert.OutProjReferenceIdeal.main_arg4)
      ∧ r.2.mem ((c.tc : Thread Cert.OutProjReferenceIdeal.nD Cert.OutProjReferenceIdeal.τ).loc Cert.OutProjReferenceIdeal.main_arg5) = m ((c.tc : Thread Cert.OutProjReferenceIdeal.nD Cert.OutProjReferenceIdeal.τ).loc Cert.OutProjReferenceIdeal.main_arg5)
      ∧ r.2.mem ((c.tc : Thread Cert.OutProjReferenceIdeal.nD Cert.OutProjReferenceIdeal.τ).loc Cert.OutProjReferenceIdeal.main_arg6) = m ((c.tc : Thread Cert.OutProjReferenceIdeal.nD Cert.OutProjReferenceIdeal.τ).loc Cert.OutProjReferenceIdeal.main_arg6)
      ∧ r.2.mem ((c.tc : Thread Cert.OutProjReferenceIdeal.nD Cert.OutProjReferenceIdeal.τ).loc Cert.OutProjReferenceIdeal.main_arg7) = m ((c.tc : Thread Cert.OutProjReferenceIdeal.nD Cert.OutProjReferenceIdeal.τ).loc Cert.OutProjReferenceIdeal.main_arg7)
      ∧ r.2.mem ((c.tc : Thread Cert.OutProjReferenceIdeal.nD Cert.OutProjReferenceIdeal.τ).loc Cert.OutProjReferenceIdeal.main_arg8) = m ((c.tc : Thread Cert.OutProjReferenceIdeal.nD Cert.OutProjReferenceIdeal.τ).loc Cert.OutProjReferenceIdeal.main_arg8))
      ∧ r.2.sem = fun _ => 0)

def preserves_Moe_MoeIdeal : Prop :=
  True

def algebraic_MoeIdeal_MoeReferenceIdeal [hMoeIdeal : Cert.MoeIdeal.Facts] [hMoeReferenceIdeal : Cert.MoeReferenceIdeal.Facts] [hPre_in_range : Cert.Pre_in_range.Facts] : Prop :=
  ∀ (m : (ℓ : Loc Cert.MoeIdeal.nD Cert.MoeIdeal.τ Cert.MoeIdeal.sig) → Buf (Elt Ideal) ℓ) (g : Dev Cert.MoeIdeal.nD → PrngReg)
    (m' : (ℓ : Loc Cert.MoeReferenceIdeal.nD Cert.MoeReferenceIdeal.τ Cert.MoeReferenceIdeal.sig) → Buf (Elt Ideal) ℓ) (g' : Dev Cert.MoeReferenceIdeal.nD → PrngReg), Pre_MoeIdeal m →
    (∀ c : Dev Cert.MoeIdeal.nD,
      m' ((c.tc : Thread Cert.MoeReferenceIdeal.nD Cert.MoeReferenceIdeal.τ).loc Cert.MoeReferenceIdeal.main_arg0) = m ((c.tc : Thread Cert.MoeIdeal.nD Cert.MoeIdeal.τ).loc Cert.MoeIdeal.main_arg0)
      ∧ m' ((c.tc : Thread Cert.MoeReferenceIdeal.nD Cert.MoeReferenceIdeal.τ).loc Cert.MoeReferenceIdeal.main_arg1) = m ((c.tc : Thread Cert.MoeIdeal.nD Cert.MoeIdeal.τ).loc Cert.MoeIdeal.main_arg1)
      ∧ m' ((c.tc : Thread Cert.MoeReferenceIdeal.nD Cert.MoeReferenceIdeal.τ).loc Cert.MoeReferenceIdeal.main_arg2) = m ((c.tc : Thread Cert.MoeIdeal.nD Cert.MoeIdeal.τ).loc Cert.MoeIdeal.main_arg2)
      ∧ m' ((c.tc : Thread Cert.MoeReferenceIdeal.nD Cert.MoeReferenceIdeal.τ).loc Cert.MoeReferenceIdeal.main_arg3) = m ((c.tc : Thread Cert.MoeIdeal.nD Cert.MoeIdeal.τ).loc Cert.MoeIdeal.main_arg3)
      ∧ m' ((c.tc : Thread Cert.MoeReferenceIdeal.nD Cert.MoeReferenceIdeal.τ).loc Cert.MoeReferenceIdeal.main_arg4) = m ((c.tc : Thread Cert.MoeIdeal.nD Cert.MoeIdeal.τ).loc Cert.MoeIdeal.main_arg4)
      ∧ m' ((c.tc : Thread Cert.MoeReferenceIdeal.nD Cert.MoeReferenceIdeal.τ).loc Cert.MoeReferenceIdeal.main_arg5) = m ((c.tc : Thread Cert.MoeIdeal.nD Cert.MoeIdeal.τ).loc Cert.MoeIdeal.main_arg5)
      ∧ m' ((c.tc : Thread Cert.MoeReferenceIdeal.nD Cert.MoeReferenceIdeal.τ).loc Cert.MoeReferenceIdeal.main_arg6) = m ((c.tc : Thread Cert.MoeIdeal.nD Cert.MoeIdeal.τ).loc Cert.MoeIdeal.main_arg6)) →
    ∃ (v0 : (c : Dev Cert.MoeIdeal.nD) → Buf (Elt Ideal) ((c.tc : Thread Cert.MoeIdeal.nD Cert.MoeIdeal.τ).loc Cert.MoeIdeal.main_v3)),
      θ_run (Cert.MoeIdeal.defs (F := Ideal)) (onTc (τ := Cert.MoeIdeal.τ) (Cert.MoeIdeal.main (F := Ideal))) ⟨m, fun _ => 0, g⟩ (fun r => ∀ c : Dev Cert.MoeIdeal.nD,
          r.2.mem ((c.tc : Thread Cert.MoeIdeal.nD Cert.MoeIdeal.τ).loc Cert.MoeIdeal.main_v3) = v0 c
          ∧ r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
          ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
          ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
          ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
          ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
          ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
          ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6))
      ∧ θ_run (Cert.MoeReferenceIdeal.defs (F := Ideal)) (onTc (τ := Cert.MoeReferenceIdeal.τ) (Cert.MoeReferenceIdeal.main (F := Ideal))) ⟨m', fun _ => 0, g'⟩ (fun r => ∀ c : Dev Cert.MoeReferenceIdeal.nD,
          r.2.mem ((c.tc : Thread Cert.MoeReferenceIdeal.nD Cert.MoeReferenceIdeal.τ).loc Cert.MoeReferenceIdeal.main_v28) = v0 c
          ∧ r.2.mem ((c.tc : Thread Cert.MoeReferenceIdeal.nD Cert.MoeReferenceIdeal.τ).loc Cert.MoeReferenceIdeal.main_arg0) = m' ((c.tc : Thread Cert.MoeReferenceIdeal.nD Cert.MoeReferenceIdeal.τ).loc Cert.MoeReferenceIdeal.main_arg0)
          ∧ r.2.mem ((c.tc : Thread Cert.MoeReferenceIdeal.nD Cert.MoeReferenceIdeal.τ).loc Cert.MoeReferenceIdeal.main_arg1) = m' ((c.tc : Thread Cert.MoeReferenceIdeal.nD Cert.MoeReferenceIdeal.τ).loc Cert.MoeReferenceIdeal.main_arg1)
          ∧ r.2.mem ((c.tc : Thread Cert.MoeReferenceIdeal.nD Cert.MoeReferenceIdeal.τ).loc Cert.MoeReferenceIdeal.main_arg2) = m' ((c.tc : Thread Cert.MoeReferenceIdeal.nD Cert.MoeReferenceIdeal.τ).loc Cert.MoeReferenceIdeal.main_arg2)
          ∧ r.2.mem ((c.tc : Thread Cert.MoeReferenceIdeal.nD Cert.MoeReferenceIdeal.τ).loc Cert.MoeReferenceIdeal.main_arg3) = m' ((c.tc : Thread Cert.MoeReferenceIdeal.nD Cert.MoeReferenceIdeal.τ).loc Cert.MoeReferenceIdeal.main_arg3)
          ∧ r.2.mem ((c.tc : Thread Cert.MoeReferenceIdeal.nD Cert.MoeReferenceIdeal.τ).loc Cert.MoeReferenceIdeal.main_arg4) = m' ((c.tc : Thread Cert.MoeReferenceIdeal.nD Cert.MoeReferenceIdeal.τ).loc Cert.MoeReferenceIdeal.main_arg4)
          ∧ r.2.mem ((c.tc : Thread Cert.MoeReferenceIdeal.nD Cert.MoeReferenceIdeal.τ).loc Cert.MoeReferenceIdeal.main_arg5) = m' ((c.tc : Thread Cert.MoeReferenceIdeal.nD Cert.MoeReferenceIdeal.τ).loc Cert.MoeReferenceIdeal.main_arg5)
          ∧ r.2.mem ((c.tc : Thread Cert.MoeReferenceIdeal.nD Cert.MoeReferenceIdeal.τ).loc Cert.MoeReferenceIdeal.main_arg6) = m' ((c.tc : Thread Cert.MoeReferenceIdeal.nD Cert.MoeReferenceIdeal.τ).loc Cert.MoeReferenceIdeal.main_arg6))

def preserves_Attn_AttnIdeal : Prop :=
  True

def algebraic_AttnIdeal_AttnReferenceIdeal_pre_scores_finite [hAttnIdeal : Cert.AttnIdeal.Facts] [hAttnReferenceIdeal : Cert.AttnReferenceIdeal.Facts] [hPre_scores_finite : Cert.Pre_scores_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnReferenceIdeal.nD Cert.AttnReferenceIdeal.τ Cert.AttnReferenceIdeal.sig) → Buf (Elt Ideal) ℓ) (g' : Dev Cert.AttnReferenceIdeal.nD → PrngReg), Pre_AttnIdeal_scores_finite m →
    (∀ c : Dev Cert.AttnIdeal.nD,
      m' ((c.tc : Thread Cert.AttnReferenceIdeal.nD Cert.AttnReferenceIdeal.τ).loc Cert.AttnReferenceIdeal.main_arg0) = m ((c.tc : Thread Cert.AttnIdeal.nD Cert.AttnIdeal.τ).loc Cert.AttnIdeal.main_arg0)
      ∧ m' ((c.tc : Thread Cert.AttnReferenceIdeal.nD Cert.AttnReferenceIdeal.τ).loc Cert.AttnReferenceIdeal.main_arg1) = m ((c.tc : Thread Cert.AttnIdeal.nD Cert.AttnIdeal.τ).loc Cert.AttnIdeal.main_arg1)
      ∧ m' ((c.tc : Thread Cert.AttnReferenceIdeal.nD Cert.AttnReferenceIdeal.τ).loc Cert.AttnReferenceIdeal.main_arg2) = m ((c.tc : Thread Cert.AttnIdeal.nD Cert.AttnIdeal.τ).loc Cert.AttnIdeal.main_arg2)
      ∧ m' ((c.tc : Thread Cert.AttnReferenceIdeal.nD Cert.AttnReferenceIdeal.τ).loc Cert.AttnReferenceIdeal.main_arg3) = m ((c.tc : Thread Cert.AttnIdeal.nD Cert.AttnIdeal.τ).loc Cert.AttnIdeal.main_arg3)
      ∧ m' ((c.tc : Thread Cert.AttnReferenceIdeal.nD Cert.AttnReferenceIdeal.τ).loc Cert.AttnReferenceIdeal.main_arg4) = m ((c.tc : Thread Cert.AttnIdeal.nD Cert.AttnIdeal.τ).loc Cert.AttnIdeal.main_arg4)
      ∧ m' ((c.tc : Thread Cert.AttnReferenceIdeal.nD Cert.AttnReferenceIdeal.τ).loc Cert.AttnReferenceIdeal.main_arg5) = m ((c.tc : Thread Cert.AttnIdeal.nD Cert.AttnIdeal.τ).loc Cert.AttnIdeal.main_arg5)
      ∧ m' ((c.tc : Thread Cert.AttnReferenceIdeal.nD Cert.AttnReferenceIdeal.τ).loc Cert.AttnReferenceIdeal.main_arg6) = m ((c.tc : Thread Cert.AttnIdeal.nD Cert.AttnIdeal.τ).loc Cert.AttnIdeal.main_arg6)
      ∧ m' ((c.tc : Thread Cert.AttnReferenceIdeal.nD Cert.AttnReferenceIdeal.τ).loc Cert.AttnReferenceIdeal.main_arg7) = m ((c.tc : Thread Cert.AttnIdeal.nD Cert.AttnIdeal.τ).loc Cert.AttnIdeal.main_arg7)
      ∧ m' ((c.tc : Thread Cert.AttnReferenceIdeal.nD Cert.AttnReferenceIdeal.τ).loc Cert.AttnReferenceIdeal.main_arg8) = m ((c.tc : Thread Cert.AttnIdeal.nD Cert.AttnIdeal.τ).loc Cert.AttnIdeal.main_arg8)) →
    ∃ (v0 : (c : Dev Cert.AttnIdeal.nD) → Buf (Elt Ideal) ((c.tc : Thread Cert.AttnIdeal.nD Cert.AttnIdeal.τ).loc Cert.AttnIdeal.main_v51)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v51) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
          ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
          ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6)
          ∧ r.2.mem ((c.tc : Thread Cert.AttnIdeal.nD Cert.AttnIdeal.τ).loc Cert.AttnIdeal.main_arg7) = m ((c.tc : Thread Cert.AttnIdeal.nD Cert.AttnIdeal.τ).loc Cert.AttnIdeal.main_arg7)
          ∧ r.2.mem ((c.tc : Thread Cert.AttnIdeal.nD Cert.AttnIdeal.τ).loc Cert.AttnIdeal.main_arg8) = m ((c.tc : Thread Cert.AttnIdeal.nD Cert.AttnIdeal.τ).loc Cert.AttnIdeal.main_arg8))
      ∧ θ_run (Cert.AttnReferenceIdeal.defs (F := Ideal)) (onTc (τ := Cert.AttnReferenceIdeal.τ) (Cert.AttnReferenceIdeal.main (F := Ideal))) ⟨m', fun _ => 0, g'⟩ (fun r => ∀ c : Dev Cert.AttnReferenceIdeal.nD,
          r.2.mem ((c.tc : Thread Cert.AttnReferenceIdeal.nD Cert.AttnReferenceIdeal.τ).loc Cert.AttnReferenceIdeal.main_v137) = v0 c
          ∧ r.2.mem ((c.tc : Thread Cert.AttnReferenceIdeal.nD Cert.AttnReferenceIdeal.τ).loc Cert.AttnReferenceIdeal.main_arg0) = m' ((c.tc : Thread Cert.AttnReferenceIdeal.nD Cert.AttnReferenceIdeal.τ).loc Cert.AttnReferenceIdeal.main_arg0)
          ∧ r.2.mem ((c.tc : Thread Cert.AttnReferenceIdeal.nD Cert.AttnReferenceIdeal.τ).loc Cert.AttnReferenceIdeal.main_arg1) = m' ((c.tc : Thread Cert.AttnReferenceIdeal.nD Cert.AttnReferenceIdeal.τ).loc Cert.AttnReferenceIdeal.main_arg1)
          ∧ r.2.mem ((c.tc : Thread Cert.AttnReferenceIdeal.nD Cert.AttnReferenceIdeal.τ).loc Cert.AttnReferenceIdeal.main_arg2) = m' ((c.tc : Thread Cert.AttnReferenceIdeal.nD Cert.AttnReferenceIdeal.τ).loc Cert.AttnReferenceIdeal.main_arg2)
          ∧ r.2.mem ((c.tc : Thread Cert.AttnReferenceIdeal.nD Cert.AttnReferenceIdeal.τ).loc Cert.AttnReferenceIdeal.main_arg3) = m' ((c.tc : Thread Cert.AttnReferenceIdeal.nD Cert.AttnReferenceIdeal.τ).loc Cert.AttnReferenceIdeal.main_arg3)
          ∧ r.2.mem ((c.tc : Thread Cert.AttnReferenceIdeal.nD Cert.AttnReferenceIdeal.τ).loc Cert.AttnReferenceIdeal.main_arg4) = m' ((c.tc : Thread Cert.AttnReferenceIdeal.nD Cert.AttnReferenceIdeal.τ).loc Cert.AttnReferenceIdeal.main_arg4)
          ∧ r.2.mem ((c.tc : Thread Cert.AttnReferenceIdeal.nD Cert.AttnReferenceIdeal.τ).loc Cert.AttnReferenceIdeal.main_arg5) = m' ((c.tc : Thread Cert.AttnReferenceIdeal.nD Cert.AttnReferenceIdeal.τ).loc Cert.AttnReferenceIdeal.main_arg5)
          ∧ r.2.mem ((c.tc : Thread Cert.AttnReferenceIdeal.nD Cert.AttnReferenceIdeal.τ).loc Cert.AttnReferenceIdeal.main_arg6) = m' ((c.tc : Thread Cert.AttnReferenceIdeal.nD Cert.AttnReferenceIdeal.τ).loc Cert.AttnReferenceIdeal.main_arg6)
          ∧ r.2.mem ((c.tc : Thread Cert.AttnReferenceIdeal.nD Cert.AttnReferenceIdeal.τ).loc Cert.AttnReferenceIdeal.main_arg7) = m' ((c.tc : Thread Cert.AttnReferenceIdeal.nD Cert.AttnReferenceIdeal.τ).loc Cert.AttnReferenceIdeal.main_arg7)
          ∧ r.2.mem ((c.tc : Thread Cert.AttnReferenceIdeal.nD Cert.AttnReferenceIdeal.τ).loc Cert.AttnReferenceIdeal.main_arg8) = m' ((c.tc : Thread Cert.AttnReferenceIdeal.nD Cert.AttnReferenceIdeal.τ).loc Cert.AttnReferenceIdeal.main_arg8))

def preserves_InProj_InProjIdeal : Prop :=
  True

def algebraic_InProjIdeal_InProjReferenceIdeal [hInProjIdeal : Cert.InProjIdeal.Facts] [hInProjReferenceIdeal : Cert.InProjReferenceIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjReferenceIdeal.nD Cert.InProjReferenceIdeal.τ Cert.InProjReferenceIdeal.sig) → Buf (Elt Ideal) ℓ) (g' : Dev Cert.InProjReferenceIdeal.nD → PrngReg), Pre_InProjIdeal m →
    (∀ c : Dev Cert.InProjIdeal.nD,
      m' ((c.tc : Thread Cert.InProjReferenceIdeal.nD Cert.InProjReferenceIdeal.τ).loc Cert.InProjReferenceIdeal.main_arg0) = m ((c.tc : Thread Cert.InProjIdeal.nD Cert.InProjIdeal.τ).loc Cert.InProjIdeal.main_arg0)
      ∧ m' ((c.tc : Thread Cert.InProjReferenceIdeal.nD Cert.InProjReferenceIdeal.τ).loc Cert.InProjReferenceIdeal.main_arg1) = m ((c.tc : Thread Cert.InProjIdeal.nD Cert.InProjIdeal.τ).loc Cert.InProjIdeal.main_arg1)
      ∧ m' ((c.tc : Thread Cert.InProjReferenceIdeal.nD Cert.InProjReferenceIdeal.τ).loc Cert.InProjReferenceIdeal.main_arg2) = m ((c.tc : Thread Cert.InProjIdeal.nD Cert.InProjIdeal.τ).loc Cert.InProjIdeal.main_arg2)) →
    ∃ (v0 : (c : Dev Cert.InProjIdeal.nD) → Buf (Elt Ideal) ((c.tc : Thread Cert.InProjIdeal.nD Cert.InProjIdeal.τ).loc Cert.InProjIdeal.main_v5_0)) (v1 : (c : Dev Cert.InProjIdeal.nD) → Buf (Elt Ideal) ((c.tc : Thread Cert.InProjIdeal.nD Cert.InProjIdeal.τ).loc Cert.InProjIdeal.main_v11)) (v2 : (c : Dev Cert.InProjIdeal.nD) → Buf (Elt Ideal) ((c.tc : Thread Cert.InProjIdeal.nD Cert.InProjIdeal.τ).loc Cert.InProjIdeal.main_v13)) (v3 : (c : Dev Cert.InProjIdeal.nD) → Buf (Elt Ideal) ((c.tc : Thread Cert.InProjIdeal.nD Cert.InProjIdeal.τ).loc Cert.InProjIdeal.main_v15)) (v4 : (c : Dev Cert.InProjIdeal.nD) → Buf (Elt Ideal) ((c.tc : Thread Cert.InProjIdeal.nD Cert.InProjIdeal.τ).loc Cert.InProjIdeal.main_v17)) (v5 : (c : Dev Cert.InProjIdeal.nD) → Buf (Elt Ideal) ((c.tc : Thread Cert.InProjIdeal.nD Cert.InProjIdeal.τ).loc Cert.InProjIdeal.main_v19)) (v6 : (c : Dev Cert.InProjIdeal.nD) → Buf (Elt Ideal) ((c.tc : Thread Cert.InProjIdeal.nD Cert.InProjIdeal.τ).loc Cert.InProjIdeal.main_v21)) (v7 : (c : Dev Cert.InProjIdeal.nD) → Buf (Elt Ideal) ((c.tc : Thread Cert.InProjIdeal.nD Cert.InProjIdeal.τ).loc Cert.InProjIdeal.main_v23)) (v8 : (c : Dev Cert.InProjIdeal.nD) → Buf (Elt Ideal) ((c.tc : Thread Cert.InProjIdeal.nD Cert.InProjIdeal.τ).loc Cert.InProjIdeal.main_v25)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v5_0) = v0 c
          ∧ r.2.mem ((c.tc : Thread Cert.InProjIdeal.nD Cert.InProjIdeal.τ).loc Cert.InProjIdeal.main_v11) = v1 c
          ∧ r.2.mem ((c.tc : Thread Cert.InProjIdeal.nD Cert.InProjIdeal.τ).loc Cert.InProjIdeal.main_v13) = v2 c
          ∧ r.2.mem ((c.tc : Thread Cert.InProjIdeal.nD Cert.InProjIdeal.τ).loc Cert.InProjIdeal.main_v15) = v3 c
          ∧ r.2.mem ((c.tc : Thread Cert.InProjIdeal.nD Cert.InProjIdeal.τ).loc Cert.InProjIdeal.main_v17) = v4 c
          ∧ r.2.mem ((c.tc : Thread Cert.InProjIdeal.nD Cert.InProjIdeal.τ).loc Cert.InProjIdeal.main_v19) = v5 c
          ∧ r.2.mem ((c.tc : Thread Cert.InProjIdeal.nD Cert.InProjIdeal.τ).loc Cert.InProjIdeal.main_v21) = v6 c
          ∧ r.2.mem ((c.tc : Thread Cert.InProjIdeal.nD Cert.InProjIdeal.τ).loc Cert.InProjIdeal.main_v23) = v7 c
          ∧ r.2.mem ((c.tc : Thread Cert.InProjIdeal.nD Cert.InProjIdeal.τ).loc Cert.InProjIdeal.main_v25) = v8 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ θ_run (Cert.InProjReferenceIdeal.defs (F := Ideal)) (onTc (τ := Cert.InProjReferenceIdeal.τ) (Cert.InProjReferenceIdeal.main (F := Ideal))) ⟨m', fun _ => 0, g'⟩ (fun r => ∀ c : Dev Cert.InProjReferenceIdeal.nD,
          r.2.mem ((c.tc : Thread Cert.InProjReferenceIdeal.nD Cert.InProjReferenceIdeal.τ).loc Cert.InProjReferenceIdeal.main_v22) = v0 c
          ∧ r.2.mem ((c.tc : Thread Cert.InProjReferenceIdeal.nD Cert.InProjReferenceIdeal.τ).loc Cert.InProjReferenceIdeal.main_v23) = v1 c
          ∧ r.2.mem ((c.tc : Thread Cert.InProjReferenceIdeal.nD Cert.InProjReferenceIdeal.τ).loc Cert.InProjReferenceIdeal.main_v24) = v2 c
          ∧ r.2.mem ((c.tc : Thread Cert.InProjReferenceIdeal.nD Cert.InProjReferenceIdeal.τ).loc Cert.InProjReferenceIdeal.main_v25) = v3 c
          ∧ r.2.mem ((c.tc : Thread Cert.InProjReferenceIdeal.nD Cert.InProjReferenceIdeal.τ).loc Cert.InProjReferenceIdeal.main_v26) = v4 c
          ∧ r.2.mem ((c.tc : Thread Cert.InProjReferenceIdeal.nD Cert.InProjReferenceIdeal.τ).loc Cert.InProjReferenceIdeal.main_v11) = v5 c
          ∧ r.2.mem ((c.tc : Thread Cert.InProjReferenceIdeal.nD Cert.InProjReferenceIdeal.τ).loc Cert.InProjReferenceIdeal.main_v13) = v6 c
          ∧ r.2.mem ((c.tc : Thread Cert.InProjReferenceIdeal.nD Cert.InProjReferenceIdeal.τ).loc Cert.InProjReferenceIdeal.main_v15) = v7 c
          ∧ r.2.mem ((c.tc : Thread Cert.InProjReferenceIdeal.nD Cert.InProjReferenceIdeal.τ).loc Cert.InProjReferenceIdeal.main_v17) = v8 c
          ∧ r.2.mem ((c.tc : Thread Cert.InProjReferenceIdeal.nD Cert.InProjReferenceIdeal.τ).loc Cert.InProjReferenceIdeal.main_arg0) = m' ((c.tc : Thread Cert.InProjReferenceIdeal.nD Cert.InProjReferenceIdeal.τ).loc Cert.InProjReferenceIdeal.main_arg0)
          ∧ r.2.mem ((c.tc : Thread Cert.InProjReferenceIdeal.nD Cert.InProjReferenceIdeal.τ).loc Cert.InProjReferenceIdeal.main_arg1) = m' ((c.tc : Thread Cert.InProjReferenceIdeal.nD Cert.InProjReferenceIdeal.τ).loc Cert.InProjReferenceIdeal.main_arg1)
          ∧ r.2.mem ((c.tc : Thread Cert.InProjReferenceIdeal.nD Cert.InProjReferenceIdeal.τ).loc Cert.InProjReferenceIdeal.main_arg2) = m' ((c.tc : Thread Cert.InProjReferenceIdeal.nD Cert.InProjReferenceIdeal.τ).loc Cert.InProjReferenceIdeal.main_arg2))

def preserves_OutProj_OutProjIdeal : Prop :=
  True

def algebraic_OutProjIdeal_OutProjReferenceIdeal [hOutProjIdeal : Cert.OutProjIdeal.Facts] [hOutProjReferenceIdeal : Cert.OutProjReferenceIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjReferenceIdeal.nD Cert.OutProjReferenceIdeal.τ Cert.OutProjReferenceIdeal.sig) → Buf (Elt Ideal) ℓ) (g' : Dev Cert.OutProjReferenceIdeal.nD → PrngReg), Pre_OutProjIdeal m →
    (∀ c : Dev Cert.OutProjIdeal.nD,
      m' ((c.tc : Thread Cert.OutProjReferenceIdeal.nD Cert.OutProjReferenceIdeal.τ).loc Cert.OutProjReferenceIdeal.main_arg0) = m ((c.tc : Thread Cert.OutProjIdeal.nD Cert.OutProjIdeal.τ).loc Cert.OutProjIdeal.main_arg0)
      ∧ m' ((c.tc : Thread Cert.OutProjReferenceIdeal.nD Cert.OutProjReferenceIdeal.τ).loc Cert.OutProjReferenceIdeal.main_arg1) = m ((c.tc : Thread Cert.OutProjIdeal.nD Cert.OutProjIdeal.τ).loc Cert.OutProjIdeal.main_arg1)
      ∧ m' ((c.tc : Thread Cert.OutProjReferenceIdeal.nD Cert.OutProjReferenceIdeal.τ).loc Cert.OutProjReferenceIdeal.main_arg2) = m ((c.tc : Thread Cert.OutProjIdeal.nD Cert.OutProjIdeal.τ).loc Cert.OutProjIdeal.main_arg2)
      ∧ m' ((c.tc : Thread Cert.OutProjReferenceIdeal.nD Cert.OutProjReferenceIdeal.τ).loc Cert.OutProjReferenceIdeal.main_arg3) = m ((c.tc : Thread Cert.OutProjIdeal.nD Cert.OutProjIdeal.τ).loc Cert.OutProjIdeal.main_arg3)
      ∧ m' ((c.tc : Thread Cert.OutProjReferenceIdeal.nD Cert.OutProjReferenceIdeal.τ).loc Cert.OutProjReferenceIdeal.main_arg4) = m ((c.tc : Thread Cert.OutProjIdeal.nD Cert.OutProjIdeal.τ).loc Cert.OutProjIdeal.main_arg4)
      ∧ m' ((c.tc : Thread Cert.OutProjReferenceIdeal.nD Cert.OutProjReferenceIdeal.τ).loc Cert.OutProjReferenceIdeal.main_arg5) = m ((c.tc : Thread Cert.OutProjIdeal.nD Cert.OutProjIdeal.τ).loc Cert.OutProjIdeal.main_arg5)
      ∧ m' ((c.tc : Thread Cert.OutProjReferenceIdeal.nD Cert.OutProjReferenceIdeal.τ).loc Cert.OutProjReferenceIdeal.main_arg6) = m ((c.tc : Thread Cert.OutProjIdeal.nD Cert.OutProjIdeal.τ).loc Cert.OutProjIdeal.main_arg6)
      ∧ m' ((c.tc : Thread Cert.OutProjReferenceIdeal.nD Cert.OutProjReferenceIdeal.τ).loc Cert.OutProjReferenceIdeal.main_arg7) = m ((c.tc : Thread Cert.OutProjIdeal.nD Cert.OutProjIdeal.τ).loc Cert.OutProjIdeal.main_arg7)
      ∧ m' ((c.tc : Thread Cert.OutProjReferenceIdeal.nD Cert.OutProjReferenceIdeal.τ).loc Cert.OutProjReferenceIdeal.main_arg8) = m ((c.tc : Thread Cert.OutProjIdeal.nD Cert.OutProjIdeal.τ).loc Cert.OutProjIdeal.main_arg8)) →
    ∃ (v0 : (c : Dev Cert.OutProjIdeal.nD) → Buf (Elt Ideal) ((c.tc : Thread Cert.OutProjIdeal.nD Cert.OutProjIdeal.τ).loc Cert.OutProjIdeal.main_v10)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v10) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
          ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
          ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6)
          ∧ r.2.mem ((c.tc : Thread Cert.OutProjIdeal.nD Cert.OutProjIdeal.τ).loc Cert.OutProjIdeal.main_arg7) = m ((c.tc : Thread Cert.OutProjIdeal.nD Cert.OutProjIdeal.τ).loc Cert.OutProjIdeal.main_arg7)
          ∧ r.2.mem ((c.tc : Thread Cert.OutProjIdeal.nD Cert.OutProjIdeal.τ).loc Cert.OutProjIdeal.main_arg8) = m ((c.tc : Thread Cert.OutProjIdeal.nD Cert.OutProjIdeal.τ).loc Cert.OutProjIdeal.main_arg8))
      ∧ θ_run (Cert.OutProjReferenceIdeal.defs (F := Ideal)) (onTc (τ := Cert.OutProjReferenceIdeal.τ) (Cert.OutProjReferenceIdeal.main (F := Ideal))) ⟨m', fun _ => 0, g'⟩ (fun r => ∀ c : Dev Cert.OutProjReferenceIdeal.nD,
          r.2.mem ((c.tc : Thread Cert.OutProjReferenceIdeal.nD Cert.OutProjReferenceIdeal.τ).loc Cert.OutProjReferenceIdeal.main_v29) = v0 c
          ∧ r.2.mem ((c.tc : Thread Cert.OutProjReferenceIdeal.nD Cert.OutProjReferenceIdeal.τ).loc Cert.OutProjReferenceIdeal.main_arg0) = m' ((c.tc : Thread Cert.OutProjReferenceIdeal.nD Cert.OutProjReferenceIdeal.τ).loc Cert.OutProjReferenceIdeal.main_arg0)
          ∧ r.2.mem ((c.tc : Thread Cert.OutProjReferenceIdeal.nD Cert.OutProjReferenceIdeal.τ).loc Cert.OutProjReferenceIdeal.main_arg1) = m' ((c.tc : Thread Cert.OutProjReferenceIdeal.nD Cert.OutProjReferenceIdeal.τ).loc Cert.OutProjReferenceIdeal.main_arg1)
          ∧ r.2.mem ((c.tc : Thread Cert.OutProjReferenceIdeal.nD Cert.OutProjReferenceIdeal.τ).loc Cert.OutProjReferenceIdeal.main_arg2) = m' ((c.tc : Thread Cert.OutProjReferenceIdeal.nD Cert.OutProjReferenceIdeal.τ).loc Cert.OutProjReferenceIdeal.main_arg2)
          ∧ r.2.mem ((c.tc : Thread Cert.OutProjReferenceIdeal.nD Cert.OutProjReferenceIdeal.τ).loc Cert.OutProjReferenceIdeal.main_arg3) = m' ((c.tc : Thread Cert.OutProjReferenceIdeal.nD Cert.OutProjReferenceIdeal.τ).loc Cert.OutProjReferenceIdeal.main_arg3)
          ∧ r.2.mem ((c.tc : Thread Cert.OutProjReferenceIdeal.nD Cert.OutProjReferenceIdeal.τ).loc Cert.OutProjReferenceIdeal.main_arg4) = m' ((c.tc : Thread Cert.OutProjReferenceIdeal.nD Cert.OutProjReferenceIdeal.τ).loc Cert.OutProjReferenceIdeal.main_arg4)
          ∧ r.2.mem ((c.tc : Thread Cert.OutProjReferenceIdeal.nD Cert.OutProjReferenceIdeal.τ).loc Cert.OutProjReferenceIdeal.main_arg5) = m' ((c.tc : Thread Cert.OutProjReferenceIdeal.nD Cert.OutProjReferenceIdeal.τ).loc Cert.OutProjReferenceIdeal.main_arg5)
          ∧ r.2.mem ((c.tc : Thread Cert.OutProjReferenceIdeal.nD Cert.OutProjReferenceIdeal.τ).loc Cert.OutProjReferenceIdeal.main_arg6) = m' ((c.tc : Thread Cert.OutProjReferenceIdeal.nD Cert.OutProjReferenceIdeal.τ).loc Cert.OutProjReferenceIdeal.main_arg6)
          ∧ r.2.mem ((c.tc : Thread Cert.OutProjReferenceIdeal.nD Cert.OutProjReferenceIdeal.τ).loc Cert.OutProjReferenceIdeal.main_arg7) = m' ((c.tc : Thread Cert.OutProjReferenceIdeal.nD Cert.OutProjReferenceIdeal.τ).loc Cert.OutProjReferenceIdeal.main_arg7)
          ∧ r.2.mem ((c.tc : Thread Cert.OutProjReferenceIdeal.nD Cert.OutProjReferenceIdeal.τ).loc Cert.OutProjReferenceIdeal.main_arg8) = m' ((c.tc : Thread Cert.OutProjReferenceIdeal.nD Cert.OutProjReferenceIdeal.τ).loc Cert.OutProjReferenceIdeal.main_arg8))

def Claim : Prop :=
  ∃ (hMoe : Cert.Moe.Facts) (hMoeIdeal : Cert.MoeIdeal.Facts) (hMoeReferenceIdeal : Cert.MoeReferenceIdeal.Facts) (hAttn : Cert.Attn.Facts) (hAttnIdeal : Cert.AttnIdeal.Facts) (hAttnReferenceIdeal : Cert.AttnReferenceIdeal.Facts) (hInProj : Cert.InProj.Facts) (hInProjIdeal : Cert.InProjIdeal.Facts) (hInProjReferenceIdeal : Cert.InProjReferenceIdeal.Facts) (hOutProj : Cert.OutProj.Facts) (hOutProjIdeal : Cert.OutProjIdeal.Facts) (hOutProjReferenceIdeal : Cert.OutProjReferenceIdeal.Facts) (hPre_in_range : Cert.Pre_in_range.Facts) (hPre_scores_finite : Cert.Pre_scores_finite.Facts),
    quiescent_Moe (hMoe := hMoe) (hPre_in_range := hPre_in_range)
    ∧ quiescent_MoeIdeal (hMoeIdeal := hMoeIdeal) (hPre_in_range := hPre_in_range)
    ∧ quiescent_MoeReferenceIdeal (hMoeReferenceIdeal := hMoeReferenceIdeal)
    ∧ quiescent_MoeReferenceIdeal_pre_in_range (hMoeReferenceIdeal := hMoeReferenceIdeal) (hPre_in_range := hPre_in_range)
    ∧ quiescent_Attn (hAttn := hAttn)
    ∧ quiescent_AttnIdeal (hAttnIdeal := hAttnIdeal)
    ∧ quiescent_AttnIdeal_pre_scores_finite (hAttnIdeal := hAttnIdeal) (hPre_scores_finite := hPre_scores_finite)
    ∧ quiescent_AttnReferenceIdeal (hAttnReferenceIdeal := hAttnReferenceIdeal)
    ∧ quiescent_AttnReferenceIdeal_pre_scores_finite (hAttnReferenceIdeal := hAttnReferenceIdeal) (hPre_scores_finite := hPre_scores_finite)
    ∧ quiescent_InProj (hInProj := hInProj)
    ∧ quiescent_InProjIdeal (hInProjIdeal := hInProjIdeal)
    ∧ quiescent_InProjReferenceIdeal (hInProjReferenceIdeal := hInProjReferenceIdeal)
    ∧ quiescent_OutProj (hOutProj := hOutProj)
    ∧ quiescent_OutProjIdeal (hOutProjIdeal := hOutProjIdeal)
    ∧ quiescent_OutProjReferenceIdeal (hOutProjReferenceIdeal := hOutProjReferenceIdeal)
    ∧ preserves_Moe_MoeIdeal
    ∧ algebraic_MoeIdeal_MoeReferenceIdeal (hMoeIdeal := hMoeIdeal) (hMoeReferenceIdeal := hMoeReferenceIdeal) (hPre_in_range := hPre_in_range)
    ∧ preserves_Attn_AttnIdeal
    ∧ algebraic_AttnIdeal_AttnReferenceIdeal_pre_scores_finite (hAttnIdeal := hAttnIdeal) (hAttnReferenceIdeal := hAttnReferenceIdeal) (hPre_scores_finite := hPre_scores_finite)
    ∧ preserves_InProj_InProjIdeal
    ∧ algebraic_InProjIdeal_InProjReferenceIdeal (hInProjIdeal := hInProjIdeal) (hInProjReferenceIdeal := hInProjReferenceIdeal)
    ∧ preserves_OutProj_OutProjIdeal
    ∧ algebraic_OutProjIdeal_OutProjReferenceIdeal (hOutProjIdeal := hOutProjIdeal) (hOutProjReferenceIdeal := hOutProjReferenceIdeal)
-- ==== Pre_in_range.lean ====
abbrev S154 : Shape := ⟨1, ![154]⟩
abbrev S1 : Shape := ⟨1, ![1]⟩
abbrev S78848x1152 : Shape := ⟨2, ![78848, 1152]⟩
abbrev S16x1024x512 : Shape := ⟨3, ![16, 1024, 512]⟩
abbrev S16x512x1024 : Shape := ⟨3, ![16, 512, 1024]⟩
abbrev S_ : Shape := ⟨0, ![]⟩

class Facts : Prop where
  shapeCasts_S1_S_ : S1.ShapeCasts S_
  bcast_S_S154 : S_.BroadcastsInDim S154 (![] : Fin 0 → Fin S154.rank)

variable [Facts]

def fn_part1 {F : FTy → Type} [FloatOps F] (main_v16 : IVec S154 1) (main_v17 : IVec S_ 1) : IVec S154 1 :=
  let main_v18 : IVec S154 1 := broadcastInDim S154 ![] bcast_S_S154 main_v17
  let main_v19 : IVec S154 1 := andi main_v16 main_v18
  main_v19

def fn {F : FTy → Type} [FloatOps F] (main_arg0 : IVec S154 32) (main_arg1 : IVec S154 32) (main_arg2 : IVec S1 32) (main_arg3 : FVec F S78848x1152 .f32) (main_arg4 : FVec F S16x1024x512 .f32) (main_arg5 : FVec F S16x1024x512 .f32) (main_arg6 : FVec F S16x512x1024 .f32) : IVec S154 1 :=
  let main_v0 : IVec S_ 32 := shapeCast S_ main_arg2 shapeCasts_S1_S_
  let main_c : IVec S_ 32 := constantI S_ 32 0#32
  let main_v1 : IVec S154 32 := broadcastInDim S154 ![] bcast_S_S154 main_c
  let main_v2 : IVec S154 1 := cmpi .sge main_arg0 main_v1
  let main_c_0 : IVec S_ 32 := constantI S_ 32 16#32
  let main_v3 : IVec S154 32 := broadcastInDim S154 ![] bcast_S_S154 main_c_0
  let main_v4 : IVec S154 1 := cmpi .slt main_arg0 main_v3
  let main_v5 : IVec S154 1 := andi main_v2 main_v4
  let main_c_1 : IVec S_ 32 := constantI S_ 32 0#32
  let main_v6 : IVec S154 32 := broadcastInDim S154 ![] bcast_S_S154 main_c_1
  let main_v7 : IVec S154 1 := cmpi .sge main_arg1 main_v6
  let main_v8 : IVec S154 1 := andi main_v5 main_v7
  let main_c_2 : IVec S_ 32 := constantI S_ 32 16#32
  let main_v9 : IVec S154 32 := broadcastInDim S154 ![] bcast_S_S154 main_c_2
  let main_v10 : IVec S154 1 := cmpi .slt main_arg1 main_v9
  let main_v11 : IVec S154 1 := andi main_v8 main_v10
  let main_v12 : IVec S154 1 := cmpi .ne main_arg0 main_arg1
  let main_v13 : IVec S154 1 := andi main_v11 main_v12
  let main_c_3 : IVec S_ 32 := constantI S_ 32 1#32
  let main_v14 : IVec S_ 1 := cmpi .sge main_v0 main_c_3
  let main_v15 : IVec S154 1 := broadcastInDim S154 ![] bcast_S_S154 main_v14
  let main_v16 : IVec S154 1 := andi main_v13 main_v15
  let main_c_4 : IVec S_ 32 := constantI S_ 32 154#32
  let main_v17 : IVec S_ 1 := cmpi .sle main_v0 main_c_4
  fn_part1 (F := F) main_v16 main_v17
-- ==== Pre_scores_finite.lean ====
abbrev S66560x2304 : Shape := ⟨2, ![66560, 2304]⟩
abbrev S8x512x8x64 : Shape := ⟨4, ![8, 512, 8, 64]⟩
abbrev S8x128x2x64 : Shape := ⟨4, ![8, 128, 2, 64]⟩
abbrev S8x257 : Shape := ⟨2, ![8, 257]⟩
abbrev S8 : Shape := ⟨1, ![8]⟩
abbrev S512 : Shape := ⟨1, ![512]⟩
abbrev S256x2304 : Shape := ⟨2, ![256, 2304]⟩
abbrev S256x1024 : Shape := ⟨2, ![256, 1024]⟩
abbrev S_ : Shape := ⟨0, ![]⟩
abbrev S256x640 : Shape := ⟨2, ![256, 640]⟩

class Facts : Prop where
  slices_S66560x2304_S256x2304_65536_0 : S66560x2304.Slices ![65536, 0] S256x2304
  bitsLt_bf16_f32 : FTy.bits .bf16 < FTy.bits .f32
  slices_S256x2304_S256x1024_0_0 : S256x2304.Slices ![0, 0] S256x1024
  bcast_S_S256x1024 : S_.BroadcastsInDim S256x1024 (![] : Fin 0 → Fin S256x1024.rank)
  reducesTo_S256x1024_S_d0_1 : S256x1024.ReducesTo [0, 1] S_
  h_S_ : 0 < S_.numel
  slices_S256x2304_S256x640_0_1536 : S256x2304.Slices ![0, 1536] S256x640
  bcast_S_S256x640 : S_.BroadcastsInDim S256x640 (![] : Fin 0 → Fin S256x640.rank)
  reducesTo_S256x640_S_d0_1 : S256x640.ReducesTo [0, 1] S_
  bcast_S_S8x512x8x64 : S_.BroadcastsInDim S8x512x8x64 (![] : Fin 0 → Fin S8x512x8x64.rank)
  reducesTo_S8x512x8x64_S_d0_1_2_3 : S8x512x8x64.ReducesTo [0, 1, 2, 3] S_
  bcast_S_S8x128x2x64 : S_.BroadcastsInDim S8x128x2x64 (![] : Fin 0 → Fin S8x128x2x64.rank)
  reducesTo_S8x128x2x64_S_d0_1_2_3 : S8x128x2x64.ReducesTo [0, 1, 2, 3] S_
  bcast_S_S8x257 : S_.BroadcastsInDim S8x257 (![] : Fin 0 → Fin S8x257.rank)
  reducesTo_S8x257_S_d0_1 : S8x257.ReducesTo [0, 1] S_
  bcast_S_S8 : S_.BroadcastsInDim S8 (![] : Fin 0 → Fin S8.rank)
  reducesTo_S8_S_d0 : S8.ReducesTo [0] S_

variable [Facts]

def fn_part1 {F : FTy → Type} [FloatOps F] (main_arg3 : FVec F S8x128x2x64 .f32) (main_arg5 : FVec F S8x257 .f32) (main_arg6 : FVec F S8 .f32) (main_v17 : IVec S_ 1) : IVec S_ 1 :=
  let main_v18 : FVec F S8x128x2x64 .f32 := Host.absf main_arg3
  let main_cst_4 : FVec F S_ .f32 := constant S_ .f32 0x7F800000#32
  let main_v19 : FVec F S8x128x2x64 .f32 := broadcastInDim S8x128x2x64 ![] bcast_S_S8x128x2x64 main_cst_4
  let main_v20 : IVec S8x128x2x64 1 := cmpf .olt main_v18 main_v19
  let main_c_5 : IVec S_ 1 := constantI S_ 1 1#1
  let main_v21 : IVec S_ 1 := (fun x v => Host.reduce IntOp.andi x v reducesTo_S8x128x2x64_S_d0_1_2_3 h_S_) main_v20 main_c_5
  let main_v22 : IVec S_ 1 := andi main_v17 main_v21
  let main_v23 : FVec F S8x257 .f32 := Host.absf main_arg5
  let main_cst_6 : FVec F S_ .f32 := constant S_ .f32 0x7F800000#32
  let main_v24 : FVec F S8x257 .f32 := broadcastInDim S8x257 ![] bcast_S_S8x257 main_cst_6
  let main_v25 : IVec S8x257 1 := cmpf .olt main_v23 main_v24
  let main_c_7 : IVec S_ 1 := constantI S_ 1 1#1
  let main_v26 : IVec S_ 1 := (fun x v => Host.reduce IntOp.andi x v reducesTo_S8x257_S_d0_1 h_S_) main_v25 main_c_7
  let main_v27 : IVec S_ 1 := andi main_v22 main_v26
  let main_cst_8 : FVec F S_ .f32 := constant S_ .f32 0x7F800000#32
  let main_v28 : FVec F S8 .f32 := broadcastInDim S8 ![] bcast_S_S8 main_cst_8
  let main_v29 : IVec S8 1 := cmpf .olt main_arg6 main_v28
  let main_c_9 : IVec S_ 1 := constantI S_ 1 1#1
  let main_v30 : IVec S_ 1 := (fun x v => Host.reduce IntOp.andi x v reducesTo_S8_S_d0 h_S_) main_v29 main_c_9
  let main_v31 : IVec S_ 1 := andi main_v27 main_v30
  main_v31

def fn {F : FTy → Type} [FloatOps F] (main_arg0 : FVec F S66560x2304 .bf16) (main_arg1 : FVec F S8x512x8x64 .f32) (main_arg2 : FVec F S8x512x8x64 .f32) (main_arg3 : FVec F S8x128x2x64 .f32) (main_arg4 : FVec F S8x128x2x64 .f32) (main_arg5 : FVec F S8x257 .f32) (main_arg6 : FVec F S8 .f32) (main_arg7 : FVec F S512 .f32) (main_arg8 : FVec F S512 .f32) : IVec S_ 1 :=
  let main_v0 : FVec F S256x2304 .bf16 := (extractStridedSlice S256x2304 ![65536, 0] · slices_S66560x2304_S256x2304_65536_0) main_arg0
  let main_v1 : FVec F S256x2304 .f32 := (extf .f32 · bitsLt_bf16_f32) main_v0
  let main_v2 : FVec F S256x1024 .f32 := (extractStridedSlice S256x1024 ![0, 0] · slices_S256x2304_S256x1024_0_0) main_v1
  let main_v3 : FVec F S256x1024 .f32 := Host.absf main_v2
  let main_cst : FVec F S_ .f32 := constant S_ .f32 0x7F800000#32
  let main_v4 : FVec F S256x1024 .f32 := broadcastInDim S256x1024 ![] bcast_S_S256x1024 main_cst
  let main_v5 : IVec S256x1024 1 := cmpf .olt main_v3 main_v4
  let main_c : IVec S_ 1 := constantI S_ 1 1#1
  let main_v6 : IVec S_ 1 := (fun x v => Host.reduce IntOp.andi x v reducesTo_S256x1024_S_d0_1 h_S_) main_v5 main_c
  let main_v7 : FVec F S256x640 .f32 := (extractStridedSlice S256x640 ![0, 1536] · slices_S256x2304_S256x640_0_1536) main_v1
  let main_v8 : FVec F S256x640 .f32 := Host.absf main_v7
  let main_cst_0 : FVec F S_ .f32 := constant S_ .f32 0x7F800000#32
  let main_v9 : FVec F S256x640 .f32 := broadcastInDim S256x640 ![] bcast_S_S256x640 main_cst_0
  let main_v10 : IVec S256x640 1 := cmpf .olt main_v8 main_v9
  let main_c_1 : IVec S_ 1 := constantI S_ 1 1#1
  let main_v11 : IVec S_ 1 := (fun x v => Host.reduce IntOp.andi x v reducesTo_S256x640_S_d0_1 h_S_) main_v10 main_c_1
  let main_v12 : IVec S_ 1 := andi main_v6 main_v11
  let main_v13 : FVec F S8x512x8x64 .f32 := Host.absf main_arg1
  let main_cst_2 : FVec F S_ .f32 := constant S_ .f32 0x7F800000#32
  let main_v14 : FVec F S8x512x8x64 .f32 := broadcastInDim S8x512x8x64 ![] bcast_S_S8x512x8x64 main_cst_2
  let main_v15 : IVec S8x512x8x64 1 := cmpf .olt main_v13 main_v14
  let main_c_3 : IVec S_ 1 := constantI S_ 1 1#1
  let main_v16 : IVec S_ 1 := (fun x v => Host.reduce IntOp.andi x v reducesTo_S8x512x8x64_S_d0_1_2_3 h_S_) main_v15 main_c_3
  let main_v17 : IVec S_ 1 := andi main_v12 main_v16
  fn_part1 (F := F) main_arg3 main_arg5 main_arg6 main_v17
-- ==== Moe.lean ====
abbrev S154 : Shape := ⟨1, ![154]⟩
abbrev S1 : Shape := ⟨1, ![1]⟩
abbrev S78848x1152 : Shape := ⟨2, ![78848, 1152]⟩
abbrev S16x1024x512 : Shape := ⟨3, ![16, 1024, 512]⟩
abbrev S16x512x1024 : Shape := ⟨3, ![16, 512, 1024]⟩
abbrev S78848x1024 : Shape := ⟨2, ![78848, 1024]⟩
abbrev S512x1152 : Shape := ⟨2, ![512, 1152]⟩
abbrev S1x1024x512 : Shape := ⟨3, ![1, 1024, 512]⟩
abbrev S1x512x1024 : Shape := ⟨3, ![1, 512, 1024]⟩
abbrev S512x1024 : Shape := ⟨2, ![512, 1024]⟩
abbrev S512x1 : Shape := ⟨2, ![512, 1]⟩
abbrev S1024x512 : Shape := ⟨2, ![1024, 512]⟩
abbrev S512x512 : Shape := ⟨2, ![512, 512]⟩

abbrev nBuf : Space → Nat
  | .hbm => 8
  | .vmem => 16
  | .smem => 3
  | _ => 0

abbrev bufTy : (tb : Table) → Fin (tcTables nBuf tb) → BufTy
  | .hbm, ⟨0, _⟩ => ⟨S78848x1152, .f32⟩
  | .hbm, ⟨1, _⟩ => ⟨S16x1024x512, .f32⟩
  | .hbm, ⟨2, _⟩ => ⟨S16x1024x512, .f32⟩
  | .hbm, ⟨3, _⟩ => ⟨S16x512x1024, .f32⟩
  | .hbm, ⟨4, _⟩ => ⟨S16x1024x512, .bf16⟩
  | .hbm, ⟨5, _⟩ => ⟨S16x1024x512, .bf16⟩
  | .hbm, ⟨6, _⟩ => ⟨S16x512x1024, .bf16⟩
  | .hbm, ⟨7, _⟩ => ⟨S78848x1024, .f32⟩
  | .local _ .vmem, ⟨0, _⟩ => ⟨S512x1152, .f32⟩
  | .local _ .vmem, ⟨1, _⟩ => ⟨S512x1152, .f32⟩
  | .local _ .vmem, ⟨2, _⟩ => ⟨S1x1024x512, .bf16⟩
  | .local _ .vmem, ⟨3, _⟩ => ⟨S1x1024x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S1x512x1024, .bf16⟩
  | .local _ .vmem, ⟨7, _⟩ => ⟨S1x512x1024, .bf16⟩
  | .local _ .vmem, ⟨8, _⟩ => ⟨S1x1024x512, .bf16⟩
  | .local _ .vmem, ⟨9, _⟩ => ⟨S1x1024x512, .bf16⟩
  | .local _ .vmem, ⟨10, _⟩ => ⟨S1x1024x512, .bf16⟩
  | .local _ .vmem, ⟨11, _⟩ => ⟨S1x1024x512, .bf16⟩
  | .local _ .vmem, ⟨12, _⟩ => ⟨S1x512x1024, .bf16⟩
  | .local _ .vmem, ⟨13, _⟩ => ⟨S1x512x1024, .bf16⟩
  | .local _ .vmem, ⟨14, _⟩ => ⟨S512x1024, .f32⟩
  | .local _ .vmem, ⟨15, _⟩ => ⟨S512x1024, .f32⟩
  | .local _ .smem, ⟨0, _⟩ => ⟨S154, .i32⟩
  | .local _ .smem, ⟨1, _⟩ => ⟨S154, .i32⟩
  | .local _ .smem, ⟨2, _⟩ => ⟨S1, .i32⟩
  | _, _ => ⟨S78848x1152, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg3 : Ref sig .tc := ⟨.hbm, 0, rfl⟩
abbrev main_arg4 : Ref sig .tc := ⟨.hbm, 1, rfl⟩
abbrev main_arg5 : Ref sig .tc := ⟨.hbm, 2, rfl⟩
abbrev main_arg6 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![154], ![false]⟩

abbrev pre0 : Pipeline.Prefetch sig := ⟨3, ![main_arg0.idx, main_arg1.idx, main_arg2.idx], fun | 0 => main_arg0.names | 1 => main_arg1.names | 2 => main_arg2.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v_true : BitVec 1 := 1#1
  let v2 : BitVec 1 := Scalar.xori v1 v_true
  let v3 : BitVec 32 := Scalar.extui v2
  let c0_i32 : BitVec 32 := 0#32
  let v4 : BitVec 1 := Scalar.cmpi .ne v3 c0_i32
  v4

def k0_cond2 (i : grid0.Coords) (v0 : BitVec 32) : BitVec 1 :=
  let arg0 : BitVec 32 := BitVec.ofNat 32 (i 0).val
  let v1 : BitVec 1 := Scalar.cmpi .slt arg0 v0
  let v5 : BitVec 32 := Scalar.extui v1
  let c0_i32_0 : BitVec 32 := 0#32
  let v6 : BitVec 1 := Scalar.cmpi .ne v5 c0_i32_0
  v6

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 2 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S154.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S154) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S154.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S154) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S154.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S154) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S154.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S154) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (k0_off1_inb : ∀ i : grid0.Coords, ∀ a, (k0_off1 i) a + S1.size a ≤ S154.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S154) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_6 (k0_off1_inb : ∀ i : grid0.Coords, ∀ a, (k0_off1 i) a + S1.size a ≤ S154.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S154) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1152 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== MoeReferenceIdeal.lean ====
abbrev S154 : Shape := ⟨1, ![154]⟩
abbrev S1 : Shape := ⟨1, ![1]⟩
abbrev S78848x1152 : Shape := ⟨2, ![78848, 1152]⟩
abbrev S16x1024x512 : Shape := ⟨3, ![16, 1024, 512]⟩
abbrev S16x512x1024 : Shape := ⟨3, ![16, 512, 1024]⟩
abbrev S78848x1024 : Shape := ⟨2, ![78848, 1024]⟩
abbrev S154x512 : Shape := ⟨2, ![154, 512]⟩
abbrev S78848 : Shape := ⟨1, ![78848]⟩
abbrev S78848x1 : Shape := ⟨2, ![78848, 1]⟩
abbrev S1x16 : Shape := ⟨2, ![1, 16]⟩
abbrev S78848x16 : Shape := ⟨2, ![78848, 16]⟩
abbrev S16x512x78848 : Shape := ⟨3, ![16, 512, 78848]⟩
abbrev S16x78848x512 : Shape := ⟨3, ![16, 78848, 512]⟩
abbrev S_ : Shape := ⟨0, ![]⟩
abbrev S16x78848x1024 : Shape := ⟨3, ![16, 78848, 1024]⟩

abbrev nBuf : Space → Nat
  | .hbm => 59
  | .vmem => 0
  | .smem => 0
  | _ => 0

abbrev bufTy : (tb : Table) → Fin (tcTables nBuf tb) → BufTy
  | .hbm, ⟨0, _⟩ => ⟨S154, .i32⟩
  | .hbm, ⟨1, _⟩ => ⟨S154, .i32⟩
  | .hbm, ⟨2, _⟩ => ⟨S1, .i32⟩
  | .hbm, ⟨3, _⟩ => ⟨S78848x1152, .f32⟩
  | .hbm, ⟨4, _⟩ => ⟨S16x1024x512, .f32⟩
  | .hbm, ⟨5, _⟩ => ⟨S16x1024x512, .f32⟩
  | .hbm, ⟨6, _⟩ => ⟨S16x512x1024, .f32⟩
  | .hbm, ⟨7, _⟩ => ⟨S78848x1024, .f32⟩
  | .hbm, ⟨8, _⟩ => ⟨S154x512, .i32⟩
  | .hbm, ⟨9, _⟩ => ⟨S78848, .i32⟩
  | .hbm, ⟨10, _⟩ => ⟨S78848x1, .i32⟩
  | .hbm, ⟨11, _⟩ => ⟨S1x16, .i32⟩
  | .hbm, ⟨12, _⟩ => ⟨S78848x16, .i32⟩
  | .hbm, ⟨13, _⟩ => ⟨S78848x16, .i32⟩
  | .hbm, ⟨14, _⟩ => ⟨S78848x16, .i1⟩
  | .hbm, ⟨15, _⟩ => ⟨S78848x16, .f32⟩
  | .hbm, ⟨16, _⟩ => ⟨S78848x1, .f32⟩
  | .hbm, ⟨17, _⟩ => ⟨S78848x16, .f32⟩
  | .hbm, ⟨18, _⟩ => ⟨S78848x16, .f32⟩
  | .hbm, ⟨19, _⟩ => ⟨S154x512, .i32⟩
  | .hbm, ⟨20, _⟩ => ⟨S78848, .i32⟩
  | .hbm, ⟨21, _⟩ => ⟨S78848x1, .i32⟩
  | .hbm, ⟨22, _⟩ => ⟨S1x16, .i32⟩
  | .hbm, ⟨23, _⟩ => ⟨S78848x16, .i32⟩
  | .hbm, ⟨24, _⟩ => ⟨S78848x16, .i32⟩
  | .hbm, ⟨25, _⟩ => ⟨S78848x16, .i1⟩
  | .hbm, ⟨26, _⟩ => ⟨S78848x16, .f32⟩
  | .hbm, ⟨27, _⟩ => ⟨S78848x1, .f32⟩
  | .hbm, ⟨28, _⟩ => ⟨S78848x16, .f32⟩
  | .hbm, ⟨29, _⟩ => ⟨S78848x16, .f32⟩
  | .hbm, ⟨30, _⟩ => ⟨S78848x16, .f32⟩
  | .hbm, ⟨31, _⟩ => ⟨S16x512x78848, .f32⟩
  | .hbm, ⟨32, _⟩ => ⟨S16x78848x512, .f32⟩
  | .hbm, ⟨33, _⟩ => ⟨S16x78848x512, .f32⟩
  | .hbm, ⟨34, _⟩ => ⟨S16x78848x512, .f32⟩
  | .hbm, ⟨35, _⟩ => ⟨S_, .f32⟩
  | .hbm, ⟨36, _⟩ => ⟨S16x78848x512, .f32⟩
  | .hbm, ⟨37, _⟩ => ⟨S16x78848x512, .f32⟩
  | .hbm, ⟨38, _⟩ => ⟨S_, .f32⟩
  | .hbm, ⟨39, _⟩ => ⟨S16x78848x512, .f32⟩
  | .hbm, ⟨40, _⟩ => ⟨S16x78848x512, .f32⟩
  | .hbm, ⟨41, _⟩ => ⟨S16x78848x512, .f32⟩
  | .hbm, ⟨42, _⟩ => ⟨S16x512x78848, .f32⟩
  | .hbm, ⟨43, _⟩ => ⟨S16x78848x512, .f32⟩
  | .hbm, ⟨44, _⟩ => ⟨S16x78848x512, .f32⟩
  | .hbm, ⟨45, _⟩ => ⟨S16x78848x1024, .f32⟩
  | .hbm, ⟨46, _⟩ => ⟨S78848x1024, .f32⟩
  | .hbm, ⟨47, _⟩ => ⟨S78848, .i32⟩
  | .hbm, ⟨48, _⟩ => ⟨S_, .i32⟩
  | .hbm, ⟨49, _⟩ => ⟨S_, .i32⟩
  | .hbm, ⟨50, _⟩ => ⟨S_, .i32⟩
  | .hbm, ⟨51, _⟩ => ⟨S78848, .i32⟩
  | .hbm, ⟨52, _⟩ => ⟨S78848, .i1⟩
  | .hbm, ⟨53, _⟩ => ⟨S78848x1, .i1⟩
  | .hbm, ⟨54, _⟩ => ⟨S_, .f32⟩
  | .hbm, ⟨55, _⟩ => ⟨S_, .f32⟩
  | .hbm, ⟨56, _⟩ => ⟨S78848x1024, .i1⟩
  | .hbm, ⟨57, _⟩ => ⟨S78848x1024, .f32⟩
  | .hbm, ⟨58, _⟩ => ⟨S78848x1024, .f32⟩
  | _, _ => ⟨S154, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_call1_v0 : Ref sig .tc := ⟨.hbm, 21, rfl⟩
abbrev main_call1_v1 : Ref sig .tc := ⟨.hbm, 22, rfl⟩
abbrev main_call1_v2 : Ref sig .tc := ⟨.hbm, 23, rfl⟩
abbrev main_call1_v3 : Ref sig .tc := ⟨.hbm, 24, rfl⟩
abbrev main_call1_v4 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_call2_v0 : Ref sig .tc := ⟨.hbm, 33, rfl⟩
abbrev main_call2_v1 : Ref sig .tc := ⟨.hbm, 34, rfl⟩
abbrev main_call2_cst : Ref sig .tc := ⟨.hbm, 35, rfl⟩
abbrev main_call2_v2 : Ref sig .tc := ⟨.hbm, 36, rfl⟩
abbrev main_call2_v3 : Ref sig .tc := ⟨.hbm, 37, rfl⟩
abbrev main_call2_cst_0 : Ref sig .tc := ⟨.hbm, 38, rfl⟩
abbrev main_call2_v4 : Ref sig .tc := ⟨.hbm, 39, rfl⟩
abbrev main_call2_v5 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_c : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_cst : Ref sig .tc := ⟨.hbm, 54, rfl⟩
abbrev main_call3_v0 : Ref sig .tc := ⟨.hbm, 55, rfl⟩
abbrev main_call3_v1 : Ref sig .tc := ⟨.hbm, 56, rfl⟩
abbrev main_call3_v2 : Ref sig .tc := ⟨.hbm, 57, rfl⟩
abbrev main_v28 : Ref sig .tc := ⟨.hbm, 58, rfl⟩

abbrev nD : Nat := 1
abbrev τ : Topo := Topo.v7x

variable {F : FTy → Type} [FloatOps F]
-- ==== Attn.lean ====
abbrev S66560x2304 : Shape := ⟨2, ![66560, 2304]⟩
abbrev S8x512x8x64 : Shape := ⟨4, ![8, 512, 8, 64]⟩
abbrev S8x128x2x64 : Shape := ⟨4, ![8, 128, 2, 64]⟩
abbrev S8x257 : Shape := ⟨2, ![8, 257]⟩
abbrev S8 : Shape := ⟨1, ![8]⟩
abbrev S512 : Shape := ⟨1, ![512]⟩
abbrev S32 : Shape := ⟨1, ![32]⟩
abbrev S32x1 : Shape := ⟨2, ![32, 1]⟩
abbrev S_ : Shape := ⟨0, ![]⟩
abbrev S160 : Shape := ⟨1, ![160]⟩
abbrev S1x160 : Shape := ⟨2, ![1, 160]⟩
abbrev S32x160 : Shape := ⟨2, ![32, 160]⟩
abbrev S8x1x1 : Shape := ⟨3, ![8, 1, 1]⟩
abbrev S1x32x160 : Shape := ⟨3, ![1, 32, 160]⟩
abbrev S8x32x160 : Shape := ⟨3, ![8, 32, 160]⟩
abbrev S1x512 : Shape := ⟨2, ![1, 512]⟩
abbrev S575 : Shape := ⟨1, ![575]⟩
abbrev S575x1 : Shape := ⟨2, ![575, 1]⟩
abbrev S1 : Shape := ⟨1, ![1]⟩
abbrev S1x1 : Shape := ⟨2, ![1, 1]⟩
abbrev S8x575 : Shape := ⟨2, ![8, 575]⟩
abbrev S8x1 : Shape := ⟨2, ![8, 1]⟩
abbrev S8x576 : Shape := ⟨2, ![8, 576]⟩
abbrev S1x8x1x576 : Shape := ⟨4, ![1, 8, 1, 576]⟩
abbrev S1x8x32x576 : Shape := ⟨4, ![1, 8, 32, 576]⟩
abbrev S8x18432 : Shape := ⟨2, ![8, 18432]⟩
abbrev S8x18400 : Shape := ⟨2, ![8, 18400]⟩
abbrev S8x32x575 : Shape := ⟨3, ![8, 32, 575]⟩
abbrev S8x32x544 : Shape := ⟨3, ![8, 32, 544]⟩
abbrev S8x32x512 : Shape := ⟨3, ![8, 32, 512]⟩
abbrev S8x32x32 : Shape := ⟨3, ![8, 32, 32]⟩
abbrev S8x32x128 : Shape := ⟨3, ![8, 32, 128]⟩
abbrev S8x512x512 : Shape := ⟨3, ![8, 512, 512]⟩
abbrev S8x128x128 : Shape := ⟨3, ![8, 128, 128]⟩
abbrev S1024x1024 : Shape := ⟨2, ![1024, 1024]⟩
abbrev S32x512 : Shape := ⟨2, ![32, 512]⟩
abbrev S32x128 : Shape := ⟨2, ![32, 128]⟩
abbrev S1x512x512 : Shape := ⟨3, ![1, 512, 512]⟩
abbrev S1x128x128 : Shape := ⟨3, ![1, 128, 128]⟩
abbrev S32x1024 : Shape := ⟨2, ![32, 1024]⟩
abbrev S1x512x128 : Shape := ⟨3, ![1, 512, 128]⟩
abbrev S512x128 : Shape := ⟨2, ![512, 128]⟩
abbrev S1x32x512 : Shape := ⟨3, ![1, 32, 512]⟩
abbrev S32x32 : Shape := ⟨2, ![32, 32]⟩
abbrev S1x32x32 : Shape := ⟨3, ![1, 32, 32]⟩
abbrev S1x128 : Shape := ⟨2, ![1, 128]⟩
abbrev S128x128 : Shape := ⟨2, ![128, 128]⟩
abbrev S1x32x128 : Shape := ⟨3, ![1, 32, 128]⟩
abbrev S32x64 : Shape := ⟨2, ![32, 64]⟩

abbrev nBuf : Space → Nat
  | .hbm => 98
  | .vmem => 28
  | .smem => 1
  | _ => 0

abbrev bufTy : (tb : Table) → Fin (tcTables nBuf tb) → BufTy
  | .hbm, ⟨0, _⟩ => ⟨S66560x2304, .bf16⟩
  | .hbm, ⟨1, _⟩ => ⟨S8x512x8x64, .f32⟩
  | .hbm, ⟨2, _⟩ => ⟨S8x512x8x64, .f32⟩
  | .hbm, ⟨3, _⟩ => ⟨S8x128x2x64, .f32⟩
  | .hbm, ⟨4, _⟩ => ⟨S8x128x2x64, .f32⟩
  | .hbm, ⟨5, _⟩ => ⟨S8x257, .f32⟩
  | .hbm, ⟨6, _⟩ => ⟨S8, .f32⟩
  | .hbm, ⟨7, _⟩ => ⟨S512, .f32⟩
  | .hbm, ⟨8, _⟩ => ⟨S512, .f32⟩
  | .hbm, ⟨9, _⟩ => ⟨S32, .i32⟩
  | .hbm, ⟨10, _⟩ => ⟨S32x1, .i32⟩
  | .hbm, ⟨11, _⟩ => ⟨S_, .i32⟩
  | .hbm, ⟨12, _⟩ => ⟨S32x1, .i32⟩
  | .hbm, ⟨13, _⟩ => ⟨S32x1, .i32⟩
  | .hbm, ⟨14, _⟩ => ⟨S160, .i32⟩
  | .hbm, ⟨15, _⟩ => ⟨S1x160, .i32⟩
  | .hbm, ⟨16, _⟩ => ⟨S32x160, .i32⟩
  | .hbm, ⟨17, _⟩ => ⟨S32x160, .i32⟩
  | .hbm, ⟨18, _⟩ => ⟨S32x160, .i32⟩
  | .hbm, ⟨19, _⟩ => ⟨S8, .f32⟩
  | .hbm, ⟨20, _⟩ => ⟨S_, .f32⟩
  | .hbm, ⟨21, _⟩ => ⟨S8, .f32⟩
  | .hbm, ⟨22, _⟩ => ⟨S8, .f32⟩
  | .hbm, ⟨23, _⟩ => ⟨S_, .f32⟩
  | .hbm, ⟨24, _⟩ => ⟨S8, .f32⟩
  | .hbm, ⟨25, _⟩ => ⟨S8, .f32⟩
  | .hbm, ⟨26, _⟩ => ⟨S_, .f32⟩
  | .hbm, ⟨27, _⟩ => ⟨S8, .f32⟩
  | .hbm, ⟨28, _⟩ => ⟨S8, .f32⟩
  | .hbm, ⟨29, _⟩ => ⟨S_, .f32⟩
  | .hbm, ⟨30, _⟩ => ⟨S8, .f32⟩
  | .hbm, ⟨31, _⟩ => ⟨S8, .f32⟩
  | .hbm, ⟨32, _⟩ => ⟨S8x1x1, .f32⟩
  | .hbm, ⟨33, _⟩ => ⟨S8x1x1, .f32⟩
  | .hbm, ⟨34, _⟩ => ⟨S32x160, .i32⟩
  | .hbm, ⟨35, _⟩ => ⟨S32x160, .f32⟩
  | .hbm, ⟨36, _⟩ => ⟨S1x32x160, .f32⟩
  | .hbm, ⟨37, _⟩ => ⟨S8x32x160, .f32⟩
  | .hbm, ⟨38, _⟩ => ⟨S8x32x160, .f32⟩
  | .hbm, ⟨39, _⟩ => ⟨S8x32x160, .f32⟩
  | .hbm, ⟨40, _⟩ => ⟨S1x512, .f32⟩
  | .hbm, ⟨41, _⟩ => ⟨S1x512, .f32⟩
  | .hbm, ⟨42, _⟩ => ⟨S575, .i32⟩
  | .hbm, ⟨43, _⟩ => ⟨S_, .i32⟩
  | .hbm, ⟨44, _⟩ => ⟨S575, .i32⟩
  | .hbm, ⟨45, _⟩ => ⟨S575, .i32⟩
  | .hbm, ⟨46, _⟩ => ⟨S_, .i32⟩
  | .hbm, ⟨47, _⟩ => ⟨S_, .i32⟩
  | .hbm, ⟨48, _⟩ => ⟨S_, .i32⟩
  | .hbm, ⟨49, _⟩ => ⟨S575, .i32⟩
  | .hbm, ⟨50, _⟩ => ⟨S575, .i32⟩
  | .hbm, ⟨51, _⟩ => ⟨S_, .i32⟩
  | .hbm, ⟨52, _⟩ => ⟨S575, .i32⟩
  | .hbm, ⟨53, _⟩ => ⟨S575, .i32⟩
  | .hbm, ⟨54, _⟩ => ⟨S_, .i32⟩
  | .hbm, ⟨55, _⟩ => ⟨S575, .i32⟩
  | .hbm, ⟨56, _⟩ => ⟨S575, .i32⟩
  | .hbm, ⟨57, _⟩ => ⟨S_, .i32⟩
  | .hbm, ⟨58, _⟩ => ⟨S575, .i32⟩
  | .hbm, ⟨59, _⟩ => ⟨S575, .i1⟩
  | .hbm, ⟨60, _⟩ => ⟨S_, .i32⟩
  | .hbm, ⟨61, _⟩ => ⟨S575, .i32⟩
  | .hbm, ⟨62, _⟩ => ⟨S575, .i32⟩
  | .hbm, ⟨63, _⟩ => ⟨S575, .i32⟩
  | .hbm, ⟨64, _⟩ => ⟨S575x1, .i32⟩
  | .hbm, ⟨65, _⟩ => ⟨S1, .i32⟩
  | .hbm, ⟨66, _⟩ => ⟨S_, .i32⟩
  | .hbm, ⟨67, _⟩ => ⟨S575x1, .i32⟩
  | .hbm, ⟨68, _⟩ => ⟨S575x1, .i1⟩
  | .hbm, ⟨69, _⟩ => ⟨S1x1, .i32⟩
  | .hbm, ⟨70, _⟩ => ⟨S575x1, .i32⟩
  | .hbm, ⟨71, _⟩ => ⟨S575x1, .i1⟩
  | .hbm, ⟨72, _⟩ => ⟨S575x1, .i1⟩
  | .hbm, ⟨73, _⟩ => ⟨S_, .i1⟩
  | .hbm, ⟨74, _⟩ => ⟨S575, .i1⟩
  | .hbm, ⟨75, _⟩ => ⟨S8x575, .f32⟩
  | .hbm, ⟨76, _⟩ => ⟨S8x575, .i1⟩
  | .hbm, ⟨77, _⟩ => ⟨S_, .f32⟩
  | .hbm, ⟨78, _⟩ => ⟨S8x575, .f32⟩
  | .hbm, ⟨79, _⟩ => ⟨S8x575, .f32⟩
  | .hbm, ⟨80, _⟩ => ⟨S_, .f32⟩
  | .hbm, ⟨81, _⟩ => ⟨S8x1, .f32⟩
  | .hbm, ⟨82, _⟩ => ⟨S8x576, .f32⟩
  | .hbm, ⟨83, _⟩ => ⟨S1x8x1x576, .f32⟩
  | .hbm, ⟨84, _⟩ => ⟨S1x8x32x576, .f32⟩
  | .hbm, ⟨85, _⟩ => ⟨S8x18432, .f32⟩
  | .hbm, ⟨86, _⟩ => ⟨S8x18400, .f32⟩
  | .hbm, ⟨87, _⟩ => ⟨S8x32x575, .f32⟩
  | .hbm, ⟨88, _⟩ => ⟨S8x32x544, .f32⟩
  | .hbm, ⟨89, _⟩ => ⟨S8x32x512, .f32⟩
  | .hbm, ⟨90, _⟩ => ⟨S8x32x32, .f32⟩
  | .hbm, ⟨91, _⟩ => ⟨S8x32x128, .f32⟩
  | .hbm, ⟨92, _⟩ => ⟨S8x32x32, .f32⟩
  | .hbm, ⟨93, _⟩ => ⟨S8x512x512, .f32⟩
  | .hbm, ⟨94, _⟩ => ⟨S8x512x512, .f32⟩
  | .hbm, ⟨95, _⟩ => ⟨S8x128x128, .f32⟩
  | .hbm, ⟨96, _⟩ => ⟨S8x128x128, .f32⟩
  | .hbm, ⟨97, _⟩ => ⟨S1024x1024, .bf16⟩
  | .local _ .vmem, ⟨0, _⟩ => ⟨S32x512, .bf16⟩
  | .local _ .vmem, ⟨1, _⟩ => ⟨S32x512, .bf16⟩
  | .local _ .vmem, ⟨2, _⟩ => ⟨S32x512, .bf16⟩
  | .local _ .vmem, ⟨3, _⟩ => ⟨S32x512, .bf16⟩
  | .local _ .vmem, ⟨4, _⟩ => ⟨S32x512, .bf16⟩
  | .local _ .vmem, ⟨5, _⟩ => ⟨S32x512, .bf16⟩
  | .local _ .vmem, ⟨6, _⟩ => ⟨S32x512, .bf16⟩
  | .local _ .vmem, ⟨7, _⟩ => ⟨S32x512, .bf16⟩
  | .local _ .vmem, ⟨8, _⟩ => ⟨S32x128, .bf16⟩
  | .local _ .vmem, ⟨9, _⟩ => ⟨S32x128, .bf16⟩
  | .local _ .vmem, ⟨10, _⟩ => ⟨S32x128, .bf16⟩
  | .local _ .vmem, ⟨11, _⟩ => ⟨S32x128, .bf16⟩
  | .local _ .vmem, ⟨12, _⟩ => ⟨S1x512x512, .f32⟩
  | .local _ .vmem, ⟨13, _⟩ => ⟨S1x512x512, .f32⟩
  | .local _ .vmem, ⟨14, _⟩ => ⟨S1x512x512, .f32⟩
  | .local _ .vmem, ⟨15, _⟩ => ⟨S1x512x512, .f32⟩
  | .local _ .vmem, ⟨16, _⟩ => ⟨S1x128x128, .f32⟩
  | .local _ .vmem, ⟨17, _⟩ => ⟨S1x128x128, .f32⟩
  | .local _ .vmem, ⟨18, _⟩ => ⟨S1x128x128, .f32⟩
  | .local _ .vmem, ⟨19, _⟩ => ⟨S1x128x128, .f32⟩
  | .local _ .vmem, ⟨20, _⟩ => ⟨S8x32x512, .f32⟩
  | .local _ .vmem, ⟨21, _⟩ => ⟨S8x32x32, .f32⟩
  | .local _ .vmem, ⟨22, _⟩ => ⟨S8x32x128, .f32⟩
  | .local _ .vmem, ⟨23, _⟩ => ⟨S8x32x32, .f32⟩
  | .local _ .vmem, ⟨24, _⟩ => ⟨S1x512, .f32⟩
  | .local _ .vmem, ⟨25, _⟩ => ⟨S1x512, .f32⟩
  | .local _ .vmem, ⟨26, _⟩ => ⟨S32x1024, .bf16⟩
  | .local _ .vmem, ⟨27, _⟩ => ⟨S32x1024, .bf16⟩
  | .local _ .smem, ⟨0, _⟩ => ⟨S8, .f32⟩
  | _, _ => ⟨S66560x2304, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .smem, ⟨0, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_c : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_cst_0 : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_v15 : Ref sig .tc := ⟨.hbm, 28, rfl⟩
abbrev main_cst_2 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_c_3 : Ref sig .tc := ⟨.hbm, 43, rfl⟩
abbrev main_v29 : Ref sig .tc := ⟨.hbm, 44, rfl⟩
abbrev main_v30 : Ref sig .tc := ⟨.hbm, 45, rfl⟩
abbrev main_c_4 : Ref sig .tc := ⟨.hbm, 46, rfl⟩
abbrev main_c_5 : Ref sig .tc := ⟨.hbm, 47, rfl⟩
abbrev main_call0_v0 : Ref sig .tc := ⟨.hbm, 48, rfl⟩
abbrev main_call0_v1 : Ref sig .tc := ⟨.hbm, 49, rfl⟩
abbrev main_call0_v2 : Ref sig .tc := ⟨.hbm, 50, rfl⟩
abbrev main_call0_v3 : Ref sig .tc := ⟨.hbm, 51, rfl⟩
abbrev main_call0_v4 : Ref sig .tc := ⟨.hbm, 52, rfl⟩
abbrev main_v31 : Ref sig .tc := ⟨.hbm, 53, rfl⟩
abbrev main_c_6 : Ref sig .tc := ⟨.hbm, 54, rfl⟩
abbrev main_v32 : Ref sig .tc := ⟨.hbm, 55, rfl⟩
abbrev main_v33 : Ref sig .tc := ⟨.hbm, 56, rfl⟩
abbrev main_call1_c : Ref sig .tc := ⟨.hbm, 57, rfl⟩
abbrev main_call1_v0 : Ref sig .tc := ⟨.hbm, 58, rfl⟩
abbrev main_call1_v1 : Ref sig .tc := ⟨.hbm, 59, rfl⟩
abbrev main_call1_c_0 : Ref sig .tc := ⟨.hbm, 60, rfl⟩
abbrev main_call1_v2 : Ref sig .tc := ⟨.hbm, 61, rfl⟩
abbrev main_call1_v3 : Ref sig .tc := ⟨.hbm, 62, rfl⟩
abbrev main_call1_v4 : Ref sig .tc := ⟨.hbm, 63, rfl⟩
abbrev main_call1_v5 : Ref sig .tc := ⟨.hbm, 64, rfl⟩
abbrev main_call1_c_1 : Ref sig .tc := ⟨.hbm, 65, rfl⟩
abbrev main_call1_c_2 : Ref sig .tc := ⟨.hbm, 66, rfl⟩
abbrev main_call1_v6 : Ref sig .tc := ⟨.hbm, 67, rfl⟩
abbrev main_call1_v7 : Ref sig .tc := ⟨.hbm, 68, rfl⟩
abbrev main_call1_v8 : Ref sig .tc := ⟨.hbm, 69, rfl⟩
abbrev main_call1_v9 : Ref sig .tc := ⟨.hbm, 70, rfl⟩
abbrev main_call1_v10 : Ref sig .tc := ⟨.hbm, 71, rfl⟩
abbrev main_call1_v11 : Ref sig .tc := ⟨.hbm, 72, rfl⟩
abbrev main_call1_c_3 : Ref sig .tc := ⟨.hbm, 73, rfl⟩
abbrev main_call1_v12 : Ref sig .tc := ⟨.hbm, 74, rfl⟩
abbrev main_call1_v13 : Ref sig .tc := ⟨.hbm, 75, rfl⟩
abbrev main_call1_v14 : Ref sig .tc := ⟨.hbm, 76, rfl⟩
abbrev main_call1_cst : Ref sig .tc := ⟨.hbm, 77, rfl⟩
abbrev main_call1_v15 : Ref sig .tc := ⟨.hbm, 78, rfl⟩
abbrev main_v34 : Ref sig .tc := ⟨.hbm, 79, rfl⟩
abbrev main_cst_7 : Ref sig .tc := ⟨.hbm, 80, rfl⟩
abbrev main_v35 : Ref sig .tc := ⟨.hbm, 81, rfl⟩
abbrev main_v36 : Ref sig .tc := ⟨.hbm, 82, rfl⟩
abbrev main_v37 : Ref sig .tc := ⟨.hbm, 83, rfl⟩
abbrev main_v38 : Ref sig .tc := ⟨.hbm, 84, rfl⟩
abbrev main_v39 : Ref sig .tc := ⟨.hbm, 85, rfl⟩
abbrev main_v40 : Ref sig .tc := ⟨.hbm, 86, rfl⟩
abbrev main_v41 : Ref sig .tc := ⟨.hbm, 87, rfl⟩
abbrev main_v42 : Ref sig .tc := ⟨.hbm, 88, rfl⟩
abbrev main_v43 : Ref sig .tc := ⟨.hbm, 89, rfl⟩
abbrev main_v44 : Ref sig .tc := ⟨.hbm, 90, rfl⟩
abbrev main_v45 : Ref sig .tc := ⟨.hbm, 91, rfl⟩
abbrev main_v46 : Ref sig .tc := ⟨.hbm, 92, rfl⟩
abbrev main_v47 : Ref sig .tc := ⟨.hbm, 93, rfl⟩
abbrev main_v48 : Ref sig .tc := ⟨.hbm, 94, rfl⟩
abbrev main_v49 : Ref sig .tc := ⟨.hbm, 95, rfl⟩
abbrev main_v50 : Ref sig .tc := ⟨.hbm, 96, rfl⟩
abbrev main_v51 : Ref sig .tc := ⟨.hbm, 97, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg15_0 : Ref sig .tc := ⟨.vmem, 24, rfl⟩
abbrev cc0_stg16_0 : Ref sig .tc := ⟨.vmem, 25, rfl⟩
abbrev cc0_stg17_0 : Ref sig .tc := ⟨.vmem, 26, rfl⟩
abbrev cc0_stg17_1 : Ref sig .tc := ⟨.vmem, 27, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem12_0 : DmaSem sig := 22
abbrev cc0_sem13_0 : DmaSem sig := 23
abbrev cc0_sem14_0 : DmaSem sig := 24
abbrev cc0_sem15_0 : DmaSem sig := 25
abbrev cc0_sem16_0 : DmaSem sig := 26
abbrev cc0_sem17_0 : DmaSem sig := 27
abbrev cc0_sem17_1 : DmaSem sig := 28

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c8_i32 : BitVec 32 := 8#32
  let v0 : BitVec 1 := Scalar.cmpi .sge arg0 c8_i32
  let v1 : BitVec 32 := Scalar.extui v0
  let c0_i32 : BitVec 32 := 0#32
  let v2 : BitVec 1 := Scalar.cmpi .ne v1 c0_i32
  v2

def k0_cond2 (i : grid0.Coords) : BitVec 1 :=
  let arg0 : BitVec 32 := BitVec.ofNat 32 (i 0).val
  let c8_i32_0 : BitVec 32 := 8#32
  let v3 : BitVec 1 := Scalar.cmpi .slt arg0 c8_i32_0
  let v4 : BitVec 32 := Scalar.extui v3
  let c0_i32_1 : BitVec 32 := 0#32
  let v5 : BitVec 1 := Scalar.cmpi .ne v4 c0_i32_1
  v5

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c7_i32 : BitVec 32 := 7#32
  let v0 : BitVec 32 := Scalar.minsi arg0 c7_i32
  let c2048_i32 : BitVec 32 := 2048#32
  let v1 : BitVec 32 := Scalar.addi c2048_i32 v0
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let c7_i32 : BitVec 32 := 7#32
  let v0 : BitVec 32 := Scalar.minsi arg0 c7_i32
  let c2048_i32 : BitVec 32 := 2048#32
  let v1 : BitVec 32 := Scalar.addi c2048_i32 v0
  let c1_i32 : BitVec 32 := 1#32
  let c0_i32 : BitVec 32 := 0#32
  ![v1.toNat, c1_i32.toNat]

def cc0_transform_3 (i : grid0.Coords) : Fin 2 → Nat :=
  let arg0 : BitVec 32 := BitVec.ofNat 32 (i 0).val
  let c7_i32 : BitVec 32 := 7#32
  let v0 : BitVec 32 := Scalar.minsi arg0 c7_i32
  let c2048_i32 : BitVec 32 := 2048#32
  let v1 : BitVec 32 := Scalar.addi c2048_i32 v0
  let c2_i32 : BitVec 32 := 2#32
  let c0_i32 : BitVec 32 := 0#32
  ![v1.toNat, c2_i32.toNat]

def cc0_transform_4 (i : grid0.Coords) : Fin 2 → Nat :=
  let arg0 : BitVec 32 := BitVec.ofNat 32 (i 0).val
  let c7_i32 : BitVec 32 := 7#32
  let v0 : BitVec 32 := Scalar.minsi arg0 c7_i32
  let c2048_i32 : BitVec 32 := 2048#32
  let v1 : BitVec 32 := Scalar.addi c2048_i32 v0
  let c3_i32 : BitVec 32 := 3#32
  let c0_i32 : BitVec 32 := 0#32
  ![v1.toNat, c3_i32.toNat]

def cc0_transform_5 (i : grid0.Coords) : Fin 2 → Nat :=
  let arg0 : BitVec 32 := BitVec.ofNat 32 (i 0).val
  let c7_i32 : BitVec 32 := 7#32
  let v0 : BitVec 32 := Scalar.minsi arg0 c7_i32
  let c2048_i32 : BitVec 32 := 2048#32
  let v1 : BitVec 32 := Scalar.addi c2048_i32 v0
  let c16_i32 : BitVec 32 := 16#32
  let c0_i32 : BitVec 32 := 0#32
  ![v1.toNat, c16_i32.toNat]

def cc0_transform_6 (i : grid0.Coords) : Fin 2 → Nat :=
  let arg0 : BitVec 32 := BitVec.ofNat 32 (i 0).val
  let c7_i32 : BitVec 32 := 7#32
  let v0 : BitVec 32 := Scalar.minsi arg0 c7_i32
  let c2048_i32 : BitVec 32 := 2048#32
  let v1 : BitVec 32 := Scalar.addi c2048_i32 v0
  let c17_i32 : BitVec 32 := 17#32
  let c0_i32 : BitVec 32 := 0#32
  ![v1.toNat, c17_i32.toNat]

def cc0_transform_7 (i : grid0.Coords) : Fin 3 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  let c0_i32_1 : BitVec 32 := 0#32
  ![v0.toNat, c0_i32.toNat, c0_i32_0.toNat]

def cc0_transform_8 (i : grid0.Coords) : Fin 3 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  let c0_i32_1 : BitVec 32 := 0#32
  ![v0.toNat, c0_i32.toNat, c0_i32_0.toNat]

def cc0_transform_9 (i : grid0.Coords) : Fin 3 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  let c0_i32_1 : BitVec 32 := 0#32
  ![v0.toNat, c0_i32.toNat, c0_i32_0.toNat]

def cc0_transform_10 (i : grid0.Coords) : Fin 3 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  let c0_i32_1 : BitVec 32 := 0#32
  ![v0.toNat, c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S32x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x128x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S8x32x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S8x32x32 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S8x32x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S8x32x32 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S32x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== AttnReferenceIdeal.lean ====
abbrev S66560x2304 : Shape := ⟨2, ![66560, 2304]⟩
abbrev S8x512x8x64 : Shape := ⟨4, ![8, 512, 8, 64]⟩
abbrev S8x128x2x64 : Shape := ⟨4, ![8, 128, 2, 64]⟩
abbrev S8x257 : Shape := ⟨2, ![8, 257]⟩
abbrev S8 : Shape := ⟨1, ![8]⟩
abbrev S512 : Shape := ⟨1, ![512]⟩
abbrev S256x2304 : Shape := ⟨2, ![256, 2304]⟩
abbrev S32 : Shape := ⟨1, ![32]⟩
abbrev S_ : Shape := ⟨0, ![]⟩
abbrev S256x512 : Shape := ⟨2, ![256, 512]⟩
abbrev S8x32x8x64 : Shape := ⟨4, ![8, 32, 8, 64]⟩
abbrev S8x544x8x64 : Shape := ⟨4, ![8, 544, 8, 64]⟩
abbrev S32x1 : Shape := ⟨2, ![32, 1]⟩
abbrev S544 : Shape := ⟨1, ![544]⟩
abbrev S1x544 : Shape := ⟨2, ![1, 544]⟩
abbrev S32x544 : Shape := ⟨2, ![32, 544]⟩
abbrev S32x544x1 : Shape := ⟨3, ![32, 544, 1]⟩
abbrev S8x32x544 : Shape := ⟨3, ![8, 32, 544]⟩
abbrev S8x8x32x544 : Shape := ⟨4, ![8, 8, 32, 544]⟩
abbrev S1x8x32x544 : Shape := ⟨4, ![1, 8, 32, 544]⟩
abbrev S8x8x32 : Shape := ⟨3, ![8, 8, 32]⟩
abbrev S8x8x32x1 : Shape := ⟨4, ![8, 8, 32, 1]⟩
abbrev S8x8x64x32 : Shape := ⟨4, ![8, 8, 64, 32]⟩
abbrev S256x128 : Shape := ⟨2, ![256, 128]⟩
abbrev S8x32x2x64 : Shape := ⟨4, ![8, 32, 2, 64]⟩
abbrev S8x160x2x64 : Shape := ⟨4, ![8, 160, 2, 64]⟩
abbrev S8x160x2x4x64 : Shape := ⟨5, ![8, 160, 2, 4, 64]⟩
abbrev S8x160x8x64 : Shape := ⟨4, ![8, 160, 8, 64]⟩
abbrev S160 : Shape := ⟨1, ![160]⟩
abbrev S1x160 : Shape := ⟨2, ![1, 160]⟩
abbrev S32x160 : Shape := ⟨2, ![32, 160]⟩
abbrev S8x8x32x160 : Shape := ⟨4, ![8, 8, 32, 160]⟩
abbrev S8x1x1 : Shape := ⟨3, ![8, 1, 1]⟩
abbrev S1x32x160 : Shape := ⟨3, ![1, 32, 160]⟩
abbrev S8x32x160 : Shape := ⟨3, ![8, 32, 160]⟩
abbrev S1x8x32x160 : Shape := ⟨4, ![1, 8, 32, 160]⟩
abbrev S1x8x1x1 : Shape := ⟨4, ![1, 8, 1, 1]⟩
abbrev S256 : Shape := ⟨1, ![256]⟩
abbrev S256x1 : Shape := ⟨2, ![256, 1]⟩
abbrev S1x512 : Shape := ⟨2, ![1, 512]⟩
abbrev S256x1024 : Shape := ⟨2, ![256, 1024]⟩
abbrev S768x1024 : Shape := ⟨2, ![768, 1024]⟩
abbrev S1024x1024 : Shape := ⟨2, ![1024, 1024]⟩

abbrev nBuf : Space → Nat
  | .hbm => 177
  | .vmem => 0
  | .smem => 0
  | _ => 0

abbrev hbmTy0_0 (i : Nat) : BufTy := match i % 128 with
  | 0 => ⟨S66560x2304, .bf16⟩
  | 1 => ⟨S8x512x8x64, .f32⟩
  | 2 => ⟨S8x512x8x64, .f32⟩
  | 3 => ⟨S8x128x2x64, .f32⟩
  | 4 => ⟨S8x128x2x64, .f32⟩
  | 5 => ⟨S8x257, .f32⟩
  | 6 => ⟨S8, .f32⟩
  | 7 => ⟨S512, .f32⟩
  | 8 => ⟨S512, .f32⟩
  | 9 => ⟨S256x2304, .bf16⟩
  | 10 => ⟨S256x2304, .f32⟩
  | 11 => ⟨S32, .i32⟩
  | 12 => ⟨S_, .i32⟩
  | 13 => ⟨S32, .i32⟩
  | 14 => ⟨S32, .i32⟩
  | 15 => ⟨S256x512, .f32⟩
  | 16 => ⟨S8x32x8x64, .f32⟩
  | 17 => ⟨S8x544x8x64, .f32⟩
  | 18 => ⟨S256x512, .f32⟩
  | 19 => ⟨S8x32x8x64, .f32⟩
  | 20 => ⟨S8x544x8x64, .f32⟩
  | 21 => ⟨S32x1, .i32⟩
  | 22 => ⟨S544, .i32⟩
  | 23 => ⟨S_, .i32⟩
  | 24 => ⟨S544, .i32⟩
  | 25 => ⟨S544, .i32⟩
  | 26 => ⟨S1x544, .i32⟩
  | 27 => ⟨S32x544, .i32⟩
  | 28 => ⟨S32x544, .i32⟩
  | 29 => ⟨S32x544, .i32⟩
  | 30 => ⟨S_, .i32⟩
  | 31 => ⟨S_, .i32⟩
  | 32 => ⟨S_, .i32⟩
  | 33 => ⟨S32x544, .i32⟩
  | 34 => ⟨S32x544, .i32⟩
  | 35 => ⟨S_, .i32⟩
  | 36 => ⟨S32x544, .i32⟩
  | 37 => ⟨S32x544, .i32⟩
  | 38 => ⟨S_, .i32⟩
  | 39 => ⟨S32x544, .i32⟩
  | 40 => ⟨S32x544, .i32⟩
  | 41 => ⟨S32x544x1, .i32⟩
  | 42 => ⟨S8x32x544, .f32⟩
  | 43 => ⟨S256x512, .f32⟩
  | 44 => ⟨S8x32x8x64, .f32⟩
  | 45 => ⟨S8x8x32x544, .f32⟩
  | 46 => ⟨S_, .f32⟩
  | 47 => ⟨S8x8x32x544, .f32⟩
  | 48 => ⟨S8x8x32x544, .f32⟩
  | 49 => ⟨S1x8x32x544, .f32⟩
  | 50 => ⟨S8x8x32x544, .f32⟩
  | 51 => ⟨S8x8x32x544, .f32⟩
  | 52 => ⟨S_, .f32⟩
  | 53 => ⟨S8x8x32, .f32⟩
  | 54 => ⟨S_, .f32⟩
  | 55 => ⟨S8x8x32, .f32⟩
  | 56 => ⟨S8x8x32, .f32⟩
  | 57 => ⟨S8x8x32x1, .f32⟩
  | 58 => ⟨S8x8x32x544, .f32⟩
  | 59 => ⟨S8x8x32x544, .f32⟩
  | 60 => ⟨S8x8x32x544, .f32⟩
  | 61 => ⟨S_, .f32⟩
  | 62 => ⟨S8x8x32, .f32⟩
  | 63 => ⟨S8x8x32x1, .f32⟩
  | 64 => ⟨S8x8x32x544, .f32⟩
  | 65 => ⟨S8x8x32x544, .f32⟩
  | 66 => ⟨S8x8x64x32, .f32⟩
  | 67 => ⟨S8x32x8x64, .f32⟩
  | 68 => ⟨S256x128, .f32⟩
  | 69 => ⟨S8x32x2x64, .f32⟩
  | 70 => ⟨S8x160x2x64, .f32⟩
  | 71 => ⟨S8x160x2x4x64, .f32⟩
  | 72 => ⟨S8x160x8x64, .f32⟩
  | 73 => ⟨S256x128, .f32⟩
  | 74 => ⟨S8x32x2x64, .f32⟩
  | 75 => ⟨S8x160x2x64, .f32⟩
  | 76 => ⟨S8x160x2x4x64, .f32⟩
  | 77 => ⟨S8x160x8x64, .f32⟩
  | 78 => ⟨S32x1, .i32⟩
  | 79 => ⟨S160, .i32⟩
  | 80 => ⟨S_, .i32⟩
  | 81 => ⟨S160, .i32⟩
  | 82 => ⟨S160, .i32⟩
  | 83 => ⟨S1x160, .i32⟩
  | 84 => ⟨S32x160, .i32⟩
  | 85 => ⟨S32x160, .i32⟩
  | 86 => ⟨S32x160, .i32⟩
  | 87 => ⟨S32x160, .i32⟩
  | 88 => ⟨S32x160, .f32⟩
  | 89 => ⟨S8, .f32⟩
  | 90 => ⟨S_, .f32⟩
  | 91 => ⟨S8, .f32⟩
  | 92 => ⟨S8, .f32⟩
  | 93 => ⟨S_, .f32⟩
  | 94 => ⟨S8, .f32⟩
  | 95 => ⟨S8, .f32⟩
  | 96 => ⟨S_, .f32⟩
  | 97 => ⟨S8, .f32⟩
  | 98 => ⟨S8, .f32⟩
  | 99 => ⟨S_, .f32⟩
  | 100 => ⟨S8, .f32⟩
  | 101 => ⟨S8, .f32⟩
  | 102 => ⟨S256x512, .f32⟩
  | 103 => ⟨S8x32x8x64, .f32⟩
  | 104 => ⟨S8x8x32x160, .f32⟩
  | 105 => ⟨S_, .f32⟩
  | 106 => ⟨S8x8x32x160, .f32⟩
  | 107 => ⟨S8x8x32x160, .f32⟩
  | 108 => ⟨S8x1x1, .f32⟩
  | 109 => ⟨S1x32x160, .f32⟩
  | 110 => ⟨S8x32x160, .f32⟩
  | 111 => ⟨S8x32x160, .f32⟩
  | 112 => ⟨S8x32x160, .f32⟩
  | 113 => ⟨S1x8x32x160, .f32⟩
  | 114 => ⟨S8x8x32x160, .f32⟩
  | 115 => ⟨S8x8x32x160, .f32⟩
  | 116 => ⟨S8x1x1, .f32⟩
  | 117 => ⟨S_, .f32⟩
  | 118 => ⟨S8x8x32, .f32⟩
  | 119 => ⟨S8x8x32x1, .f32⟩
  | 120 => ⟨S1x8x1x1, .f32⟩
  | 121 => ⟨S8x8x32x1, .f32⟩
  | 122 => ⟨S8x8x32x1, .f32⟩
  | 123 => ⟨S8x8x32x160, .f32⟩
  | 124 => ⟨S8x8x32x160, .f32⟩
  | 125 => ⟨S8x8x32x160, .f32⟩
  | 126 => ⟨S_, .f32⟩
  | 127 => ⟨S8x8x32, .f32⟩
  | _ => ⟨S66560x2304, .bf16⟩

abbrev hbmTy0_1 (i : Nat) : BufTy := match i % 128 with
  | 0 => ⟨S8x8x32x1, .f32⟩
  | 1 => ⟨S1x8x1x1, .f32⟩
  | 2 => ⟨S8x8x32x1, .f32⟩
  | 3 => ⟨S8x8x32x1, .f32⟩
  | 4 => ⟨S8x8x32x1, .f32⟩
  | 5 => ⟨S8x8x32x1, .f32⟩
  | 6 => ⟨S8x8x32x160, .f32⟩
  | 7 => ⟨S8x8x32x160, .f32⟩
  | 8 => ⟨S8x8x64x32, .f32⟩
  | 9 => ⟨S8x32x8x64, .f32⟩
  | 10 => ⟨S256x512, .f32⟩
  | 11 => ⟨S256x512, .f32⟩
  | 12 => ⟨S_, .f32⟩
  | 13 => ⟨S256, .f32⟩
  | 14 => ⟨S256x1, .f32⟩
  | 15 => ⟨S_, .f32⟩
  | 16 => ⟨S256x1, .f32⟩
  | 17 => ⟨S256x1, .f32⟩
  | 18 => ⟨S_, .f32⟩
  | 19 => ⟨S256x1, .f32⟩
  | 20 => ⟨S256x1, .f32⟩
  | 21 => ⟨S256x1, .f32⟩
  | 22 => ⟨S256x512, .f32⟩
  | 23 => ⟨S256x512, .f32⟩
  | 24 => ⟨S1x512, .f32⟩
  | 25 => ⟨S256x512, .f32⟩
  | 26 => ⟨S256x512, .f32⟩
  | 27 => ⟨S256x512, .f32⟩
  | 28 => ⟨S256x512, .f32⟩
  | 29 => ⟨S_, .f32⟩
  | 30 => ⟨S256, .f32⟩
  | 31 => ⟨S256x1, .f32⟩
  | 32 => ⟨S_, .f32⟩
  | 33 => ⟨S256x1, .f32⟩
  | 34 => ⟨S256x1, .f32⟩
  | 35 => ⟨S_, .f32⟩
  | 36 => ⟨S256x1, .f32⟩
  | 37 => ⟨S256x1, .f32⟩
  | 38 => ⟨S256x1, .f32⟩
  | 39 => ⟨S256x512, .f32⟩
  | 40 => ⟨S256x512, .f32⟩
  | 41 => ⟨S1x512, .f32⟩
  | 42 => ⟨S256x512, .f32⟩
  | 43 => ⟨S256x512, .f32⟩
  | 44 => ⟨S256x1024, .f32⟩
  | 45 => ⟨S_, .f32⟩
  | 46 => ⟨S768x1024, .f32⟩
  | 47 => ⟨S1024x1024, .f32⟩
  | 48 => ⟨S1024x1024, .bf16⟩
  | _ => ⟨S66560x2304, .bf16⟩

abbrev hbmTy (i : Nat) : BufTy := match i / 128 with
  | 0 => hbmTy0_0 i
  | 1 => hbmTy0_1 i
  | _ => ⟨S66560x2304, .bf16⟩

abbrev bufTy : (tb : Table) → Fin (tcTables nBuf tb) → BufTy
  | .hbm, ⟨i, _⟩ => hbmTy i
  | _, _ => ⟨S66560x2304, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_c : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c_0 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_1 : Ref sig .tc := ⟨.hbm, 30, rfl⟩
abbrev main_c_2 : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_call0_v3 : Ref sig .tc := ⟨.hbm, 35, rfl⟩
abbrev main_call0_v4 : Ref sig .tc := ⟨.hbm, 36, rfl⟩
abbrev main_v19 : Ref sig .tc := ⟨.hbm, 37, rfl⟩
abbrev main_c_3 : Ref sig .tc := ⟨.hbm, 38, rfl⟩
abbrev main_v20 : Ref sig .tc := ⟨.hbm, 39, rfl⟩
abbrev main_v21 : Ref sig .tc := ⟨.hbm, 40, rfl⟩
abbrev main_call1_v0 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_cst : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_cst_4 : Ref sig .tc := ⟨.hbm, 52, rfl⟩
abbrev main_v31 : Ref sig .tc := ⟨.hbm, 53, rfl⟩
abbrev main_cst_5 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_cst_6 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_c_7 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_cst_8 : Ref sig .tc := ⟨.hbm, 90, rfl⟩
abbrev main_v65 : Ref sig .tc := ⟨.hbm, 91, rfl⟩
abbrev main_v66 : Ref sig .tc := ⟨.hbm, 92, rfl⟩
abbrev main_cst_9 : Ref sig .tc := ⟨.hbm, 93, rfl⟩
abbrev main_v67 : Ref sig .tc := ⟨.hbm, 94, rfl⟩
abbrev main_v68 : Ref sig .tc := ⟨.hbm, 95, rfl⟩
abbrev main_cst_10 : Ref sig .tc := ⟨.hbm, 96, rfl⟩
abbrev main_v69 : Ref sig .tc := ⟨.hbm, 97, rfl⟩
abbrev main_v70 : Ref sig .tc := ⟨.hbm, 98, rfl⟩
abbrev main_cst_11 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_cst_12 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_cst_13 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_cst_14 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_cst_15 : Ref sig .tc := ⟨.hbm, 140, rfl⟩
abbrev main_v108 : Ref sig .tc := ⟨.hbm, 141, rfl⟩
abbrev main_v109 : Ref sig .tc := ⟨.hbm, 142, rfl⟩
abbrev main_cst_16 : Ref sig .tc := ⟨.hbm, 143, rfl⟩
abbrev main_v110 : Ref sig .tc := ⟨.hbm, 144, rfl⟩
abbrev main_v111 : Ref sig .tc := ⟨.hbm, 145, rfl⟩
abbrev main_cst_17 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_cst_18 : Ref sig .tc := ⟨.hbm, 157, rfl⟩
abbrev main_v122 : Ref sig .tc := ⟨.hbm, 158, rfl⟩
abbrev main_v123 : Ref sig .tc := ⟨.hbm, 159, rfl⟩
abbrev main_cst_19 : Ref sig .tc := ⟨.hbm, 160, rfl⟩
abbrev main_v124 : Ref sig .tc := ⟨.hbm, 161, rfl⟩
abbrev main_v125 : Ref sig .tc := ⟨.hbm, 162, rfl⟩
abbrev main_cst_20 : Ref sig .tc := ⟨.hbm, 163, rfl⟩
abbrev main_v126 : Ref sig .tc := ⟨.hbm, 164, rfl⟩
abbrev main_v127 : Ref sig .tc := ⟨.hbm, 165, rfl⟩
abbrev main_v128 : Ref sig .tc := ⟨.hbm, 166, rfl⟩
abbrev main_v129 : Ref sig .tc := ⟨.hbm, 167, rfl⟩
abbrev main_v130 : Ref sig .tc := ⟨.hbm, 168, rfl⟩
abbrev main_v131 : Ref sig .tc := ⟨.hbm, 169, rfl⟩
abbrev main_v132 : Ref sig .tc := ⟨.hbm, 170, rfl⟩
abbrev main_v133 : Ref sig .tc := ⟨.hbm, 171, rfl⟩
abbrev main_v134 : Ref sig .tc := ⟨.hbm, 172, rfl⟩
abbrev main_cst_21 : Ref sig .tc := ⟨.hbm, 173, rfl⟩
abbrev main_v135 : Ref sig .tc := ⟨.hbm, 174, rfl⟩
abbrev main_v136 : Ref sig .tc := ⟨.hbm, 175, rfl⟩
abbrev main_v137 : Ref sig .tc := ⟨.hbm, 176, rfl⟩

abbrev nD : Nat := 1
abbrev τ : Topo := Topo.v7x

variable {F : FTy → Type} [FloatOps F]
-- ==== InProj.lean ====
abbrev S16x4096x1024 : Shape := ⟨3, ![16, 4096, 1024]⟩
abbrev S8x32x1024 : Shape := ⟨3, ![8, 32, 1024]⟩
abbrev S1024x2304 : Shape := ⟨2, ![1024, 2304]⟩
abbrev S65536x1024 : Shape := ⟨2, ![65536, 1024]⟩
abbrev S256x1024 : Shape := ⟨2, ![256, 1024]⟩
abbrev S_ : Shape := ⟨0, ![]⟩
abbrev S768x1024 : Shape := ⟨2, ![768, 1024]⟩
abbrev S1024x1024 : Shape := ⟨2, ![1024, 1024]⟩
abbrev S66560x2304 : Shape := ⟨2, ![66560, 2304]⟩
abbrev S9216x1280 : Shape := ⟨2, ![9216, 1280]⟩
abbrev S512x1024 : Shape := ⟨2, ![512, 1024]⟩
abbrev S512x2304 : Shape := ⟨2, ![512, 2304]⟩
abbrev S512x1280 : Shape := ⟨2, ![512, 1280]⟩
abbrev S512x256 : Shape := ⟨2, ![512, 256]⟩
abbrev S8192x1280 : Shape := ⟨2, ![8192, 1280]⟩
abbrev S16x512x1280 : Shape := ⟨3, ![16, 512, 1280]⟩
abbrev S256x1280 : Shape := ⟨2, ![256, 1280]⟩
abbrev S8x32x1280 : Shape := ⟨3, ![8, 32, 1280]⟩
abbrev S16x512x512 : Shape := ⟨3, ![16, 512, 512]⟩
abbrev S16x512x8x64 : Shape := ⟨4, ![16, 512, 8, 64]⟩
abbrev S16x128x128 : Shape := ⟨3, ![16, 128, 128]⟩
abbrev S16x128x2x64 : Shape := ⟨4, ![16, 128, 2, 64]⟩
abbrev S8x32x512 : Shape := ⟨3, ![8, 32, 512]⟩
abbrev S8x32x8x64 : Shape := ⟨4, ![8, 32, 8, 64]⟩
abbrev S8x32x128 : Shape := ⟨3, ![8, 32, 128]⟩
abbrev S8x32x2x64 : Shape := ⟨4, ![8, 32, 2, 64]⟩

abbrev nBuf : Space → Nat
  | .hbm => 31
  | .vmem => 9
  | .smem => 0
  | _ => 0

abbrev bufTy : (tb : Table) → Fin (tcTables nBuf tb) → BufTy
  | .hbm, ⟨0, _⟩ => ⟨S16x4096x1024, .f32⟩
  | .hbm, ⟨1, _⟩ => ⟨S8x32x1024, .f32⟩
  | .hbm, ⟨2, _⟩ => ⟨S1024x2304, .f32⟩
  | .hbm, ⟨3, _⟩ => ⟨S65536x1024, .f32⟩
  | .hbm, ⟨4, _⟩ => ⟨S256x1024, .f32⟩
  | .hbm, ⟨5, _⟩ => ⟨S_, .f32⟩
  | .hbm, ⟨6, _⟩ => ⟨S768x1024, .f32⟩
  | .hbm, ⟨7, _⟩ => ⟨S1024x1024, .f32⟩
  | .hbm, ⟨8, _⟩ => ⟨S1024x2304, .bf16⟩
  | .hbm, ⟨9, _⟩ => ⟨S66560x2304, .bf16⟩
  | .hbm, ⟨10, _⟩ => ⟨S9216x1280, .f32⟩
  | .hbm, ⟨11, _⟩ => ⟨S8192x1280, .f32⟩
  | .hbm, ⟨12, _⟩ => ⟨S16x512x1280, .f32⟩
  | .hbm, ⟨13, _⟩ => ⟨S256x1280, .f32⟩
  | .hbm, ⟨14, _⟩ => ⟨S8x32x1280, .f32⟩
  | .hbm, ⟨15, _⟩ => ⟨S16x512x512, .f32⟩
  | .hbm, ⟨16, _⟩ => ⟨S16x512x8x64, .f32⟩
  | .hbm, ⟨17, _⟩ => ⟨S16x512x512, .f32⟩
  | .hbm, ⟨18, _⟩ => ⟨S16x512x8x64, .f32⟩
  | .hbm, ⟨19, _⟩ => ⟨S16x128x128, .f32⟩
  | .hbm, ⟨20, _⟩ => ⟨S16x128x2x64, .f32⟩
  | .hbm, ⟨21, _⟩ => ⟨S16x128x128, .f32⟩
  | .hbm, ⟨22, _⟩ => ⟨S16x128x2x64, .f32⟩
  | .hbm, ⟨23, _⟩ => ⟨S8x32x512, .f32⟩
  | .hbm, ⟨24, _⟩ => ⟨S8x32x8x64, .f32⟩
  | .hbm, ⟨25, _⟩ => ⟨S8x32x512, .f32⟩
  | .hbm, ⟨26, _⟩ => ⟨S8x32x8x64, .f32⟩
  | .hbm, ⟨27, _⟩ => ⟨S8x32x128, .f32⟩
  | .hbm, ⟨28, _⟩ => ⟨S8x32x2x64, .f32⟩
  | .hbm, ⟨29, _⟩ => ⟨S8x32x128, .f32⟩
  | .hbm, ⟨30, _⟩ => ⟨S8x32x2x64, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1024x2304, .bf16⟩
  | .local _ .vmem, ⟨5, _⟩ => ⟨S512x2304, .bf16⟩
  | .local _ .vmem, ⟨6, _⟩ => ⟨S512x2304, .bf16⟩
  | .local _ .vmem, ⟨7, _⟩ => ⟨S512x1280, .f32⟩
  | .local _ .vmem, ⟨8, _⟩ => ⟨S512x1280, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![130], ![false]⟩

def k0_cond1 (i : grid0.Coords) : BitVec 1 :=
  let arg0 : BitVec 32 := BitVec.ofNat 32 (i 0).val
  let c8_i32 : BitVec 32 := 8#32
  let c0_i32 : BitVec 32 := 0#32
  let v12 : BitVec 1 := Scalar.cmpi .eq c8_i32 c0_i32
  let c1_i32 : BitVec 32 := 1#32
  let v13 : BitVec 32 := Scalar.select v12 c1_i32 c8_i32
  let v14 : BitVec 32 := Scalar.remsi arg0 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c7_i32 : BitVec 32 := 7#32
  let v22 : BitVec 1 := Scalar.cmpi .eq v21 c7_i32
  let c128_i32_10 : BitVec 32 := 128#32
  let v23 : BitVec 1 := Scalar.cmpi .sge arg0 c128_i32_10
  let v24 : BitVec 1 := Scalar.ori v22 v23
  let v25 : BitVec 32 := Scalar.extui v24
  let c0_i32_11 : BitVec 32 := 0#32
  let v26 : BitVec 1 := Scalar.cmpi .ne v25 c0_i32_11
  v26

def cc0_transform_0 (i : grid0.Coords) : Fin 2 → Nat :=
  let arg0 : BitVec 32 := BitVec.ofNat 32 (i 0).val
  let c127_i32 : BitVec 32 := 127#32
  let v0 : BitVec 32 := Scalar.minsi arg0 c127_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c128_i32 : BitVec 32 := 128#32
  let v0 : BitVec 32 := Scalar.subi arg0 c128_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c128_i32 : BitVec 32 := 128#32
  let v0 : BitVec 1 := Scalar.cmpi .slt arg0 c128_i32
  let c8_i32 : BitVec 32 := 8#32
  let v1 : BitVec 32 := Scalar.divsi arg0 c8_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi arg0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c16_i32 : BitVec 32 := 16#32
  let v18 : BitVec 32 := Scalar.addi c16_i32 arg0
  let c128_i32_4 : BitVec 32 := 128#32
  let v19 : BitVec 32 := Scalar.subi v18 c128_i32_4
  let v20 : BitVec 32 := Scalar.select v0 v17 v19
  let c0_i32_5 : BitVec 32 := 0#32
  let c0_i32_6 : BitVec 32 := 0#32
  ![v20.toNat, c0_i32_5.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x2304 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2304 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1280 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== InProjReferenceIdeal.lean ====
abbrev S16x4096x1024 : Shape := ⟨3, ![16, 4096, 1024]⟩
abbrev S8x32x1024 : Shape := ⟨3, ![8, 32, 1024]⟩
abbrev S1024x2304 : Shape := ⟨2, ![1024, 2304]⟩
abbrev S16x4096x2304 : Shape := ⟨3, ![16, 4096, 2304]⟩
abbrev S16x4096x512 : Shape := ⟨3, ![16, 4096, 512]⟩
abbrev S16x4096x8x64 : Shape := ⟨4, ![16, 4096, 8, 64]⟩
abbrev S16x4096x128 : Shape := ⟨3, ![16, 4096, 128]⟩
abbrev S16x4096x2x64 : Shape := ⟨4, ![16, 4096, 2, 64]⟩
abbrev S8x32x2304 : Shape := ⟨3, ![8, 32, 2304]⟩
abbrev S8x32x512 : Shape := ⟨3, ![8, 32, 512]⟩
abbrev S8x32x8x64 : Shape := ⟨4, ![8, 32, 8, 64]⟩
abbrev S8x32x128 : Shape := ⟨3, ![8, 32, 128]⟩
abbrev S8x32x2x64 : Shape := ⟨4, ![8, 32, 2, 64]⟩
abbrev S65536x2304 : Shape := ⟨2, ![65536, 2304]⟩
abbrev S256x2304 : Shape := ⟨2, ![256, 2304]⟩
abbrev S_ : Shape := ⟨0, ![]⟩
abbrev S768x2304 : Shape := ⟨2, ![768, 2304]⟩
abbrev S66560x2304 : Shape := ⟨2, ![66560, 2304]⟩
abbrev S16x512x8x64 : Shape := ⟨4, ![16, 512, 8, 64]⟩
abbrev S16x128x2x64 : Shape := ⟨4, ![16, 128, 2, 64]⟩

abbrev nBuf : Space → Nat
  | .hbm => 31
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S8x32x1024, .f32⟩
  | .hbm, ⟨2, _⟩ => ⟨S1024x2304, .f32⟩
  | .hbm, ⟨3, _⟩ => ⟨S16x4096x2304, .f32⟩
  | .hbm, ⟨4, _⟩ => ⟨S16x4096x512, .f32⟩
  | .hbm, ⟨5, _⟩ => ⟨S16x4096x8x64, .f32⟩
  | .hbm, ⟨6, _⟩ => ⟨S16x4096x512, .f32⟩
  | .hbm, ⟨7, _⟩ => ⟨S16x4096x8x64, .f32⟩
  | .hbm, ⟨8, _⟩ => ⟨S16x4096x128, .f32⟩
  | .hbm, ⟨9, _⟩ => ⟨S16x4096x2x64, .f32⟩
  | .hbm, ⟨10, _⟩ => ⟨S16x4096x128, .f32⟩
  | .hbm, ⟨11, _⟩ => ⟨S16x4096x2x64, .f32⟩
  | .hbm, ⟨12, _⟩ => ⟨S8x32x2304, .f32⟩
  | .hbm, ⟨13, _⟩ => ⟨S8x32x512, .f32⟩
  | .hbm, ⟨14, _⟩ => ⟨S8x32x8x64, .f32⟩
  | .hbm, ⟨15, _⟩ => ⟨S8x32x512, .f32⟩
  | .hbm, ⟨16, _⟩ => ⟨S8x32x8x64, .f32⟩
  | .hbm, ⟨17, _⟩ => ⟨S8x32x128, .f32⟩
  | .hbm, ⟨18, _⟩ => ⟨S8x32x2x64, .f32⟩
  | .hbm, ⟨19, _⟩ => ⟨S8x32x128, .f32⟩
  | .hbm, ⟨20, _⟩ => ⟨S8x32x2x64, .f32⟩
  | .hbm, ⟨21, _⟩ => ⟨S65536x2304, .f32⟩
  | .hbm, ⟨22, _⟩ => ⟨S256x2304, .f32⟩
  | .hbm, ⟨23, _⟩ => ⟨S_, .f32⟩
  | .hbm, ⟨24, _⟩ => ⟨S768x2304, .f32⟩
  | .hbm, ⟨25, _⟩ => ⟨S66560x2304, .f32⟩
  | .hbm, ⟨26, _⟩ => ⟨S66560x2304, .bf16⟩
  | .hbm, ⟨27, _⟩ => ⟨S16x512x8x64, .f32⟩
  | .hbm, ⟨28, _⟩ => ⟨S16x512x8x64, .f32⟩
  | .hbm, ⟨29, _⟩ => ⟨S16x128x2x64, .f32⟩
  | .hbm, ⟨30, _⟩ => ⟨S16x128x2x64, .f32⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_cst : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩

abbrev nD : Nat := 1
abbrev τ : Topo := Topo.v7x

variable {F : FTy → Type} [FloatOps F]
-- ==== OutProj.lean ====
abbrev S65536x1024 : Shape := ⟨2, ![65536, 1024]⟩
abbrev S1024x1024 : Shape := ⟨2, ![1024, 1024]⟩
abbrev S66560x1024 : Shape := ⟨2, ![66560, 1024]⟩
abbrev S1024 : Shape := ⟨1, ![1024]⟩
abbrev S1024x16 : Shape := ⟨2, ![1024, 16]⟩
abbrev S16 : Shape := ⟨1, ![16]⟩
abbrev S16x1024 : Shape := ⟨2, ![16, 1024]⟩
abbrev S16x1 : Shape := ⟨2, ![16, 1]⟩
abbrev S1x1024 : Shape := ⟨2, ![1, 1024]⟩
abbrev S66560x1152 : Shape := ⟨2, ![66560, 1152]⟩
abbrev S1x66560 : Shape := ⟨2, ![1, 66560]⟩
abbrev S512x1024 : Shape := ⟨2, ![512, 1024]⟩
abbrev S512x1152 : Shape := ⟨2, ![512, 1152]⟩
abbrev S1x512 : Shape := ⟨2, ![1, 512]⟩
abbrev S128x1024 : Shape := ⟨2, ![128, 1024]⟩
abbrev S128 : Shape := ⟨1, ![128]⟩
abbrev S128x1 : Shape := ⟨2, ![128, 1]⟩
abbrev S16x128 : Shape := ⟨2, ![16, 128]⟩
abbrev S1x128 : Shape := ⟨2, ![1, 128]⟩
abbrev S126x128 : Shape := ⟨2, ![126, 128]⟩
abbrev S128x128 : Shape := ⟨2, ![128, 128]⟩

abbrev nBuf : Space → Nat
  | .hbm => 21
  | .vmem => 18
  | .smem => 0
  | _ => 0

abbrev bufTy : (tb : Table) → Fin (tcTables nBuf tb) → BufTy
  | .hbm, ⟨0, _⟩ => ⟨S65536x1024, .bf16⟩
  | .hbm, ⟨1, _⟩ => ⟨S1024x1024, .bf16⟩
  | .hbm, ⟨2, _⟩ => ⟨S66560x1024, .f32⟩
  | .hbm, ⟨3, _⟩ => ⟨S1024x1024, .f32⟩
  | .hbm, ⟨4, _⟩ => ⟨S1024x1024, .f32⟩
  | .hbm, ⟨5, _⟩ => ⟨S1024, .f32⟩
  | .hbm, ⟨6, _⟩ => ⟨S1024, .f32⟩
  | .hbm, ⟨7, _⟩ => ⟨S1024x16, .f32⟩
  | .hbm, ⟨8, _⟩ => ⟨S16, .f32⟩
  | .hbm, ⟨9, _⟩ => ⟨S16x1024, .f32⟩
  | .hbm, ⟨10, _⟩ => ⟨S16x1024, .bf16⟩
  | .hbm, ⟨11, _⟩ => ⟨S16x1024, .f32⟩
  | .hbm, ⟨12, _⟩ => ⟨S16x1024, .f32⟩
  | .hbm, ⟨13, _⟩ => ⟨S16x1024, .bf16⟩
  | .hbm, ⟨14, _⟩ => ⟨S16x1, .f32⟩
  | .hbm, ⟨15, _⟩ => ⟨S1024x1024, .bf16⟩
  | .hbm, ⟨16, _⟩ => ⟨S1x1024, .f32⟩
  | .hbm, ⟨17, _⟩ => ⟨S1x1024, .f32⟩
  | .hbm, ⟨18, _⟩ => ⟨S66560x1152, .f32⟩
  | .hbm, ⟨19, _⟩ => ⟨S1x66560, .i32⟩
  | .hbm, ⟨20, _⟩ => ⟨S66560x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1024x1024, .bf16⟩
  | .local _ .vmem, ⟨9, _⟩ => ⟨S1x1024, .f32⟩
  | .local _ .vmem, ⟨10, _⟩ => ⟨S1x1024, .f32⟩
  | .local _ .vmem, ⟨11, _⟩ => ⟨S16x1024, .bf16⟩
  | .local _ .vmem, ⟨12, _⟩ => ⟨S16x1024, .bf16⟩
  | .local _ .vmem, ⟨13, _⟩ => ⟨S16x1, .f32⟩
  | .local _ .vmem, ⟨14, _⟩ => ⟨S512x1152, .f32⟩
  | .local _ .vmem, ⟨15, _⟩ => ⟨S512x1152, .f32⟩
  | .local _ .vmem, ⟨16, _⟩ => ⟨S1x512, .i32⟩
  | .local _ .vmem, ⟨17, _⟩ => ⟨S1x512, .i32⟩
  | _, _ => ⟨S65536x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9_0 : Ref sig .tc := ⟨.hbm, 18, rfl⟩
abbrev main_v9_1 : Ref sig .tc := ⟨.hbm, 19, rfl⟩
abbrev main_v10 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨1, ![130], ![false]⟩

def cc0_transform_0 (i : grid0.Coords) : Fin 2 → Nat :=
  let arg0 : BitVec 32 := BitVec.ofNat 32 (i 0).val
  let c127_i32 : BitVec 32 := 127#32
  let v0 : BitVec 32 := Scalar.minsi arg0 c127_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c128_i32 : BitVec 32 := 128#32
  let v0 : BitVec 32 := Scalar.subi arg0 c128_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c129_i32 : BitVec 32 := 129#32
  let v0 : BitVec 32 := Scalar.minsi arg0 c129_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c130_i32 : BitVec 32 := 130#32
  let v0 : BitVec 32 := Scalar.subi arg0 c130_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S16x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S16x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S16x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1152 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x512 .i32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== OutProjReferenceIdeal.lean ====
abbrev S65536x1024 : Shape := ⟨2, ![65536, 1024]⟩
abbrev S1024x1024 : Shape := ⟨2, ![1024, 1024]⟩
abbrev S66560x1024 : Shape := ⟨2, ![66560, 1024]⟩
abbrev S1024 : Shape := ⟨1, ![1024]⟩
abbrev S1024x16 : Shape := ⟨2, ![1024, 16]⟩
abbrev S16 : Shape := ⟨1, ![16]⟩
abbrev S_ : Shape := ⟨0, ![]⟩
abbrev S66560 : Shape := ⟨1, ![66560]⟩
abbrev S66560x1 : Shape := ⟨2, ![66560, 1]⟩
abbrev S1x1024 : Shape := ⟨2, ![1, 1024]⟩

abbrev nBuf : Space → Nat
  | .hbm => 45
  | .vmem => 0
  | .smem => 0
  | _ => 0

abbrev bufTy : (tb : Table) → Fin (tcTables nBuf tb) → BufTy
  | .hbm, ⟨0, _⟩ => ⟨S65536x1024, .bf16⟩
  | .hbm, ⟨1, _⟩ => ⟨S1024x1024, .bf16⟩
  | .hbm, ⟨2, _⟩ => ⟨S66560x1024, .f32⟩
  | .hbm, ⟨3, _⟩ => ⟨S1024x1024, .f32⟩
  | .hbm, ⟨4, _⟩ => ⟨S1024x1024, .f32⟩
  | .hbm, ⟨5, _⟩ => ⟨S1024, .f32⟩
  | .hbm, ⟨6, _⟩ => ⟨S1024, .f32⟩
  | .hbm, ⟨7, _⟩ => ⟨S1024x16, .f32⟩
  | .hbm, ⟨8, _⟩ => ⟨S16, .f32⟩
  | .hbm, ⟨9, _⟩ => ⟨S66560x1024, .bf16⟩
  | .hbm, ⟨10, _⟩ => ⟨S66560x1024, .f32⟩
  | .hbm, ⟨11, _⟩ => ⟨S_, .f32⟩
  | .hbm, ⟨12, _⟩ => ⟨S66560x1024, .f32⟩
  | .hbm, ⟨13, _⟩ => ⟨S66560x1024, .f32⟩
  | .hbm, ⟨14, _⟩ => ⟨S66560x1024, .f32⟩
  | .hbm, ⟨15, _⟩ => ⟨S66560x1024, .f32⟩
  | .hbm, ⟨16, _⟩ => ⟨S_, .f32⟩
  | .hbm, ⟨17, _⟩ => ⟨S66560, .f32⟩
  | .hbm, ⟨18, _⟩ => ⟨S66560x1, .f32⟩
  | .hbm, ⟨19, _⟩ => ⟨S_, .f32⟩
  | .hbm, ⟨20, _⟩ => ⟨S66560x1, .f32⟩
  | .hbm, ⟨21, _⟩ => ⟨S66560x1, .f32⟩
  | .hbm, ⟨22, _⟩ => ⟨S66560x1024, .f32⟩
  | .hbm, ⟨23, _⟩ => ⟨S66560x1024, .f32⟩
  | .hbm, ⟨24, _⟩ => ⟨S66560x1024, .f32⟩
  | .hbm, ⟨25, _⟩ => ⟨S_, .f32⟩
  | .hbm, ⟨26, _⟩ => ⟨S66560, .f32⟩
  | .hbm, ⟨27, _⟩ => ⟨S66560x1, .f32⟩
  | .hbm, ⟨28, _⟩ => ⟨S_, .f32⟩
  | .hbm, ⟨29, _⟩ => ⟨S66560x1, .f32⟩
  | .hbm, ⟨30, _⟩ => ⟨S66560x1, .f32⟩
  | .hbm, ⟨31, _⟩ => ⟨S66560x1024, .f32⟩
  | .hbm, ⟨32, _⟩ => ⟨S66560x1024, .f32⟩
  | .hbm, ⟨33, _⟩ => ⟨S_, .f32⟩
  | .hbm, ⟨34, _⟩ => ⟨S66560x1, .f32⟩
  | .hbm, ⟨35, _⟩ => ⟨S66560x1, .f32⟩
  | .hbm, ⟨36, _⟩ => ⟨S66560x1, .f32⟩
  | .hbm, ⟨37, _⟩ => ⟨S66560x1024, .f32⟩
  | .hbm, ⟨38, _⟩ => ⟨S66560x1024, .f32⟩
  | .hbm, ⟨39, _⟩ => ⟨S1x1024, .f32⟩
  | .hbm, ⟨40, _⟩ => ⟨S66560x1024, .f32⟩
  | .hbm, ⟨41, _⟩ => ⟨S66560x1024, .f32⟩
  | .hbm, ⟨42, _⟩ => ⟨S1x1024, .f32⟩
  | .hbm, ⟨43, _⟩ => ⟨S66560x1024, .f32⟩
  | .hbm, ⟨44, _⟩ => ⟨S66560x1024, .f32⟩
  | _, _ => ⟨S65536x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_cst_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩

abbrev nD : Nat := 1
abbrev τ : Topo := Topo.v7x

variable {F : FTy → Type} [FloatOps F]
-- ==== Proof.MoeIdealRun.lean ====
/-
  The run of the experts call: its pipeline over any tables that keep every block inside its array, the body in its
  two cases (a used tile computes two experts' weighted sum, an unused one stores zeros), and the frame.
-/
module

public import proofs.«01_k».proof.Defs
public import proofs.«01_k».proof.Proof.Gen.MoeIdeal.Launch
public import proofs.«01_k».proof.Proof.Gen.MoeIdeal.Skeleton
public import Idealize.ShloMosaic.Lib.Pipeline.FrameBody
public import Idealize.ShloMosaic.Lib.Pipeline.Kit
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.MoeIdeal.Exec

open Cert.MoeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the region finds -/

/-- A buffer as the region finds it: after the three weight casts. -/
abbrev V (c : Dev nD) (b : Ref sig .tc) : Buf (Elt F) ((c : Thread nD τ).loc b) := StableHlo.after hostOps0 (fun b => m (c, b)) b

theorem fresh_none : (hostOps0 : List (HloOp τ sig (Elt F))).Forall fun op => op.fresh = ∅ := by
  simp only [List.Forall]; repeat' constructor

set_option maxHeartbeats 800000 in
theorem enter (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub fresh_none main_chain

theorem V_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, Finset.mem_singleton]
    repeat' apply And.intro
    all_goals exact StableHlo.devRef_ne_of_ne (by decide)))

theorem V_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, Finset.mem_singleton]
    repeat' apply And.intro
    all_goals exact StableHlo.devRef_ne_of_ne (by decide)))

theorem V_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, Finset.mem_singleton]
    repeat' apply And.intro
    all_goals exact StableHlo.devRef_ne_of_ne (by decide)))

theorem V_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.unary_writes, Finset.mem_singleton]
    repeat' apply And.intro
    all_goals exact StableHlo.devRef_ne_of_ne (by decide)))

theorem V_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.unary_writes, Finset.mem_singleton]
    repeat' apply And.intro
    all_goals exact StableHlo.devRef_ne_of_ne (by decide)))

theorem V_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.unary_writes, Finset.mem_singleton]
    repeat' apply And.intro
    all_goals exact StableHlo.devRef_ne_of_ne (by decide)))

theorem V_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.unary_writes, Finset.mem_singleton]
    repeat' apply And.intro
    all_goals exact StableHlo.devRef_ne_of_ne (by decide)))

/-! ## The tables -/

/-- The three tables as the region finds them. -/
def tbl : pre0.Contents (Elt F) := fun j => V m (0 : Dev nD) (pre0.ref j)
theorem V_tbl (c : Dev nD) (j : Fin 3) : V m c (pre0.ref j) = tbl m j := by
  obtain rfl : c = 0 := Subsingleton.elim _ _; rfl
/-- Every block the tables choose lies inside its array. -/
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

abbrev tab0 : Memref sig .tc .smem S154 .i32 := Memref.whole main_arg0
abbrev tab0_whole : tab0.IsWhole := Memref.isWhole_whole _
abbrev tab1 : Memref sig .tc .smem S154 .i32 := Memref.whole main_arg1
abbrev tab1_whole : tab1.IsWhole := Memref.isWhole_whole _
abbrev tab2 : Memref sig .tc .smem S1 .i32 := Memref.whole main_arg2
abbrev tab2_whole : tab2.IsWhole := Memref.isWhole_whole _

abbrev TabBuf (c : Dev nD) {S : Shape} {e : EltTy} (M : Memref sig .tc .smem S e) : Type := Buf (Elt F) (M.view.loc (c : Thread nD τ))
/-- Half of a table, at contents `f`: what the body reads its words off. -/
abbrev tabHeld (c : Dev nD) {S : Shape} {e : EltTy} (M : Memref sig .tc .smem S e) (f : TabBuf (F := F) c M) : sProp 𝕄 :=
  M.view.loc (c : Thread nD τ) ↦{fullShare.right} f

theorem tables_eq (c : Dev nD) : (Pipeline.ΦT pre0 (tbl m) c : sProp 𝕄) = iprop(tabHeld c tab0 (tbl m 0) ∗ tabHeld c tab1 (tbl m 1) ∗ tabHeld c tab2 (tbl m 2)) := by
  unfold Pipeline.ΦT Pipeline.prefHeld
  rw [show (Finset.univ : Finset (Fin 3)) = insert (0 : Fin 3) (insert (1 : Fin 3) {(2 : Fin 3)}) from by decide,
    bigSep_insert (by decide), bigSep_insert (by decide), bigSep_singleton]
  rfl

/-- The number of used tiles, as the body reads it off the third table. -/
abbrev used (c : Dev nD) (t2 : TabBuf (F := F) c tab2) : BitVec 32 :=
  View.readAt (Elt F) (tab2).view (Rect.unit (s := S1) ![0] S1.size inb_S1_S1_0).toLoadRect t2 (Shape.Idx.first (numel1_S1.symm ▸ Nat.one_pos))

/-- The body's two conditions exclude one another: the first holds where the second fails. -/
theorem cond_compl (i : grid0.Coords) (n : BitVec 32) : k0_cond1 i n = 1#1 ↔ ¬(k0_cond2 i n = 1#1) := by
  unfold k0_cond1 k0_cond2
  dsimp only
  generalize Scalar.cmpi .slt (BitVec.ofNat 32 (i 0).val) n = b
  revert b
  decide

/-! ## The windows' blocks and the schedule -/

/-- Window `w`'s block at point `t`, off its array as the region finds it. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

theorem holds0 (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem holds1 (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem holds2 (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem holds3 (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem holds4 (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem holds5 (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem holds6 (hO : Ok m) {c : Dev nD} (dat : Dat τ (Elt F) Unit ℕ (UR sig nD τ) ℕ (cfgM m hO) c) (hA : dat.A 6 = V m c (Pipeline.arrRef spec0 6))
    (hafter : ∀ t, dat.after 6 t = iblk m hO c 6 t) (t : Fin (cfgM m hO).N) (d) : dat.before 6 t d = iblk m hO c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- The output's block is written back at every point: its index is the point's own coordinate. -/
theorem flush7 (a : (pcfg0 (F := F)).Adm) : ∀ t : Fin (cfg0 a).N, ((cfg0 a).win 7).flush t = true :=
  (fun t => (Pipeline.Window.flushOf_reads cc0_transform_7 reads0_7 hreads0_7 0 (by decide) (by decide) (Pipeline.Window.sep_of_coord cc0_transform_7 0 0 (fun _ => rfl) (by decide)) (P := 1) (m := 0) (by decide) rfl t).mpr (Nat.mod_one _) : ∀ t : Fin grid0.N, Pipeline.Window.flushOf grid0 true cc0_transform_7 t = true)

abbrev mem0 (hO : Ok m) (t : Fin (cfgM m hO).N) : Memref sig .tc .vmem S512x1152 .f32 := spec0_0.stage ((cfgM m hO).slots t 0)
abbrev mem0_whole (hO : Ok m) (t : Fin (cfgM m hO).N) : (mem0 m hO t).IsWhole := hstage0_0 (((cfgM m hO).slots t 0).cast nbuf0_0)
abbrev mem1 (hO : Ok m) (t : Fin (cfgM m hO).N) : Memref sig .tc .vmem S1x1024x512 .bf16 := spec0_1.stage ((cfgM m hO).slots t 1)
abbrev mem1_whole (hO : Ok m) (t : Fin (cfgM m hO).N) : (mem1 m hO t).IsWhole := hstage0_1 (((cfgM m hO).slots t 1).cast nbuf0_1)
abbrev mem2 (hO : Ok m) (t : Fin (cfgM m hO).N) : Memref sig .tc .vmem S1x1024x512 .bf16 := spec0_2.stage ((cfgM m hO).slots t 2)
abbrev mem2_whole (hO : Ok m) (t : Fin (cfgM m hO).N) : (mem2 m hO t).IsWhole := hstage0_2 (((cfgM m hO).slots t 2).cast nbuf0_2)
abbrev mem3 (hO : Ok m) (t : Fin (cfgM m hO).N) : Memref sig .tc .vmem S1x512x1024 .bf16 := spec0_3.stage ((cfgM m hO).slots t 3)
abbrev mem3_whole (hO : Ok m) (t : Fin (cfgM m hO).N) : (mem3 m hO t).IsWhole := hstage0_3 (((cfgM m hO).slots t 3).cast nbuf0_3)
abbrev mem4 (hO : Ok m) (t : Fin (cfgM m hO).N) : Memref sig .tc .vmem S1x1024x512 .bf16 := spec0_4.stage ((cfgM m hO).slots t 4)
abbrev mem4_whole (hO : Ok m) (t : Fin (cfgM m hO).N) : (mem4 m hO t).IsWhole := hstage0_4 (((cfgM m hO).slots t 4).cast nbuf0_4)
abbrev mem5 (hO : Ok m) (t : Fin (cfgM m hO).N) : Memref sig .tc .vmem S1x1024x512 .bf16 := spec0_5.stage ((cfgM m hO).slots t 5)
abbrev mem5_whole (hO : Ok m) (t : Fin (cfgM m hO).N) : (mem5 m hO t).IsWhole := hstage0_5 (((cfgM m hO).slots t 5).cast nbuf0_5)
abbrev mem6 (hO : Ok m) (t : Fin (cfgM m hO).N) : Memref sig .tc .vmem S1x512x1024 .bf16 := spec0_6.stage ((cfgM m hO).slots t 6)
abbrev mem6_whole (hO : Ok m) (t : Fin (cfgM m hO).N) : (mem6 m hO t).IsWhole := hstage0_6 (((cfgM m hO).slots t 6).cast nbuf0_6)
abbrev mem7 (hO : Ok m) (t : Fin (cfgM m hO).N) : Memref sig .tc .vmem S512x1024 .f32 := spec0_7.stage ((cfgM m hO).slots t 7)
abbrev mem7_whole (hO : Ok m) (t : Fin (cfgM m hO).N) : (mem7 m hO t).IsWhole := hstage0_7 (((cfgM m hO).slots t 7).cast nbuf0_7)

/-- The body as the pipeline calls it at point `t`. -/
abbrev bodyAt (hO : Ok m) (t : Fin (cfgM m hO).N) : Prog (TpuEff nD τ sig (Elt F) Λ₀ .tc) PUnit :=
  cc0_moe_experts (grid0.coords t) tab0 tab0_whole tab1 tab1_whole tab2 tab2_whole (mem0 m hO t) (mem0_whole m hO t) (mem1 m hO t) (mem1_whole m hO t) (mem2 m hO t) (mem2_whole m hO t) (mem3 m hO t) (mem3_whole m hO t) (mem4 m hO t) (mem4_whole m hO t) (mem5 m hO t) (mem5_whole m hO t) (mem6 m hO t) (mem6_whole m hO t) (mem7 m hO t) (mem7_whole m hO t)

/-- A staging buffer through which the output's contents are stated. -/
abbrev outView : View sig .tc .vmem S512x1024 .f32 := (Memref.whole cc0_stg7_0 : Memref sig .tc .vmem S512x1024 .f32).view

/-! ## The body, case by case -/

set_option maxHeartbeats 1000000 in
/-- The stores of a used tile: the two experts are run on the block, with the proof that the body makes exactly these and leaves all else it was handed. -/
noncomputable def runUsed (c : Dev nD) (i : grid0.Coords) (a0 : Memref sig .tc .vmem S512x1152 .f32) (ha0 : a0.IsWhole) (a1 : Memref sig .tc .vmem S1x1024x512 .bf16) (ha1 : a1.IsWhole) (a2 : Memref sig .tc .vmem S1x1024x512 .bf16) (ha2 : a2.IsWhole) (a3 : Memref sig .tc .vmem S1x512x1024 .bf16) (ha3 : a3.IsWhole) (a4 : Memref sig .tc .vmem S1x1024x512 .bf16) (ha4 : a4.IsWhole) (a5 : Memref sig .tc .vmem S1x1024x512 .bf16) (ha5 : a5.IsWhole) (a6 : Memref sig .tc .vmem S1x512x1024 .bf16) (ha6 : a6.IsWhole) (a7 : Memref sig .tc .vmem S512x1024 .f32) (ha7 : a7.IsWhole)
    (x0 : Vec F S512x1152 .f32) (x1 : Vec F S1x1024x512 .bf16) (x2 : Vec F S1x1024x512 .bf16) (x3 : Vec F S1x512x1024 .bf16) (x4 : Vec F S1x1024x512 .bf16) (x5 : Vec F S1x1024x512 .bf16) (x6 : Vec F S1x512x1024 .bf16) (t0 : TabBuf (F := F) c tab0) (t1 : TabBuf (F := F) c tab1) (t2 : TabBuf (F := F) c tab2) (h1 : ¬(k0_cond1 i (used c t2) = 1#1)) (h2 : k0_cond2 i (used c t2) = 1#1) :
    { L7 : List (View.Piece (Elt F) S512x1024 .f32) //
      ∀ (E : Set ℕ) (K : PUnit → sProp 𝕄),
        iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ (∃ d, owns (c : Thread nD τ) a7 fullShare d) ∗ tabHeld c tab0 t0 ∗ tabHeld c tab1 t1 ∗ tabHeld c tab2 t2
            ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ (∃ f, a7.view.loc (c : Thread nD τ) ↦[a7.view.set]{fullShare} a7.view.writes (Elt F) f L7) ∗ tabHeld c tab0 t0 ∗ tabHeld c tab1 t1 ∗ tabHeld c tab2 t2) -∗ K ⟨⟩))
          ⊢ wp frame (wpE (defs₀ (F := F)) Variants.none c none) E (cc0_moe_experts i tab0 tab0_whole tab1 tab1_whole tab2 tab2_whole a0 ha0 a1 ha1 a2 ha2 a3 ha3 a4 ha4 a5 ha5 a6 ha6 a7 ha7) K } := by
  refine ⟨?_, fun E K => ?run⟩
  case run =>
    simp only [cc0_moe_experts_eq_skeleton]; unfold cc0_moe_experts_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, HT0, HT1, HT2, Hk⟩
    obtain rfl := ha0.eq_unread hf0; obtain rfl := ha1.eq_unread hf1; obtain rfl := ha2.eq_unread hf2; obtain rfl := ha3.eq_unread hf3; obtain rfl := ha4.eq_unread hf4; obtain rfl := ha5.eq_unread hf5; obtain rfl := ha6.eq_unread hf6
    sl_exec! (disch := first | (guard_target = ¬(k0_cond1 _ _ = _); exact h1) | (guard_target = k0_cond2 _ _ = _; exact h2))
    sl_step
    iapply Hk
    isplitl [H0]
    · iexists _; isplitr; · ipureintro; exact ha0.read_unread _
      iexact H0
    isplitl [H1]
    · iexists _; isplitr; · ipureintro; exact ha1.read_unread _
      iexact H1
    isplitl [H2]
    · iexists _; isplitr; · ipureintro; exact ha2.read_unread _
      iexact H2
    isplitl [H3]
    · iexists _; isplitr; · ipureintro; exact ha3.read_unread _
      iexact H3
    isplitl [H4]
    · iexists _; isplitr; · ipureintro; exact ha4.read_unread _
      iexact H4
    isplitl [H5]
    · iexists _; isplitr; · ipureintro; exact ha5.read_unread _
      iexact H5
    isplitl [H6]
    · iexists _; isplitr; · ipureintro; exact ha6.read_unread _
      iexact H6
    isplitl [H7]; · iexists _; iexact H7
    isplitl [HT0]; · iexact HT0
    isplitl [HT1]; · iexact HT1
    iexact HT2

theorem coverUsed (c : Dev nD) (i : grid0.Coords) (a0 : Memref sig .tc .vmem S512x1152 .f32) (ha0 : a0.IsWhole) (a1 : Memref sig .tc .vmem S1x1024x512 .bf16) (ha1 : a1.IsWhole) (a2 : Memref sig .tc .vmem S1x1024x512 .bf16) (ha2 : a2.IsWhole) (a3 : Memref sig .tc .vmem S1x512x1024 .bf16) (ha3 : a3.IsWhole) (a4 : Memref sig .tc .vmem S1x1024x512 .bf16) (ha4 : a4.IsWhole) (a5 : Memref sig .tc .vmem S1x1024x512 .bf16) (ha5 : a5.IsWhole) (a6 : Memref sig .tc .vmem S1x512x1024 .bf16) (ha6 : a6.IsWhole) (a7 : Memref sig .tc .vmem S512x1024 .f32) (ha7 : a7.IsWhole)
    (x0 : Vec F S512x1152 .f32) (x1 : Vec F S1x1024x512 .bf16) (x2 : Vec F S1x1024x512 .bf16) (x3 : Vec F S1x512x1024 .bf16) (x4 : Vec F S1x1024x512 .bf16) (x5 : Vec F S1x1024x512 .bf16) (x6 : Vec F S1x512x1024 .bf16) (t0 : TabBuf (F := F) c tab0) (t1 : TabBuf (F := F) c tab1) (t2 : TabBuf (F := F) c tab2) (h1 : ¬(k0_cond1 i (used c t2) = 1#1)) (h2 : k0_cond2 i (used c t2) = 1#1) (y : S512x1024.Idx) :
    ∃ pc ∈ (runUsed c i a0 ha0 a1 ha1 a2 ha2 a3 ha3 a4 ha4 a5 ha5 a6 ha6 a7 ha7 x0 x1 x2 x3 x4 x5 x6 t0 t1 t2 h1 h2).1, y ∈ pc.1.set :=
  View.cover_of_tiledL (runUsed c i a0 ha0 a1 ha1 a2 ha2 a3 ha3 a4 ha4 a5 ha5 a6 ha6 a7 ha7 x0 x1 x2 x3 x4 x5 x6 t0 t1 t2 h1 h2).1 S512x1024.size (by sl_kernel_rfl) y

/-- The output block of a used tile: the two experts are run on the block. -/
def outUsed (c : Dev nD) (i : grid0.Coords) (a0 : Memref sig .tc .vmem S512x1152 .f32) (ha0 : a0.IsWhole) (a1 : Memref sig .tc .vmem S1x1024x512 .bf16) (ha1 : a1.IsWhole) (a2 : Memref sig .tc .vmem S1x1024x512 .bf16) (ha2 : a2.IsWhole) (a3 : Memref sig .tc .vmem S1x512x1024 .bf16) (ha3 : a3.IsWhole) (a4 : Memref sig .tc .vmem S1x1024x512 .bf16) (ha4 : a4.IsWhole) (a5 : Memref sig .tc .vmem S1x1024x512 .bf16) (ha5 : a5.IsWhole) (a6 : Memref sig .tc .vmem S1x512x1024 .bf16) (ha6 : a6.IsWhole) (a7 : Memref sig .tc .vmem S512x1024 .f32) (ha7 : a7.IsWhole)
    (x0 : Vec F S512x1152 .f32) (x1 : Vec F S1x1024x512 .bf16) (x2 : Vec F S1x1024x512 .bf16) (x3 : Vec F S1x512x1024 .bf16) (x4 : Vec F S1x1024x512 .bf16) (x5 : Vec F S1x1024x512 .bf16) (x6 : Vec F S1x512x1024 .bf16) (t0 : TabBuf (F := F) c tab0) (t1 : TabBuf (F := F) c tab1) (t2 : TabBuf (F := F) c tab2) (h1 : ¬(k0_cond1 i (used c t2) = 1#1)) (h2 : k0_cond2 i (used c t2) = 1#1) : Vec F S512x1024 .f32 :=
  outView.read (Elt F) (outView.writes (Elt F) outView.junk (runUsed c i a0 ha0 a1 ha1 a2 ha2 a3 ha3 a4 ha4 a5 ha5 a6 ha6 a7 ha7 x0 x1 x2 x3 x4 x5 x6 t0 t1 t2 h1 h2).1)

set_option maxHeartbeats 1000000 in
/-- The stores of an unused tile: zeros are stored, with the proof that the body makes exactly these and leaves all else it was handed. -/
noncomputable def runIdle (c : Dev nD) (i : grid0.Coords) (a0 : Memref sig .tc .vmem S512x1152 .f32) (ha0 : a0.IsWhole) (a1 : Memref sig .tc .vmem S1x1024x512 .bf16) (ha1 : a1.IsWhole) (a2 : Memref sig .tc .vmem S1x1024x512 .bf16) (ha2 : a2.IsWhole) (a3 : Memref sig .tc .vmem S1x512x1024 .bf16) (ha3 : a3.IsWhole) (a4 : Memref sig .tc .vmem S1x1024x512 .bf16) (ha4 : a4.IsWhole) (a5 : Memref sig .tc .vmem S1x1024x512 .bf16) (ha5 : a5.IsWhole) (a6 : Memref sig .tc .vmem S1x512x1024 .bf16) (ha6 : a6.IsWhole) (a7 : Memref sig .tc .vmem S512x1024 .f32) (ha7 : a7.IsWhole)
    (x0 : Vec F S512x1152 .f32) (x1 : Vec F S1x1024x512 .bf16) (x2 : Vec F S1x1024x512 .bf16) (x3 : Vec F S1x512x1024 .bf16) (x4 : Vec F S1x1024x512 .bf16) (x5 : Vec F S1x1024x512 .bf16) (x6 : Vec F S1x512x1024 .bf16) (t0 : TabBuf (F := F) c tab0) (t1 : TabBuf (F := F) c tab1) (t2 : TabBuf (F := F) c tab2) (h1 : k0_cond1 i (used c t2) = 1#1) (h2 : ¬(k0_cond2 i (used c t2) = 1#1)) :
    { L7 : List (View.Piece (Elt F) S512x1024 .f32) //
      ∀ (E : Set ℕ) (K : PUnit → sProp 𝕄),
        iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ (∃ d, owns (c : Thread nD τ) a7 fullShare d) ∗ tabHeld c tab0 t0 ∗ tabHeld c tab1 t1 ∗ tabHeld c tab2 t2
            ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ (∃ f, a7.view.loc (c : Thread nD τ) ↦[a7.view.set]{fullShare} a7.view.writes (Elt F) f L7) ∗ tabHeld c tab0 t0 ∗ tabHeld c tab1 t1 ∗ tabHeld c tab2 t2) -∗ K ⟨⟩))
          ⊢ wp frame (wpE (defs₀ (F := F)) Variants.none c none) E (cc0_moe_experts i tab0 tab0_whole tab1 tab1_whole tab2 tab2_whole a0 ha0 a1 ha1 a2 ha2 a3 ha3 a4 ha4 a5 ha5 a6 ha6 a7 ha7) K } := by
  refine ⟨?_, fun E K => ?run⟩
  case run =>
    simp only [cc0_moe_experts_eq_skeleton]; unfold cc0_moe_experts_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, HT0, HT1, HT2, Hk⟩
    obtain rfl := ha0.eq_unread hf0; obtain rfl := ha1.eq_unread hf1; obtain rfl := ha2.eq_unread hf2; obtain rfl := ha3.eq_unread hf3; obtain rfl := ha4.eq_unread hf4; obtain rfl := ha5.eq_unread hf5; obtain rfl := ha6.eq_unread hf6
    sl_exec! (disch := first | (guard_target = k0_cond1 _ _ = _; exact h1) | (guard_target = ¬(k0_cond2 _ _ = _); exact h2))
    sl_step
    iapply Hk
    isplitl [H0]
    · iexists _; isplitr; · ipureintro; exact ha0.read_unread _
      iexact H0
    isplitl [H1]
    · iexists _; isplitr; · ipureintro; exact ha1.read_unread _
      iexact H1
    isplitl [H2]
    · iexists _; isplitr; · ipureintro; exact ha2.read_unread _
      iexact H2
    isplitl [H3]
    · iexists _; isplitr; · ipureintro; exact ha3.read_unread _
      iexact H3
    isplitl [H4]
    · iexists _; isplitr; · ipureintro; exact ha4.read_unread _
      iexact H4
    isplitl [H5]
    · iexists _; isplitr; · ipureintro; exact ha5.read_unread _
      iexact H5
    isplitl [H6]
    · iexists _; isplitr; · ipureintro; exact ha6.read_unread _
      iexact H6
    isplitl [H7]; · iexists _; iexact H7
    isplitl [HT0]; · iexact HT0
    isplitl [HT1]; · iexact HT1
    iexact HT2

theorem coverIdle (c : Dev nD) (i : grid0.Coords) (a0 : Memref sig .tc .vmem S512x1152 .f32) (ha0 : a0.IsWhole) (a1 : Memref sig .tc .vmem S1x1024x512 .bf16) (ha1 : a1.IsWhole) (a2 : Memref sig .tc .vmem S1x1024x512 .bf16) (ha2 : a2.IsWhole) (a3 : Memref sig .tc .vmem S1x512x1024 .bf16) (ha3 : a3.IsWhole) (a4 : Memref sig .tc .vmem S1x1024x512 .bf16) (ha4 : a4.IsWhole) (a5 : Memref sig .tc .vmem S1x1024x512 .bf16) (ha5 : a5.IsWhole) (a6 : Memref sig .tc .vmem S1x512x1024 .bf16) (ha6 : a6.IsWhole) (a7 : Memref sig .tc .vmem S512x1024 .f32) (ha7 : a7.IsWhole)
    (x0 : Vec F S512x1152 .f32) (x1 : Vec F S1x1024x512 .bf16) (x2 : Vec F S1x1024x512 .bf16) (x3 : Vec F S1x512x1024 .bf16) (x4 : Vec F S1x1024x512 .bf16) (x5 : Vec F S1x1024x512 .bf16) (x6 : Vec F S1x512x1024 .bf16) (t0 : TabBuf (F := F) c tab0) (t1 : TabBuf (F := F) c tab1) (t2 : TabBuf (F := F) c tab2) (h1 : k0_cond1 i (used c t2) = 1#1) (h2 : ¬(k0_cond2 i (used c t2) = 1#1)) (y : S512x1024.Idx) :
    ∃ pc ∈ (runIdle c i a0 ha0 a1 ha1 a2 ha2 a3 ha3 a4 ha4 a5 ha5 a6 ha6 a7 ha7 x0 x1 x2 x3 x4 x5 x6 t0 t1 t2 h1 h2).1, y ∈ pc.1.set :=
  View.cover_of_tiledL (runIdle c i a0 ha0 a1 ha1 a2 ha2 a3 ha3 a4 ha4 a5 ha5 a6 ha6 a7 ha7 x0 x1 x2 x3 x4 x5 x6 t0 t1 t2 h1 h2).1 S512x1024.size (by sl_kernel_rfl) y

/-- The output block of an unused tile: zeros are stored. -/
def outIdle (c : Dev nD) (i : grid0.Coords) (a0 : Memref sig .tc .vmem S512x1152 .f32) (ha0 : a0.IsWhole) (a1 : Memref sig .tc .vmem S1x1024x512 .bf16) (ha1 : a1.IsWhole) (a2 : Memref sig .tc .vmem S1x1024x512 .bf16) (ha2 : a2.IsWhole) (a3 : Memref sig .tc .vmem S1x512x1024 .bf16) (ha3 : a3.IsWhole) (a4 : Memref sig .tc .vmem S1x1024x512 .bf16) (ha4 : a4.IsWhole) (a5 : Memref sig .tc .vmem S1x1024x512 .bf16) (ha5 : a5.IsWhole) (a6 : Memref sig .tc .vmem S1x512x1024 .bf16) (ha6 : a6.IsWhole) (a7 : Memref sig .tc .vmem S512x1024 .f32) (ha7 : a7.IsWhole)
    (x0 : Vec F S512x1152 .f32) (x1 : Vec F S1x1024x512 .bf16) (x2 : Vec F S1x1024x512 .bf16) (x3 : Vec F S1x512x1024 .bf16) (x4 : Vec F S1x1024x512 .bf16) (x5 : Vec F S1x1024x512 .bf16) (x6 : Vec F S1x512x1024 .bf16) (t0 : TabBuf (F := F) c tab0) (t1 : TabBuf (F := F) c tab1) (t2 : TabBuf (F := F) c tab2) (h1 : k0_cond1 i (used c t2) = 1#1) (h2 : ¬(k0_cond2 i (used c t2) = 1#1)) : Vec F S512x1024 .f32 :=
  outView.read (Elt F) (outView.writes (Elt F) outView.junk (runIdle c i a0 ha0 a1 ha1 a2 ha2 a3 ha3 a4 ha4 a5 ha5 a6 ha6 a7 ha7 x0 x1 x2 x3 x4 x5 x6 t0 t1 t2 h1 h2).1)

/-! ## The proof data -/

/-- The output's block after point `t`. -/
def outAt (hO : Ok m) (c : Dev nD) (t : Fin (cfgM m hO).N) : Vec F S512x1024 .f32 :=
  if h : k0_cond2 (grid0.coords t) (used c (tbl m 2)) = 1#1 then
    outUsed c (grid0.coords t) (mem0 m hO t) (mem0_whole m hO t) (mem1 m hO t) (mem1_whole m hO t) (mem2 m hO t) (mem2_whole m hO t) (mem3 m hO t) (mem3_whole m hO t) (mem4 m hO t) (mem4_whole m hO t) (mem5 m hO t) (mem5_whole m hO t) (mem6 m hO t) (mem6_whole m hO t) (mem7 m hO t) (mem7_whole m hO t) (iblk m hO c 0 t) (iblk m hO c 1 t) (iblk m hO c 2 t) (iblk m hO c 3 t) (iblk m hO c 4 t) (iblk m hO c 5 t) (iblk m hO c 6 t) (tbl m 0) (tbl m 1) (tbl m 2) (fun h1 => (cond_compl _ _).mp h1 h) h
  else
    outIdle c (grid0.coords t) (mem0 m hO t) (mem0_whole m hO t) (mem1 m hO t) (mem1_whole m hO t) (mem2 m hO t) (mem2_whole m hO t) (mem3 m hO t) (mem3_whole m hO t) (mem4 m hO t) (mem4_whole m hO t) (mem5 m hO t) (mem5_whole m hO t) (mem6 m hO t) (mem6_whole m hO t) (mem7 m hO t) (mem7_whole m hO t) (iblk m hO c 0 t) (iblk m hO c 1 t) (iblk m hO c 2 t) (iblk m hO c 3 t) (iblk m hO c 4 t) (iblk m hO c 5 t) (iblk m hO c 6 t) (tbl m 0) (tbl m 1) (tbl m 2) ((cond_compl _ _).mpr h) h

/-- The arrays as the region finds them, each input's buffer at its block, the output's at `outAt`. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => outAt m hO c t
  Φ _ := iprop(Pipeline.ΦA spec0 c ∗ Pipeline.ΦT pre0 (tbl m) c)
  q w := Pipeline.shareOf spec0 w
  owed _ := 0

theorem A_eq (hO : Ok m) (c : Dev nD) (w : Fin (cfgM m hO).W) : (dats m hO 0 c).A w = V m c (Pipeline.arrRef spec0 w) := by
  dsimp only [dats]

theorem after0 (hO : Ok m) (c : Dev nD) (t : Fin (cfgM m hO).N) : (dats m hO 0 c).after 0 t = iblk m hO c 0 t := by dsimp only [dats]; try rfl
theorem after1 (hO : Ok m) (c : Dev nD) (t : Fin (cfgM m hO).N) : (dats m hO 0 c).after 1 t = iblk m hO c 1 t := by dsimp only [dats]; try rfl
theorem after2 (hO : Ok m) (c : Dev nD) (t : Fin (cfgM m hO).N) : (dats m hO 0 c).after 2 t = iblk m hO c 2 t := by dsimp only [dats]; try rfl
theorem after3 (hO : Ok m) (c : Dev nD) (t : Fin (cfgM m hO).N) : (dats m hO 0 c).after 3 t = iblk m hO c 3 t := by dsimp only [dats]; try rfl
theorem after4 (hO : Ok m) (c : Dev nD) (t : Fin (cfgM m hO).N) : (dats m hO 0 c).after 4 t = iblk m hO c 4 t := by dsimp only [dats]; try rfl
theorem after5 (hO : Ok m) (c : Dev nD) (t : Fin (cfgM m hO).N) : (dats m hO 0 c).after 5 t = iblk m hO c 5 t := by dsimp only [dats]; try rfl
theorem after6 (hO : Ok m) (c : Dev nD) (t : Fin (cfgM m hO).N) : (dats m hO 0 c).after 6 t = iblk m hO c 6 t := by dsimp only [dats]; try rfl
theorem after7 (hO : Ok m) (c : Dev nD) (t : Fin (cfgM m hO).N) : (dats m hO 0 c).after 7 t = outAt m hO c t := by dsimp only [dats]; try rfl
theorem before0 (hO : Ok m) (c : Dev nD) (t : Fin (cfgM m hO).N) (d) : (dats m hO 0 c).before 0 t d = iblk m hO c 0 t :=
  holds0 m hO (dats m hO 0 c) (A_eq m hO c 0) (after0 m hO c) t d
theorem before1 (hO : Ok m) (c : Dev nD) (t : Fin (cfgM m hO).N) (d) : (dats m hO 0 c).before 1 t d = iblk m hO c 1 t :=
  holds1 m hO (dats m hO 0 c) (A_eq m hO c 1) (after1 m hO c) t d
theorem before2 (hO : Ok m) (c : Dev nD) (t : Fin (cfgM m hO).N) (d) : (dats m hO 0 c).before 2 t d = iblk m hO c 2 t :=
  holds2 m hO (dats m hO 0 c) (A_eq m hO c 2) (after2 m hO c) t d
theorem before3 (hO : Ok m) (c : Dev nD) (t : Fin (cfgM m hO).N) (d) : (dats m hO 0 c).before 3 t d = iblk m hO c 3 t :=
  holds3 m hO (dats m hO 0 c) (A_eq m hO c 3) (after3 m hO c) t d
theorem before4 (hO : Ok m) (c : Dev nD) (t : Fin (cfgM m hO).N) (d) : (dats m hO 0 c).before 4 t d = iblk m hO c 4 t :=
  holds4 m hO (dats m hO 0 c) (A_eq m hO c 4) (after4 m hO c) t d
theorem before5 (hO : Ok m) (c : Dev nD) (t : Fin (cfgM m hO).N) (d) : (dats m hO 0 c).before 5 t d = iblk m hO c 5 t :=
  holds5 m hO (dats m hO 0 c) (A_eq m hO c 5) (after5 m hO c) t d
theorem before6 (hO : Ok m) (c : Dev nD) (t : Fin (cfgM m hO).N) (d) : (dats m hO 0 c).before 6 t d = iblk m hO c 6 t :=
  holds6 m hO (dats m hO 0 c) (A_eq m hO c 6) (after6 m hO c) t d

/-! ## The body at a point -/

/-- What the body is handed at point `t`, -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (mem0 m hO t) fullShare ((dats m hO 0 c).before 0 t d))
    ∗ (∃ d, owns (c : Thread nD τ) (mem1 m hO t) fullShare ((dats m hO 0 c).before 1 t d))
    ∗ (∃ d, owns (c : Thread nD τ) (mem2 m hO t) fullShare ((dats m hO 0 c).before 2 t d))
    ∗ (∃ d, owns (c : Thread nD τ) (mem3 m hO t) fullShare ((dats m hO 0 c).before 3 t d))
    ∗ (∃ d, owns (c : Thread nD τ) (mem4 m hO t) fullShare ((dats m hO 0 c).before 4 t d))
    ∗ (∃ d, owns (c : Thread nD τ) (mem5 m hO t) fullShare ((dats m hO 0 c).before 5 t d))
    ∗ (∃ d, owns (c : Thread nD τ) (mem6 m hO t) fullShare ((dats m hO 0 c).before 6 t d))
    ∗ (∃ d, owns (c : Thread nD τ) (mem7 m hO t) fullShare ((dats m hO 0 c).before 7 t d)))

/-- and what it leaves. -/
def bodyPost (hO : Ok m) (c : Dev nD) (t : Fin (cfgM m hO).N) : sProp 𝕄 :=
  iprop((dats m hO 0 c).Φ t.succ ∗ (dats m hO 0 c).owesAt () t.succ
    ∗ owns (c : Thread nD τ) (mem0 m hO t) fullShare ((dats m hO 0 c).after 0 t)
    ∗ owns (c : Thread nD τ) (mem1 m hO t) fullShare ((dats m hO 0 c).after 1 t)
    ∗ owns (c : Thread nD τ) (mem2 m hO t) fullShare ((dats m hO 0 c).after 2 t)
    ∗ owns (c : Thread nD τ) (mem3 m hO t) fullShare ((dats m hO 0 c).after 3 t)
    ∗ owns (c : Thread nD τ) (mem4 m hO t) fullShare ((dats m hO 0 c).after 4 t)
    ∗ owns (c : Thread nD τ) (mem5 m hO t) fullShare ((dats m hO 0 c).after 5 t)
    ∗ owns (c : Thread nD τ) (mem6 m hO t) fullShare ((dats m hO 0 c).after 6 t)
    ∗ owns (c : Thread nD τ) (mem7 m hO t) fullShare ((dats m hO 0 c).after 7 t))

set_option maxHeartbeats 1600000 in
theorem body_runs (hO : Ok m) (c : Dev nD) (t : Fin (cfgM m hO).N) :
    bodyPre m hO c t ⊢ wp frame (wpE (defs₀ (F := F)) Variants.none c none) Set.univ (bodyAt m hO t) (fun _ => bodyPost m hO c t) := by
  unfold bodyPre bodyPost bodyAt
  simp only [before0, before1, before2, before3, before4, before5, before6]
  rw [show (dats m hO 0 c).Φ t.succ = (dats m hO 0 c).Φ t.castSucc from rfl,
    show (dats m hO 0 c).owesAt () t.succ = (dats m hO 0 c).owesAt () t.castSucc from rfl,
    after0, after1, after2, after3, after4, after5, after6, after7]
  rw [show (dats m hO 0 c).Φ t.castSucc = iprop(Pipeline.ΦA spec0 c ∗ Pipeline.ΦT pre0 (tbl m) c) from rfl, tables_eq]
  by_cases h : k0_cond2 (grid0.coords t) (used c (tbl m 2)) = 1#1
  · rw [show outAt m hO c t = _ from dif_pos h]
    unfold outUsed
    iintro ⟨⟨HΦ, ⟨HT0, HT1, HT2⟩⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((runUsed c (grid0.coords t) _ _ _ _ _ _ _ _ _ _ _ _ _ _ _ _ (iblk m hO c 0 t) (iblk m hO c 1 t) (iblk m hO c 2 t) (iblk m hO c 3 t) (iblk m hO c 4 t) (iblk m hO c 5 t) (iblk m hO c 6 t) (tbl m 0) (tbl m 1) (tbl m 2) (fun h1 => (cond_compl _ _).mp h1 h) h).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HT0]; · iexact HT0
    isplitl [HT1]; · iexact HT1
    isplitl [HT2]; · iexact HT2
    iintro ⟨H0, H1, H2, H3, H4, H5, H6, ⟨%e7, H7⟩, HT0, HT1, HT2⟩
    isplitl [HΦ HT0 HT1 HT2]
    · isplitl [HΦ]
      · iexact HΦ
      isplitl [HT0]; · iexact HT0
      isplitl [HT1]; · iexact HT1
      iexact HT2
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    unfold owns; iexists _; isplitr
    swap; · iexact H7
    ipureintro; exact View.read_writes_of_cover _ _ _ _ _ (coverUsed c _ _ _ _ _ _ _ _ _ _ _ _ _ _ _ _ _ _ _ _ _ _ _ _ _ _ _ _ _ )
  · rw [show outAt m hO c t = _ from dif_neg h]
    unfold outIdle
    iintro ⟨⟨HΦ, ⟨HT0, HT1, HT2⟩⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((runIdle c (grid0.coords t) _ _ _ _ _ _ _ _ _ _ _ _ _ _ _ _ (iblk m hO c 0 t) (iblk m hO c 1 t) (iblk m hO c 2 t) (iblk m hO c 3 t) (iblk m hO c 4 t) (iblk m hO c 5 t) (iblk m hO c 6 t) (tbl m 0) (tbl m 1) (tbl m 2) ((cond_compl _ _).mpr h) h).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HT0]; · iexact HT0
    isplitl [HT1]; · iexact HT1
    isplitl [HT2]; · iexact HT2
    iintro ⟨H0, H1, H2, H3, H4, H5, H6, ⟨%e7, H7⟩, HT0, HT1, HT2⟩
    isplitl [HΦ HT0 HT1 HT2]
    · isplitl [HΦ]
      · iexact HΦ
      isplitl [HT0]; · iexact HT0
      isplitl [HT1]; · iexact HT1
      iexact HT2
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    unfold owns; iexists _; isplitr
    swap; · iexact H7
    ipureintro; exact View.read_writes_of_cover _ _ _ _ _ (coverIdle c _ _ _ _ _ _ _ _ _ _ _ _ _ _ _ _ _ _ _ _ _ _ _ _ _ _ _ _ _ )

theorem body_row (hO : Ok m) (t : Fin (cfgM m hO).N) :
    defs₀ (F := F) .tc (cfgM m hO).body ((cfgM m hO).bodyArgs t ((cfgM m hO).slots t)) = bodyAt m hO t := by
  unfold defs₀; rw [Defs.onTc_tc]

/-- The output's buffer is at `outAt` after every point, every point writing its block back. -/
theorem leaves7 (hO : Ok m) (c : Dev nD) (t : Fin (cfgM m hO).N) :
    (dats m hO 0 c).leavesExact 7 t = owns (c : Thread nD τ) (mem7 m hO t) fullShare ((dats m hO 0 c).after 7 t) := by
  unfold Dat.leavesExact
  rw [flush7]
  cases (cfgM m hO).idle 7 ((cfgM m hO).grid.coords t) <;> rfl

/-- What the body leaves, the output's buffer in the obligation's own words. -/
def bodyPost' (hO : Ok m) (c : Dev nD) (t : Fin (cfgM m hO).N) : sProp 𝕄 :=
  iprop((dats m hO 0 c).Φ t.succ ∗ (dats m hO 0 c).owesAt () t.succ
    ∗ owns (c : Thread nD τ) (mem0 m hO t) fullShare ((dats m hO 0 c).after 0 t)
    ∗ owns (c : Thread nD τ) (mem1 m hO t) fullShare ((dats m hO 0 c).after 1 t)
    ∗ owns (c : Thread nD τ) (mem2 m hO t) fullShare ((dats m hO 0 c).after 2 t)
    ∗ owns (c : Thread nD τ) (mem3 m hO t) fullShare ((dats m hO 0 c).after 3 t)
    ∗ owns (c : Thread nD τ) (mem4 m hO t) fullShare ((dats m hO 0 c).after 4 t)
    ∗ owns (c : Thread nD τ) (mem5 m hO t) fullShare ((dats m hO 0 c).after 5 t)
    ∗ owns (c : Thread nD τ) (mem6 m hO t) fullShare ((dats m hO 0 c).after 6 t)
    ∗ (dats m hO 0 c).leavesExact 7 t)

theorem bodyPost_eq (hO : Ok m) (c : Dev nD) (t : Fin (cfgM m hO).N) : bodyPost m hO c t = bodyPost' m hO c t := by
  unfold bodyPost bodyPost'
  rw [leaves7]

theorem obligation (hO : Ok m) (c : Dev nD) : BodyObligation (dats (F := F) m hO 0 c) (defs₀ (F := F)) Variants.none () Set.univ := fun t => by
  rw [bigSep_W0, bigSep_W0, body_row m hO]
  refine triple_restated (Q := fun _ => bodyPost' m hO c t) (bodyPost_eq m hO c t ▸ body_runs m hO c t) rfl .rfl fun _ => .rfl

/-! ## The run and the frame -/

set_option backward.isDefEq.respectTransparency.types false in
theorem run_all (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_shared (Q' := _) pcfgs (fun _ => adm m hO) (dats m hO) (0 : Fin 1) launch₀0 defs₀ Variants.none m ρ main
    (hbody := fun c => (obligation m hO c).loose) (hq := fun _ _ _ => rfl)
    (howed := fun _ _ => rfl) (V := V m) (hmain := enter m Variants.none) (hA := A_eq m hO) (hpf := V_tbl m)
    (hΦ := fun _ _ => rfl)

/-- The arguments are as launched after the run. -/
theorem kept (hO : Ok m) (r : PUnit × MemSt nD τ sig (Elt F)) (h : Pipeline.FramePost (Pipeline.pin pcfgs fun _ => adm m hO) (dats m hO) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  ⟨((h c).2 main_arg0 (by decide : main_arg0 ∈ Pipeline.restRefs sig spec0)).trans (V_arg0 m c),
    ((h c).2 main_arg1 (by decide : main_arg1 ∈ Pipeline.restRefs sig spec0)).trans (V_arg1 m c),
    ((h c).2 main_arg2 (by decide : main_arg2 ∈ Pipeline.restRefs sig spec0)).trans (V_arg2 m c),
    ((h c).1 0).trans (((dats m hO 0 c).arrAt_in 0 rfl _).trans ((A_eq m hO c 0).trans (V_arg3 m c))),
    ((h c).2 main_arg4 (by decide : main_arg4 ∈ Pipeline.restRefs sig spec0)).trans (V_arg4 m c),
    ((h c).2 main_arg5 (by decide : main_arg5 ∈ Pipeline.restRefs sig spec0)).trans (V_arg5 m c),
    ((h c).2 main_arg6 (by decide : main_arg6 ∈ Pipeline.restRefs sig spec0)).trans (V_arg6 m c)⟩

/-- Every run of the call ends, its arguments as launched and its counters at zero. -/
theorem frame_runs (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨fun c => kept m hO r h.1 c, h.2⟩) (run_all m ρ hO)

/-- After the run the output array is what the points wrote back. -/
theorem run_out (hO : Ok m) : θ_run defs (onTc (τ := τ) (main (F := F))) ⟨m, fun _ => 0, ρ⟩ (fun r => ∀ c : Dev nD,
      r.2.mem ((c.tc : Thread nD τ).loc main_v3) = (dats m hO 0 c).arrAt 7 (cfgM m hO).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h.1 c).1 7, kept m hO r h.1 c⟩) (run_all m ρ hO)

end Cert.MoeIdeal.Exec

end
-- ==== Proof.MoePre.lean ====
/-
  What the precondition says of the three tables, word by word, and that it keeps every block of the experts call
  inside its array.
-/
module

public import proofs.«01_k».proof.Defs
public import proofs.«01_k».proof.Proof.Gen.Pre_in_range
public import proofs.«01_k».proof.Proof.Gen.Moe
public import proofs.«01_k».proof.Proof.Gen.MoeIdeal
public import Idealize.ShloMosaic.Lib.Affine

@[expose] public section

namespace Cert.Tables

open Idealize.ShloMosaic Idealize.ShloMosaic.TcCoe Cert.Pre_in_range

variable {F : FTy → Type} [FloatOps F]

/-- The two expert tables name existing, different experts, and the count is between 1 and the number of tiles. -/
structure Good (ea eb : IVec S154 32) (n : BitVec 32) : Prop where
  ea_lt : ∀ i, (ea i).toNat < 16
  eb_lt : ∀ i, (eb i).toNat < 16
  ne : ∀ i, ea i ≠ eb i
  n_pos : 1 ≤ n.toNat
  n_le : n.toNat ≤ 154

theorem good_of_fn (ea eb : IVec S154 32) (nu : IVec S1 32) (xs : FVec F S78848x1152 .f32) (wg wu : FVec F S16x1024x512 .f32)
    (wd : FVec F S16x512x1024 .f32) (h : Cert.Pre_in_range.fn (F := F) ea eb nu xs wg wu wd = fun _ => 1#1) (z : S1.Idx) :
    Good ea eb (nu z) := by
  have andi_one (a b : BitVec 1) : IntOp.andi a b = 1#1 ↔ a = 1#1 ∧ b = 1#1 := by revert a b; decide
  have one_of (p : Bool) : (BitVec.ofBool p = 1#1) ↔ p = true := by cases p <;> decide
  have pre := fun y => congrFun h y
  have hz : ∀ z' : S1.Idx, nu z' = nu z := fun z' => congrArg nu (by
    funext a; obtain rfl : a = 0 := Subsingleton.elim _ _
    apply Fin.ext
    have h1 : (z' 0).val < 1 := (z' 0).isLt
    have h2 : (z 0).val < 1 := (z 0).isLt
    omega)
  simp only [Cert.Pre_in_range.fn, fn_part1, constantI, broadcastInDim, cmpi, andi, andi_one, shapeCast, hz] at pre
  have key : ∀ i, (ea i).toNat < 16 ∧ (eb i).toNat < 16 ∧ ea i ≠ eb i ∧ 1 ≤ (nu z).toNat ∧ (nu z).toNat ≤ 154 := by
    intro i
    have p := pre i
    simp only [one_of, IntOp.cmpi, BitVec.sle, BitVec.slt, decide_eq_true_eq, beq_iff_eq, bne_iff_ne, BitVec.toInt, BitVec.toNat_ofNat] at p
    obtain ⟨⟨⟨⟨⟨⟨p1, p2⟩, p3⟩, p4⟩, p5⟩, p6⟩, p7⟩ := p
    have b1 := (ea i).isLt
    have b2 := (eb i).isLt
    have b3 := (nu z).isLt
    refine ⟨?_, ?_, p5, ?_, ?_⟩
    · split at p1 <;> split at p2 <;> omega
    · split at p3 <;> split at p4 <;> omega
    · split at p6 <;> omega
    · split at p7 <;> split at p6 <;> omega
  let z0 : S154.Idx := fun a => ⟨0, by obtain rfl : a = 0 := Subsingleton.elim _ _; exact (by decide : 0 < 154)⟩
  exact ⟨fun i => (key i).1, fun i => (key i).2.1, fun i => (key i).2.2.1, (key z0).2.2.2.1, (key z0).2.2.2.2⟩

/-- The block row of the slots at tile `i`: the tile's own, the last used one past it. -/
theorem row_word (i : ℕ) (n : BitVec 32) (hi : i < 154) (h1 : 1 ≤ n.toNat) (h2 : n.toNat ≤ 154) :
    (Scalar.minsi (BitVec.ofNat 32 i) (Scalar.subi n 1#32)).toNat = min i (n.toNat - 1) := by
  have hn : (n - 1#32).toNat = n.toNat - 1 := by
    rw [BitVec.toNat_sub]; have := n.isLt; simp; omega
  have hI : (BitVec.ofNat 32 i).toNat = i := by simp; omega
  have hs (x y : BitVec 32) (hx : x.toNat < 1000) (hy : y.toNat < 1000) : (IntOp.minsi x y).toNat = min x.toNat y.toNat := by
    have ex : x.toInt = x.toNat := BitVec.toInt_eq_toNat_of_lt (by omega)
    have ey : y.toInt = y.toNat := BitVec.toInt_eq_toNat_of_lt (by omega)
    simp only [IntOp.minsi, BitVec.slt, BitVec.sle, ex, ey]
    split <;> rename_i hc <;> simp only [decide_eq_true_eq] at hc <;> omega
  have := hs (BitVec.ofNat 32 i) (n - 1#32) (by omega) (by omega)
  rw [hI, hn] at this
  exact this

end Cert.Tables

namespace Cert.Moe

open Idealize.ShloMosaic Idealize.ShloMosaic.TcCoe Cert.Moe.Gen

variable {F : FTy → Type} [FloatOps F]

/-- A table's index at a grid point. -/
abbrev tix (i : grid0.Coords) : S154.Idx := fun a => ⟨(i 0).val, by obtain rfl : a = 0 := Subsingleton.elim _ _; exact (i 0).isLt⟩

theorem first_eq {s : Shape} {r : Rect s} (h : r.shape.numel = 1) (a : Fin s.rank) (ha : r.size a = 1) : ((Shape.Idx.first (s := r.shape) (h.symm ▸ Nat.one_pos)) a).val = 0 := by
  have := ((Shape.Idx.first (s := r.shape) (h.symm ▸ Nat.one_pos)) a).isLt
  change _ < r.size a at this
  omega

theorem emb_eq (i : grid0.Coords) (h : ∀ a, (k0_off1 i) a + S1.size a ≤ S154.size a) :
    (Rect.unit (s := S154) (k0_off1 i) S1.size h).emb (Shape.Idx.first (numel1_S1.symm ▸ Nat.one_pos)) = tix i := by
  funext a
  obtain rfl : a = 0 := Subsingleton.elim _ _
  apply Fin.ext
  have hi : (i 0).val < 154 := (i 0).isLt
  have e := first_eq (r := Rect.unit (s := S154) (k0_off1 i) S1.size h) numel1_S1 0 rfl
  show (BitVec.ofNat 32 (i 0).val).toNat + 1 * _ = (i 0).val
  rw [e, BitVec.toNat_ofNat]
  omega

/-- The one index of the count's table. -/
abbrev z1 : S1.Idx := fun a => ⟨0, by obtain rfl : a = 0 := Subsingleton.elim _ _; exact Nat.one_pos⟩

theorem emb_eq2 : (Rect.unit (s := S1) ![0] S1.size inb_S1_S1_0).emb (Shape.Idx.first (numel1_S1.symm ▸ Nat.one_pos)) = z1 := by
  funext a
  obtain rfl : a = 0 := Subsingleton.elim _ _
  apply Fin.ext
  have e := first_eq (r := Rect.unit (s := S1) ![0] S1.size inb_S1_S1_0) numel1_S1 0 rfl
  show 0 + 1 * _ = 0
  rw [e]

theorem tr0 (pf : pre0.Contents (Elt F)) (i : grid0.Coords) (h : Cert.Tables.Good (pf 0) (pf 1) (pf 2 z1)) :
    cc0_transform_0 inb_S1_S1_0 numel1_S1 pf i = ![min (i 0).val ((pf 2 z1).toNat - 1), 0] := by
  have hi : (i 0).val < 154 := (i 0).isLt
  rw [← Cert.Tables.row_word (i 0).val _ hi h.n_pos h.n_le, ← emb_eq2]
  rfl
theorem tr1 (pf : pre0.Contents (Elt F)) (i : grid0.Coords) :
    cc0_transform_1 k0_off1_inb numel1_S1 pf i = ![(pf 0 (tix i)).toNat, 0, 0] := by
  rw [← emb_eq i (k0_off1_inb i)]
  rfl
theorem tr2 (pf : pre0.Contents (Elt F)) (i : grid0.Coords) :
    cc0_transform_2 k0_off1_inb numel1_S1 pf i = ![(pf 0 (tix i)).toNat, 0, 0] := by
  rw [← emb_eq i (k0_off1_inb i)]
  rfl
theorem tr3 (pf : pre0.Contents (Elt F)) (i : grid0.Coords) :
    cc0_transform_3 k0_off1_inb numel1_S1 pf i = ![(pf 0 (tix i)).toNat, 0, 0] := by
  rw [← emb_eq i (k0_off1_inb i)]
  rfl
theorem tr4 (pf : pre0.Contents (Elt F)) (i : grid0.Coords) :
    cc0_transform_4 k0_off1_inb numel1_S1 pf i = ![(pf 1 (tix i)).toNat, 0, 0] := by
  rw [← emb_eq i (k0_off1_inb i)]
  rfl
theorem tr5 (pf : pre0.Contents (Elt F)) (i : grid0.Coords) :
    cc0_transform_5 k0_off1_inb numel1_S1 pf i = ![(pf 1 (tix i)).toNat, 0, 0] := by
  rw [← emb_eq i (k0_off1_inb i)]
  rfl
theorem tr6 (pf : pre0.Contents (Elt F)) (i : grid0.Coords) :
    cc0_transform_6 k0_off1_inb numel1_S1 pf i = ![(pf 1 (tix i)).toNat, 0, 0] := by
  rw [← emb_eq i (k0_off1_inb i)]
  rfl

theorem ok_of_good (pf : pre0.Contents (Elt F)) (h : Cert.Tables.Good (pf 0) (pf 1) (pf 2 z1)) : ok0 pf := by
  have ga := fun i => h.ea_lt (tix i)
  have gb := fun i => h.eb_lt (tix i)
  refine ⟨fun i => ⟨?_, .inl rfl⟩, fun i => ⟨?_, .inr (Affine.block_words_rows (by decide) rfl)⟩, fun i => ⟨?_, .inr (Affine.block_words_rows (by decide) rfl)⟩,
    fun i => ⟨?_, .inr (Affine.block_words_rows (by decide) rfl)⟩, fun i => ⟨?_, .inr (Affine.block_words_rows (by decide) rfl)⟩,
    fun i => ⟨?_, .inr (Affine.block_words_rows (by decide) rfl)⟩, fun i => ⟨?_, .inr (Affine.block_words_rows (by decide) rfl)⟩⟩
  · have hi : (i 0).val < 154 := (i 0).isLt
    have := h.n_le
    rw [tr0 pf i h]
    intro a
    match a with
    | ⟨0, _⟩ => show (min (i 0).val ((pf 2 z1).toNat - 1) + 1) * 512 ≤ 78848; omega
    | ⟨1, _⟩ => show (0 + 1) * 1152 ≤ 1152; omega
  · rw [tr1]
    intro a
    match a with
    | ⟨0, _⟩ => show ((pf 0 (tix i)).toNat + 1) * 1 ≤ 16; have := ga i; omega
    | ⟨1, _⟩ => show (0 + 1) * 1024 ≤ 1024; omega
    | ⟨2, _⟩ => show (0 + 1) * 512 ≤ 512; omega
  · rw [tr2]
    intro a
    match a with
    | ⟨0, _⟩ => show ((pf 0 (tix i)).toNat + 1) * 1 ≤ 16; have := ga i; omega
    | ⟨1, _⟩ => show (0 + 1) * 1024 ≤ 1024; omega
    | ⟨2, _⟩ => show (0 + 1) * 512 ≤ 512; omega
  · rw [tr3]
    intro a
    match a with
    | ⟨0, _⟩ => show ((pf 0 (tix i)).toNat + 1) * 1 ≤ 16; have := ga i; omega
    | ⟨1, _⟩ => show (0 + 1) * 512 ≤ 512; omega
    | ⟨2, _⟩ => show (0 + 1) * 1024 ≤ 1024; omega
  · rw [tr4]
    intro a
    match a with
    | ⟨0, _⟩ => show ((pf 1 (tix i)).toNat + 1) * 1 ≤ 16; have := gb i; omega
    | ⟨1, _⟩ => show (0 + 1) * 1024 ≤ 1024; omega
    | ⟨2, _⟩ => show (0 + 1) * 512 ≤ 512; omega
  · rw [tr5]
    intro a
    match a with
    | ⟨0, _⟩ => show ((pf 1 (tix i)).toNat + 1) * 1 ≤ 16; have := gb i; omega
    | ⟨1, _⟩ => show (0 + 1) * 1024 ≤ 1024; omega
    | ⟨2, _⟩ => show (0 + 1) * 512 ≤ 512; omega
  · rw [tr6]
    intro a
    match a with
    | ⟨0, _⟩ => show ((pf 1 (tix i)).toNat + 1) * 1 ≤ 16; have := gb i; omega
    | ⟨1, _⟩ => show (0 + 1) * 512 ≤ 512; omega
    | ⟨2, _⟩ => show (0 + 1) * 1024 ≤ 1024; omega

end Cert.Moe

namespace Cert.MoeIdeal

open Idealize.ShloMosaic Idealize.ShloMosaic.TcCoe Cert.MoeIdeal.Gen

variable {F : FTy → Type} [FloatOps F]

/-- A table's index at a grid point. -/
abbrev tix (i : grid0.Coords) : S154.Idx := fun a => ⟨(i 0).val, by obtain rfl : a = 0 := Subsingleton.elim _ _; exact (i 0).isLt⟩

theorem first_eq {s : Shape} {r : Rect s} (h : r.shape.numel = 1) (a : Fin s.rank) (ha : r.size a = 1) : ((Shape.Idx.first (s := r.shape) (h.symm ▸ Nat.one_pos)) a).val = 0 := by
  have := ((Shape.Idx.first (s := r.shape) (h.symm ▸ Nat.one_pos)) a).isLt
  change _ < r.size a at this
  omega

theorem emb_eq (i : grid0.Coords) (h : ∀ a, (k0_off1 i) a + S1.size a ≤ S154.size a) :
    (Rect.unit (s := S154) (k0_off1 i) S1.size h).emb (Shape.Idx.first (numel1_S1.symm ▸ Nat.one_pos)) = tix i := by
  funext a
  obtain rfl : a = 0 := Subsingleton.elim _ _
  apply Fin.ext
  have hi : (i 0).val < 154 := (i 0).isLt
  have e := first_eq (r := Rect.unit (s := S154) (k0_off1 i) S1.size h) numel1_S1 0 rfl
  show (BitVec.ofNat 32 (i 0).val).toNat + 1 * _ = (i 0).val
  rw [e, BitVec.toNat_ofNat]
  omega

/-- The one index of the count's table. -/
abbrev z1 : S1.Idx := fun a => ⟨0, by obtain rfl : a = 0 := Subsingleton.elim _ _; exact Nat.one_pos⟩

theorem emb_eq2 : (Rect.unit (s := S1) ![0] S1.size inb_S1_S1_0).emb (Shape.Idx.first (numel1_S1.symm ▸ Nat.one_pos)) = z1 := by
  funext a
  obtain rfl : a = 0 := Subsingleton.elim _ _
  apply Fin.ext
  have e := first_eq (r := Rect.unit (s := S1) ![0] S1.size inb_S1_S1_0) numel1_S1 0 rfl
  show 0 + 1 * _ = 0
  rw [e]

theorem tr0 (pf : pre0.Contents (Elt F)) (i : grid0.Coords) (h : Cert.Tables.Good (pf 0) (pf 1) (pf 2 z1)) :
    cc0_transform_0 inb_S1_S1_0 numel1_S1 pf i = ![min (i 0).val ((pf 2 z1).toNat - 1), 0] := by
  have hi : (i 0).val < 154 := (i 0).isLt
  rw [← Cert.Tables.row_word (i 0).val _ hi h.n_pos h.n_le, ← emb_eq2]
  rfl
theorem tr1 (pf : pre0.Contents (Elt F)) (i : grid0.Coords) :
    cc0_transform_1 k0_off1_inb numel1_S1 pf i = ![(pf 0 (tix i)).toNat, 0, 0] := by
  rw [← emb_eq i (k0_off1_inb i)]
  rfl
theorem tr2 (pf : pre0.Contents (Elt F)) (i : grid0.Coords) :
    cc0_transform_2 k0_off1_inb numel1_S1 pf i = ![(pf 0 (tix i)).toNat, 0, 0] := by
  rw [← emb_eq i (k0_off1_inb i)]
  rfl
theorem tr3 (pf : pre0.Contents (Elt F)) (i : grid0.Coords) :
    cc0_transform_3 k0_off1_inb numel1_S1 pf i = ![(pf 0 (tix i)).toNat, 0, 0] := by
  rw [← emb_eq i (k0_off1_inb i)]
  rfl
theorem tr4 (pf : pre0.Contents (Elt F)) (i : grid0.Coords) :
    cc0_transform_4 k0_off1_inb numel1_S1 pf i = ![(pf 1 (tix i)).toNat, 0, 0] := by
  rw [← emb_eq i (k0_off1_inb i)]
  rfl
theorem tr5 (pf : pre0.Contents (Elt F)) (i : grid0.Coords) :
    cc0_transform_5 k0_off1_inb numel1_S1 pf i = ![(pf 1 (tix i)).toNat, 0, 0] := by
  rw [← emb_eq i (k0_off1_inb i)]
  rfl
theorem tr6 (pf : pre0.Contents (Elt F)) (i : grid0.Coords) :
    cc0_transform_6 k0_off1_inb numel1_S1 pf i = ![(pf 1 (tix i)).toNat, 0, 0] := by
  rw [← emb_eq i (k0_off1_inb i)]
  rfl

theorem ok_of_good (pf : pre0.Contents (Elt F)) (h : Cert.Tables.Good (pf 0) (pf 1) (pf 2 z1)) : ok0 pf := by
  have ga := fun i => h.ea_lt (tix i)
  have gb := fun i => h.eb_lt (tix i)
  refine ⟨fun i => ⟨?_, .inl rfl⟩, fun i => ⟨?_, .inr (Affine.block_words_rows (by decide) rfl)⟩, fun i => ⟨?_, .inr (Affine.block_words_rows (by decide) rfl)⟩,
    fun i => ⟨?_, .inr (Affine.block_words_rows (by decide) rfl)⟩, fun i => ⟨?_, .inr (Affine.block_words_rows (by decide) rfl)⟩,
    fun i => ⟨?_, .inr (Affine.block_words_rows (by decide) rfl)⟩, fun i => ⟨?_, .inr (Affine.block_words_rows (by decide) rfl)⟩⟩
  · have hi : (i 0).val < 154 := (i 0).isLt
    have := h.n_le
    rw [tr0 pf i h]
    intro a
    match a with
    | ⟨0, _⟩ => show (min (i 0).val ((pf 2 z1).toNat - 1) + 1) * 512 ≤ 78848; omega
    | ⟨1, _⟩ => show (0 + 1) * 1152 ≤ 1152; omega
  · rw [tr1]
    intro a
    match a with
    | ⟨0, _⟩ => show ((pf 0 (tix i)).toNat + 1) * 1 ≤ 16; have := ga i; omega
    | ⟨1, _⟩ => show (0 + 1) * 1024 ≤ 1024; omega
    | ⟨2, _⟩ => show (0 + 1) * 512 ≤ 512; omega
  · rw [tr2]
    intro a
    match a with
    | ⟨0, _⟩ => show ((pf 0 (tix i)).toNat + 1) * 1 ≤ 16; have := ga i; omega
    | ⟨1, _⟩ => show (0 + 1) * 1024 ≤ 1024; omega
    | ⟨2, _⟩ => show (0 + 1) * 512 ≤ 512; omega
  · rw [tr3]
    intro a
    match a with
    | ⟨0, _⟩ => show ((pf 0 (tix i)).toNat + 1) * 1 ≤ 16; have := ga i; omega
    | ⟨1, _⟩ => show (0 + 1) * 512 ≤ 512; omega
    | ⟨2, _⟩ => show (0 + 1) * 1024 ≤ 1024; omega
  · rw [tr4]
    intro a
    match a with
    | ⟨0, _⟩ => show ((pf 1 (tix i)).toNat + 1) * 1 ≤ 16; have := gb i; omega
    | ⟨1, _⟩ => show (0 + 1) * 1024 ≤ 1024; omega
    | ⟨2, _⟩ => show (0 + 1) * 512 ≤ 512; omega
  · rw [tr5]
    intro a
    match a with
    | ⟨0, _⟩ => show ((pf 1 (tix i)).toNat + 1) * 1 ≤ 16; have := gb i; omega
    | ⟨1, _⟩ => show (0 + 1) * 1024 ≤ 1024; omega
    | ⟨2, _⟩ => show (0 + 1) * 512 ≤ 512; omega
  · rw [tr6]
    intro a
    match a with
    | ⟨0, _⟩ => show ((pf 1 (tix i)).toNat + 1) * 1 ≤ 16; have := gb i; omega
    | ⟨1, _⟩ => show (0 + 1) * 512 ≤ 512; omega
    | ⟨2, _⟩ => show (0 + 1) * 1024 ≤ 1024; omega

end Cert.MoeIdeal

end
-- ==== Proof.MoeBlock.lean ====
/-
  What one grid point of the experts call leaves in its output block, element by element.
-/
module

public import proofs.«01_k».proof.Proof.MoeIdealRun
public import Idealize.ShloMosaic.Lib.Pipeline.Value
public import Idealize.ShloMosaic.Lib.Pipeline.ValueKit.Tiles
public import Idealize.ShloMosaic.Lib.ValueIdx
public import Idealize.ShloMosaic.Lib.ValueLayout
public import Idealize.ShloMosaic.Lib.MatmulPlain
public import Idealize.ShloMosaic.PureOps.Ideal.Laws

@[expose] public section

noncomputable section

namespace Cert.MoeIdeal.Exec

open Cert.MoeIdeal.Gen
open Idealize.ShloMosaic Idealize.ShloMosaic.TcCoe Idealize.ShloMosaic.ValueIdx
open scoped BigOperators

section
variable {F : FTy → Type} [FloatOps F]

theorem off2 : (![0, 0] : Fin 2 → ℕ) = fun _ => 0 := by funext a; match a with | ⟨0, _⟩ => rfl | ⟨1, _⟩ => rfl
theorem off3 : (![0, 0, 0] : Fin 3 → ℕ) = fun _ => 0 := by funext a; match a with | ⟨0, _⟩ => rfl | ⟨1, _⟩ => rfl | ⟨2, _⟩ => rfl

/-- The slots' columns the experts read, and the two gate columns. -/
abbrev xcols (x0 : Vec F S512x1152 .f32) : Vec F S512x1024 .f32 :=
  View.ld x0 (Rect.unit (s := S512x1152) ![0, 0] S512x1024.size inb_S512x1152_S512x1024_0_0)
abbrev gcolA (x0 : Vec F S512x1152 .f32) : Vec F S512x1 .f32 :=
  View.ld x0 (Rect.unit (s := S512x1152) ![0, 1024] S512x1.size inb_S512x1152_S512x1_0_1024)
abbrev gcolB (x0 : Vec F S512x1152 .f32) : Vec F S512x1 .f32 :=
  View.ld x0 (Rect.unit (s := S512x1152) ![0, 1025] S512x1.size inb_S512x1152_S512x1_0_1025)

theorem outUsed_eq (c : Dev nD) (i : grid0.Coords) (a0 : Memref sig .tc .vmem S512x1152 .f32) (ha0 : a0.IsWhole) (a1 : Memref sig .tc .vmem S1x1024x512 .bf16) (ha1 : a1.IsWhole) (a2 : Memref sig .tc .vmem S1x1024x512 .bf16) (ha2 : a2.IsWhole) (a3 : Memref sig .tc .vmem S1x512x1024 .bf16) (ha3 : a3.IsWhole) (a4 : Memref sig .tc .vmem S1x1024x512 .bf16) (ha4 : a4.IsWhole) (a5 : Memref sig .tc .vmem S1x1024x512 .bf16) (ha5 : a5.IsWhole) (a6 : Memref sig .tc .vmem S1x512x1024 .bf16) (ha6 : a6.IsWhole) (a7 : Memref sig .tc .vmem S512x1024 .f32) (ha7 : a7.IsWhole)
    (x0 : Vec F S512x1152 .f32) (x1 : Vec F S1x1024x512 .bf16) (x2 : Vec F S1x1024x512 .bf16) (x3 : Vec F S1x512x1024 .bf16) (x4 : Vec F S1x1024x512 .bf16) (x5 : Vec F S1x1024x512 .bf16) (x6 : Vec F S1x512x1024 .bf16) (t0 : TabBuf (F := F) c tab0) (t1 : TabBuf (F := F) c tab1) (t2 : TabBuf (F := F) c tab2) (h1 : ¬(k0_cond1 i (used c t2) = 1#1)) (h2 : k0_cond2 i (used c t2) = 1#1) :
    outUsed c i a0 ha0 a1 ha1 a2 ha2 a3 ha3 a4 ha4 a5 ha5 a6 ha6 a7 ha7 x0 x1 x2 x3 x4 x5 x6 t0 t1 t2 h1 h2
      = k0_pay2 (gcolB x0) (k0_pay4 (xcols x0) (gcolA x0) x1 x2 x3) (k0_pay5 (xcols x0) x4 x5) (k0_pay6 x6) := by
  unfold outUsed
  rw [View.read_writes_eq_canon _ _ _ (coverUsed c i a0 ha0 a1 ha1 a2 ha2 a3 ha3 a4 ha4 a5 ha5 a6 ha6 a7 ha7 x0 x1 x2 x3 x4 x5 x6 t0 t1 t2 h1 h2)]
  unfold runUsed
  dsimp only
  try sl_unfold_words
  rw [View.canon_unit_zero (S := S512x1024) off2]
  simp only [View.readAt_eq_ld, ha0.read_unread, ha1.read_unread, ha2.read_unread, ha3.read_unread, ha4.read_unread, ha5.read_unread,
    ha6.read_unread, View.ld_unit_zero (S := S1x1024x512) off3, View.ld_unit_zero (S := S1x512x1024) off3]

theorem outIdle_eq (c : Dev nD) (i : grid0.Coords) (a0 : Memref sig .tc .vmem S512x1152 .f32) (ha0 : a0.IsWhole) (a1 : Memref sig .tc .vmem S1x1024x512 .bf16) (ha1 : a1.IsWhole) (a2 : Memref sig .tc .vmem S1x1024x512 .bf16) (ha2 : a2.IsWhole) (a3 : Memref sig .tc .vmem S1x512x1024 .bf16) (ha3 : a3.IsWhole) (a4 : Memref sig .tc .vmem S1x1024x512 .bf16) (ha4 : a4.IsWhole) (a5 : Memref sig .tc .vmem S1x1024x512 .bf16) (ha5 : a5.IsWhole) (a6 : Memref sig .tc .vmem S1x512x1024 .bf16) (ha6 : a6.IsWhole) (a7 : Memref sig .tc .vmem S512x1024 .f32) (ha7 : a7.IsWhole)
    (x0 : Vec F S512x1152 .f32) (x1 : Vec F S1x1024x512 .bf16) (x2 : Vec F S1x1024x512 .bf16) (x3 : Vec F S1x512x1024 .bf16) (x4 : Vec F S1x1024x512 .bf16) (x5 : Vec F S1x1024x512 .bf16) (x6 : Vec F S1x512x1024 .bf16) (t0 : TabBuf (F := F) c tab0) (t1 : TabBuf (F := F) c tab1) (t2 : TabBuf (F := F) c tab2) (h1 : k0_cond1 i (used c t2) = 1#1) (h2 : ¬(k0_cond2 i (used c t2) = 1#1)) :
    outIdle c i a0 ha0 a1 ha1 a2 ha2 a3 ha3 a4 ha4 a5 ha5 a6 ha6 a7 ha7 x0 x1 x2 x3 x4 x5 x6 t0 t1 t2 h1 h2 = k0_pay1 := by
  unfold outIdle
  rw [View.read_writes_eq_canon _ _ _ (coverIdle c i a0 ha0 a1 ha1 a2 ha2 a3 ha3 a4 ha4 a5 ha5 a6 ha6 a7 ha7 x0 x1 x2 x3 x4 x5 x6 t0 t1 t2 h1 h2)]
  unfold runIdle
  dsimp only
  try sl_unfold_words
  rw [View.canon_unit_zero (S := S512x1024) off2]

end

/-! ## The stored block's elements over the extended reals -/

/-- A row's inner product with a column of a weight block. -/
def bhid (x0 : Vec Ideal S512x1152 .f32) (w : Vec Ideal S1x1024x512 .bf16) (p : Fin 512) (f : Fin 512) : EReal :=
  ∑ k : Fin 1024, x0 (ix2 p (⟨k.val, by omega⟩ : Fin 1152)) * w (ix3 (0 : Fin 1) k f)

def bact (x0 : Vec Ideal S512x1152 .f32) (g u : Vec Ideal S1x1024x512 .bf16) (p : Fin 512) (f : Fin 512) : EReal :=
  bhid x0 g p f * Ideal.logistic (bhid x0 g p f) * bhid x0 u p f

def bffn (x0 : Vec Ideal S512x1152 .f32) (g u : Vec Ideal S1x1024x512 .bf16) (d : Vec Ideal S1x512x1024 .bf16) (p : Fin 512) (q : Fin 1024) : EReal :=
  ∑ f : Fin 512, bact x0 g u p f * d (ix3 (0 : Fin 1) f q)

theorem hid_apply (x0 : Vec Ideal S512x1152 .f32) (w : Vec Ideal S1x1024x512 .bf16) (p : Fin 512) (f : Fin 512) :
    matmul dot_S512x1024_S1024x512_S512x512_1_0_0_1_n_n none (k0_pay3 (xcols x0)) (shapeCast S1024x512 w shapeCasts_S1x1024x512_S1024x512 : FVec Ideal S1024x512 .bf16)
      (constant S512x512 .f32 0x00000000#32) (ix2 p f) = bhid x0 w p f := by
  refine (Ideal.matmul_plain_apply (M := 512) (K := 1024) (N := 512) none _ _ _ p f).trans ?_
  refine (congrArg (· + _) Ideal.ofBits_zero_f32).trans ((zero_add _).trans (Finset.sum_congr rfl fun k _ => ?_))
  congr 1
  · exact View.ld_unit_apply_of (S := S512x1152) x0 _ _ _ _ _ (fun a => match a with
      | ⟨0, _⟩ => by show p.val = 0 + p.val; omega
      | ⟨1, _⟩ => by show k.val = 0 + k.val; omega)
  · exact shapeCast_1ab_ab_apply (a := 1024) (b := 512) w _ k f

theorem down_apply (h : FVec Ideal S512x512 .bf16) (w : Vec Ideal S1x512x1024 .bf16) (p : Fin 512) (q : Fin 1024) :
    matmul dot_S512x512_S512x1024_S512x1024_1_0_0_1_n_n none h (shapeCast S512x1024 w shapeCasts_S1x512x1024_S512x1024 : FVec Ideal S512x1024 .bf16)
      (constant S512x1024 .f32 0x00000000#32) (ix2 p q) = ∑ f : Fin 512, h (ix2 p f) * w (ix3 (0 : Fin 1) f q) := by
  refine (Ideal.matmul_plain_apply (M := 512) (K := 512) (N := 1024) none _ _ _ p q).trans ?_
  refine (congrArg (· + _) Ideal.ofBits_zero_f32).trans ((zero_add _).trans (Finset.sum_congr rfl fun k _ => ?_))
  congr 1
  exact shapeCast_1ab_ab_apply (a := 512) (b := 1024) w _ k q

theorem col_apply (v : Vec Ideal S512x1 .f32) (p : Fin 512) (q : Fin 1024) :
    broadcastTo S512x1024 v broadcasts_S512x1_S512x1024 (ix2 p q) = v (ix2 p (0 : Fin 1)) :=
  broadcastTo_apply v _ (ix2 p q) (ix2 p (0 : Fin 1)) fun ax => match ax with
    | ⟨0, _⟩ => rfl
    | ⟨1, _⟩ => rfl

theorem gcolA_apply (x0 : Vec Ideal S512x1152 .f32) (p : Fin 512) : gcolA x0 (ix2 p (0 : Fin 1)) = x0 (ix2 p (⟨1024, by decide⟩ : Fin 1152)) :=
  View.ld_unit_apply_of (S := S512x1152) x0 _ _ _ _ _ (fun a => match a with
      | ⟨0, _⟩ => by show p.val = 0 + p.val; omega
      | ⟨1, _⟩ => rfl)
theorem gcolB_apply (x0 : Vec Ideal S512x1152 .f32) (p : Fin 512) : gcolB x0 (ix2 p (0 : Fin 1)) = x0 (ix2 p (⟨1025, by decide⟩ : Fin 1152)) :=
  View.ld_unit_apply_of (S := S512x1152) x0 _ _ _ _ _ (fun a => match a with
      | ⟨0, _⟩ => by show p.val = 0 + p.val; omega
      | ⟨1, _⟩ => rfl)

theorem pay4_apply (x0 : Vec Ideal S512x1152 .f32) (x1 x2 : Vec Ideal S1x1024x512 .bf16) (x3 : Vec Ideal S1x512x1024 .bf16) (p : Fin 512) (q : Fin 1024) :
    k0_pay4 (xcols x0) (gcolA x0) x1 x2 x3 (ix2 p q) = x0 (ix2 p (⟨1024, by decide⟩ : Fin 1152)) * bffn x0 x1 x2 x3 p q := by
  unfold k0_pay4
  show broadcastTo S512x1024 (gcolA x0) broadcasts_S512x1_S512x1024 (ix2 p q) * matmul (F := Ideal) _ _ _ _ _ (ix2 p q) = _
  rw [col_apply, gcolA_apply, down_apply]
  congr 1
  refine Finset.sum_congr rfl fun f _ => ?_
  congr 1
  show matmul (F := Ideal) _ _ _ _ _ (ix2 p f) * Ideal.logistic (matmul (F := Ideal) _ _ _ _ _ (ix2 p f)) * matmul (F := Ideal) _ _ _ _ _ (ix2 p f) = _
  rw [hid_apply, hid_apply]
  rfl

theorem pay5_apply (x0 : Vec Ideal S512x1152 .f32) (x4 x5 : Vec Ideal S1x1024x512 .bf16) (p : Fin 512) (f : Fin 512) :
    k0_pay5 (xcols x0) x4 x5 (ix2 p f) = bact x0 x4 x5 p f := by
  unfold k0_pay5
  show matmul (F := Ideal) _ _ _ _ _ (ix2 p f) * Ideal.logistic (matmul (F := Ideal) _ _ _ _ _ (ix2 p f)) * matmul (F := Ideal) _ _ _ _ _ (ix2 p f) = _
  rw [hid_apply, hid_apply]
  rfl

/-- A used tile's stored block: the two experts' outputs at the row, weighted by the row's two gates. -/
theorem stored_apply (x0 : Vec Ideal S512x1152 .f32) (x1 x2 : Vec Ideal S1x1024x512 .bf16) (x3 : Vec Ideal S1x512x1024 .bf16)
    (x4 x5 : Vec Ideal S1x1024x512 .bf16) (x6 : Vec Ideal S1x512x1024 .bf16) (p : Fin 512) (q : Fin 1024) :
    k0_pay2 (gcolB x0) (k0_pay4 (xcols x0) (gcolA x0) x1 x2 x3) (k0_pay5 (xcols x0) x4 x5) (k0_pay6 x6) (ix2 p q)
      = x0 (ix2 p (⟨1024, by decide⟩ : Fin 1152)) * bffn x0 x1 x2 x3 p q + x0 (ix2 p (⟨1025, by decide⟩ : Fin 1152)) * bffn x0 x4 x5 x6 p q := by
  unfold k0_pay2 k0_pay6
  show k0_pay4 (xcols x0) (gcolA x0) x1 x2 x3 (ix2 p q) + broadcastTo S512x1024 (gcolB x0) broadcasts_S512x1_S512x1024 (ix2 p q) * matmul (F := Ideal) _ _ _ _ _ (ix2 p q) = _
  rw [pay4_apply, col_apply, gcolB_apply, down_apply]
  congr 2
  refine Finset.sum_congr rfl fun f _ => ?_
  rw [pay5_apply]

end Cert.MoeIdeal.Exec

end

end
-- ==== Proof.MoeRef.lean ====
/-
  The reference's result, element by element: the two experts of a slot's tile, each weighted by its gate.
-/
module

public import proofs.«01_k».proof.Proof.Gen.MoeReferenceIdeal.Read
public import proofs.«01_k».proof.Proof.MoePre
public import Idealize.ShloMosaic.Lib.ValueIdx
public import Idealize.ShloMosaic.PureOps.Ideal.Laws

@[expose] public section

noncomputable section

namespace Cert.MoeSpec

open Idealize.ShloMosaic Idealize.ShloMosaic.ValueIdx
open scoped BigOperators

abbrev Tab := (⟨1, ![154]⟩ : Shape).Idx → BitVec 32
abbrev Slots := (⟨2, ![78848, 1152]⟩ : Shape).Idx → EReal
abbrev WIn := (⟨3, ![16, 1024, 512]⟩ : Shape).Idx → EReal
abbrev WOut := (⟨3, ![16, 512, 1024]⟩ : Shape).Idx → EReal

/-- A slot's tile. -/
def tile (r : Fin 78848) : Fin 154 := ⟨r.val / 512, by omega⟩

/-- The expert a table's word names. -/
def expert (w : BitVec 32) : Fin 16 := ⟨w.toNat % 16, Nat.mod_lt _ (by decide)⟩

/-- A slot's inner product with a column of an expert's input weight. -/
def hid (X : Slots) (W : WIn) (e : Fin 16) (r : Fin 78848) (f : Fin 512) : EReal :=
  ∑ k : Fin 1024, X (ix2 r (⟨k.val, by omega⟩ : Fin 1152)) * W (ix3 e k f)

/-- An expert's gated hidden unit: `silu` of the one product times the other. -/
def act (X : Slots) (G U : WIn) (e : Fin 16) (r : Fin 78848) (f : Fin 512) : EReal :=
  hid X G e r f * Ideal.logistic (hid X G e r f) * hid X U e r f

/-- An expert's output at a slot. -/
def ffn (X : Slots) (G U : WIn) (D : WOut) (e : Fin 16) (r : Fin 78848) (d : Fin 1024) : EReal :=
  ∑ f : Fin 512, act X G U e r f * D (ix3 e f d)

/-- The mixture at a slot: its tile's two experts weighted by its two gates, zero past the used tiles. -/
def out (ea eb : Tab) (n : ℕ) (X : Slots) (G U : WIn) (D : WOut) (r : Fin 78848) (d : Fin 1024) : EReal :=
  if (tile r).val < n then
    X (ix2 r (⟨1024, by decide⟩ : Fin 1152)) * ffn X G U D (expert (ea (ix1 (tile r)))) r d
      + X (ix2 r (⟨1025, by decide⟩ : Fin 1152)) * ffn X G U D (expert (eb (ix1 (tile r)))) r d
  else 0

/-- A sum over the experts weighted by two one-hot gates is two terms. -/
theorem collapse (a b : Fin 16) (h : a ≠ b) (ga gb : EReal) (y : Fin 16 → EReal) :
    ∑ e : Fin 16, ((if a = e then (1 : EReal) else 0) * ga + (if b = e then (1 : EReal) else 0) * gb) * y e = ga * y a + gb * y b := by
  have e1 : ∀ e : Fin 16, ((if a = e then (1 : EReal) else 0) * ga + (if b = e then (1 : EReal) else 0) * gb) * y e
      = (if a = e then ga * y e else 0) + (if b = e then gb * y e else 0) := by
    intro e
    by_cases ha : a = e
    · have hb : b ≠ e := fun hb => h (ha.trans hb.symm)
      simp only [if_pos ha, if_neg hb, one_mul, zero_mul, add_zero]
    · by_cases hb : b = e
      · simp only [if_neg ha, if_pos hb, one_mul, zero_mul, zero_add]
      · simp only [if_neg ha, if_neg hb, zero_mul, zero_add]
  rw [Finset.sum_congr rfl fun e _ => e1 e, Finset.sum_add_distrib]
  simp only [Finset.sum_ite_eq, Finset.mem_univ, if_true]

end Cert.MoeSpec

namespace Cert.MoeReferenceIdeal.Read

open Idealize.ShloMosaic Idealize.ShloMosaic.ValueIdx Cert.MoeSpec Cert.MoeReferenceIdeal.Gen
open scoped BigOperators

theorem one_f32 : (FloatOps.ofBits .f32 0x3F800000#32 : Ideal .f32) = (1 : EReal) := by
  show Ideal.ofBits .f32 0x3F800000#32 = 1
  simp [Ideal.ofBits, Ideal.ieee, -EReal.coe_mul]; norm_num

variable (x0 x1 : Tab) (x2 : (⟨S1, .i32⟩ : BufTy).Contents (Elt Ideal)) (x3 : Slots) (x4 x5 : WIn) (x6 : WOut)

theorem hid_gate (e : Fin 16) (r : Fin 78848) (f : Fin 512) :
    val_main_v15 (F := Ideal) x3 x4 (ix3 e r f) = hid x3 x4 e r f := by
  rw [val_main_v15_apply, val_main_v14_apply]
  refine Finset.sum_congr rfl fun k _ => ?_
  rw [val_main_v0_apply, mul_comm]
  congr 2
  · funext a; match a with | ⟨0, _⟩ => rfl | ⟨1, _⟩ => rfl
  · funext a; match a with | ⟨0, _⟩ => rfl | ⟨1, _⟩ => rfl | ⟨2, _⟩ => rfl

theorem hid_up (e : Fin 16) (r : Fin 78848) (f : Fin 512) :
    val_main_v18 (F := Ideal) x3 x5 (ix3 e r f) = hid x3 x5 e r f := by
  rw [val_main_v18_apply, val_main_v17_apply]
  refine Finset.sum_congr rfl fun k _ => ?_
  rw [val_main_v0_apply, mul_comm]
  congr 2
  · funext a; match a with | ⟨0, _⟩ => rfl | ⟨1, _⟩ => rfl
  · funext a; match a with | ⟨0, _⟩ => rfl | ⟨1, _⟩ => rfl | ⟨2, _⟩ => rfl

theorem act_eq (e : Fin 16) (r : Fin 78848) (f : Fin 512) :
    val_main_v19 (F := Ideal) x3 x4 x5 (ix3 e r f) = act x3 x4 x5 e r f := by
  rw [val_main_v19_apply, val_main_v16_apply, val_main_call2_v5_apply, val_main_call2_v4_apply, val_main_call2_cst_0_apply,
    val_main_call2_v3_apply, val_main_call2_v2_apply, val_main_call2_cst_apply, val_main_call2_v1_apply,
    val_main_call2_v0_apply, hid_gate, hid_up, one_f32]
  rfl

theorem ffn_eq (e : Fin 16) (r : Fin 78848) (d : Fin 1024) :
    val_main_v20 (F := Ideal) x3 x4 x5 x6 (ix3 e r d) = ffn x3 x4 x5 x6 e r d := by
  rw [val_main_v20_apply]
  refine Finset.sum_congr rfl fun k _ => ?_
  have h : lidx_main_v20 (ix3 e r d) k = ix3 e r k := by funext a; match a with | ⟨0, _⟩ => rfl | ⟨1, _⟩ => rfl | ⟨2, _⟩ => rfl
  rw [h, act_eq]
  congr 2
  funext a; match a with | ⟨0, _⟩ => rfl | ⟨1, _⟩ => rfl | ⟨2, _⟩ => rfl

theorem hot (w : BitVec 32) (hw : w.toNat < 16) (e : Fin 16) :
    (FloatOps.uitofp .f32 (IntOp.cmpi .eq w (BitVec.ofNat 32 e.val)) : Ideal .f32) = if expert w = e then (1 : EReal) else 0 := by
  have he := e.isLt
  show (((IntOp.cmpi .eq w (BitVec.ofNat 32 e.val)).toNat : ℝ) : EReal) = _
  have hiff : (w = BitVec.ofNat 32 e.val) ↔ expert w = e := by
    constructor
    · intro h; apply Fin.ext; show w.toNat % 16 = e.val; rw [h, BitVec.toNat_ofNat]; omega
    · intro h; apply BitVec.eq_of_toNat_eq; rw [BitVec.toNat_ofNat, ← h]; show w.toNat = w.toNat % 16 % _; omega
  by_cases h : w = BitVec.ofNat 32 e.val
  · rw [if_pos (hiff.1 h)]; simp [IntOp.cmpi, h]
  · rw [if_neg (fun h' => h (hiff.2 h'))]; simp [IntOp.cmpi, h]

theorem gate_eq (hx0 : ∀ i, (x0 i).toNat < 16) (hx1 : ∀ i, (x1 i).toNat < 16) (r : Fin 78848) (e : Fin 16) :
    val_main_v13 (F := Ideal) x0 x1 x3 (ix2 r e)
      = (if expert (x0 (ix1 (tile r))) = e then (1 : EReal) else 0) * x3 (ix2 r (⟨1024, by decide⟩ : Fin 1152))
        + (if expert (x1 (ix1 (tile r))) = e then (1 : EReal) else 0) * x3 (ix2 r (⟨1025, by decide⟩ : Fin 1152)) := by
  rw [← hot _ (hx0 _), ← hot _ (hx1 _), val_main_v13_apply, val_main_v6_apply, val_main_v12_apply, val_main_v3_apply, val_main_v9_apply,
    val_main_call0_v4_apply, val_main_call1_v4_apply, val_main_call0_v2_apply, val_main_call1_v2_apply, val_main_call0_v0_apply,
    val_main_call1_v0_apply, val_main_call0_v3_apply, val_main_call1_v3_apply, val_main_call0_v1_apply, val_main_call1_v1_apply,
    val_main_v2_apply, val_main_v8_apply, val_main_v1_apply, val_main_v7_apply, val_main_v5_apply, val_main_v11_apply,
    val_main_v4_apply, val_main_v10_apply]
  have i0 : ∀ (a : (⟨1, ![154]⟩ : Shape).Idx), (a 0).val = r.val / 512 → a = ix1 (tile r) := fun a h => by
    rw [eq_ix1 a]; congr 1; exact Fin.ext h
  congr 3
  · congr 2; exact i0 _ rfl
  · funext a; match a with | ⟨0, _⟩ => rfl | ⟨1, _⟩ => rfl
  · congr 2; exact i0 _ rfl
  · funext a; match a with | ⟨0, _⟩ => rfl | ⟨1, _⟩ => rfl

theorem used_eq (hn : (x2 (ix1 (0 : Fin 1))).toNat ≤ 154) (r : Fin 78848) (d : Fin 1024) :
    val_main_call3_v1 (F := Ideal) x2 (ix2 r d) = if (tile r).val < (x2 (ix1 (0 : Fin 1))).toNat then 1#1 else 0#1 := by
  rw [val_main_call3_v1_apply, val_main_v27_apply, val_main_v26_apply, val_main_v22_apply, val_main_v25_apply, val_main_v24_apply,
    val_main_c_apply]
  have hz : ∀ j : (⟨1, ![1]⟩ : Shape).Idx, x2 j = x2 (ix1 (0 : Fin 1)) := fun j => congrArg x2 (by rw [eq_ix1 j]; congr 1; exact Subsingleton.elim (α := Fin 1) _ _)
  have e : val_main_v23 (F := Ideal) x2 (idx_main_v25 (idx_main_v27 (idx_main_call3_v1 (ix2 r d)))) = x2 (ix1 (0 : Fin 1)) := by
    unfold val_main_v23
    exact hz _
  rw [e]
  generalize x2 (ix1 (0 : Fin 1)) = n at hn
  have hr := r.isLt
  have en : (IntOp.muli n 512#32).toNat = n.toNat * 512 := by
    show (n * 512#32).toNat = _
    rw [BitVec.toNat_mul]; show n.toNat * 512 % _ = _; omega
  have ex : (BitVec.ofNat 32 r.val).toNat = r.val := by rw [BitVec.toNat_ofNat]; omega
  have ei : (BitVec.ofNat 32 r.val).toInt = r.val := by rw [BitVec.toInt_eq_toNat_of_lt (by omega), ex]
  have em : (IntOp.muli n 512#32).toInt = n.toNat * 512 := by rw [BitVec.toInt_eq_toNat_of_lt (by omega), en]; omega
  show BitVec.ofBool (BitVec.slt (BitVec.ofNat 32 r.val) (IntOp.muli n 512#32)) = _
  simp only [BitVec.slt, ei, em]
  have hiff : ((r.val : ℤ) < (n.toNat : ℤ) * 512) ↔ (tile r).val < n.toNat := by
    show _ ↔ r.val / 512 < n.toNat
    omega
  by_cases h : (tile r).val < n.toNat
  · rw [if_pos h, decide_eq_true (hiff.2 h)]; rfl
  · rw [if_neg h, decide_eq_false (fun h' => h (hiff.1 h'))]; rfl

/-- The reference's result at a slot. -/
theorem out_eq (h : Cert.Tables.Good x0 x1 (x2 (ix1 (0 : Fin 1)))) (r : Fin 78848) (d : Fin 1024) :
    val_main_v28 (F := Ideal) x0 x1 x2 x3 x4 x5 x6 (ix2 r d)
      = out x0 x1 (x2 (ix1 (0 : Fin 1))).toNat x3 x4 x5 x6 r d := by
  have hne : expert (x0 (ix1 (tile r))) ≠ expert (x1 (ix1 (tile r))) := fun he => h.ne (ix1 (tile r)) (BitVec.eq_of_toNat_eq (by
    have h0 := h.ea_lt (ix1 (tile r)); have h1 := h.eb_lt (ix1 (tile r))
    have := congrArg Fin.val he
    change (x0 (ix1 (tile r))).toNat % 16 = (x1 (ix1 (tile r))).toNat % 16 at this
    omega))
  rw [val_main_v28_apply, used_eq _ h.n_le]
  unfold out
  split
  · refine (if_pos rfl : Scalar.select 1#1 _ _ = _).trans ?_
    rw [val_main_v21_apply]
    refine Eq.trans ?_ (collapse _ _ hne _ _ fun e => ffn x3 x4 x5 x6 e r d)
    refine Finset.sum_congr rfl fun e _ => ?_
    have hl : lidx_main_v21 (ix2 r d) e = ix2 r e := by funext a; match a with | ⟨0, _⟩ => rfl | ⟨1, _⟩ => rfl
    have hr : ridx_main_v21 (ix2 r d) e = ix3 e r d := by funext a; match a with | ⟨0, _⟩ => rfl | ⟨1, _⟩ => rfl | ⟨2, _⟩ => rfl
    rw [hl, hr, gate_eq _ _ _ h.ea_lt h.eb_lt, ffn_eq]
  · refine (if_neg (by decide) : Scalar.select 0#1 _ _ = _).trans ?_
    rw [val_main_call3_v2_apply, val_main_call3_v0_apply, val_main_cst_apply]
    exact Ideal.ofBits_zero_f32

end Cert.MoeReferenceIdeal.Read

end

end
-- ==== Proof.MoeValue.lean ====
/-
  The result array of the experts call over the extended reals: at every slot its tile's two experts, weighted by the
  slot's two gates.
-/
module

public import proofs.«01_k».proof.Proof.MoeBlock
public import proofs.«01_k».proof.Proof.MoeRef
public import Idealize.ShloMosaic.Lib.Pipeline.ValueKit.Point

@[expose] public section

noncomputable section

namespace Cert.MoeIdeal.Exec

open Cert.MoeIdeal.Gen Cert.MoeSpec
open Idealize.ShloMosaic hiding ix1 ix2 ix3 eq_ix1 eq_ix2 eq_ix3
open Idealize.ShloMosaic.TcCoe Idealize.ShloMosaic.ValueIdx Idealize.SL.Sem
open Idealize.ShloMosaic.Pipeline (Dat)
open scoped BigOperators

variable (m : (ℓ : Loc nD τ sig) → Buf (Elt Ideal) ℓ)

/-! ## The arrays the pipeline finds -/

theorem V_v0 (c : Dev nD) : (V m c main_v0 : WIn) = m ((c : Thread nD τ).loc main_arg4) := by
  unfold V; simp only [hostOps0]; after_results; rfl

theorem V_v1 (c : Dev nD) : (V m c main_v1 : WIn) = m ((c : Thread nD τ).loc main_arg5) := by
  unfold V; simp only [hostOps0]; after_results; rfl

theorem V_v2 (c : Dev nD) : (V m c main_v2 : WOut) = m ((c : Thread nD τ).loc main_arg6) := by
  unfold V; simp only [hostOps0]; after_results; rfl

theorem tbl0 (c : Dev nD) : (tbl m 0 : Tab) = m ((c : Thread nD τ).loc main_arg0) := (V_tbl m c 0).symm.trans (V_arg0 m c)
theorem tbl1 (c : Dev nD) : (tbl m 1 : Tab) = m ((c : Thread nD τ).loc main_arg1) := (V_tbl m c 1).symm.trans (V_arg1 m c)
theorem tbl2 (c : Dev nD) : tbl m 2 = m ((c : Thread nD τ).loc main_arg2) := (V_tbl m c 2).symm.trans (V_arg2 m c)

/-! ## The points -/

theorem coord_val (t : Fin grid0.N) : (grid0.coords t 0).val = t.val := by
  revert t; decide +kernel

theorem tix_coord (t : Fin grid0.N) : tix (grid0.coords t) = (ix1 (t : Fin 154) : S154.Idx) := by
  funext a
  obtain rfl : a = 0 := Subsingleton.elim _ _
  exact Fin.ext (coord_val t)

theorem tr7 (i : grid0.Coords) : cc0_transform_7 i = ![(i 0).val, 0] := by
  have hi : (i 0).val < 154 := (i 0).isLt
  unfold cc0_transform_7
  dsimp only
  congr 1
  show (i 0).val % 2 ^ 32 = _
  omega

variable (hO : Ok m) (c : Dev nD)

theorem index7 (t : Fin (cfgM m hO).N) : ((cfgM m hO).win 7).index t = ![t.val, 0] := by
  show cc0_transform_7 (grid0.coords t) = _
  rw [tr7, coord_val]

theorem used_val : used c (tbl m 2) = tbl m 2 z1 := by
  unfold used
  exact congrArg (fun j : S1.Idx => (tbl m 2 : S1.Idx → BitVec 32) j) emb_eq2

theorem cond2_iff (i : grid0.Coords) (n : BitVec 32) (hn : n.toNat ≤ 154) : k0_cond2 i n = 1#1 ↔ (i 0).val < n.toNat := by
  have hi : (i 0).val < 154 := (i 0).isLt
  unfold k0_cond2
  dsimp only
  have e1 : (BitVec.ofNat 32 (i 0).val).toInt = (i 0).val := by rw [BitVec.toInt_eq_toNat_of_lt (by rw [BitVec.toNat_ofNat]; omega), BitVec.toNat_ofNat]; omega
  have e2 : n.toInt = n.toNat := BitVec.toInt_eq_toNat_of_lt (by omega)
  have e3 : Scalar.cmpi .slt (BitVec.ofNat 32 (i 0).val) n = BitVec.ofBool (decide ((i 0).val < n.toNat)) := by
    show BitVec.ofBool (BitVec.slt _ _) = _
    simp only [BitVec.slt, e1, e2, Nat.cast_lt]
  rw [e3]
  by_cases h : (i 0).val < n.toNat
  · rw [decide_eq_true h]; exact iff_of_true (by decide) h
  · rw [decide_eq_false h]; exact iff_of_false (by decide) h

/-! ## The blocks -/

variable (hg : Cert.Tables.Good (tbl m 0) (tbl m 1) (tbl m 2 z1))
include hg

theorem iblk0_apply (t : Fin (cfgM m hO).N) (p : Fin 512) (k : Fin 1152) (r : Fin 78848)
    (hr : r.val = min t.val ((tbl m 2 z1 : BitVec 32).toNat - 1) * 512 + p.val) :
    iblk m hO c 0 t (ix2 p k) = m ((c : Thread nD τ).loc main_arg3) (ix2 r k) := by
  have e : (iblk m hO c 0 t : S512x1152.Idx → EReal) (ix2 p k) = (V m c main_arg3 : Slots) (ix2 r k) := by
    show (V m c main_arg3 : Slots) _ = _
    refine congrArg _ (funext fun a => Fin.ext ?_)
    refine (Pipeline.Window.rect_emb_val ((cfgM m hO).win 0) t (ix2 p k) a).trans ?_
    have hi : ((cfgM m hO).win 0).index t = ![min t.val ((tbl m 2 z1 : BitVec 32).toNat - 1), 0] := by
      refine (tr0 (tbl m) (grid0.coords t) hg).trans ?_
      rw [coord_val]
    rw [hi]
    match a with
    | ⟨0, _⟩ => exact hr.symm
    | ⟨1, _⟩ => exact (by omega : 0 * 1152 + k.val = k.val)
  exact e.trans (congrFun (V_arg3 m c) _)

theorem iblk1_apply (t : Fin (cfgM m hO).N) (k : Fin 1024) (f : Fin 512) :
    iblk m hO c 1 t (ix3 (0 : Fin 1) k f) = m ((c : Thread nD τ).loc main_arg4) (ix3 (expert (tbl m 0 (ix1 (t : Fin 154)))) k f) := by
  have e : (iblk m hO c 1 t : S1x1024x512.Idx → EReal) (ix3 (0 : Fin 1) k f) = (V m c main_v0 : WIn) (ix3 (expert (tbl m 0 (ix1 (t : Fin 154)))) k f) := by
    show (V m c main_v0 : WIn) _ = _
    refine congrArg _ (funext fun a => Fin.ext ?_)
    refine (Pipeline.Window.rect_emb_val ((cfgM m hO).win 1) t (ix3 (0 : Fin 1) k f) a).trans ?_
    have hi : ((cfgM m hO).win 1).index t = ![(tbl m 0 (ix1 (t : Fin 154)) : BitVec 32).toNat, 0, 0] := by
      refine (tr1 (tbl m) (grid0.coords t)).trans ?_
      rw [tix_coord]
    rw [hi]
    have h16 := hg.ea_lt (ix1 (t : Fin 154))
    match a with
    | ⟨0, _⟩ => exact (by omega : (tbl m 0 (ix1 (t : Fin 154)) : BitVec 32).toNat * 1 + 0 = (tbl m 0 (ix1 (t : Fin 154)) : BitVec 32).toNat % 16)
    | ⟨1, _⟩ => exact (by omega : 0 * 1024 + k.val = k.val)
    | ⟨2, _⟩ => exact (by omega : 0 * 512 + f.val = f.val)
  exact e.trans (congrFun (V_v0 m c) _)

theorem iblk2_apply (t : Fin (cfgM m hO).N) (k : Fin 1024) (f : Fin 512) :
    iblk m hO c 2 t (ix3 (0 : Fin 1) k f) = m ((c : Thread nD τ).loc main_arg5) (ix3 (expert (tbl m 0 (ix1 (t : Fin 154)))) k f) := by
  have e : (iblk m hO c 2 t : S1x1024x512.Idx → EReal) (ix3 (0 : Fin 1) k f) = (V m c main_v1 : WIn) (ix3 (expert (tbl m 0 (ix1 (t : Fin 154)))) k f) := by
    show (V m c main_v1 : WIn) _ = _
    refine congrArg _ (funext fun a => Fin.ext ?_)
    refine (Pipeline.Window.rect_emb_val ((cfgM m hO).win 2) t (ix3 (0 : Fin 1) k f) a).trans ?_
    have hi : ((cfgM m hO).win 2).index t = ![(tbl m 0 (ix1 (t : Fin 154)) : BitVec 32).toNat, 0, 0] := by
      refine (tr2 (tbl m) (grid0.coords t)).trans ?_
      rw [tix_coord]
    rw [hi]
    have h16 := hg.ea_lt (ix1 (t : Fin 154))
    match a with
    | ⟨0, _⟩ => exact (by omega : (tbl m 0 (ix1 (t : Fin 154)) : BitVec 32).toNat * 1 + 0 = (tbl m 0 (ix1 (t : Fin 154)) : BitVec 32).toNat % 16)
    | ⟨1, _⟩ => exact (by omega : 0 * 1024 + k.val = k.val)
    | ⟨2, _⟩ => exact (by omega : 0 * 512 + f.val = f.val)
  exact e.trans (congrFun (V_v1 m c) _)

theorem iblk3_apply (t : Fin (cfgM m hO).N) (k : Fin 512) (f : Fin 1024) :
    iblk m hO c 3 t (ix3 (0 : Fin 1) k f) = m ((c : Thread nD τ).loc main_arg6) (ix3 (expert (tbl m 0 (ix1 (t : Fin 154)))) k f) := by
  have e : (iblk m hO c 3 t : S1x512x1024.Idx → EReal) (ix3 (0 : Fin 1) k f) = (V m c main_v2 : WOut) (ix3 (expert (tbl m 0 (ix1 (t : Fin 154)))) k f) := by
    show (V m c main_v2 : WOut) _ = _
    refine congrArg _ (funext fun a => Fin.ext ?_)
    refine (Pipeline.Window.rect_emb_val ((cfgM m hO).win 3) t (ix3 (0 : Fin 1) k f) a).trans ?_
    have hi : ((cfgM m hO).win 3).index t = ![(tbl m 0 (ix1 (t : Fin 154)) : BitVec 32).toNat, 0, 0] := by
      refine (tr3 (tbl m) (grid0.coords t)).trans ?_
      rw [tix_coord]
    rw [hi]
    have h16 := hg.ea_lt (ix1 (t : Fin 154))
    match a with
    | ⟨0, _⟩ => exact (by omega : (tbl m 0 (ix1 (t : Fin 154)) : BitVec 32).toNat * 1 + 0 = (tbl m 0 (ix1 (t : Fin 154)) : BitVec 32).toNat % 16)
    | ⟨1, _⟩ => exact (by omega : 0 * 512 + k.val = k.val)
    | ⟨2, _⟩ => exact (by omega : 0 * 1024 + f.val = f.val)
  exact e.trans (congrFun (V_v2 m c) _)

theorem iblk4_apply (t : Fin (cfgM m hO).N) (k : Fin 1024) (f : Fin 512) :
    iblk m hO c 4 t (ix3 (0 : Fin 1) k f) = m ((c : Thread nD τ).loc main_arg4) (ix3 (expert (tbl m 1 (ix1 (t : Fin 154)))) k f) := by
  have e : (iblk m hO c 4 t : S1x1024x512.Idx → EReal) (ix3 (0 : Fin 1) k f) = (V m c main_v0 : WIn) (ix3 (expert (tbl m 1 (ix1 (t : Fin 154)))) k f) := by
    show (V m c main_v0 : WIn) _ = _
    refine congrArg _ (funext fun a => Fin.ext ?_)
    refine (Pipeline.Window.rect_emb_val ((cfgM m hO).win 4) t (ix3 (0 : Fin 1) k f) a).trans ?_
    have hi : ((cfgM m hO).win 4).index t = ![(tbl m 1 (ix1 (t : Fin 154)) : BitVec 32).toNat, 0, 0] := by
      refine (tr4 (tbl m) (grid0.coords t)).trans ?_
      rw [tix_coord]
    rw [hi]
    have h16 := hg.eb_lt (ix1 (t : Fin 154))
    match a with
    | ⟨0, _⟩ => exact (by omega : (tbl m 1 (ix1 (t : Fin 154)) : BitVec 32).toNat * 1 + 0 = (tbl m 1 (ix1 (t : Fin 154)) : BitVec 32).toNat % 16)
    | ⟨1, _⟩ => exact (by omega : 0 * 1024 + k.val = k.val)
    | ⟨2, _⟩ => exact (by omega : 0 * 512 + f.val = f.val)
  exact e.trans (congrFun (V_v0 m c) _)

theorem iblk5_apply (t : Fin (cfgM m hO).N) (k : Fin 1024) (f : Fin 512) :
    iblk m hO c 5 t (ix3 (0 : Fin 1) k f) = m ((c : Thread nD τ).loc main_arg5) (ix3 (expert (tbl m 1 (ix1 (t : Fin 154)))) k f) := by
  have e : (iblk m hO c 5 t : S1x1024x512.Idx → EReal) (ix3 (0 : Fin 1) k f) = (V m c main_v1 : WIn) (ix3 (expert (tbl m 1 (ix1 (t : Fin 154)))) k f) := by
    show (V m c main_v1 : WIn) _ = _
    refine congrArg _ (funext fun a => Fin.ext ?_)
    refine (Pipeline.Window.rect_emb_val ((cfgM m hO).win 5) t (ix3 (0 : Fin 1) k f) a).trans ?_
    have hi : ((cfgM m hO).win 5).index t = ![(tbl m 1 (ix1 (t : Fin 154)) : BitVec 32).toNat, 0, 0] := by
      refine (tr5 (tbl m) (grid0.coords t)).trans ?_
      rw [tix_coord]
    rw [hi]
    have h16 := hg.eb_lt (ix1 (t : Fin 154))
    match a with
    | ⟨0, _⟩ => exact (by omega : (tbl m 1 (ix1 (t : Fin 154)) : BitVec 32).toNat * 1 + 0 = (tbl m 1 (ix1 (t : Fin 154)) : BitVec 32).toNat % 16)
    | ⟨1, _⟩ => exact (by omega : 0 * 1024 + k.val = k.val)
    | ⟨2, _⟩ => exact (by omega : 0 * 512 + f.val = f.val)
  exact e.trans (congrFun (V_v1 m c) _)

theorem iblk6_apply (t : Fin (cfgM m hO).N) (k : Fin 512) (f : Fin 1024) :
    iblk m hO c 6 t (ix3 (0 : Fin 1) k f) = m ((c : Thread nD τ).loc main_arg6) (ix3 (expert (tbl m 1 (ix1 (t : Fin 154)))) k f) := by
  have e : (iblk m hO c 6 t : S1x512x1024.Idx → EReal) (ix3 (0 : Fin 1) k f) = (V m c main_v2 : WOut) (ix3 (expert (tbl m 1 (ix1 (t : Fin 154)))) k f) := by
    show (V m c main_v2 : WOut) _ = _
    refine congrArg _ (funext fun a => Fin.ext ?_)
    refine (Pipeline.Window.rect_emb_val ((cfgM m hO).win 6) t (ix3 (0 : Fin 1) k f) a).trans ?_
    have hi : ((cfgM m hO).win 6).index t = ![(tbl m 1 (ix1 (t : Fin 154)) : BitVec 32).toNat, 0, 0] := by
      refine (tr6 (tbl m) (grid0.coords t)).trans ?_
      rw [tix_coord]
    rw [hi]
    have h16 := hg.eb_lt (ix1 (t : Fin 154))
    match a with
    | ⟨0, _⟩ => exact (by omega : (tbl m 1 (ix1 (t : Fin 154)) : BitVec 32).toNat * 1 + 0 = (tbl m 1 (ix1 (t : Fin 154)) : BitVec 32).toNat % 16)
    | ⟨1, _⟩ => exact (by omega : 0 * 512 + k.val = k.val)
    | ⟨2, _⟩ => exact (by omega : 0 * 1024 + f.val = f.val)
  exact e.trans (congrFun (V_v2 m c) _)

/-- A used tile's two experts, read off its blocks. -/
theorem ffnA (t : Fin (cfgM m hO).N) (ht : t.val < (tbl m 2 z1 : BitVec 32).toNat) (p : Fin 512) (q : Fin 1024) (r : Fin 78848) (hr : r.val = t.val * 512 + p.val) :
    bffn (iblk m hO c 0 t) (iblk m hO c 1 t) (iblk m hO c 2 t) (iblk m hO c 3 t) p q
      = ffn (m ((c : Thread nD τ).loc main_arg3)) (m ((c : Thread nD τ).loc main_arg4)) (m ((c : Thread nD τ).loc main_arg5)) (m ((c : Thread nD τ).loc main_arg6))
        (expert (tbl m 0 (ix1 (t : Fin 154)))) r q := by
  have hr0 : r.val = min t.val ((tbl m 2 z1 : BitVec 32).toNat - 1) * 512 + p.val := by rw [hr, Nat.min_eq_left (by omega)]
  unfold bffn ffn bact act bhid hid
  simp only [iblk0_apply m hO c hg t p _ r hr0, iblk1_apply m hO c hg t, iblk2_apply m hO c hg t, iblk3_apply m hO c hg t]

theorem ffnB (t : Fin (cfgM m hO).N) (ht : t.val < (tbl m 2 z1 : BitVec 32).toNat) (p : Fin 512) (q : Fin 1024) (r : Fin 78848) (hr : r.val = t.val * 512 + p.val) :
    bffn (iblk m hO c 0 t) (iblk m hO c 4 t) (iblk m hO c 5 t) (iblk m hO c 6 t) p q
      = ffn (m ((c : Thread nD τ).loc main_arg3)) (m ((c : Thread nD τ).loc main_arg4)) (m ((c : Thread nD τ).loc main_arg5)) (m ((c : Thread nD τ).loc main_arg6))
        (expert (tbl m 1 (ix1 (t : Fin 154)))) r q := by
  have hr0 : r.val = min t.val ((tbl m 2 z1 : BitVec 32).toNat - 1) * 512 + p.val := by rw [hr, Nat.min_eq_left (by omega)]
  unfold bffn ffn bact act bhid hid
  simp only [iblk0_apply m hO c hg t p _ r hr0, iblk4_apply m hO c hg t, iblk5_apply m hO c hg t, iblk6_apply m hO c hg t]

/-- The call's result at the tables and arrays it is given. -/
def result : (⟨2, ![78848, 1024]⟩ : Shape).Idx → EReal := fun i =>
  out (tbl m 0) (tbl m 1) (tbl m 2 z1 : BitVec 32).toNat (m ((c : Thread nD τ).loc main_arg3)) (m ((c : Thread nD τ).loc main_arg4))
    (m ((c : Thread nD τ).loc main_arg5)) (m ((c : Thread nD τ).loc main_arg6)) (i 0) (i 1)

theorem outAt_apply (t : Fin (cfgM m hO).N) (p : Fin 512) (q : Fin 1024) (r : Fin 78848) (hr : r.val = t.val * 512 + p.val) :
    outAt m hO c t (ix2 p q) = result m c (ix2 r q) := by
  have ht : tile r = (t : Fin 154) := Fin.ext (by show r.val / 512 = t.val; omega)
  have hu := (cond2_iff (grid0.coords t) (tbl m 2 z1) hg.n_le).trans (by rw [coord_val])
  unfold result out
  show _ = if (tile r).val < _ then _ else _
  rw [ht]
  unfold outAt
  split
  · rename_i h
    have ht' : t.val < (tbl m 2 z1 : BitVec 32).toNat := hu.1 (by rw [← used_val m c]; exact h)
    rw [if_pos ht']
    have hr0 : r.val = min t.val ((tbl m 2 z1 : BitVec 32).toNat - 1) * 512 + p.val := by rw [hr, Nat.min_eq_left (by omega)]
    refine (congrFun (outUsed_eq (F := Ideal) c (grid0.coords t) _ _ _ _ _ _ _ _ _ _ _ _ _ _ _ _ (iblk m hO c 0 t) (iblk m hO c 1 t) (iblk m hO c 2 t)
      (iblk m hO c 3 t) (iblk m hO c 4 t) (iblk m hO c 5 t) (iblk m hO c 6 t) _ _ _ _ _) (ix2 p q)).trans ?_
    refine (stored_apply _ _ _ _ _ _ _ p q).trans ?_
    exact congrArg₂ (· + ·)
      (congrArg₂ (· * ·) (iblk0_apply m hO c hg t p _ r hr0) (ffnA m hO c hg t ht' p q r hr))
      (congrArg₂ (· * ·) (iblk0_apply m hO c hg t p _ r hr0) (ffnB m hO c hg t ht' p q r hr))
  · rename_i h
    have ht' : ¬ t.val < (tbl m 2 z1 : BitVec 32).toNat := fun h' => h (by rw [used_val m c]; exact hu.2 h')
    rw [if_neg ht']
    refine (congrFun (outIdle_eq (F := Ideal) c (grid0.coords t) _ _ _ _ _ _ _ _ _ _ _ _ _ _ _ _ (iblk m hO c 0 t) (iblk m hO c 1 t) (iblk m hO c 2 t)
      (iblk m hO c 3 t) (iblk m hO c 4 t) (iblk m hO c 5 t) (iblk m hO c 6 t) _ _ _ _ _) (ix2 p q)).trans ?_
    exact Ideal.ofBits_zero_f32

theorem emb7 (t : Fin (cfgM m hO).N) (p : Fin 512) (q : Fin 1024) (r : Fin 78848) (hr : r.val = t.val * 512 + p.val) :
    (((cfgM m hO).win 7).blk t).view.emb (ix2 p q : S512x1024.Idx) = (ix2 r q : S78848x1024.Idx) := by
  refine funext fun a => Fin.ext ?_
  refine (Pipeline.Window.rect_emb_val ((cfgM m hO).win 7) t (ix2 p q : S512x1024.Idx) a).trans ?_
  rw [index7 m hO t]
  match a with
  | ⟨0, _⟩ => exact hr.symm
  | ⟨1, _⟩ => exact (by omega : 0 * 1024 + q.val = q.val)

theorem outAt_emb (t : Fin (cfgM m hO).N) (y : S512x1024.Idx) :
    outAt m hO c t y = result m c ((((cfgM m hO).win 7).blk t).view.emb y) := by
  have hp : (y 0).val < 512 := (y 0).isLt
  have hN : t.val < 154 := t.isLt
  obtain ⟨p, q, rfl⟩ : ∃ (p : Fin 512) (q : Fin 1024), y = ix2 p q := ⟨y 0, y 1, eq_ix2 y⟩
  exact (outAt_apply m hO c hg t p q ⟨t.val * 512 + p.val, by have := p.isLt; omega⟩ rfl).trans
    (congrArg (result m c) (emb7 m hO hg t p q _ rfl).symm)

theorem covered (i : S78848x1024.Idx) : ∃ t : Fin (cfgM m hO).N, ((cfgM m hO).win 7).flush t = true ∧ i ∈ (((cfgM m hO).win 7).blk t).view.set := by
  obtain ⟨r, q, rfl⟩ : ∃ (r : Fin 78848) (q : Fin 1024), i = ix2 r q := ⟨i 0, i 1, eq_ix2 i⟩
  have hr := r.isLt
  let t : Fin (cfgM m hO).N := (⟨r.val / 512, by omega⟩ : Fin 154)
  have h := emb7 m hO hg t ⟨r.val % 512, Nat.mod_lt _ (by decide)⟩ q r (by show r.val = r.val / 512 * 512 + r.val % 512; omega)
  exact ⟨t, flush7 _ t, h ▸ View.emb_mem_set _ _⟩

theorem array_eq : (dats m hO 0 c).arrAt 7 (cfgM m hO).N = result m c :=
  (dats m hO 0 c).arrAt_eq_of_emb 7 (result m c)
    (fun t _ y => (congrFun (after7 m hO c t) _).trans (outAt_emb m hO c hg t y)) (fun i => covered m hO hg i)

end Cert.MoeIdeal.Exec

end

end
-- ==== Proof.MoeClaims.lean ====
/-
  The claims of the experts call: both programs run and keep their arguments, the reference runs, and over the extended
  reals the two results are equal.
-/
module

public import proofs.«01_k».proof.Defs
public import proofs.«01_k».proof.Proof.MoeRun
public import proofs.«01_k».proof.Proof.MoeIdealRun
public import proofs.«01_k».proof.Proof.MoePre
public import proofs.«01_k».proof.Proof.MoeValue
public import proofs.«01_k».proof.Proof.Gen.MoeReferenceIdeal.Run
public import proofs.«01_k».proof.Proof.Gen.MoeReferenceIdeal.Read
public import Idealize.ShloMosaic.Lib.Quiescent

@[expose] public section

noncomputable section

open Idealize.ShloMosaic Idealize.ShloMosaic.TcCoe Idealize.SL.Sem

namespace Cert.Moe.Exec

open Cert.Moe Cert.Moe.Gen

variable (m : (ℓ : Loc nD τ sig) → Buf (Elt Bits) ℓ)

theorem good_of_pre (h : Cert.Pre_Moe (hPre_in_range := Cert.Pre_in_range.Gen.facts) m) :
    Cert.Tables.Good (tbl m 0) (tbl m 1) (tbl m 2 z1) := by
  have e0 := (V_tbl m 0 0).symm.trans (V_arg0 m 0)
  have e1 := (V_tbl m 0 1).symm.trans (V_arg1 m 0)
  have e2 := (V_tbl m 0 2).symm.trans (V_arg2 m 0)
  rw [e0, e1, e2]
  exact Cert.Tables.good_of_fn _ _ _ _ _ _ _ (h 0) z1

theorem ok_of_pre (h : Cert.Pre_Moe (hPre_in_range := Cert.Pre_in_range.Gen.facts) m) : Ok m :=
  ok_of_good (tbl m) (good_of_pre m h)

end Cert.Moe.Exec

namespace Cert.MoeIdeal.Exec

open Cert.MoeIdeal Cert.MoeIdeal.Gen

variable (m : (ℓ : Loc nD τ sig) → Buf (Elt Ideal) ℓ)

theorem good_of_pre (h : Cert.Pre_MoeIdeal (hPre_in_range := Cert.Pre_in_range.Gen.facts) m) :
    Cert.Tables.Good (tbl m 0) (tbl m 1) (tbl m 2 z1) := by
  have e0 := (V_tbl m 0 0).symm.trans (V_arg0 m 0)
  have e1 := (V_tbl m 0 1).symm.trans (V_arg1 m 0)
  have e2 := (V_tbl m 0 2).symm.trans (V_arg2 m 0)
  rw [e0, e1, e2]
  exact Cert.Tables.good_of_fn _ _ _ _ _ _ _ (h 0) z1

theorem ok_of_pre (h : Cert.Pre_MoeIdeal (hPre_in_range := Cert.Pre_in_range.Gen.facts) m) : Ok m :=
  ok_of_good (tbl m) (good_of_pre m h)

end Cert.MoeIdeal.Exec

namespace Cert.MoeClaims

theorem kernel_runs : Cert.quiescent_Moe (hMoe := Cert.Moe.Gen.facts) (hPre_in_range := Cert.Pre_in_range.Gen.facts) :=
  fun m g h => Cert.Moe.Exec.frame_runs m g (Cert.Moe.Exec.ok_of_pre m h)

theorem ideal_runs : Cert.quiescent_MoeIdeal (hMoeIdeal := Cert.MoeIdeal.Gen.facts) (hPre_in_range := Cert.Pre_in_range.Gen.facts) :=
  fun m g h => Cert.MoeIdeal.Exec.frame_runs m g (Cert.MoeIdeal.Exec.ok_of_pre m h)

/-- The reference is host operations only and declares no semaphore. -/
theorem reference_runs : Cert.quiescent_MoeReferenceIdeal (hMoeReferenceIdeal := Cert.MoeReferenceIdeal.Gen.facts) := fun m g _ =>
  (θ_run Cert.MoeReferenceIdeal.defs _ _).mono (fun r h => ⟨fun c => (h c).2, sem_eq_zero_of_no_sems (by decide) r.2⟩)
    (Cert.MoeReferenceIdeal.Value.run (F := Ideal) m g)

theorem reference_runs_pre : Cert.quiescent_MoeReferenceIdeal_pre_in_range (hMoeReferenceIdeal := Cert.MoeReferenceIdeal.Gen.facts)
    (hPre_in_range := Cert.Pre_in_range.Gen.facts) := fun m g _ => reference_runs m g trivial

theorem values_eq : Cert.algebraic_MoeIdeal_MoeReferenceIdeal (hMoeIdeal := Cert.MoeIdeal.Gen.facts)
    (hMoeReferenceIdeal := Cert.MoeReferenceIdeal.Gen.facts) (hPre_in_range := Cert.Pre_in_range.Gen.facts) := by
  intro m g m' g' hp ha
  have hg := Cert.MoeIdeal.Exec.good_of_pre m hp
  have hO := Cert.MoeIdeal.Exec.ok_of_pre m hp
  refine ⟨fun c => Cert.MoeIdeal.Exec.result m c, ?_, ?_⟩
  · exact (θ_run _ _ _).mono (fun r h c => ⟨(h c).1.trans (Cert.MoeIdeal.Exec.array_eq m hO c hg), (h c).2⟩)
      (Cert.MoeIdeal.Exec.run_out m g hO)
  · refine (θ_run _ _ _).mono (fun r h c => ⟨(h c).1.trans ?_, (h c).2⟩) (Cert.MoeReferenceIdeal.Value.run m' g')
    obtain ⟨h0, h1, h2, h3, h4, h5, h6⟩ := ha c
    rw [Cert.MoeReferenceIdeal.Read.val_main_v28_eq, h0, h1, h2, h3, h4, h5, h6]
    have hz : (Cert.MoeIdeal.z1 : Cert.MoeIdeal.S1.Idx) = ValueIdx.ix1 (0 : Fin 1) := funext fun a => Fin.ext (by
      obtain rfl : a = 0 := Subsingleton.elim _ _; rfl)
    have hG : Cert.Tables.Good (m ((c.tc : Thread Cert.MoeIdeal.nD Cert.MoeIdeal.τ).loc Cert.MoeIdeal.main_arg0)) (m ((c.tc : Thread Cert.MoeIdeal.nD Cert.MoeIdeal.τ).loc Cert.MoeIdeal.main_arg1))
        (m ((c.tc : Thread Cert.MoeIdeal.nD Cert.MoeIdeal.τ).loc Cert.MoeIdeal.main_arg2) (ValueIdx.ix1 (0 : Fin 1))) := Cert.Tables.good_of_fn _ _ _ _ _ _ _ (hp c) _
    funext i
    obtain ⟨r, d, rfl⟩ : ∃ (r : Fin 78848) (d : Fin 1024), i = ValueIdx.ix2 r d := ⟨i 0, i 1, ValueIdx.eq_ix2 i⟩
    refine (Cert.MoeReferenceIdeal.Read.out_eq _ _ _ _ _ _ _ hG r d).trans ?_
    unfold Cert.MoeIdeal.Exec.result
    rw [Cert.MoeIdeal.Exec.tbl0 m c, Cert.MoeIdeal.Exec.tbl1 m c, Cert.MoeIdeal.Exec.tbl2 m c, hz]

end Cert.MoeClaims

end

end
-- ==== Proof.AttnOps.lean ====
/-
  The attention of one sample, as vectors: what one head of either group does with its queries, keys and values, how the two heads
  of a 128-lane pair are joined, and how a pair is normalised.
-/
module

public import proofs.«01_k».proof.Proof.Gen.AttnIdeal

@[expose] public section

noncomputable section

namespace Cert.AttnBlock

open Cert.AttnIdeal Cert.AttnIdeal.Gen
open Idealize.ShloMosaic Idealize.ShloMosaic.TcCoe

variable {F : FTy → Type} [FloatOps F]

/-- The first and the second 64 lanes of a pair of heads. -/
def lo : IVec S32x128 1 := cmpi .slt (iota .tc S32x128 32 [1] iota_S32x128_d1_w32) (broadcast S32x128 64#32)
def hi : IVec S32x128 1 := xori lo (constantI S32x128 1 1#1)

/-- The queries of a pair, scaled, and those of one of its heads. -/
def scaled (q : Vec F S32x128 .bf16) : FVec F S32x128 .bf16 := mulf q (broadcast S32x128 (Scalar.ofBits .bf16 0x3E00#16 : F .bf16))
def masked (m : IVec S32x128 1) (x : FVec F S32x128 .bf16) : FVec F S32x128 .bf16 :=
  select m x (broadcast S32x128 (Scalar.ofBits .bf16 0x0000#16 : F .bf16))

/-- The two 64-lane halves exchanged. -/
def swap {φ : FTy} (x : FVec F S32x128 φ) : FVec F S32x128 φ :=
  concatenate S32x128 1 [⟨S32x64, extractStridedSlice S32x64 ![0, 64] x slices_S32x128_o0_64_S32x64⟩,
    ⟨S32x64, extractStridedSlice S32x64 ![0, 0] x slices_S32x128_o0_0_S32x64⟩] concatenates_S32x64_S32x64_S32x128_d1

/-- A block of a cache. -/
def cacheA (x : Vec F S1x512x128 .f32) : FVec F S512x128 .bf16 :=
  truncf .bf16 (shapeCast S512x128 x shapeCasts_S1x512x128_S512x128 : FVec F S512x128 .f32) bitsLt_bf16_f32
def cacheB (x : Vec F S1x128x128 .f32) : FVec F S128x128 .bf16 :=
  truncf .bf16 (shapeCast S128x128 x shapeCasts_S1x128x128_S128x128 : FVec F S128x128 .f32) bitsLt_bf16_f32

/-- Scores against cached and against new keys. -/
def scoreA (q : FVec F S32x128 .bf16) (k : FVec F S512x128 .bf16) (b : Vec F S1x32x512 .f32) : FVec F S32x512 .f32 :=
  addf (matmul dot_S32x128_S512x128_S32x512_1_1_0_0_n_n none q k (constant S32x512 .f32 0x00000000#32))
    (shapeCast S32x512 b shapeCasts_S1x32x512_S32x512)
def scoreB (q : FVec F S32x128 .bf16) (k : FVec F S128x128 .bf16) (b : Vec F S1x32x128 .f32) : FVec F S32x128 .f32 :=
  addf (matmul dot_S32x128_S128x128_S32x128_1_1_0_0_n_n none q k (constant S32x128 .f32 0x00000000#32))
    (shapeCast S32x128 b shapeCasts_S1x32x128_S32x128)
def scoreN (q : FVec F S32x128 .bf16) (k : FVec F S32x128 .bf16) (b : Vec F S1x32x32 .f32) : FVec F S32x32 .f32 :=
  addf (matmul dot_S32x128_S32x128_S32x32_1_1_0_0_n_n none q k (constant S32x32 .f32 0x00000000#32))
    (shapeCast S32x32 b shapeCasts_S1x32x32_S32x32)

/-- One row's maximum and sum, kept as a column. -/
def maxA (s : FVec F S32x512 .f32) : FVec F S32x1 .f32 :=
  shapeCast S32x1 (multiReduction .maximumf [1] S32 s 0xFF800000#32 reduces_S32x512_S32 (.inl rfl) rfl : FVec F S32 .f32) shapeCasts_S32_S32x1
def maxB (s : FVec F S32x128 .f32) : FVec F S32x1 .f32 :=
  shapeCast S32x1 (multiReduction .maximumf [1] S32 s 0xFF800000#32 reduces_S32x128_S32 (.inl rfl) rfl : FVec F S32 .f32) shapeCasts_S32_S32x1
def maxN (s : FVec F S32x32 .f32) : FVec F S32x1 .f32 :=
  shapeCast S32x1 (multiReduction .maximumf [1] S32 s 0xFF800000#32 reduces_S32x32_S32 (.inl rfl) rfl : FVec F S32 .f32) shapeCasts_S32_S32x1
def sumA (s : FVec F S32x512 .f32) : FVec F S32x1 .f32 :=
  shapeCast S32x1 (multiReduction .add [1] S32 s 0x00000000#32 reduces_S32x512_S32 (.inl rfl) rfl : FVec F S32 .f32) shapeCasts_S32_S32x1
def sumB (s : FVec F S32x128 .f32) : FVec F S32x1 .f32 :=
  shapeCast S32x1 (multiReduction .add [1] S32 s 0x00000000#32 reduces_S32x128_S32 (.inl rfl) rfl : FVec F S32 .f32) shapeCasts_S32_S32x1
def sumN (s : FVec F S32x32 .f32) : FVec F S32x1 .f32 :=
  shapeCast S32x1 (multiReduction .add [1] S32 s 0x00000000#32 reduces_S32x32_S32 (.inl rfl) rfl : FVec F S32 .f32) shapeCasts_S32_S32x1

def expA (s : FVec F S32x512 .f32) (m : FVec F S32x1 .f32) : FVec F S32x512 .f32 := exp (subf s (broadcastTo S32x512 m broadcasts_S32x1_S32x512))
def expB (s : FVec F S32x128 .f32) (m : FVec F S32x1 .f32) : FVec F S32x128 .f32 := exp (subf s (broadcastTo S32x128 m broadcasts_S32x1_S32x128))
def expN (s : FVec F S32x32 .f32) (m : FVec F S32x1 .f32) : FVec F S32x32 .f32 := exp (subf s (broadcastTo S32x32 m broadcasts_S32x1_S32x32))

/-- The weights applied to the values. -/
def mixA (e : FVec F S32x512 .f32) (v : FVec F S512x128 .bf16) : FVec F S32x128 .f32 :=
  matmul dot_S32x512_S512x128_S32x128_1_0_0_1_n_n none (truncf .bf16 e bitsLt_bf16_f32 : FVec F S32x512 .bf16) v (constant S32x128 .f32 0x00000000#32)
def mixB (e : FVec F S32x128 .f32) (v : FVec F S128x128 .bf16) : FVec F S32x128 .f32 :=
  matmul dot_S32x128_S128x128_S32x128_1_0_0_1_n_n none (truncf .bf16 e bitsLt_bf16_f32 : FVec F S32x128 .bf16) v (constant S32x128 .f32 0x00000000#32)
def mixN (e : FVec F S32x32 .f32) (v : FVec F S32x128 .bf16) : FVec F S32x128 .f32 :=
  matmul dot_S32x32_S32x128_S32x128_1_0_0_1_n_n none (truncf .bf16 e bitsLt_bf16_f32 : FVec F S32x32 .bf16) v (constant S32x128 .f32 0x00000000#32)

/-- A head of the first group. -/
def joinA (sc : FVec F S32x512 .f32) (sn : FVec F S32x32 .f32) (m : FVec F S32x1 .f32) (vc : FVec F S512x128 .bf16) (vn : FVec F S32x128 .bf16) :
    FVec F S32x128 .f32 :=
  divf (addf (mixA (expA sc m) vc) (mixN (expN sn m) vn)) (broadcastTo S32x128 (addf (sumA (expA sc m)) (sumN (expN sn m))) broadcasts_S32x1_S32x128)
def headA (q : FVec F S32x128 .bf16) (kc vc : FVec F S512x128 .bf16) (kn vn : FVec F S32x128 .bf16) (bc : Vec F S1x32x512 .f32)
    (bn : Vec F S1x32x32 .f32) : FVec F S32x128 .f32 :=
  joinA (scoreA q kc bc) (scoreN q kn bn) (maximumf (maxA (scoreA q kc bc)) (maxN (scoreN q kn bn))) vc vn

/-- A head of the second group, with its sink. -/
def joinB (sc : FVec F S32x128 .f32) (sn : FVec F S32x32 .f32) (m : FVec F S32x1 .f32) (vc : FVec F S128x128 .bf16) (vn : FVec F S32x128 .bf16)
    (sink : Elt F .f32) : FVec F S32x128 .f32 :=
  divf (addf (mixB (expB sc m) vc) (mixN (expN sn m) vn))
    (broadcastTo S32x128 (addf (addf (sumB (expB sc m)) (sumN (expN sn m))) (exp (subf (broadcast S32x1 sink) m) : FVec F S32x1 .f32)) broadcasts_S32x1_S32x128)
def headB (q : FVec F S32x128 .bf16) (kc vc : FVec F S128x128 .bf16) (kn vn : FVec F S32x128 .bf16) (bc : Vec F S1x32x128 .f32)
    (bn : Vec F S1x32x32 .f32) (sink : Elt F .f32) : FVec F S32x128 .f32 :=
  joinB (scoreB q kc bc) (scoreN q kn bn)
    (maximumf (maximumf (maxB (scoreB q kc bc)) (maxN (scoreN q kn bn))) (broadcast S32x1 sink)) vc vn sink

/-- Pairs of heads: the first group, the second group's first key head, the second group's second key head. -/
def pairA (q : Vec F S32x128 .bf16) (kc vc : Vec F S1x512x128 .f32) (kn vn : Vec F S32x128 .bf16) (bc0 : Vec F S1x32x512 .f32)
    (bn0 : Vec F S1x32x32 .f32) (bc1 : Vec F S1x32x512 .f32) (bn1 : Vec F S1x32x32 .f32) : FVec F S32x128 .f32 :=
  select lo (headA (masked lo (scaled q)) (cacheA kc) (cacheA vc) kn vn bc0 bn0)
    (headA (masked hi (scaled q)) (cacheA kc) (cacheA vc) kn vn bc1 bn1)
def pairB (q : Vec F S32x128 .bf16) (kc vc : Vec F S1x128x128 .f32) (kn vn : Vec F S32x128 .bf16) (bc0 : Vec F S1x32x128 .f32)
    (bn0 : Vec F S1x32x32 .f32) (k0 : Elt F .f32) (bc1 : Vec F S1x32x128 .f32) (bn1 : Vec F S1x32x32 .f32) (k1 : Elt F .f32) : FVec F S32x128 .f32 :=
  select lo (headB (masked lo (scaled q)) (cacheB kc) (cacheB vc) kn vn bc0 bn0 k0)
    (swap (headB (swap (masked hi (scaled q))) (cacheB kc) (cacheB vc) kn vn bc1 bn1 k1))
def pairC (q : Vec F S32x128 .bf16) (kc vc : Vec F S1x128x128 .f32) (kn vn : Vec F S32x128 .bf16) (bc0 : Vec F S1x32x128 .f32)
    (bn0 : Vec F S1x32x32 .f32) (k0 : Elt F .f32) (bc1 : Vec F S1x32x128 .f32) (bn1 : Vec F S1x32x32 .f32) (k1 : Elt F .f32) : FVec F S32x128 .f32 :=
  select lo (swap (headB (swap (masked lo (scaled q))) (cacheB kc) (cacheB vc) kn vn bc0 bn0 k0))
    (headB (masked hi (scaled q)) (cacheB kc) (cacheB vc) kn vn bc1 bn1 k1)

/-- The reciprocal root of the mean square over four pairs, and a pair normalised by it. -/
def inv (a b c d : FVec F S32x128 .f32) : FVec F S32x1 .f32 :=
  rsqrt (addf (divf (addf (addf (addf (sumB (mulf a a)) (sumB (mulf b b))) (sumB (mulf c c))) (sumB (mulf d d)))
    (broadcast S32x1 (Scalar.ofBits .f32 0x44000000#32 : F .f32))) (broadcast S32x1 (Scalar.ofBits .f32 0x358637BD#32 : F .f32)))
def normed (o : FVec F S32x128 .f32) (r : FVec F S32x1 .f32) (g : Vec F S1x128 .f32) : FVec F S32x128 .bf16 :=
  truncf .bf16 (mulf (mulf o (broadcastTo S32x128 r broadcasts_S32x1_S32x128))
    (broadcastTo S32x128 (shapeCast S1x128 g shapeCasts_S1x128_S1x128 : FVec F S1x128 .f32) broadcasts_S1x128_S32x128) : FVec F S32x128 .f32) bitsLt_bf16_f32

end Cert.AttnBlock
-- ==== Proof.AttnPieces.lean ====
/-
  The eight stores of one grid point of the attention call, as pairs of heads normalised.
-/
module

public import proofs.«01_k».proof.Proof.Gen.AttnIdeal.Frame.RunA
public import proofs.«01_k».proof.Proof.AttnOps
public import Idealize.ShloMosaic.Lib.Pipeline.Value

@[expose] public section

set_option maxRecDepth 16384

noncomputable section

namespace Cert.AttnBlock

open Cert.AttnIdeal Cert.AttnIdeal.Gen
open Idealize.ShloMosaic Idealize.ShloMosaic.TcCoe Idealize.SL.Sem

variable {F : FTy → Type} [FloatOps F]

/-- The four pairs of the first group, off the blocks. -/
def prA0 (x1 x2 x3 : Vec F S32x512 .bf16) (x7 x8 : Vec F S1x512x512 .f32) (x11 : Vec F S8x32x512 .f32) (x12 : Vec F S8x32x32 .f32) : FVec F S32x128 .f32 :=
  pairA (View.ld x1 (Rect.unit (s := S32x512) ![0, 0] S32x128.size inb_S32x512_S32x128_0_0)) (View.ld x7 (Rect.unit (s := S1x512x512) ![0, 0, 0] S1x512x128.size inb_S1x512x512_S1x512x128_0_0_0)) (View.ld x8 (Rect.unit (s := S1x512x512) ![0, 0, 0] S1x512x128.size inb_S1x512x512_S1x512x128_0_0_0)) (View.ld x2 (Rect.unit (s := S32x512) ![0, 0] S32x128.size inb_S32x512_S32x128_0_0)) (View.ld x3 (Rect.unit (s := S32x512) ![0, 0] S32x128.size inb_S32x512_S32x128_0_0)) (View.ld x11 (Rect.unit (s := S8x32x512) ![0, 0, 0] S1x32x512.size inb_S8x32x512_S1x32x512_0_0_0)) (View.ld x12 (Rect.unit (s := S8x32x32) ![0, 0, 0] S1x32x32.size inb_S8x32x32_S1x32x32_0_0_0)) (View.ld x11 (Rect.unit (s := S8x32x512) ![1, 0, 0] S1x32x512.size inb_S8x32x512_S1x32x512_1_0_0)) (View.ld x12 (Rect.unit (s := S8x32x32) ![1, 0, 0] S1x32x32.size inb_S8x32x32_S1x32x32_1_0_0))
def prA1 (x1 x2 x3 : Vec F S32x512 .bf16) (x7 x8 : Vec F S1x512x512 .f32) (x11 : Vec F S8x32x512 .f32) (x12 : Vec F S8x32x32 .f32) : FVec F S32x128 .f32 :=
  pairA (View.ld x1 (Rect.unit (s := S32x512) ![0, 128] S32x128.size inb_S32x512_S32x128_0_128)) (View.ld x7 (Rect.unit (s := S1x512x512) ![0, 0, 128] S1x512x128.size inb_S1x512x512_S1x512x128_0_0_128)) (View.ld x8 (Rect.unit (s := S1x512x512) ![0, 0, 128] S1x512x128.size inb_S1x512x512_S1x512x128_0_0_128)) (View.ld x2 (Rect.unit (s := S32x512) ![0, 128] S32x128.size inb_S32x512_S32x128_0_128)) (View.ld x3 (Rect.unit (s := S32x512) ![0, 128] S32x128.size inb_S32x512_S32x128_0_128)) (View.ld x11 (Rect.unit (s := S8x32x512) ![2, 0, 0] S1x32x512.size inb_S8x32x512_S1x32x512_2_0_0)) (View.ld x12 (Rect.unit (s := S8x32x32) ![2, 0, 0] S1x32x32.size inb_S8x32x32_S1x32x32_2_0_0)) (View.ld x11 (Rect.unit (s := S8x32x512) ![3, 0, 0] S1x32x512.size inb_S8x32x512_S1x32x512_3_0_0)) (View.ld x12 (Rect.unit (s := S8x32x32) ![3, 0, 0] S1x32x32.size inb_S8x32x32_S1x32x32_3_0_0))
def prA2 (x1 x2 x3 : Vec F S32x512 .bf16) (x7 x8 : Vec F S1x512x512 .f32) (x11 : Vec F S8x32x512 .f32) (x12 : Vec F S8x32x32 .f32) : FVec F S32x128 .f32 :=
  pairA (View.ld x1 (Rect.unit (s := S32x512) ![0, 256] S32x128.size inb_S32x512_S32x128_0_256)) (View.ld x7 (Rect.unit (s := S1x512x512) ![0, 0, 256] S1x512x128.size inb_S1x512x512_S1x512x128_0_0_256)) (View.ld x8 (Rect.unit (s := S1x512x512) ![0, 0, 256] S1x512x128.size inb_S1x512x512_S1x512x128_0_0_256)) (View.ld x2 (Rect.unit (s := S32x512) ![0, 256] S32x128.size inb_S32x512_S32x128_0_256)) (View.ld x3 (Rect.unit (s := S32x512) ![0, 256] S32x128.size inb_S32x512_S32x128_0_256)) (View.ld x11 (Rect.unit (s := S8x32x512) ![4, 0, 0] S1x32x512.size inb_S8x32x512_S1x32x512_4_0_0)) (View.ld x12 (Rect.unit (s := S8x32x32) ![4, 0, 0] S1x32x32.size inb_S8x32x32_S1x32x32_4_0_0)) (View.ld x11 (Rect.unit (s := S8x32x512) ![5, 0, 0] S1x32x512.size inb_S8x32x512_S1x32x512_5_0_0)) (View.ld x12 (Rect.unit (s := S8x32x32) ![5, 0, 0] S1x32x32.size inb_S8x32x32_S1x32x32_5_0_0))
def prA3 (x1 x2 x3 : Vec F S32x512 .bf16) (x7 x8 : Vec F S1x512x512 .f32) (x11 : Vec F S8x32x512 .f32) (x12 : Vec F S8x32x32 .f32) : FVec F S32x128 .f32 :=
  pairA (View.ld x1 (Rect.unit (s := S32x512) ![0, 384] S32x128.size inb_S32x512_S32x128_0_384)) (View.ld x7 (Rect.unit (s := S1x512x512) ![0, 0, 384] S1x512x128.size inb_S1x512x512_S1x512x128_0_0_384)) (View.ld x8 (Rect.unit (s := S1x512x512) ![0, 0, 384] S1x512x128.size inb_S1x512x512_S1x512x128_0_0_384)) (View.ld x2 (Rect.unit (s := S32x512) ![0, 384] S32x128.size inb_S32x512_S32x128_0_384)) (View.ld x3 (Rect.unit (s := S32x512) ![0, 384] S32x128.size inb_S32x512_S32x128_0_384)) (View.ld x11 (Rect.unit (s := S8x32x512) ![6, 0, 0] S1x32x512.size inb_S8x32x512_S1x32x512_6_0_0)) (View.ld x12 (Rect.unit (s := S8x32x32) ![6, 0, 0] S1x32x32.size inb_S8x32x32_S1x32x32_6_0_0)) (View.ld x11 (Rect.unit (s := S8x32x512) ![7, 0, 0] S1x32x512.size inb_S8x32x512_S1x32x512_7_0_0)) (View.ld x12 (Rect.unit (s := S8x32x32) ![7, 0, 0] S1x32x32.size inb_S8x32x32_S1x32x32_7_0_0))
/-- The four pairs of the second group. -/
def prB0 (x0 : Vec F S8 .f32) (x4 : Vec F S32x512 .bf16) (x5 x6 : Vec F S32x128 .bf16) (x9 x10 : Vec F S1x128x128 .f32) (x13 : Vec F S8x32x128 .f32) (x14 : Vec F S8x32x32 .f32) : FVec F S32x128 .f32 :=
  pairB (View.ld x4 (Rect.unit (s := S32x512) ![0, 0] S32x128.size inb_S32x512_S32x128_0_0)) (View.ld x9 (Rect.unit (s := S1x128x128) ![0, 0, 0] S1x128x128.size inb_S1x128x128_S1x128x128_0_0_0)) (View.ld x10 (Rect.unit (s := S1x128x128) ![0, 0, 0] S1x128x128.size inb_S1x128x128_S1x128x128_0_0_0)) (View.ld x5 (Rect.unit (s := S32x128) ![0, 0] S32x128.size inb_S32x128_S32x128_0_0)) (View.ld x6 (Rect.unit (s := S32x128) ![0, 0] S32x128.size inb_S32x128_S32x128_0_0)) (View.ld x13 (Rect.unit (s := S8x32x128) ![0, 0, 0] S1x32x128.size inb_S8x32x128_S1x32x128_0_0_0)) (View.ld x14 (Rect.unit (s := S8x32x32) ![0, 0, 0] S1x32x32.size inb_S8x32x32_S1x32x32_0_0_0)) ((View.ld x0 (Rect.unit (s := S8) ![0] S1.size inb_S8_S1_0)) (Shape.Idx.first (numel1_S1.symm ▸ Nat.one_pos))) (View.ld x13 (Rect.unit (s := S8x32x128) ![1, 0, 0] S1x32x128.size inb_S8x32x128_S1x32x128_1_0_0)) (View.ld x14 (Rect.unit (s := S8x32x32) ![1, 0, 0] S1x32x32.size inb_S8x32x32_S1x32x32_1_0_0)) ((View.ld x0 (Rect.unit (s := S8) ![1] S1.size inb_S8_S1_1)) (Shape.Idx.first (numel1_S1.symm ▸ Nat.one_pos)))
def prB1 (x0 : Vec F S8 .f32) (x4 : Vec F S32x512 .bf16) (x5 x6 : Vec F S32x128 .bf16) (x9 x10 : Vec F S1x128x128 .f32) (x13 : Vec F S8x32x128 .f32) (x14 : Vec F S8x32x32 .f32) : FVec F S32x128 .f32 :=
  pairB (View.ld x4 (Rect.unit (s := S32x512) ![0, 128] S32x128.size inb_S32x512_S32x128_0_128)) (View.ld x9 (Rect.unit (s := S1x128x128) ![0, 0, 0] S1x128x128.size inb_S1x128x128_S1x128x128_0_0_0)) (View.ld x10 (Rect.unit (s := S1x128x128) ![0, 0, 0] S1x128x128.size inb_S1x128x128_S1x128x128_0_0_0)) (View.ld x5 (Rect.unit (s := S32x128) ![0, 0] S32x128.size inb_S32x128_S32x128_0_0)) (View.ld x6 (Rect.unit (s := S32x128) ![0, 0] S32x128.size inb_S32x128_S32x128_0_0)) (View.ld x13 (Rect.unit (s := S8x32x128) ![2, 0, 0] S1x32x128.size inb_S8x32x128_S1x32x128_2_0_0)) (View.ld x14 (Rect.unit (s := S8x32x32) ![2, 0, 0] S1x32x32.size inb_S8x32x32_S1x32x32_2_0_0)) ((View.ld x0 (Rect.unit (s := S8) ![2] S1.size inb_S8_S1_2)) (Shape.Idx.first (numel1_S1.symm ▸ Nat.one_pos))) (View.ld x13 (Rect.unit (s := S8x32x128) ![3, 0, 0] S1x32x128.size inb_S8x32x128_S1x32x128_3_0_0)) (View.ld x14 (Rect.unit (s := S8x32x32) ![3, 0, 0] S1x32x32.size inb_S8x32x32_S1x32x32_3_0_0)) ((View.ld x0 (Rect.unit (s := S8) ![3] S1.size inb_S8_S1_3)) (Shape.Idx.first (numel1_S1.symm ▸ Nat.one_pos)))
def prB2 (x0 : Vec F S8 .f32) (x4 : Vec F S32x512 .bf16) (x5 x6 : Vec F S32x128 .bf16) (x9 x10 : Vec F S1x128x128 .f32) (x13 : Vec F S8x32x128 .f32) (x14 : Vec F S8x32x32 .f32) : FVec F S32x128 .f32 :=
  pairC (View.ld x4 (Rect.unit (s := S32x512) ![0, 256] S32x128.size inb_S32x512_S32x128_0_256)) (View.ld x9 (Rect.unit (s := S1x128x128) ![0, 0, 0] S1x128x128.size inb_S1x128x128_S1x128x128_0_0_0)) (View.ld x10 (Rect.unit (s := S1x128x128) ![0, 0, 0] S1x128x128.size inb_S1x128x128_S1x128x128_0_0_0)) (View.ld x5 (Rect.unit (s := S32x128) ![0, 0] S32x128.size inb_S32x128_S32x128_0_0)) (View.ld x6 (Rect.unit (s := S32x128) ![0, 0] S32x128.size inb_S32x128_S32x128_0_0)) (View.ld x13 (Rect.unit (s := S8x32x128) ![4, 0, 0] S1x32x128.size inb_S8x32x128_S1x32x128_4_0_0)) (View.ld x14 (Rect.unit (s := S8x32x32) ![4, 0, 0] S1x32x32.size inb_S8x32x32_S1x32x32_4_0_0)) ((View.ld x0 (Rect.unit (s := S8) ![4] S1.size inb_S8_S1_4)) (Shape.Idx.first (numel1_S1.symm ▸ Nat.one_pos))) (View.ld x13 (Rect.unit (s := S8x32x128) ![5, 0, 0] S1x32x128.size inb_S8x32x128_S1x32x128_5_0_0)) (View.ld x14 (Rect.unit (s := S8x32x32) ![5, 0, 0] S1x32x32.size inb_S8x32x32_S1x32x32_5_0_0)) ((View.ld x0 (Rect.unit (s := S8) ![5] S1.size inb_S8_S1_5)) (Shape.Idx.first (numel1_S1.symm ▸ Nat.one_pos)))
def prB3 (x0 : Vec F S8 .f32) (x4 : Vec F S32x512 .bf16) (x5 x6 : Vec F S32x128 .bf16) (x9 x10 : Vec F S1x128x128 .f32) (x13 : Vec F S8x32x128 .f32) (x14 : Vec F S8x32x32 .f32) : FVec F S32x128 .f32 :=
  pairC (View.ld x4 (Rect.unit (s := S32x512) ![0, 384] S32x128.size inb_S32x512_S32x128_0_384)) (View.ld x9 (Rect.unit (s := S1x128x128) ![0, 0, 0] S1x128x128.size inb_S1x128x128_S1x128x128_0_0_0)) (View.ld x10 (Rect.unit (s := S1x128x128) ![0, 0, 0] S1x128x128.size inb_S1x128x128_S1x128x128_0_0_0)) (View.ld x5 (Rect.unit (s := S32x128) ![0, 0] S32x128.size inb_S32x128_S32x128_0_0)) (View.ld x6 (Rect.unit (s := S32x128) ![0, 0] S32x128.size inb_S32x128_S32x128_0_0)) (View.ld x13 (Rect.unit (s := S8x32x128) ![6, 0, 0] S1x32x128.size inb_S8x32x128_S1x32x128_6_0_0)) (View.ld x14 (Rect.unit (s := S8x32x32) ![6, 0, 0] S1x32x32.size inb_S8x32x32_S1x32x32_6_0_0)) ((View.ld x0 (Rect.unit (s := S8) ![6] S1.size inb_S8_S1_6)) (Shape.Idx.first (numel1_S1.symm ▸ Nat.one_pos))) (View.ld x13 (Rect.unit (s := S8x32x128) ![7, 0, 0] S1x32x128.size inb_S8x32x128_S1x32x128_7_0_0)) (View.ld x14 (Rect.unit (s := S8x32x32) ![7, 0, 0] S1x32x32.size inb_S8x32x32_S1x32x32_7_0_0)) ((View.ld x0 (Rect.unit (s := S8) ![7] S1.size inb_S8_S1_7)) (Shape.Idx.first (numel1_S1.symm ▸ Nat.one_pos)))
/-- The normalisers of the groups. -/
def invA (x1 x2 x3 : Vec F S32x512 .bf16) (x7 x8 : Vec F S1x512x512 .f32) (x11 : Vec F S8x32x512 .f32) (x12 : Vec F S8x32x32 .f32) : FVec F S32x1 .f32 := inv (prA0 x1 x2 x3 x7 x8 x11 x12) (prA1 x1 x2 x3 x7 x8 x11 x12) (prA2 x1 x2 x3 x7 x8 x11 x12) (prA3 x1 x2 x3 x7 x8 x11 x12)
def invB (x0 : Vec F S8 .f32) (x4 : Vec F S32x512 .bf16) (x5 x6 : Vec F S32x128 .bf16) (x9 x10 : Vec F S1x128x128 .f32) (x13 : Vec F S8x32x128 .f32) (x14 : Vec F S8x32x32 .f32) : FVec F S32x1 .f32 := inv (prB0 x0 x4 x5 x6 x9 x10 x13 x14) (prB1 x0 x4 x5 x6 x9 x10 x13 x14) (prB2 x0 x4 x5 x6 x9 x10 x13 x14) (prB3 x0 x4 x5 x6 x9 x10 x13 x14)
/-- The eight stores. -/
def stores (x0 : Vec F S8 .f32) (x1 x2 x3 x4 : Vec F S32x512 .bf16) (x5 x6 : Vec F S32x128 .bf16) (x7 x8 : Vec F S1x512x512 .f32) (x9 x10 : Vec F S1x128x128 .f32)
    (x11 : Vec F S8x32x512 .f32) (x12 : Vec F S8x32x32 .f32) (x13 : Vec F S8x32x128 .f32) (x14 : Vec F S8x32x32 .f32) (x15 x16 : Vec F S1x512 .f32) :
    List (View.Piece (Elt F) S32x1024 .bf16) :=
  [⟨Rect.unit (s := S32x1024) ![0, 896] S32x128.size inb_S32x1024_S32x128_0_896, normed (prB3 x0 x4 x5 x6 x9 x10 x13 x14) (invB x0 x4 x5 x6 x9 x10 x13 x14) (View.ld x16 (Rect.unit (s := S1x512) ![0, 384] S1x128.size inb_S1x512_S1x128_0_384))⟩,
    ⟨Rect.unit (s := S32x1024) ![0, 768] S32x128.size inb_S32x1024_S32x128_0_768, normed (prB2 x0 x4 x5 x6 x9 x10 x13 x14) (invB x0 x4 x5 x6 x9 x10 x13 x14) (View.ld x16 (Rect.unit (s := S1x512) ![0, 256] S1x128.size inb_S1x512_S1x128_0_256))⟩,
    ⟨Rect.unit (s := S32x1024) ![0, 640] S32x128.size inb_S32x1024_S32x128_0_640, normed (prB1 x0 x4 x5 x6 x9 x10 x13 x14) (invB x0 x4 x5 x6 x9 x10 x13 x14) (View.ld x16 (Rect.unit (s := S1x512) ![0, 128] S1x128.size inb_S1x512_S1x128_0_128))⟩,
    ⟨Rect.unit (s := S32x1024) ![0, 512] S32x128.size inb_S32x1024_S32x128_0_512, normed (prB0 x0 x4 x5 x6 x9 x10 x13 x14) (invB x0 x4 x5 x6 x9 x10 x13 x14) (View.ld x16 (Rect.unit (s := S1x512) ![0, 0] S1x128.size inb_S1x512_S1x128_0_0))⟩,
    ⟨Rect.unit (s := S32x1024) ![0, 384] S32x128.size inb_S32x1024_S32x128_0_384, normed (prA3 x1 x2 x3 x7 x8 x11 x12) (invA x1 x2 x3 x7 x8 x11 x12) (View.ld x15 (Rect.unit (s := S1x512) ![0, 384] S1x128.size inb_S1x512_S1x128_0_384))⟩,
    ⟨Rect.unit (s := S32x1024) ![0, 256] S32x128.size inb_S32x1024_S32x128_0_256, normed (prA2 x1 x2 x3 x7 x8 x11 x12) (invA x1 x2 x3 x7 x8 x11 x12) (View.ld x15 (Rect.unit (s := S1x512) ![0, 256] S1x128.size inb_S1x512_S1x128_0_256))⟩,
    ⟨Rect.unit (s := S32x1024) ![0, 128] S32x128.size inb_S32x1024_S32x128_0_128, normed (prA1 x1 x2 x3 x7 x8 x11 x12) (invA x1 x2 x3 x7 x8 x11 x12) (View.ld x15 (Rect.unit (s := S1x512) ![0, 128] S1x128.size inb_S1x512_S1x128_0_128))⟩,
    ⟨Rect.unit (s := S32x1024) ![0, 0] S32x128.size inb_S32x1024_S32x128_0_0, normed (prA0 x1 x2 x3 x7 x8 x11 x12) (invA x1 x2 x3 x7 x8 x11 x12) (View.ld x15 (Rect.unit (s := S1x512) ![0, 0] S1x128.size inb_S1x512_S1x128_0_0))⟩]

theorem run_stores  (c : Dev nD) (i : grid0.Coords) (arg1 : Memref sig .tc .smem S8 .f32) (harg1 : arg1.IsWhole) (arg2 : Memref sig .tc .vmem S32x512 .bf16) (harg2 : arg2.IsWhole) (arg3 : Memref sig .tc .vmem S32x512 .bf16) (harg3 : arg3.IsWhole) (arg4 : Memref sig .tc .vmem S32x512 .bf16) (harg4 : arg4.IsWhole) (arg5 : Memref sig .tc .vmem S32x512 .bf16) (harg5 : arg5.IsWhole) (arg6 : Memref sig .tc .vmem S32x128 .bf16) (harg6 : arg6.IsWhole) (arg7 : Memref sig .tc .vmem S32x128 .bf16) (harg7 : arg7.IsWhole) (arg8 : Memref sig .tc .vmem S1x512x512 .f32) (harg8 : arg8.IsWhole) (arg9 : Memref sig .tc .vmem S1x512x512 .f32) (harg9 : arg9.IsWhole) (arg10 : Memref sig .tc .vmem S1x128x128 .f32) (harg10 : arg10.IsWhole) (arg11 : Memref sig .tc .vmem S1x128x128 .f32) (harg11 : arg11.IsWhole) (arg12 : Memref sig .tc .vmem S8x32x512 .f32) (harg12 : arg12.IsWhole) (arg13 : Memref sig .tc .vmem S8x32x32 .f32) (harg13 : arg13.IsWhole) (arg14 : Memref sig .tc .vmem S8x32x128 .f32) (harg14 : arg14.IsWhole) (arg15 : Memref sig .tc .vmem S8x32x32 .f32) (harg15 : arg15.IsWhole) (arg16 : Memref sig .tc .vmem S1x512 .f32) (harg16 : arg16.IsWhole) (arg17 : Memref sig .tc .vmem S1x512 .f32) (harg17 : arg17.IsWhole) (arg18 : Memref sig .tc .vmem S32x1024 .bf16) (harg18 : arg18.IsWhole) (hc0 : ¬cond0_0 i) (hc1 : cond0_1 i)
    (x0 : Vec F S8 .f32) (x1 : Vec F S32x512 .bf16) (x2 : Vec F S32x512 .bf16) (x3 : Vec F S32x512 .bf16) (x4 : Vec F S32x512 .bf16) (x5 : Vec F S32x128 .bf16) (x6 : Vec F S32x128 .bf16) (x7 : Vec F S1x512x512 .f32) (x8 : Vec F S1x512x512 .f32) (x9 : Vec F S1x128x128 .f32) (x10 : Vec F S1x128x128 .f32) (x11 : Vec F S8x32x512 .f32) (x12 : Vec F S8x32x32 .f32) (x13 : Vec F S8x32x128 .f32) (x14 : Vec F S8x32x32 .f32) (x15 : Vec F S1x512 .f32) (x16 : Vec F S1x512 .f32) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 x13 x14 x15 x16).1 = stores x0 x1 x2 x3 x4 x5 x6 x7 x8 x9 x10 x11 x12 x13 x14 x15 x16 := by
  unfold kernelRun0_A
  dsimp only
  try sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread]
  rfl

end Cert.AttnBlock
-- ==== Proof.AttnMath.lean ====
/-
  Attention weights over the extended reals: dividing after the values are mixed or before, keys in one run or in two, and a product
  over the lanes of one head.
-/
module

public import Idealize.ShloMosaic.PureOps.Ideal.Laws

@[expose] public section

noncomputable section

namespace Cert.AttnMath

open Idealize.ShloMosaic
open scoped BigOperators

/-- The greatest of finitely many. -/
def mx {n : ℕ} (s : Fin n → EReal) : EReal := (Finset.univ : Finset (Fin n)).fold max ⊥ s

theorem mx_split {a b : ℕ} (s : Fin (a + b) → EReal) : mx s = max (mx fun j => s (Fin.castAdd b j)) (mx fun j => s (Fin.natAdd a j)) := by
  have h : ∀ {n : ℕ} (f : Fin n → EReal), mx f = Finset.univ.sup f := fun f => rfl
  rw [h, h, h]
  apply le_antisymm
  · refine Finset.sup_le fun j _ => ?_
    refine Fin.addCases (fun i => ?_) (fun i => ?_) j
    · exact le_trans (Finset.le_sup (f := fun i => s (Fin.castAdd b i)) (Finset.mem_univ i)) (le_max_left _ _)
    · exact le_trans (Finset.le_sup (f := fun i => s (Fin.natAdd a i)) (Finset.mem_univ i)) (le_max_right _ _)
  · exact max_le (Finset.sup_le fun i _ => Finset.le_sup (f := s) (Finset.mem_univ _))
      (Finset.sup_le fun i _ => Finset.le_sup (f := s) (Finset.mem_univ _))

/-- A number that is a real. -/
def Rl (x : EReal) : Prop := x ≠ ⊤ ∧ x ≠ ⊥

theorem Rl.lift {x : EReal} (h : Rl x) : ∃ r : ℝ, x = (r : EReal) := ⟨x.toReal, (EReal.coe_toReal h.1 h.2).symm⟩
theorem Rl.coe (r : ℝ) : Rl (r : EReal) := ⟨EReal.coe_ne_top r, EReal.coe_ne_bot r⟩
theorem Rl.add {x y : EReal} (hx : Rl x) (hy : Rl y) : Rl (x + y) := by
  obtain ⟨a, rfl⟩ := hx.lift; obtain ⟨b, rfl⟩ := hy.lift; rw [← EReal.coe_add]; exact .coe _
theorem Rl.mul {x y : EReal} (hx : Rl x) (hy : Rl y) : Rl (x * y) := by
  obtain ⟨a, rfl⟩ := hx.lift; obtain ⟨b, rfl⟩ := hy.lift; rw [← EReal.coe_mul]; exact .coe _
theorem Rl.neg {x : EReal} (hx : Rl x) : Rl (-x) := by
  obtain ⟨a, rfl⟩ := hx.lift; rw [← EReal.coe_neg]; exact .coe _
theorem Rl.sub {x y : EReal} (hx : Rl x) (hy : Rl y) : Rl (x - y) := by
  obtain ⟨a, rfl⟩ := hx.lift; obtain ⟨b, rfl⟩ := hy.lift; rw [← EReal.coe_sub]; exact .coe _
theorem Rl.sum {n : ℕ} (f : Fin n → EReal) (h : ∀ i, Rl (f i)) : Rl (∑ i, f i) :=
  Finset.sum_induction f Rl (fun _ _ => Rl.add) (by rw [← EReal.coe_zero]; exact .coe 0) fun i _ => h i
theorem Rl.max {x y : EReal} (hx : Rl x) (hy : Rl y) : Rl (max x y) := by
  rcases max_choice x y with h | h <;> rw [h] <;> assumption

theorem mx_rl {n : ℕ} (hn : 0 < n) (f : Fin n → EReal) (h : ∀ i, Rl (f i)) : Rl (mx f) := by
  have e : mx f = Finset.univ.sup f := rfl
  haveI : Nonempty (Fin n) := ⟨⟨0, hn⟩⟩
  obtain ⟨i, -, hi⟩ := Finset.exists_mem_eq_sup (Finset.univ : Finset (Fin n)) Finset.univ_nonempty f
  rw [e, hi]; exact h i

/-- The exponential of a number below ⊤ is a real that is not negative, and of a real a positive one. -/
theorem exp_nonneg (x : EReal) : 0 ≤ Ideal.exp x := by
  induction x using EReal.rec with
  | bot => exact le_refl _
  | top => exact le_top
  | coe r => exact EReal.coe_nonneg.2 (Real.exp_pos r).le
theorem exp_rl {x : EReal} (h : x ≠ ⊤) : Rl (Ideal.exp x) := by
  induction x using EReal.rec with
  | bot => exact Rl.coe 0
  | top => exact absurd rfl h
  | coe r => exact Rl.coe _
theorem exp_pos {x : EReal} (h : Rl x) : 0 < Ideal.exp x := by
  obtain ⟨r, rfl⟩ := h.lift; exact EReal.coe_pos.2 (Real.exp_pos r)

theorem sum_mul_pos {n : ℕ} (f : Fin n → EReal) (c : EReal) (h0 : 0 ≤ c) (h1 : c ≠ ⊤) : (∑ i, f i) * c = ∑ i, f i * c := by
  refine Finset.induction_on (Finset.univ : Finset (Fin n)) (by simp) fun a t ha ih => ?_
  rw [Finset.sum_insert ha, Finset.sum_insert ha, mul_comm, EReal.left_distrib_of_nonneg_of_ne_top h0 h1, mul_comm c, mul_comm c, ih]

/-- Mixing the values and dividing by the total, against dividing every weight by the total first. -/
theorem mix_div {n : ℕ} (e v : Fin n → EReal) (D : EReal) (hD : Rl D) (hp : 0 < D) :
    Ideal.div (∑ j, e j * v j) D = ∑ j, Ideal.div (e j) D * v j := by
  obtain ⟨d, rfl⟩ := hD.lift
  have hd : 0 < d := EReal.coe_pos.1 hp
  have h : ∀ x, Ideal.div x (d : EReal) = x * ((1 / d : ℝ) : EReal) := fun x => Ideal.div_coe hd.ne' x
  rw [h, sum_mul_pos _ _ (EReal.coe_nonneg.2 (by positivity)) (EReal.coe_ne_top _)]
  refine Finset.sum_congr rfl fun j _ => ?_
  rw [h, mul_right_comm]

/-- One head over keys in two runs, as the kernel takes it. -/
def split {a b : ℕ} (sc : Fin a → EReal) (sn : Fin b → EReal) (m x : EReal) (vc : Fin a → EReal) (vn : Fin b → EReal) : EReal :=
  Ideal.div ((∑ j, Ideal.exp (sc j - m) * vc j) + ∑ j, Ideal.exp (sn j - m) * vn j)
    (((∑ j, Ideal.exp (sc j - m)) + ∑ j, Ideal.exp (sn j - m)) + x)

/-- One head over keys in one run, every weight divided first. -/
def whole {n : ℕ} (s : Fin n → EReal) (m x : EReal) (v : Fin n → EReal) : EReal :=
  ∑ j, Ideal.div (Ideal.exp (s j - m)) ((∑ j, Ideal.exp (s j - m)) + x) * v j

theorem split_eq_whole {a b : ℕ} (h : 0 < a + b) (s v : Fin (a + b) → EReal) (m x : EReal) (hs : ∀ j, Rl (s j)) (hm : Rl m) (hx : 0 ≤ x) (hx' : Rl x) :
    split (fun j => s (Fin.castAdd b j)) (fun j => s (Fin.natAdd a j)) m x (fun j => v (Fin.castAdd b j)) (fun j => v (Fin.natAdd a j))
      = whole s m x v := by
  unfold split whole
  rw [← Fin.sum_univ_add (fun j => Ideal.exp (s j - m) * v j), ← Fin.sum_univ_add (fun j => Ideal.exp (s j - m))]
  refine mix_div _ _ _ ?_ ?_
  · exact (Rl.sum _ fun j => exp_rl ((hs j).sub hm).1).add hx'
  · refine lt_of_lt_of_le (exp_pos ((hs ⟨0, h⟩).sub hm)) ?_
    refine le_trans (Finset.single_le_sum (f := fun j => Ideal.exp (s j - m)) (fun j _ => exp_nonneg _) (Finset.mem_univ _)) ?_
    exact le_add_of_nonneg_right hx

/-- A sum over 128 lanes that vanishes off one half is a sum over that half's 64 lanes. -/
theorem sum_half (f : Fin 128 → EReal) (p : Fin 2) (h : ∀ l : Fin 128, l.val / 64 ≠ p.val → f l = 0) :
    ∑ l, f l = ∑ d : Fin 64, f (⟨64 * p.val + d.val, by omega⟩ : Fin 128) := by
  rw [show (∑ l, f l) = ∑ l : Fin (64 + 64), f l from rfl, Fin.sum_univ_add]
  match p with
  | ⟨0, _⟩ =>
    rw [Finset.sum_eq_zero (f := fun i : Fin 64 => f (Fin.natAdd 64 i)) fun i _ => h _ (by
      show (64 + i.val) / 64 ≠ 0; omega), add_zero]
    exact Finset.sum_congr rfl fun d _ => congrArg f (Fin.ext (by show d.val = 64 * 0 + d.val; omega))
  | ⟨1, _⟩ =>
    rw [Finset.sum_eq_zero (f := fun i : Fin 64 => f (Fin.castAdd 64 i)) fun i _ => h _ (by
      show i.val / 64 ≠ 1; omega), zero_add]
    exact Finset.sum_congr rfl fun d _ => congrArg f (Fin.ext (by show 64 + d.val = 64 * 1 + d.val; omega))

end Cert.AttnMath
-- ==== Proof.AttnPoint.lean ====
/-
  The elements of a head's output, of a pair's, and of a normalised pair, over the extended reals.
-/
module

public import proofs.«01_k».proof.Proof.AttnOps
public import proofs.«01_k».proof.Proof.AttnMath
public import Idealize.ShloMosaic.Lib.Pipeline.Value
public import Idealize.ShloMosaic.Lib.ValueIdx
public import Idealize.ShloMosaic.Lib.ValueLayout
public import Idealize.ShloMosaic.Lib.ValueLayoutCasts
public import Idealize.ShloMosaic.Lib.MatmulPlain
public import Idealize.ShloMosaic.PureOps.Ideal.Laws

@[expose] public section

noncomputable section

namespace Cert.AttnBlock

open Cert.AttnIdeal Cert.AttnIdeal.Gen Cert.AttnMath
open Idealize.ShloMosaic Idealize.ShloMosaic.TcCoe Idealize.ShloMosaic.ValueIdx
open scoped BigOperators

/-! ## Scores -/

theorem scoreA_apply (q : FVec Ideal S32x128 .bf16) (k : FVec Ideal S512x128 .bf16) (b : Vec Ideal S1x32x512 .f32) (i : Fin 32) (j : Fin 512) :
    scoreA q k b (ix2 i j) = (∑ l : Fin 128, q (ix2 i l) * k (ix2 j l)) + b (ix3 (0 : Fin 1) i j) := by
  refine congrArg₂ (· + ·) ((Ideal.matmul_transposedRhs_apply (M := 32) (K := 128) (N := 512) none q k _ i j).trans ?_)
    (shapeCast_1ab_ab_apply (a := 32) (b := 512) b _ i j)
  exact (congrArg (· + _) Ideal.ofBits_zero_f32).trans (zero_add _)

theorem scoreB_apply (q : FVec Ideal S32x128 .bf16) (k : FVec Ideal S128x128 .bf16) (b : Vec Ideal S1x32x128 .f32) (i : Fin 32) (j : Fin 128) :
    scoreB q k b (ix2 i j) = (∑ l : Fin 128, q (ix2 i l) * k (ix2 j l)) + b (ix3 (0 : Fin 1) i j) := by
  refine congrArg₂ (· + ·) ((Ideal.matmul_transposedRhs_apply (M := 32) (K := 128) (N := 128) none q k _ i j).trans ?_)
    (shapeCast_1ab_ab_apply (a := 32) (b := 128) b _ i j)
  exact (congrArg (· + _) Ideal.ofBits_zero_f32).trans (zero_add _)

theorem scoreN_apply (q : FVec Ideal S32x128 .bf16) (k : FVec Ideal S32x128 .bf16) (b : Vec Ideal S1x32x32 .f32) (i : Fin 32) (j : Fin 32) :
    scoreN q k b (ix2 i j) = (∑ l : Fin 128, q (ix2 i l) * k (ix2 j l)) + b (ix3 (0 : Fin 1) i j) := by
  refine congrArg₂ (· + ·) ((Ideal.matmul_transposedRhs_apply (M := 32) (K := 128) (N := 32) none q k _ i j).trans ?_)
    (shapeCast_1ab_ab_apply (a := 32) (b := 32) b _ i j)
  exact (congrArg (· + _) Ideal.ofBits_zero_f32).trans (zero_add _)

/-! ## Row maxima and sums -/

theorem liftA (i : Fin 32) (k : Fin 512) : reduces_S32x512_S32.lift (ix1 i) k = ix2 i k := by
  funext a; match a with | ⟨0, _⟩ => rfl | ⟨1, _⟩ => rfl
theorem liftB (i : Fin 32) (k : Fin 128) : reduces_S32x128_S32.lift (ix1 i) k = ix2 i k := by
  funext a; match a with | ⟨0, _⟩ => rfl | ⟨1, _⟩ => rfl
theorem liftN (i : Fin 32) (k : Fin 32) : reduces_S32x32_S32.lift (ix1 i) k = ix2 i k := by
  funext a; match a with | ⟨0, _⟩ => rfl | ⟨1, _⟩ => rfl

theorem negInf : (FloatOps.ofBits (F := Ideal) .f32 0xFF800000#32 : EReal) = ⊥ := by
  show Ideal.ofBits .f32 0xFF800000#32 = ⊥
  simp [Ideal.ofBits, Ideal.ieee]
theorem zeroB : (Scalar.ofBits (F := Ideal) .bf16 0x0000#16 : EReal) = 0 := by
  show Ideal.ofBits .bf16 0x0000#16 = 0
  simp [Ideal.ofBits, Ideal.ieee]

/-- The factor of the scores. -/
def c8 : EReal := ((1 / 8 : ℝ) : EReal)
theorem c8_bf16 : (Scalar.ofBits (F := Ideal) .bf16 0x3E00#16 : EReal) = c8 := by
  show Ideal.ofBits .bf16 0x3E00#16 = c8
  unfold c8
  simp [Ideal.ofBits, Ideal.ieee, -EReal.coe_mul]; norm_num

theorem maxA_apply (s : FVec Ideal S32x512 .f32) (i : Fin 32) : maxA s (ix2 i (0 : Fin 1)) = mx fun j => s (ix2 i j) := by
  refine (shapeCast_a_a1_apply (a := 32) _ _ i 0).trans ((Ideal.multiReduction_maximumf_single _ _ _ _ _ (ix1 i)).trans ?_)
  rw [negInf]
  exact Finset.fold_congr fun j _ => congrArg s (liftA i j)
theorem maxB_apply (s : FVec Ideal S32x128 .f32) (i : Fin 32) : maxB s (ix2 i (0 : Fin 1)) = mx fun j => s (ix2 i j) := by
  refine (shapeCast_a_a1_apply (a := 32) _ _ i 0).trans ((Ideal.multiReduction_maximumf_single _ _ _ _ _ (ix1 i)).trans ?_)
  rw [negInf]
  exact Finset.fold_congr fun j _ => congrArg s (liftB i j)
theorem maxN_apply (s : FVec Ideal S32x32 .f32) (i : Fin 32) : maxN s (ix2 i (0 : Fin 1)) = mx fun j => s (ix2 i j) := by
  refine (shapeCast_a_a1_apply (a := 32) _ _ i 0).trans ((Ideal.multiReduction_maximumf_single _ _ _ _ _ (ix1 i)).trans ?_)
  rw [negInf]
  exact Finset.fold_congr fun j _ => congrArg s (liftN i j)
theorem sumA_apply (s : FVec Ideal S32x512 .f32) (i : Fin 32) : sumA s (ix2 i (0 : Fin 1)) = ∑ j : Fin 512, s (ix2 i j) :=
  (shapeCast_a_a1_apply (a := 32) _ _ i 0).trans ((Ideal.multiReduction_add_single _ _ _ _ _ (ix1 i)).trans
    (Finset.sum_congr rfl fun j _ => congrArg s (liftA i j)))
theorem sumB_apply (s : FVec Ideal S32x128 .f32) (i : Fin 32) : sumB s (ix2 i (0 : Fin 1)) = ∑ j : Fin 128, s (ix2 i j) :=
  (shapeCast_a_a1_apply (a := 32) _ _ i 0).trans ((Ideal.multiReduction_add_single _ _ _ _ _ (ix1 i)).trans
    (Finset.sum_congr rfl fun j _ => congrArg s (liftB i j)))
theorem sumN_apply (s : FVec Ideal S32x32 .f32) (i : Fin 32) : sumN s (ix2 i (0 : Fin 1)) = ∑ j : Fin 32, s (ix2 i j) :=
  (shapeCast_a_a1_apply (a := 32) _ _ i 0).trans ((Ideal.multiReduction_add_single _ _ _ _ _ (ix1 i)).trans
    (Finset.sum_congr rfl fun j _ => congrArg s (liftN i j)))

theorem colA_apply (v : FVec Ideal S32x1 .f32) (i : Fin 32) (j : Fin 512) : broadcastTo S32x512 v broadcasts_S32x1_S32x512 (ix2 i j) = v (ix2 i (0 : Fin 1)) :=
  broadcastTo_apply v _ (ix2 i j) (ix2 i (0 : Fin 1)) fun ax => match ax with | ⟨0, _⟩ => rfl | ⟨1, _⟩ => rfl
theorem colB_apply (v : FVec Ideal S32x1 .f32) (i : Fin 32) (j : Fin 128) : broadcastTo S32x128 v broadcasts_S32x1_S32x128 (ix2 i j) = v (ix2 i (0 : Fin 1)) :=
  broadcastTo_apply v _ (ix2 i j) (ix2 i (0 : Fin 1)) fun ax => match ax with | ⟨0, _⟩ => rfl | ⟨1, _⟩ => rfl
theorem colN_apply (v : FVec Ideal S32x1 .f32) (i : Fin 32) (j : Fin 32) : broadcastTo S32x32 v broadcasts_S32x1_S32x32 (ix2 i j) = v (ix2 i (0 : Fin 1)) :=
  broadcastTo_apply v _ (ix2 i j) (ix2 i (0 : Fin 1)) fun ax => match ax with | ⟨0, _⟩ => rfl | ⟨1, _⟩ => rfl

theorem expA_apply (s : FVec Ideal S32x512 .f32) (m : FVec Ideal S32x1 .f32) (i : Fin 32) (j : Fin 512) :
    expA s m (ix2 i j) = Ideal.exp (s (ix2 i j) - m (ix2 i (0 : Fin 1))) := congrArg (fun x => Ideal.exp (s (ix2 i j) - x)) (colA_apply m i j)
theorem expB_apply (s : FVec Ideal S32x128 .f32) (m : FVec Ideal S32x1 .f32) (i : Fin 32) (j : Fin 128) :
    expB s m (ix2 i j) = Ideal.exp (s (ix2 i j) - m (ix2 i (0 : Fin 1))) := congrArg (fun x => Ideal.exp (s (ix2 i j) - x)) (colB_apply m i j)
theorem expN_apply (s : FVec Ideal S32x32 .f32) (m : FVec Ideal S32x1 .f32) (i : Fin 32) (j : Fin 32) :
    expN s m (ix2 i j) = Ideal.exp (s (ix2 i j) - m (ix2 i (0 : Fin 1))) := congrArg (fun x => Ideal.exp (s (ix2 i j) - x)) (colN_apply m i j)

theorem mixA_apply (e : FVec Ideal S32x512 .f32) (v : FVec Ideal S512x128 .bf16) (i : Fin 32) (l : Fin 128) :
    mixA e v (ix2 i l) = ∑ j : Fin 512, e (ix2 i j) * v (ix2 j l) :=
  (Ideal.matmul_plain_apply (M := 32) (K := 512) (N := 128) none _ _ _ i l).trans
    ((congrArg (· + _) Ideal.ofBits_zero_f32).trans (zero_add _))
theorem mixB_apply (e : FVec Ideal S32x128 .f32) (v : FVec Ideal S128x128 .bf16) (i : Fin 32) (l : Fin 128) :
    mixB e v (ix2 i l) = ∑ j : Fin 128, e (ix2 i j) * v (ix2 j l) :=
  (Ideal.matmul_plain_apply (M := 32) (K := 128) (N := 128) none _ _ _ i l).trans
    ((congrArg (· + _) Ideal.ofBits_zero_f32).trans (zero_add _))
theorem mixN_apply (e : FVec Ideal S32x32 .f32) (v : FVec Ideal S32x128 .bf16) (i : Fin 32) (l : Fin 128) :
    mixN e v (ix2 i l) = ∑ j : Fin 32, e (ix2 i j) * v (ix2 j l) :=
  (Ideal.matmul_plain_apply (M := 32) (K := 32) (N := 128) none _ _ _ i l).trans
    ((congrArg (· + _) Ideal.ofBits_zero_f32).trans (zero_add _))

/-! ## Heads -/

theorem headA_apply (q : FVec Ideal S32x128 .bf16) (kc vc : FVec Ideal S512x128 .bf16) (kn vn : FVec Ideal S32x128 .bf16)
    (bc : Vec Ideal S1x32x512 .f32) (bn : Vec Ideal S1x32x32 .f32) (i : Fin 32) (l : Fin 128) :
    headA q kc vc kn vn bc bn (ix2 i l)
      = split (fun j => scoreA q kc bc (ix2 i j)) (fun j => scoreN q kn bn (ix2 i j))
          (max (mx fun j => scoreA q kc bc (ix2 i j)) (mx fun j => scoreN q kn bn (ix2 i j))) 0 (fun j => vc (ix2 j l)) (fun j => vn (ix2 j l)) := by
  have hm : (maximumf (maxA (scoreA q kc bc)) (maxN (scoreN q kn bn)) : FVec Ideal S32x1 .f32) (ix2 i (0 : Fin 1))
      = max (mx fun j => scoreA q kc bc (ix2 i j)) (mx fun j => scoreN q kn bn (ix2 i j)) :=
    congrArg₂ max (maxA_apply _ i) (maxN_apply _ i)
  unfold headA joinA split
  rw [add_zero]
  refine congrArg₂ Ideal.div (congrArg₂ (· + ·) ((mixA_apply _ _ i l).trans ?_) ((mixN_apply _ _ i l).trans ?_))
    ((colB_apply _ i l).trans (congrArg₂ (· + ·) ((sumA_apply _ i).trans ?_) ((sumN_apply _ i).trans ?_))) <;>
    refine Finset.sum_congr rfl fun j _ => ?_ <;> simp only [expA_apply, expN_apply, hm]

theorem headB_apply (q : FVec Ideal S32x128 .bf16) (kc vc : FVec Ideal S128x128 .bf16) (kn vn : FVec Ideal S32x128 .bf16)
    (bc : Vec Ideal S1x32x128 .f32) (bn : Vec Ideal S1x32x32 .f32) (sink : EReal) (i : Fin 32) (l : Fin 128) :
    headB q kc vc kn vn bc bn sink (ix2 i l)
      = split (fun j => scoreB q kc bc (ix2 i j)) (fun j => scoreN q kn bn (ix2 i j))
          (max (max (mx fun j => scoreB q kc bc (ix2 i j)) (mx fun j => scoreN q kn bn (ix2 i j))) sink)
          (Ideal.exp (sink - max (max (mx fun j => scoreB q kc bc (ix2 i j)) (mx fun j => scoreN q kn bn (ix2 i j))) sink))
          (fun j => vc (ix2 j l)) (fun j => vn (ix2 j l)) := by
  have hm : (maximumf (maximumf (maxB (scoreB q kc bc)) (maxN (scoreN q kn bn))) (broadcast S32x1 (sink : Elt Ideal .f32)) : FVec Ideal S32x1 .f32) (ix2 i (0 : Fin 1))
      = max (max (mx fun j => scoreB q kc bc (ix2 i j)) (mx fun j => scoreN q kn bn (ix2 i j))) sink :=
    congrArg (max · sink) (congrArg₂ max (maxB_apply _ i) (maxN_apply _ i))
  unfold headB joinB split
  refine congrArg₂ Ideal.div (congrArg₂ (· + ·) ((mixB_apply _ _ i l).trans ?_) ((mixN_apply _ _ i l).trans ?_))
    ((colB_apply _ i l).trans (congrArg₂ (· + ·) (congrArg₂ (· + ·) ((sumB_apply _ i).trans ?_) ((sumN_apply _ i).trans ?_))
      (congrArg (fun x => Ideal.exp (sink - x)) hm))) <;>
    refine Finset.sum_congr rfl fun j _ => ?_ <;> simp only [expB_apply, expN_apply, hm]

/-! ## Lanes -/

theorem lo_apply (i : Fin 32) (l : Fin 128) : lo (ix2 i l) = if l.val / 64 = 0 then 1#1 else 0#1 := by
  unfold lo
  show IntOp.cmpi .slt (iota .tc S32x128 32 [1] iota_S32x128_d1_w32 (ix2 i l)) 64#32 = _
  rw [Idealize.ShloMosaic.iota_single_apply]
  show IntOp.cmpi .slt (BitVec.ofNat 32 l.val) 64#32 = _
  revert l; decide
theorem hi_apply (i : Fin 32) (l : Fin 128) : hi (ix2 i l) = if l.val / 64 = 0 then 0#1 else 1#1 := by
  unfold hi
  show IntOp.xori (lo (ix2 i l)) 1#1 = _
  rw [lo_apply]
  split <;> decide

theorem masked_lo (q : Vec Ideal S32x128 .bf16) (i : Fin 32) (l : Fin 128) :
    masked lo (scaled q) (ix2 i l) = if l.val / 64 = 0 then q (ix2 i l) * c8 else 0 := by
  show Scalar.select (lo (ix2 i l)) (q (ix2 i l) * (Scalar.ofBits (F := Ideal) .bf16 0x3E00#16 : EReal)) (Scalar.ofBits (F := Ideal) .bf16 0x0000#16 : EReal) = _
  rw [lo_apply, c8_bf16, zeroB]
  split <;> rfl
theorem masked_hi (q : Vec Ideal S32x128 .bf16) (i : Fin 32) (l : Fin 128) :
    masked hi (scaled q) (ix2 i l) = if l.val / 64 = 0 then 0 else q (ix2 i l) * c8 := by
  show Scalar.select (hi (ix2 i l)) (q (ix2 i l) * (Scalar.ofBits (F := Ideal) .bf16 0x3E00#16 : EReal)) (Scalar.ofBits (F := Ideal) .bf16 0x0000#16 : EReal) = _
  rw [hi_apply, c8_bf16, zeroB]
  split <;> rfl

/-- The lane across in the other half. -/
def across (l : Fin 128) : Fin 128 := ⟨(l.val + 64) % 128, Nat.mod_lt _ (by decide)⟩

theorem swap_apply {φ : FTy} (x : FVec Ideal S32x128 φ) (i : Fin 32) (l : Fin 128) : swap x (ix2 i l) = x (ix2 i (across l)) := by
  unfold swap
  by_cases hl : l.val < 64
  · refine (concatenate_pair_apply_left (t := S32x128) (s₁ := S32x64) (s₂ := S32x64) 1 _ _ _ (ix2 i l) rfl (ix2 i (⟨l.val, hl⟩ : Fin 64))
      fun b => match b with | ⟨0, _⟩ => rfl | ⟨1, _⟩ => rfl).trans ?_
    refine Idealize.ShloMosaic.extractStridedSlice_apply (s := S32x128) (t := S32x64) _ x _ _ (ix2 i (across l)) fun a => match a with
      | ⟨0, _⟩ => by show i.val = 0 + i.val; omega
      | ⟨1, _⟩ => by show (l.val + 64) % 128 = 64 + l.val; omega
  · refine (concatenate_pair_apply_right (t := S32x128) (s₁ := S32x64) (s₂ := S32x64) 1 _ _ _ (ix2 i l) rfl rfl (ix2 i (⟨l.val - 64, by omega⟩ : Fin 64))
      (fun b => match b with | ⟨0, _⟩ => fun _ => rfl | ⟨1, _⟩ => fun h => absurd rfl h) (by show l.val - 64 + 64 = l.val; omega)).trans ?_
    refine Idealize.ShloMosaic.extractStridedSlice_apply (s := S32x128) (t := S32x64) _ x _ _ (ix2 i (across l)) fun a => match a with
      | ⟨0, _⟩ => by show i.val = 0 + i.val; omega
      | ⟨1, _⟩ => by show (l.val + 64) % 128 = 0 + (l.val - 64); omega

theorem cacheA_apply (x : Vec Ideal S1x512x128 .f32) (j : Fin 512) (l : Fin 128) : cacheA x (ix2 j l) = x (ix3 (0 : Fin 1) j l) :=
  shapeCast_1ab_ab_apply (a := 512) (b := 128) x _ j l
theorem cacheB_apply (x : Vec Ideal S1x128x128 .f32) (j : Fin 128) (l : Fin 128) : cacheB x (ix2 j l) = x (ix3 (0 : Fin 1) j l) :=
  shapeCast_1ab_ab_apply (a := 128) (b := 128) x _ j l

end Cert.AttnBlock
-- ==== Proof.AttnBlock.lean ====
/-
  What one grid point of the attention call leaves in its output block, element by element: heads of 64 lanes, each group normalised
  over its 512 lanes.
-/
module

public import proofs.«01_k».proof.Proof.AttnPieces
public import proofs.«01_k».proof.Proof.AttnPoint
public import Idealize.ShloMosaic.Lib.Pipeline.ValueKit.Tiles

@[expose] public section

set_option maxRecDepth 16384

noncomputable section

namespace Cert.AttnBlock

open Cert.AttnIdeal Cert.AttnIdeal.Gen Cert.AttnMath
open Idealize.ShloMosaic
open Idealize.ShloMosaic.TcCoe Idealize.ShloMosaic.ValueIdx
open scoped BigOperators

/-! ## A head, of its queries, keys and values -/

/-- A score: the scaled queries against a key, and the bias. -/
def sco (q k : Fin 64 → EReal) (b : EReal) : EReal := (∑ d : Fin 64, q d * c8 * k d) + b

/-- A head of the first group. -/
def hdA {a : ℕ} (q : Fin 64 → EReal) (kc : Fin a → Fin 64 → EReal) (kn : Fin 32 → Fin 64 → EReal) (bc : Fin a → EReal) (bn : Fin 32 → EReal)
    (vc : Fin a → EReal) (vn : Fin 32 → EReal) : EReal :=
  split (fun j => sco q (kc j) (bc j)) (fun j => sco q (kn j) (bn j))
    (max (mx fun j => sco q (kc j) (bc j)) (mx fun j => sco q (kn j) (bn j))) 0 vc vn

/-- A head of the second group, with its sink. -/
def hdB {a : ℕ} (q : Fin 64 → EReal) (kc : Fin a → Fin 64 → EReal) (kn : Fin 32 → Fin 64 → EReal) (bc : Fin a → EReal) (bn : Fin 32 → EReal)
    (vc : Fin a → EReal) (vn : Fin 32 → EReal) (sink : EReal) : EReal :=
  split (fun j => sco q (kc j) (bc j)) (fun j => sco q (kn j) (bn j))
    (max (max (mx fun j => sco q (kc j) (bc j)) (mx fun j => sco q (kn j) (bn j))) sink)
    (Ideal.exp (sink - max (max (mx fun j => sco q (kc j) (bc j)) (mx fun j => sco q (kn j) (bn j))) sink)) vc vn

/-! ## The lanes of a pair -/

/-- Lane `d` of the `p`-th half. -/
def lane (p : Fin 2) (d : Fin 64) : Fin 128 := ⟨64 * p.val + d.val, by omega⟩

/-- Queries that hold half `h` of `q`, scaled, in half `g`, and zeros in the other half. -/
def Feed (qm : FVec Ideal S32x128 .bf16) (q : Vec Ideal S32x128 .bf16) (h g : Fin 2) : Prop :=
  ∀ i : Fin 32, (∀ d, qm (ix2 i (lane g d)) = q (ix2 i (lane h d)) * c8) ∧ ∀ l : Fin 128, l.val / 64 ≠ g.val → qm (ix2 i l) = 0

theorem lane_half (p : Fin 2) (d : Fin 64) : (lane p d).val / 64 = p.val := by show (64 * p.val + d.val) / 64 = p.val; omega
theorem across_lane0 (d : Fin 64) : across (lane 0 d) = lane 1 d := Fin.ext (by show (64 * 0 + d.val + 64) % 128 = 64 * 1 + d.val; omega)
theorem across_lane1 (d : Fin 64) : across (lane 1 d) = lane 0 d := Fin.ext (by show (64 * 1 + d.val + 64) % 128 = 64 * 0 + d.val; omega)
theorem across_half (l : Fin 128) : (across l).val / 64 = 1 - l.val / 64 := by show (l.val + 64) % 128 / 64 = 1 - l.val / 64; omega

theorem feed_lo (q : Vec Ideal S32x128 .bf16) : Feed (masked lo (scaled q)) q 0 0 := fun i =>
  ⟨fun d => (masked_lo q i _).trans (if_pos (lane_half 0 d)), fun l hl => (masked_lo q i l).trans (if_neg hl)⟩
theorem feed_hi (q : Vec Ideal S32x128 .bf16) : Feed (masked hi (scaled q)) q 1 1 := fun i =>
  ⟨fun d => (masked_hi q i _).trans (if_neg (by rw [lane_half]; decide)), fun l hl => (masked_hi q i l).trans (if_pos (by
    have h1 : l.val / 64 ≠ 1 := hl
    omega))⟩
theorem feed_swap_hi (q : Vec Ideal S32x128 .bf16) : Feed (swap (masked hi (scaled q))) q 1 0 := fun i =>
  ⟨fun d => (swap_apply _ i _).trans (by rw [across_lane0]; exact (feed_hi q i).1 d), fun l hl => (swap_apply _ i l).trans ((feed_hi q i).2 _ (by
    have h1 : l.val / 64 ≠ 0 := hl
    rw [across_half]; show 1 - l.val / 64 ≠ 1; omega))⟩
theorem feed_swap_lo (q : Vec Ideal S32x128 .bf16) : Feed (swap (masked lo (scaled q))) q 0 1 := fun i =>
  ⟨fun d => (swap_apply _ i _).trans (by rw [across_lane1]; exact (feed_lo q i).1 d), fun l hl => (swap_apply _ i l).trans ((feed_lo q i).2 _ (by
    have h1 : l.val / 64 ≠ 1 := hl
    rw [across_half]; show 1 - l.val / 64 ≠ 0; omega))⟩

theorem dot_feed {qm : FVec Ideal S32x128 .bf16} {q : Vec Ideal S32x128 .bf16} {h g : Fin 2} (hf : Feed qm q h g) (i : Fin 32) (k : Fin 128 → EReal) :
    (∑ l : Fin 128, qm (ix2 i l) * k l) = ∑ d : Fin 64, q (ix2 i (lane h d)) * c8 * k (lane g d) := by
  rw [sum_half (fun l => qm (ix2 i l) * k l) g fun l hl => by rw [(hf i).2 l hl, zero_mul]]
  exact Finset.sum_congr rfl fun d _ => congrArg (· * k (lane g d)) ((hf i).1 d)

section
variable {qm : FVec Ideal S32x128 .bf16} {q : Vec Ideal S32x128 .bf16} {h g : Fin 2}

theorem headA_feed (hf : Feed qm q h g) (kc vc : Vec Ideal S1x512x128 .f32) (kn vn : Vec Ideal S32x128 .bf16)
    (bc : Vec Ideal S1x32x512 .f32) (bn : Vec Ideal S1x32x32 .f32) (i : Fin 32) (l : Fin 128) :
    headA qm (cacheA kc) (cacheA vc) kn vn bc bn (ix2 i l)
      = hdA (fun d => q (ix2 i (lane h d))) (fun j d => kc (ix3 (0 : Fin 1) j (lane g d))) (fun j d => kn (ix2 j (lane g d)))
          (fun j => bc (ix3 (0 : Fin 1) i j)) (fun j => bn (ix3 (0 : Fin 1) i j)) (fun j => vc (ix3 (0 : Fin 1) j l)) (fun j => vn (ix2 j l)) := by
  have hc : (fun j => scoreA qm (cacheA kc) bc (ix2 i j))
      = fun j => sco (fun d => q (ix2 i (lane h d))) (fun d => kc (ix3 (0 : Fin 1) j (lane g d))) (bc (ix3 (0 : Fin 1) i j)) := funext fun j => by
    rw [scoreA_apply, dot_feed hf i fun l => cacheA kc (ix2 j l)]
    exact congrArg (· + _) (Finset.sum_congr rfl fun d _ => congrArg (_ * ·) (cacheA_apply kc j _))
  have hn : (fun j => scoreN qm kn bn (ix2 i j))
      = fun j => sco (fun d => q (ix2 i (lane h d))) (fun d => kn (ix2 j (lane g d))) (bn (ix3 (0 : Fin 1) i j)) := funext fun j => by
    rw [scoreN_apply, dot_feed hf i fun l => kn (ix2 j l)]; rfl
  rw [headA_apply, hc, hn]
  unfold hdA
  congr 1
  exact funext fun j => cacheA_apply vc j l

theorem headB_feed (hf : Feed qm q h g) (kc vc : Vec Ideal S1x128x128 .f32) (kn vn : Vec Ideal S32x128 .bf16)
    (bc : Vec Ideal S1x32x128 .f32) (bn : Vec Ideal S1x32x32 .f32) (sink : EReal) (i : Fin 32) (l : Fin 128) :
    headB qm (cacheB kc) (cacheB vc) kn vn bc bn sink (ix2 i l)
      = hdB (fun d => q (ix2 i (lane h d))) (fun j d => kc (ix3 (0 : Fin 1) j (lane g d))) (fun j d => kn (ix2 j (lane g d)))
          (fun j => bc (ix3 (0 : Fin 1) i j)) (fun j => bn (ix3 (0 : Fin 1) i j)) (fun j => vc (ix3 (0 : Fin 1) j l)) (fun j => vn (ix2 j l)) sink := by
  have hc : (fun j => scoreB qm (cacheB kc) bc (ix2 i j))
      = fun j => sco (fun d => q (ix2 i (lane h d))) (fun d => kc (ix3 (0 : Fin 1) j (lane g d))) (bc (ix3 (0 : Fin 1) i j)) := funext fun j => by
    rw [scoreB_apply, dot_feed hf i fun l => cacheB kc (ix2 j l)]
    exact congrArg (· + _) (Finset.sum_congr rfl fun d _ => congrArg (_ * ·) (cacheB_apply kc j _))
  have hn : (fun j => scoreN qm kn bn (ix2 i j))
      = fun j => sco (fun d => q (ix2 i (lane h d))) (fun d => kn (ix2 j (lane g d))) (bn (ix3 (0 : Fin 1) i j)) := funext fun j => by
    rw [scoreN_apply, dot_feed hf i fun l => kn (ix2 j l)]; rfl
  rw [headB_apply, hc, hn]
  unfold hdB
  congr 1
  exact funext fun j => cacheB_apply vc j l
end

theorem select_lo (x y : FVec Ideal S32x128 .f32) (i : Fin 32) (d : Fin 64) : select lo x y (ix2 i (lane 0 d)) = x (ix2 i (lane 0 d)) := by
  show Scalar.select (lo _) _ _ = _
  rw [lo_apply, if_pos (show (lane 0 d).val / 64 = 0 from lane_half 0 d)]; rfl
theorem select_hi (x y : FVec Ideal S32x128 .f32) (i : Fin 32) (d : Fin 64) : select lo x y (ix2 i (lane 1 d)) = y (ix2 i (lane 1 d)) := by
  show Scalar.select (lo _) _ _ = _
  rw [lo_apply, if_neg (by rw [lane_half]; decide)]; rfl

/-! ## The blocks' heads -/

/-- Lane `d` of head `n` among 512, and of its key head among 128. -/
def ln (n : Fin 8) (d : Fin 64) : Fin 512 := ⟨64 * n.val + d.val, by omega⟩
def lg (n : Fin 8) (d : Fin 64) : Fin 128 := ⟨64 * (n.val / 4) + d.val, by omega⟩

def hA (x1 x2 x3 : Vec Ideal S32x512 .bf16) (x7 x8 : Vec Ideal S1x512x512 .f32) (x11 : Vec Ideal S8x32x512 .f32) (x12 : Vec Ideal S8x32x32 .f32) (i : Fin 32) (n : Fin 8) (d : Fin 64) : EReal :=
  hdA (fun e => x1 (ix2 i (ln n e))) (fun j e => x7 (ix3 (0 : Fin 1) j (ln n e))) (fun j e => x2 (ix2 j (ln n e)))
    (fun j => x11 (ix3 n i j)) (fun j => x12 (ix3 n i j)) (fun j => x8 (ix3 (0 : Fin 1) j (ln n d))) (fun j => x3 (ix2 j (ln n d)))

def hB (x0 : Vec Ideal S8 .f32) (x4 : Vec Ideal S32x512 .bf16) (x5 x6 : Vec Ideal S32x128 .bf16) (x9 x10 : Vec Ideal S1x128x128 .f32) (x13 : Vec Ideal S8x32x128 .f32) (x14 : Vec Ideal S8x32x32 .f32) (i : Fin 32) (n : Fin 8) (d : Fin 64) : EReal :=
  hdB (fun e => x4 (ix2 i (ln n e))) (fun j e => x9 (ix3 (0 : Fin 1) j (lg n e))) (fun j e => x5 (ix2 j (lg n e)))
    (fun j => x13 (ix3 n i j)) (fun j => x14 (ix3 n i j)) (fun j => x10 (ix3 (0 : Fin 1) j (lg n d))) (fun j => x6 (ix2 j (lg n d))) (x0 (ix1 n))

section
variable {e : EltTy}
theorem ldq (x : Vec Ideal S32x512 .bf16) (o : ℕ) (inb) (i : Fin 32) (l : Fin 128) (k : Fin 512) (hk : k.val = o + l.val) :
    View.ld x (Rect.unit (s := S32x512) ![0, o] S32x128.size inb) (ix2 i l) = x (ix2 i k) :=
  View.ld_unit_apply_of (S := S32x512) x _ _ _ _ _ fun a => match a with
    | ⟨0, _⟩ => by show i.val = 0 + i.val; omega
    | ⟨1, _⟩ => hk
theorem ldc (x : Vec Ideal S1x512x512 .f32) (o : ℕ) (inb) (j : Fin 512) (l : Fin 128) (k : Fin 512) (hk : k.val = o + l.val) :
    View.ld x (Rect.unit (s := S1x512x512) ![0, 0, o] S1x512x128.size inb) (ix3 (0 : Fin 1) j l) = x (ix3 (0 : Fin 1) j k) :=
  View.ld_unit_apply_of (S := S1x512x512) x _ _ _ _ _ fun a => match a with
    | ⟨0, _⟩ => rfl
    | ⟨1, _⟩ => by show j.val = 0 + j.val; omega
    | ⟨2, _⟩ => hk
theorem ldbA (x : Vec Ideal S8x32x512 .f32) (o : ℕ) (inb) (n : Fin 8) (hn : n.val = o) (i : Fin 32) (j : Fin 512) :
    View.ld x (Rect.unit (s := S8x32x512) ![o, 0, 0] S1x32x512.size inb) (ix3 (0 : Fin 1) i j) = x (ix3 n i j) :=
  View.ld_unit_apply_of (S := S8x32x512) x _ _ _ _ _ fun a => match a with
    | ⟨0, _⟩ => by show n.val = o + 0; omega
    | ⟨1, _⟩ => by show i.val = 0 + i.val; omega
    | ⟨2, _⟩ => by show j.val = 0 + j.val; omega
theorem ldbB (x : Vec Ideal S8x32x128 .f32) (o : ℕ) (inb) (n : Fin 8) (hn : n.val = o) (i : Fin 32) (j : Fin 128) :
    View.ld x (Rect.unit (s := S8x32x128) ![o, 0, 0] S1x32x128.size inb) (ix3 (0 : Fin 1) i j) = x (ix3 n i j) :=
  View.ld_unit_apply_of (S := S8x32x128) x _ _ _ _ _ fun a => match a with
    | ⟨0, _⟩ => by show n.val = o + 0; omega
    | ⟨1, _⟩ => by show i.val = 0 + i.val; omega
    | ⟨2, _⟩ => by show j.val = 0 + j.val; omega
theorem ldbN (x : Vec Ideal S8x32x32 .f32) (o : ℕ) (inb) (n : Fin 8) (hn : n.val = o) (i : Fin 32) (j : Fin 32) :
    View.ld x (Rect.unit (s := S8x32x32) ![o, 0, 0] S1x32x32.size inb) (ix3 (0 : Fin 1) i j) = x (ix3 n i j) :=
  View.ld_unit_apply_of (S := S8x32x32) x _ _ _ _ _ fun a => match a with
    | ⟨0, _⟩ => by show n.val = o + 0; omega
    | ⟨1, _⟩ => by show i.val = 0 + i.val; omega
    | ⟨2, _⟩ => by show j.val = 0 + j.val; omega
theorem ldw (x : Vec Ideal S32x128 .bf16) (inb) (i : Fin 32) (l : Fin 128) :
    View.ld x (Rect.unit (s := S32x128) ![0, 0] S32x128.size inb) (ix2 i l) = x (ix2 i l) :=
  View.ld_unit_apply_of (S := S32x128) x _ _ _ _ _ fun a => match a with
    | ⟨0, _⟩ => by show i.val = 0 + i.val; omega
    | ⟨1, _⟩ => by show l.val = 0 + l.val; omega
theorem ldW (x : Vec Ideal S1x128x128 .f32) (inb) (i : Fin 128) (l : Fin 128) :
    View.ld x (Rect.unit (s := S1x128x128) ![0, 0, 0] S1x128x128.size inb) (ix3 (0 : Fin 1) i l) = x (ix3 (0 : Fin 1) i l) :=
  View.ld_unit_apply_of (S := S1x128x128) x _ _ _ _ _ fun a => match a with
    | ⟨0, _⟩ => rfl
    | ⟨1, _⟩ => by show i.val = 0 + i.val; omega
    | ⟨2, _⟩ => by show l.val = 0 + l.val; omega
theorem lds (x : Vec Ideal S8 .f32) (o : ℕ) (inb) (n : Fin 8) (hn : n.val = o) (y : S1.Idx) :
    View.ld x (Rect.unit (s := S8) ![o] S1.size inb) y = x (ix1 n) :=
  View.ld_unit_apply_of (S := S8) x _ _ _ _ _ fun a => match a with
    | ⟨0, _⟩ => by
      have hy : (y 0).val < 1 := (y 0).isLt
      show n.val = o + (y 0).val; omega
theorem ldg (x : Vec Ideal S1x512 .f32) (o : ℕ) (inb) (l : Fin 128) (k : Fin 512) (hk : k.val = o + l.val) :
    View.ld x (Rect.unit (s := S1x512) ![0, o] S1x128.size inb) (ix2 (0 : Fin 1) l) = x (ix2 (0 : Fin 1) k) :=
  View.ld_unit_apply_of (S := S1x512) x _ _ _ _ _ fun a => match a with
    | ⟨0, _⟩ => rfl
    | ⟨1, _⟩ => hk
end

section
variable (x1 x2 x3 : Vec Ideal S32x512 .bf16) (x7 x8 : Vec Ideal S1x512x512 .f32) (x11 : Vec Ideal S8x32x512 .f32) (x12 : Vec Ideal S8x32x32 .f32)
theorem prA0_0 (i : Fin 32) (d : Fin 64) : prA0 x1 x2 x3 x7 x8 x11 x12 (ix2 i (lane 0 d)) = hA x1 x2 x3 x7 x8 x11 x12 i 0 d := by
  unfold prA0 pairA hA
  rw [select_lo, headA_feed (feed_lo _)]
  have L : ∀ e : Fin 64, (ln 0 e).val = 0 + (lane 0 e).val := fun e => by show 64 * 0 + e.val = 0 + (64 * 0 + e.val); omega
  congr 1
  · exact funext fun e => ldq x1 _ _ i _ _ (L e)
  · exact funext fun j => funext fun e => ldc x7 _ _ j _ _ (L e)
  · exact funext fun j => funext fun e => ldq x2 _ _ j _ _ (L e)
  · exact funext fun j => ldbA x11 0 _ 0 rfl i j
  · exact funext fun j => ldbN x12 0 _ 0 rfl i j
  · exact funext fun j => ldc x8 _ _ j _ _ (L d)
  · exact funext fun j => ldq x3 _ _ j _ _ (L d)
theorem prA0_1 (i : Fin 32) (d : Fin 64) : prA0 x1 x2 x3 x7 x8 x11 x12 (ix2 i (lane 1 d)) = hA x1 x2 x3 x7 x8 x11 x12 i 1 d := by
  unfold prA0 pairA hA
  rw [select_hi, headA_feed (feed_hi _)]
  have L : ∀ e : Fin 64, (ln 1 e).val = 0 + (lane 1 e).val := fun e => by show 64 * 1 + e.val = 0 + (64 * 1 + e.val); omega
  congr 1
  · exact funext fun e => ldq x1 _ _ i _ _ (L e)
  · exact funext fun j => funext fun e => ldc x7 _ _ j _ _ (L e)
  · exact funext fun j => funext fun e => ldq x2 _ _ j _ _ (L e)
  · exact funext fun j => ldbA x11 1 _ 1 rfl i j
  · exact funext fun j => ldbN x12 1 _ 1 rfl i j
  · exact funext fun j => ldc x8 _ _ j _ _ (L d)
  · exact funext fun j => ldq x3 _ _ j _ _ (L d)
theorem prA1_0 (i : Fin 32) (d : Fin 64) : prA1 x1 x2 x3 x7 x8 x11 x12 (ix2 i (lane 0 d)) = hA x1 x2 x3 x7 x8 x11 x12 i 2 d := by
  unfold prA1 pairA hA
  rw [select_lo, headA_feed (feed_lo _)]
  have L : ∀ e : Fin 64, (ln 2 e).val = 128 + (lane 0 e).val := fun e => by show 64 * 2 + e.val = 128 + (64 * 0 + e.val); omega
  congr 1
  · exact funext fun e => ldq x1 _ _ i _ _ (L e)
  · exact funext fun j => funext fun e => ldc x7 _ _ j _ _ (L e)
  · exact funext fun j => funext fun e => ldq x2 _ _ j _ _ (L e)
  · exact funext fun j => ldbA x11 2 _ 2 rfl i j
  · exact funext fun j => ldbN x12 2 _ 2 rfl i j
  · exact funext fun j => ldc x8 _ _ j _ _ (L d)
  · exact funext fun j => ldq x3 _ _ j _ _ (L d)
theorem prA1_1 (i : Fin 32) (d : Fin 64) : prA1 x1 x2 x3 x7 x8 x11 x12 (ix2 i (lane 1 d)) = hA x1 x2 x3 x7 x8 x11 x12 i 3 d := by
  unfold prA1 pairA hA
  rw [select_hi, headA_feed (feed_hi _)]
  have L : ∀ e : Fin 64, (ln 3 e).val = 128 + (lane 1 e).val := fun e => by show 64 * 3 + e.val = 128 + (64 * 1 + e.val); omega
  congr 1
  · exact funext fun e => ldq x1 _ _ i _ _ (L e)
  · exact funext fun j => funext fun e => ldc x7 _ _ j _ _ (L e)
  · exact funext fun j => funext fun e => ldq x2 _ _ j _ _ (L e)
  · exact funext fun j => ldbA x11 3 _ 3 rfl i j
  · exact funext fun j => ldbN x12 3 _ 3 rfl i j
  · exact funext fun j => ldc x8 _ _ j _ _ (L d)
  · exact funext fun j => ldq x3 _ _ j _ _ (L d)
theorem prA2_0 (i : Fin 32) (d : Fin 64) : prA2 x1 x2 x3 x7 x8 x11 x12 (ix2 i (lane 0 d)) = hA x1 x2 x3 x7 x8 x11 x12 i 4 d := by
  unfold prA2 pairA hA
  rw [select_lo, headA_feed (feed_lo _)]
  have L : ∀ e : Fin 64, (ln 4 e).val = 256 + (lane 0 e).val := fun e => by show 64 * 4 + e.val = 256 + (64 * 0 + e.val); omega
  congr 1
  · exact funext fun e => ldq x1 _ _ i _ _ (L e)
  · exact funext fun j => funext fun e => ldc x7 _ _ j _ _ (L e)
  · exact funext fun j => funext fun e => ldq x2 _ _ j _ _ (L e)
  · exact funext fun j => ldbA x11 4 _ 4 rfl i j
  · exact funext fun j => ldbN x12 4 _ 4 rfl i j
  · exact funext fun j => ldc x8 _ _ j _ _ (L d)
  · exact funext fun j => ldq x3 _ _ j _ _ (L d)
theorem prA2_1 (i : Fin 32) (d : Fin 64) : prA2 x1 x2 x3 x7 x8 x11 x12 (ix2 i (lane 1 d)) = hA x1 x2 x3 x7 x8 x11 x12 i 5 d := by
  unfold prA2 pairA hA
  rw [select_hi, headA_feed (feed_hi _)]
  have L : ∀ e : Fin 64, (ln 5 e).val = 256 + (lane 1 e).val := fun e => by show 64 * 5 + e.val = 256 + (64 * 1 + e.val); omega
  congr 1
  · exact funext fun e => ldq x1 _ _ i _ _ (L e)
  · exact funext fun j => funext fun e => ldc x7 _ _ j _ _ (L e)
  · exact funext fun j => funext fun e => ldq x2 _ _ j _ _ (L e)
  · exact funext fun j => ldbA x11 5 _ 5 rfl i j
  · exact funext fun j => ldbN x12 5 _ 5 rfl i j
  · exact funext fun j => ldc x8 _ _ j _ _ (L d)
  · exact funext fun j => ldq x3 _ _ j _ _ (L d)
theorem prA3_0 (i : Fin 32) (d : Fin 64) : prA3 x1 x2 x3 x7 x8 x11 x12 (ix2 i (lane 0 d)) = hA x1 x2 x3 x7 x8 x11 x12 i 6 d := by
  unfold prA3 pairA hA
  rw [select_lo, headA_feed (feed_lo _)]
  have L : ∀ e : Fin 64, (ln 6 e).val = 384 + (lane 0 e).val := fun e => by show 64 * 6 + e.val = 384 + (64 * 0 + e.val); omega
  congr 1
  · exact funext fun e => ldq x1 _ _ i _ _ (L e)
  · exact funext fun j => funext fun e => ldc x7 _ _ j _ _ (L e)
  · exact funext fun j => funext fun e => ldq x2 _ _ j _ _ (L e)
  · exact funext fun j => ldbA x11 6 _ 6 rfl i j
  · exact funext fun j => ldbN x12 6 _ 6 rfl i j
  · exact funext fun j => ldc x8 _ _ j _ _ (L d)
  · exact funext fun j => ldq x3 _ _ j _ _ (L d)
theorem prA3_1 (i : Fin 32) (d : Fin 64) : prA3 x1 x2 x3 x7 x8 x11 x12 (ix2 i (lane 1 d)) = hA x1 x2 x3 x7 x8 x11 x12 i 7 d := by
  unfold prA3 pairA hA
  rw [select_hi, headA_feed (feed_hi _)]
  have L : ∀ e : Fin 64, (ln 7 e).val = 384 + (lane 1 e).val := fun e => by show 64 * 7 + e.val = 384 + (64 * 1 + e.val); omega
  congr 1
  · exact funext fun e => ldq x1 _ _ i _ _ (L e)
  · exact funext fun j => funext fun e => ldc x7 _ _ j _ _ (L e)
  · exact funext fun j => funext fun e => ldq x2 _ _ j _ _ (L e)
  · exact funext fun j => ldbA x11 7 _ 7 rfl i j
  · exact funext fun j => ldbN x12 7 _ 7 rfl i j
  · exact funext fun j => ldc x8 _ _ j _ _ (L d)
  · exact funext fun j => ldq x3 _ _ j _ _ (L d)
end

section
variable (x0 : Vec Ideal S8 .f32) (x4 : Vec Ideal S32x512 .bf16) (x5 x6 : Vec Ideal S32x128 .bf16) (x9 x10 : Vec Ideal S1x128x128 .f32) (x13 : Vec Ideal S8x32x128 .f32) (x14 : Vec Ideal S8x32x32 .f32)
theorem prB0_0 (i : Fin 32) (d : Fin 64) : prB0 x0 x4 x5 x6 x9 x10 x13 x14 (ix2 i (lane 0 d)) = hB x0 x4 x5 x6 x9 x10 x13 x14 i 0 d := by
  unfold prB0 pairB hB
  rw [select_lo, headB_feed (feed_lo _)]
  have L : ∀ e : Fin 64, (ln 0 e).val = 0 + (lane 0 e).val := fun e => by show 64 * 0 + e.val = 0 + (64 * 0 + e.val); omega
  congr 1
  · exact funext fun e => ldq x4 _ _ i _ _ (L e)
  · exact funext fun j => funext fun e => ldW x9 _ j _
  · exact funext fun j => funext fun e => ldw x5 _ j _
  · exact funext fun j => ldbB x13 0 _ 0 rfl i j
  · exact funext fun j => ldbN x14 0 _ 0 rfl i j
  · exact funext fun j => ldW x10 _ j _
  · exact funext fun j => ldw x6 _ j _
  · exact lds x0 0 _ 0 rfl _
theorem prB0_1 (i : Fin 32) (d : Fin 64) : prB0 x0 x4 x5 x6 x9 x10 x13 x14 (ix2 i (lane 1 d)) = hB x0 x4 x5 x6 x9 x10 x13 x14 i 1 d := by
  unfold prB0 pairB hB
  rw [select_hi, swap_apply, across_lane1, headB_feed (feed_swap_hi _)]
  have L : ∀ e : Fin 64, (ln 1 e).val = 0 + (lane 1 e).val := fun e => by show 64 * 1 + e.val = 0 + (64 * 1 + e.val); omega
  congr 1
  · exact funext fun e => ldq x4 _ _ i _ _ (L e)
  · exact funext fun j => funext fun e => ldW x9 _ j _
  · exact funext fun j => funext fun e => ldw x5 _ j _
  · exact funext fun j => ldbB x13 1 _ 1 rfl i j
  · exact funext fun j => ldbN x14 1 _ 1 rfl i j
  · exact funext fun j => ldW x10 _ j _
  · exact funext fun j => ldw x6 _ j _
  · exact lds x0 1 _ 1 rfl _
theorem prB1_0 (i : Fin 32) (d : Fin 64) : prB1 x0 x4 x5 x6 x9 x10 x13 x14 (ix2 i (lane 0 d)) = hB x0 x4 x5 x6 x9 x10 x13 x14 i 2 d := by
  unfold prB1 pairB hB
  rw [select_lo, headB_feed (feed_lo _)]
  have L : ∀ e : Fin 64, (ln 2 e).val = 128 + (lane 0 e).val := fun e => by show 64 * 2 + e.val = 128 + (64 * 0 + e.val); omega
  congr 1
  · exact funext fun e => ldq x4 _ _ i _ _ (L e)
  · exact funext fun j => funext fun e => ldW x9 _ j _
  · exact funext fun j => funext fun e => ldw x5 _ j _
  · exact funext fun j => ldbB x13 2 _ 2 rfl i j
  · exact funext fun j => ldbN x14 2 _ 2 rfl i j
  · exact funext fun j => ldW x10 _ j _
  · exact funext fun j => ldw x6 _ j _
  · exact lds x0 2 _ 2 rfl _
theorem prB1_1 (i : Fin 32) (d : Fin 64) : prB1 x0 x4 x5 x6 x9 x10 x13 x14 (ix2 i (lane 1 d)) = hB x0 x4 x5 x6 x9 x10 x13 x14 i 3 d := by
  unfold prB1 pairB hB
  rw [select_hi, swap_apply, across_lane1, headB_feed (feed_swap_hi _)]
  have L : ∀ e : Fin 64, (ln 3 e).val = 128 + (lane 1 e).val := fun e => by show 64 * 3 + e.val = 128 + (64 * 1 + e.val); omega
  congr 1
  · exact funext fun e => ldq x4 _ _ i _ _ (L e)
  · exact funext fun j => funext fun e => ldW x9 _ j _
  · exact funext fun j => funext fun e => ldw x5 _ j _
  · exact funext fun j => ldbB x13 3 _ 3 rfl i j
  · exact funext fun j => ldbN x14 3 _ 3 rfl i j
  · exact funext fun j => ldW x10 _ j _
  · exact funext fun j => ldw x6 _ j _
  · exact lds x0 3 _ 3 rfl _
theorem prB2_0 (i : Fin 32) (d : Fin 64) : prB2 x0 x4 x5 x6 x9 x10 x13 x14 (ix2 i (lane 0 d)) = hB x0 x4 x5 x6 x9 x10 x13 x14 i 4 d := by
  unfold prB2 pairC hB
  rw [select_lo, swap_apply, across_lane0, headB_feed (feed_swap_lo _)]
  have L : ∀ e : Fin 64, (ln 4 e).val = 256 + (lane 0 e).val := fun e => by show 64 * 4 + e.val = 256 + (64 * 0 + e.val); omega
  congr 1
  · exact funext fun e => ldq x4 _ _ i _ _ (L e)
  · exact funext fun j => funext fun e => ldW x9 _ j _
  · exact funext fun j => funext fun e => ldw x5 _ j _
  · exact funext fun j => ldbB x13 4 _ 4 rfl i j
  · exact funext fun j => ldbN x14 4 _ 4 rfl i j
  · exact funext fun j => ldW x10 _ j _
  · exact funext fun j => ldw x6 _ j _
  · exact lds x0 4 _ 4 rfl _
theorem prB2_1 (i : Fin 32) (d : Fin 64) : prB2 x0 x4 x5 x6 x9 x10 x13 x14 (ix2 i (lane 1 d)) = hB x0 x4 x5 x6 x9 x10 x13 x14 i 5 d := by
  unfold prB2 pairC hB
  rw [select_hi, headB_feed (feed_hi _)]
  have L : ∀ e : Fin 64, (ln 5 e).val = 256 + (lane 1 e).val := fun e => by show 64 * 5 + e.val = 256 + (64 * 1 + e.val); omega
  congr 1
  · exact funext fun e => ldq x4 _ _ i _ _ (L e)
  · exact funext fun j => funext fun e => ldW x9 _ j _
  · exact funext fun j => funext fun e => ldw x5 _ j _
  · exact funext fun j => ldbB x13 5 _ 5 rfl i j
  · exact funext fun j => ldbN x14 5 _ 5 rfl i j
  · exact funext fun j => ldW x10 _ j _
  · exact funext fun j => ldw x6 _ j _
  · exact lds x0 5 _ 5 rfl _
theorem prB3_0 (i : Fin 32) (d : Fin 64) : prB3 x0 x4 x5 x6 x9 x10 x13 x14 (ix2 i (lane 0 d)) = hB x0 x4 x5 x6 x9 x10 x13 x14 i 6 d := by
  unfold prB3 pairC hB
  rw [select_lo, swap_apply, across_lane0, headB_feed (feed_swap_lo _)]
  have L : ∀ e : Fin 64, (ln 6 e).val = 384 + (lane 0 e).val := fun e => by show 64 * 6 + e.val = 384 + (64 * 0 + e.val); omega
  congr 1
  · exact funext fun e => ldq x4 _ _ i _ _ (L e)
  · exact funext fun j => funext fun e => ldW x9 _ j _
  · exact funext fun j => funext fun e => ldw x5 _ j _
  · exact funext fun j => ldbB x13 6 _ 6 rfl i j
  · exact funext fun j => ldbN x14 6 _ 6 rfl i j
  · exact funext fun j => ldW x10 _ j _
  · exact funext fun j => ldw x6 _ j _
  · exact lds x0 6 _ 6 rfl _
theorem prB3_1 (i : Fin 32) (d : Fin 64) : prB3 x0 x4 x5 x6 x9 x10 x13 x14 (ix2 i (lane 1 d)) = hB x0 x4 x5 x6 x9 x10 x13 x14 i 7 d := by
  unfold prB3 pairC hB
  rw [select_hi, headB_feed (feed_hi _)]
  have L : ∀ e : Fin 64, (ln 7 e).val = 384 + (lane 1 e).val := fun e => by show 64 * 7 + e.val = 384 + (64 * 1 + e.val); omega
  congr 1
  · exact funext fun e => ldq x4 _ _ i _ _ (L e)
  · exact funext fun j => funext fun e => ldW x9 _ j _
  · exact funext fun j => funext fun e => ldw x5 _ j _
  · exact funext fun j => ldbB x13 7 _ 7 rfl i j
  · exact funext fun j => ldbN x14 7 _ 7 rfl i j
  · exact funext fun j => ldW x10 _ j _
  · exact funext fun j => ldw x6 _ j _
  · exact lds x0 7 _ 7 rfl _
end

/-! ## The groups, normalised -/

theorem half (l : Fin 128) : (∃ d, l = lane 0 d) ∨ ∃ d, l = lane 1 d := by
  by_cases hl : l.val < 64
  · exact .inl ⟨⟨l.val, hl⟩, Fin.ext (by show l.val = 64 * 0 + l.val; omega)⟩
  · exact .inr ⟨⟨l.val - 64, by omega⟩, Fin.ext (by show l.val = 64 * 1 + (l.val - 64); omega)⟩

/-- The head and the lane of a column among 512. -/
def hd (c : Fin 512) : Fin 8 := ⟨c.val / 64, by omega⟩
def ld (c : Fin 512) : Fin 64 := ⟨c.val % 64, Nat.mod_lt _ (by decide)⟩
theorem hd_eq (c : Fin 512) (n : Fin 8) (d : Fin 64) (h : c.val = 64 * n.val + d.val) : hd c = n := Fin.ext (by show c.val / 64 = n.val; omega)
theorem ld_eq (c : Fin 512) (n : Fin 8) (d : Fin 64) (h : c.val = 64 * n.val + d.val) : ld c = d := Fin.ext (by show c.val % 64 = d.val; omega)

theorem sum4 (f : Fin 512 → EReal) (g : Fin 4 → Fin 128 → EReal) (h : ∀ (p : Fin 4) (l : Fin 128) (c : Fin 512), c.val = 128 * p.val + l.val → g p l = f c) :
    (((∑ l, g 0 l) + ∑ l, g 1 l) + ∑ l, g 2 l) + ∑ l, g 3 l = ∑ c, f c := by
  rw [show (∑ c, f c) = ∑ c : Fin (((128 + 128) + 128) + 128), f c from rfl, Fin.sum_univ_add, Fin.sum_univ_add, Fin.sum_univ_add]
  refine congrArg₂ (· + ·) (congrArg₂ (· + ·) (congrArg₂ (· + ·) ?_ ?_) ?_) ?_ <;> refine Finset.sum_congr rfl fun l _ => h _ l _ ?_
  · show l.val = 128 * 0 + l.val; omega
  · show 128 + l.val = 128 * 1 + l.val; omega
  · show 128 + 128 + l.val = 128 * 2 + l.val; omega
  · show 128 + 128 + 128 + l.val = 128 * 3 + l.val; omega

/-- The reciprocal root of the mean square of 512 numbers. -/
def rms (o : Fin 512 → EReal) : EReal :=
  Ideal.rsqrt (Ideal.div (∑ c, o c * o c) (Ideal.ofBits .f32 0x44000000#32) + Ideal.ofBits .f32 0x358637BD#32)

theorem inv_apply (p : Fin 4 → FVec Ideal S32x128 .f32) (i : Fin 32) (o : Fin 512 → EReal)
    (h : ∀ (k : Fin 4) (l : Fin 128) (c : Fin 512), c.val = 128 * k.val + l.val → p k (ix2 i l) = o c) :
    inv (p 0) (p 1) (p 2) (p 3) (ix2 i (0 : Fin 1)) = rms o := by
  have e : ∀ k, sumB (mulf (p k) (p k)) (ix2 i (0 : Fin 1)) = ∑ l : Fin 128, p k (ix2 i l) * p k (ix2 i l) := fun k => sumB_apply _ i
  show Ideal.rsqrt (Ideal.div (((sumB (mulf (p 0) (p 0)) (ix2 i (0 : Fin 1)) + sumB (mulf (p 1) (p 1)) (ix2 i (0 : Fin 1))) + sumB (mulf (p 2) (p 2)) (ix2 i (0 : Fin 1)))
    + sumB (mulf (p 3) (p 3)) (ix2 i (0 : Fin 1))) _ + _) = _
  rw [e, e, e, e, sum4 (fun c => o c * o c) (fun k l => p k (ix2 i l) * p k (ix2 i l)) fun k l c hc => by rw [h k l c hc]]
  rfl

theorem normed_apply (o : FVec Ideal S32x128 .f32) (r : FVec Ideal S32x1 .f32) (g : Vec Ideal S1x128 .f32) (i : Fin 32) (l : Fin 128) :
    normed o r g (ix2 i l) = o (ix2 i l) * r (ix2 i (0 : Fin 1)) * g (ix2 (0 : Fin 1) l) := by
  show o (ix2 i l) * broadcastTo S32x128 r broadcasts_S32x1_S32x128 (ix2 i l)
    * broadcastTo S32x128 (shapeCast S1x128 g shapeCasts_S1x128_S1x128) broadcasts_S1x128_S32x128 (ix2 i l) = _
  rw [colB_apply, broadcastTo_apply _ broadcasts_S1x128_S32x128 (ix2 i l) (ix2 (0 : Fin 1) l) fun ax => match ax with | ⟨0, _⟩ => rfl | ⟨1, _⟩ => rfl,
    shapeCast_apply g shapeCasts_S1x128_S1x128 (ix2 (0 : Fin 1) l) (ix2 (0 : Fin 1) l) rfl]

section
variable (x1 x2 x3 : Vec Ideal S32x512 .bf16) (x7 x8 : Vec Ideal S1x512x512 .f32) (x11 : Vec Ideal S8x32x512 .f32) (x12 : Vec Ideal S8x32x32 .f32)
/-- A row of the group, by columns. -/
def oA (x1 x2 x3 : Vec Ideal S32x512 .bf16) (x7 x8 : Vec Ideal S1x512x512 .f32) (x11 : Vec Ideal S8x32x512 .f32) (x12 : Vec Ideal S8x32x32 .f32) (i : Fin 32) (c : Fin 512) : EReal := hA x1 x2 x3 x7 x8 x11 x12 i (hd c) (ld c)
theorem prA0_at (i : Fin 32) (l : Fin 128) (c : Fin 512) (hc : c.val = 0 + l.val) : prA0 x1 x2 x3 x7 x8 x11 x12 (ix2 i l) = oA x1 x2 x3 x7 x8 x11 x12 i c := by
  unfold oA
  rcases half l with ⟨d, rfl⟩ | ⟨d, rfl⟩
  · have hc' : c.val = 64 * (0 : Fin 8).val + d.val := by
      have h2 : c.val = 0 + (64 * 0 + d.val) := hc
      show c.val = 64 * 0 + d.val; omega
    rw [hd_eq c 0 d hc', ld_eq c 0 d hc']; exact prA0_0 _ _ _ _ _ _ _ i d
  · have hc' : c.val = 64 * (1 : Fin 8).val + d.val := by
      have h2 : c.val = 0 + (64 * 1 + d.val) := hc
      show c.val = 64 * 1 + d.val; omega
    rw [hd_eq c 1 d hc', ld_eq c 1 d hc']; exact prA0_1 _ _ _ _ _ _ _ i d
theorem prA1_at (i : Fin 32) (l : Fin 128) (c : Fin 512) (hc : c.val = 128 + l.val) : prA1 x1 x2 x3 x7 x8 x11 x12 (ix2 i l) = oA x1 x2 x3 x7 x8 x11 x12 i c := by
  unfold oA
  rcases half l with ⟨d, rfl⟩ | ⟨d, rfl⟩
  · have hc' : c.val = 64 * (2 : Fin 8).val + d.val := by
      have h2 : c.val = 128 + (64 * 0 + d.val) := hc
      show c.val = 64 * 2 + d.val; omega
    rw [hd_eq c 2 d hc', ld_eq c 2 d hc']; exact prA1_0 _ _ _ _ _ _ _ i d
  · have hc' : c.val = 64 * (3 : Fin 8).val + d.val := by
      have h2 : c.val = 128 + (64 * 1 + d.val) := hc
      show c.val = 64 * 3 + d.val; omega
    rw [hd_eq c 3 d hc', ld_eq c 3 d hc']; exact prA1_1 _ _ _ _ _ _ _ i d
theorem prA2_at (i : Fin 32) (l : Fin 128) (c : Fin 512) (hc : c.val = 256 + l.val) : prA2 x1 x2 x3 x7 x8 x11 x12 (ix2 i l) = oA x1 x2 x3 x7 x8 x11 x12 i c := by
  unfold oA
  rcases half l with ⟨d, rfl⟩ | ⟨d, rfl⟩
  · have hc' : c.val = 64 * (4 : Fin 8).val + d.val := by
      have h2 : c.val = 256 + (64 * 0 + d.val) := hc
      show c.val = 64 * 4 + d.val; omega
    rw [hd_eq c 4 d hc', ld_eq c 4 d hc']; exact prA2_0 _ _ _ _ _ _ _ i d
  · have hc' : c.val = 64 * (5 : Fin 8).val + d.val := by
      have h2 : c.val = 256 + (64 * 1 + d.val) := hc
      show c.val = 64 * 5 + d.val; omega
    rw [hd_eq c 5 d hc', ld_eq c 5 d hc']; exact prA2_1 _ _ _ _ _ _ _ i d
theorem prA3_at (i : Fin 32) (l : Fin 128) (c : Fin 512) (hc : c.val = 384 + l.val) : prA3 x1 x2 x3 x7 x8 x11 x12 (ix2 i l) = oA x1 x2 x3 x7 x8 x11 x12 i c := by
  unfold oA
  rcases half l with ⟨d, rfl⟩ | ⟨d, rfl⟩
  · have hc' : c.val = 64 * (6 : Fin 8).val + d.val := by
      have h2 : c.val = 384 + (64 * 0 + d.val) := hc
      show c.val = 64 * 6 + d.val; omega
    rw [hd_eq c 6 d hc', ld_eq c 6 d hc']; exact prA3_0 _ _ _ _ _ _ _ i d
  · have hc' : c.val = 64 * (7 : Fin 8).val + d.val := by
      have h2 : c.val = 384 + (64 * 1 + d.val) := hc
      show c.val = 64 * 7 + d.val; omega
    rw [hd_eq c 7 d hc', ld_eq c 7 d hc']; exact prA3_1 _ _ _ _ _ _ _ i d
theorem invA_at (i : Fin 32) : invA x1 x2 x3 x7 x8 x11 x12 (ix2 i (0 : Fin 1)) = rms (oA x1 x2 x3 x7 x8 x11 x12 i) := by
  unfold invA
  refine inv_apply ![prA0 x1 x2 x3 x7 x8 x11 x12, prA1 x1 x2 x3 x7 x8 x11 x12, prA2 x1 x2 x3 x7 x8 x11 x12, prA3 x1 x2 x3 x7 x8 x11 x12] i _ fun k l c hc => ?_
  match k with
  | ⟨0, _⟩ => exact prA0_at _ _ _ _ _ _ _ i l c hc
  | ⟨1, _⟩ => exact prA1_at _ _ _ _ _ _ _ i l c hc
  | ⟨2, _⟩ => exact prA2_at _ _ _ _ _ _ _ i l c hc
  | ⟨3, _⟩ => exact prA3_at _ _ _ _ _ _ _ i l c hc
end

section
variable (x0 : Vec Ideal S8 .f32) (x4 : Vec Ideal S32x512 .bf16) (x5 x6 : Vec Ideal S32x128 .bf16) (x9 x10 : Vec Ideal S1x128x128 .f32) (x13 : Vec Ideal S8x32x128 .f32) (x14 : Vec Ideal S8x32x32 .f32)
/-- A row of the group, by columns. -/
def oB (x0 : Vec Ideal S8 .f32) (x4 : Vec Ideal S32x512 .bf16) (x5 x6 : Vec Ideal S32x128 .bf16) (x9 x10 : Vec Ideal S1x128x128 .f32) (x13 : Vec Ideal S8x32x128 .f32) (x14 : Vec Ideal S8x32x32 .f32) (i : Fin 32) (c : Fin 512) : EReal := hB x0 x4 x5 x6 x9 x10 x13 x14 i (hd c) (ld c)
theorem prB0_at (i : Fin 32) (l : Fin 128) (c : Fin 512) (hc : c.val = 0 + l.val) : prB0 x0 x4 x5 x6 x9 x10 x13 x14 (ix2 i l) = oB x0 x4 x5 x6 x9 x10 x13 x14 i c := by
  unfold oB
  rcases half l with ⟨d, rfl⟩ | ⟨d, rfl⟩
  · have hc' : c.val = 64 * (0 : Fin 8).val + d.val := by
      have h2 : c.val = 0 + (64 * 0 + d.val) := hc
      show c.val = 64 * 0 + d.val; omega
    rw [hd_eq c 0 d hc', ld_eq c 0 d hc']; exact prB0_0 _ _ _ _ _ _ _ _ i d
  · have hc' : c.val = 64 * (1 : Fin 8).val + d.val := by
      have h2 : c.val = 0 + (64 * 1 + d.val) := hc
      show c.val = 64 * 1 + d.val; omega
    rw [hd_eq c 1 d hc', ld_eq c 1 d hc']; exact prB0_1 _ _ _ _ _ _ _ _ i d
theorem prB1_at (i : Fin 32) (l : Fin 128) (c : Fin 512) (hc : c.val = 128 + l.val) : prB1 x0 x4 x5 x6 x9 x10 x13 x14 (ix2 i l) = oB x0 x4 x5 x6 x9 x10 x13 x14 i c := by
  unfold oB
  rcases half l with ⟨d, rfl⟩ | ⟨d, rfl⟩
  · have hc' : c.val = 64 * (2 : Fin 8).val + d.val := by
      have h2 : c.val = 128 + (64 * 0 + d.val) := hc
      show c.val = 64 * 2 + d.val; omega
    rw [hd_eq c 2 d hc', ld_eq c 2 d hc']; exact prB1_0 _ _ _ _ _ _ _ _ i d
  · have hc' : c.val = 64 * (3 : Fin 8).val + d.val := by
      have h2 : c.val = 128 + (64 * 1 + d.val) := hc
      show c.val = 64 * 3 + d.val; omega
    rw [hd_eq c 3 d hc', ld_eq c 3 d hc']; exact prB1_1 _ _ _ _ _ _ _ _ i d
theorem prB2_at (i : Fin 32) (l : Fin 128) (c : Fin 512) (hc : c.val = 256 + l.val) : prB2 x0 x4 x5 x6 x9 x10 x13 x14 (ix2 i l) = oB x0 x4 x5 x6 x9 x10 x13 x14 i c := by
  unfold oB
  rcases half l with ⟨d, rfl⟩ | ⟨d, rfl⟩
  · have hc' : c.val = 64 * (4 : Fin 8).val + d.val := by
      have h2 : c.val = 256 + (64 * 0 + d.val) := hc
      show c.val = 64 * 4 + d.val; omega
    rw [hd_eq c 4 d hc', ld_eq c 4 d hc']; exact prB2_0 _ _ _ _ _ _ _ _ i d
  · have hc' : c.val = 64 * (5 : Fin 8).val + d.val := by
      have h2 : c.val = 256 + (64 * 1 + d.val) := hc
      show c.val = 64 * 5 + d.val; omega
    rw [hd_eq c 5 d hc', ld_eq c 5 d hc']; exact prB2_1 _ _ _ _ _ _ _ _ i d
theorem prB3_at (i : Fin 32) (l : Fin 128) (c : Fin 512) (hc : c.val = 384 + l.val) : prB3 x0 x4 x5 x6 x9 x10 x13 x14 (ix2 i l) = oB x0 x4 x5 x6 x9 x10 x13 x14 i c := by
  unfold oB
  rcases half l with ⟨d, rfl⟩ | ⟨d, rfl⟩
  · have hc' : c.val = 64 * (6 : Fin 8).val + d.val := by
      have h2 : c.val = 384 + (64 * 0 + d.val) := hc
      show c.val = 64 * 6 + d.val; omega
    rw [hd_eq c 6 d hc', ld_eq c 6 d hc']; exact prB3_0 _ _ _ _ _ _ _ _ i d
  · have hc' : c.val = 64 * (7 : Fin 8).val + d.val := by
      have h2 : c.val = 384 + (64 * 1 + d.val) := hc
      show c.val = 64 * 7 + d.val; omega
    rw [hd_eq c 7 d hc', ld_eq c 7 d hc']; exact prB3_1 _ _ _ _ _ _ _ _ i d
theorem invB_at (i : Fin 32) : invB x0 x4 x5 x6 x9 x10 x13 x14 (ix2 i (0 : Fin 1)) = rms (oB x0 x4 x5 x6 x9 x10 x13 x14 i) := by
  unfold invB
  refine inv_apply ![prB0 x0 x4 x5 x6 x9 x10 x13 x14, prB1 x0 x4 x5 x6 x9 x10 x13 x14, prB2 x0 x4 x5 x6 x9 x10 x13 x14, prB3 x0 x4 x5 x6 x9 x10 x13 x14] i _ fun k l c hc => ?_
  match k with
  | ⟨0, _⟩ => exact prB0_at _ _ _ _ _ _ _ _ i l c hc
  | ⟨1, _⟩ => exact prB1_at _ _ _ _ _ _ _ _ i l c hc
  | ⟨2, _⟩ => exact prB2_at _ _ _ _ _ _ _ _ i l c hc
  | ⟨3, _⟩ => exact prB3_at _ _ _ _ _ _ _ _ i l c hc
end

/-- The row of the stored block: the first group's 512 columns and the second's. -/
def outV (x0 : Vec Ideal S8 .f32) (x1 x2 x3 x4 : Vec Ideal S32x512 .bf16) (x5 x6 : Vec Ideal S32x128 .bf16) (x7 x8 : Vec Ideal S1x512x512 .f32) (x9 x10 : Vec Ideal S1x128x128 .f32)
    (x11 : Vec Ideal S8x32x512 .f32) (x12 : Vec Ideal S8x32x32 .f32) (x13 : Vec Ideal S8x32x128 .f32) (x14 : Vec Ideal S8x32x32 .f32) (x15 x16 : Vec Ideal S1x512 .f32) (i : Fin 32) (c : Fin 1024) : EReal :=
  if h : c.val < 512 then oA x1 x2 x3 x7 x8 x11 x12 i ⟨c.val, h⟩ * rms (oA x1 x2 x3 x7 x8 x11 x12 i) * x15 (ix2 (0 : Fin 1) (⟨c.val, h⟩ : Fin 512))
  else oB x0 x4 x5 x6 x9 x10 x13 x14 i ⟨c.val - 512, by omega⟩ * rms (oB x0 x4 x5 x6 x9 x10 x13 x14 i) * x16 (ix2 (0 : Fin 1) (⟨c.val - 512, by omega⟩ : Fin 512))

theorem stores_at (x0 : Vec Ideal S8 .f32) (x1 x2 x3 x4 : Vec Ideal S32x512 .bf16) (x5 x6 : Vec Ideal S32x128 .bf16) (x7 x8 : Vec Ideal S1x512x512 .f32) (x9 x10 : Vec Ideal S1x128x128 .f32)
    (x11 : Vec Ideal S8x32x512 .f32) (x12 : Vec Ideal S8x32x32 .f32) (x13 : Vec Ideal S8x32x128 .f32) (x14 : Vec Ideal S8x32x32 .f32) (x15 x16 : Vec Ideal S1x512 .f32)
    (i : Fin 32) (c : Fin 1024) (hcov : ∃ p ∈ stores x0 x1 x2 x3 x4 x5 x6 x7 x8 x9 x10 x11 x12 x13 x14 x15 x16, (ix2 i c : S32x1024.Idx) ∈ p.1.set) :
    View.canon (Val := Elt Ideal) (stores x0 x1 x2 x3 x4 x5 x6 x7 x8 x9 x10 x11 x12 x13 x14 x15 x16) (ix2 i c : S32x1024.Idx) = outV x0 x1 x2 x3 x4 x5 x6 x7 x8 x9 x10 x11 x12 x13 x14 x15 x16 i c := by
  refine View.canon_eq_of_allAt _ _ _ hcov ?_
  unfold stores
  refine View.allAt_cons_unit (S := S32x1024) _ _ _ _ _ (fun x hx => ?_) ?_
  · have h0 : i.val = 0 + (x 0).val := hx 0
    have h1 : c.val = 896 + (x 1).val := hx 1
    have hx0 : (x 0) = i := Fin.ext (by omega)
    have hb : (x 1).val < 128 := (x 1).isLt
    have hc : ¬c.val < 512 := by omega
    have ex : x = ix2 i (⟨(x 1).val, hb⟩ : Fin 128) := by
      funext a; match a with | ⟨0, _⟩ => exact hx0 | ⟨1, _⟩ => rfl
    rw [ex]
    unfold outV
    rw [dif_neg hc]
    refine (normed_apply _ _ _ i _).trans ?_
    rw [prB3_at _ _ _ _ _ _ _ _ i (⟨(x 1).val, hb⟩ : Fin 128) (⟨c.val - 512, by omega⟩ : Fin 512) (by show c.val - 512 = 384 + (x 1).val; omega), invB_at]
    exact congrArg _ (ldg x16 384 _ _ _ (by show c.val - 512 = 384 + (x 1).val; omega))
  refine View.allAt_cons_unit (S := S32x1024) _ _ _ _ _ (fun x hx => ?_) ?_
  · have h0 : i.val = 0 + (x 0).val := hx 0
    have h1 : c.val = 768 + (x 1).val := hx 1
    have hx0 : (x 0) = i := Fin.ext (by omega)
    have hb : (x 1).val < 128 := (x 1).isLt
    have hc : ¬c.val < 512 := by omega
    have ex : x = ix2 i (⟨(x 1).val, hb⟩ : Fin 128) := by
      funext a; match a with | ⟨0, _⟩ => exact hx0 | ⟨1, _⟩ => rfl
    rw [ex]
    unfold outV
    rw [dif_neg hc]
    refine (normed_apply _ _ _ i _).trans ?_
    rw [prB2_at _ _ _ _ _ _ _ _ i (⟨(x 1).val, hb⟩ : Fin 128) (⟨c.val - 512, by omega⟩ : Fin 512) (by show c.val - 512 = 256 + (x 1).val; omega), invB_at]
    exact congrArg _ (ldg x16 256 _ _ _ (by show c.val - 512 = 256 + (x 1).val; omega))
  refine View.allAt_cons_unit (S := S32x1024) _ _ _ _ _ (fun x hx => ?_) ?_
  · have h0 : i.val = 0 + (x 0).val := hx 0
    have h1 : c.val = 640 + (x 1).val := hx 1
    have hx0 : (x 0) = i := Fin.ext (by omega)
    have hb : (x 1).val < 128 := (x 1).isLt
    have hc : ¬c.val < 512 := by omega
    have ex : x = ix2 i (⟨(x 1).val, hb⟩ : Fin 128) := by
      funext a; match a with | ⟨0, _⟩ => exact hx0 | ⟨1, _⟩ => rfl
    rw [ex]
    unfold outV
    rw [dif_neg hc]
    refine (normed_apply _ _ _ i _).trans ?_
    rw [prB1_at _ _ _ _ _ _ _ _ i (⟨(x 1).val, hb⟩ : Fin 128) (⟨c.val - 512, by omega⟩ : Fin 512) (by show c.val - 512 = 128 + (x 1).val; omega), invB_at]
    exact congrArg _ (ldg x16 128 _ _ _ (by show c.val - 512 = 128 + (x 1).val; omega))
  refine View.allAt_cons_unit (S := S32x1024) _ _ _ _ _ (fun x hx => ?_) ?_
  · have h0 : i.val = 0 + (x 0).val := hx 0
    have h1 : c.val = 512 + (x 1).val := hx 1
    have hx0 : (x 0) = i := Fin.ext (by omega)
    have hb : (x 1).val < 128 := (x 1).isLt
    have hc : ¬c.val < 512 := by omega
    have ex : x = ix2 i (⟨(x 1).val, hb⟩ : Fin 128) := by
      funext a; match a with | ⟨0, _⟩ => exact hx0 | ⟨1, _⟩ => rfl
    rw [ex]
    unfold outV
    rw [dif_neg hc]
    refine (normed_apply _ _ _ i _).trans ?_
    rw [prB0_at _ _ _ _ _ _ _ _ i (⟨(x 1).val, hb⟩ : Fin 128) (⟨c.val - 512, by omega⟩ : Fin 512) (by show c.val - 512 = 0 + (x 1).val; omega), invB_at]
    exact congrArg _ (ldg x16 0 _ _ _ (by show c.val - 512 = 0 + (x 1).val; omega))
  refine View.allAt_cons_unit (S := S32x1024) _ _ _ _ _ (fun x hx => ?_) ?_
  · have h0 : i.val = 0 + (x 0).val := hx 0
    have h1 : c.val = 384 + (x 1).val := hx 1
    have hx0 : (x 0) = i := Fin.ext (by omega)
    have hb : (x 1).val < 128 := (x 1).isLt
    have hc : c.val < 512 := by omega
    have ex : x = ix2 i (⟨(x 1).val, hb⟩ : Fin 128) := by
      funext a; match a with | ⟨0, _⟩ => exact hx0 | ⟨1, _⟩ => rfl
    rw [ex]
    unfold outV
    rw [dif_pos hc]
    refine (normed_apply _ _ _ i _).trans ?_
    rw [prA3_at _ _ _ _ _ _ _ i (⟨(x 1).val, hb⟩ : Fin 128) (⟨c.val, hc⟩ : Fin 512) (by show c.val = 384 + (x 1).val; omega), invA_at]
    exact congrArg _ (ldg x15 384 _ _ _ (by show c.val = 384 + (x 1).val; omega))
  refine View.allAt_cons_unit (S := S32x1024) _ _ _ _ _ (fun x hx => ?_) ?_
  · have h0 : i.val = 0 + (x 0).val := hx 0
    have h1 : c.val = 256 + (x 1).val := hx 1
    have hx0 : (x 0) = i := Fin.ext (by omega)
    have hb : (x 1).val < 128 := (x 1).isLt
    have hc : c.val < 512 := by omega
    have ex : x = ix2 i (⟨(x 1).val, hb⟩ : Fin 128) := by
      funext a; match a with | ⟨0, _⟩ => exact hx0 | ⟨1, _⟩ => rfl
    rw [ex]
    unfold outV
    rw [dif_pos hc]
    refine (normed_apply _ _ _ i _).trans ?_
    rw [prA2_at _ _ _ _ _ _ _ i (⟨(x 1).val, hb⟩ : Fin 128) (⟨c.val, hc⟩ : Fin 512) (by show c.val = 256 + (x 1).val; omega), invA_at]
    exact congrArg _ (ldg x15 256 _ _ _ (by show c.val = 256 + (x 1).val; omega))
  refine View.allAt_cons_unit (S := S32x1024) _ _ _ _ _ (fun x hx => ?_) ?_
  · have h0 : i.val = 0 + (x 0).val := hx 0
    have h1 : c.val = 128 + (x 1).val := hx 1
    have hx0 : (x 0) = i := Fin.ext (by omega)
    have hb : (x 1).val < 128 := (x 1).isLt
    have hc : c.val < 512 := by omega
    have ex : x = ix2 i (⟨(x 1).val, hb⟩ : Fin 128) := by
      funext a; match a with | ⟨0, _⟩ => exact hx0 | ⟨1, _⟩ => rfl
    rw [ex]
    unfold outV
    rw [dif_pos hc]
    refine (normed_apply _ _ _ i _).trans ?_
    rw [prA1_at _ _ _ _ _ _ _ i (⟨(x 1).val, hb⟩ : Fin 128) (⟨c.val, hc⟩ : Fin 512) (by show c.val = 128 + (x 1).val; omega), invA_at]
    exact congrArg _ (ldg x15 128 _ _ _ (by show c.val = 128 + (x 1).val; omega))
  refine View.allAt_cons_unit (S := S32x1024) _ _ _ _ _ (fun x hx => ?_) ?_
  · have h0 : i.val = 0 + (x 0).val := hx 0
    have h1 : c.val = 0 + (x 1).val := hx 1
    have hx0 : (x 0) = i := Fin.ext (by omega)
    have hb : (x 1).val < 128 := (x 1).isLt
    have hc : c.val < 512 := by omega
    have ex : x = ix2 i (⟨(x 1).val, hb⟩ : Fin 128) := by
      funext a; match a with | ⟨0, _⟩ => exact hx0 | ⟨1, _⟩ => rfl
    rw [ex]
    unfold outV
    rw [dif_pos hc]
    refine (normed_apply _ _ _ i _).trans ?_
    rw [prA0_at _ _ _ _ _ _ _ i (⟨(x 1).val, hb⟩ : Fin 128) (⟨c.val, hc⟩ : Fin 512) (by show c.val = 0 + (x 1).val; omega), invA_at]
    exact congrArg _ (ldg x15 0 _ _ _ (by show c.val = 0 + (x 1).val; omega))
  exact View.allAt_nil _ _

end Cert.AttnBlock
-- ==== Proof.AttnSpec.lean ====
/-
  The sample attention as one formula of its arguments: for every row and head, the keys kept from before followed by the new ones, a
  bias, the softmax, the values, and the normalisation of each group of heads.
-/
module

public import proofs.«01_k».proof.Proof.AttnBlock

@[expose] public section

set_option maxRecDepth 16384

noncomputable section

namespace Cert.AttnSpec

open Cert.AttnMath Cert.AttnBlock
open Idealize.ShloMosaic
open Idealize.ShloMosaic.ValueIdx
open scoped BigOperators

abbrev Rows := (⟨2, ![66560, 2304]⟩ : Shape).Idx → EReal
abbrev KeptA := (⟨4, ![8, 512, 8, 64]⟩ : Shape).Idx → EReal
abbrev KeptB := (⟨4, ![8, 128, 2, 64]⟩ : Shape).Idx → EReal
abbrev Table := (⟨2, ![8, 257]⟩ : Shape).Idx → EReal
abbrev Eight := (⟨1, ![8]⟩ : Shape).Idx → EReal
abbrev Gain := (⟨1, ![512]⟩ : Shape).Idx → EReal

/-- The row of request `b`, position `i`. -/
def row (b : Fin 8) (i : Fin 32) : Fin 66560 := ⟨65536 + (32 * b.val + i.val), by omega⟩
def colA (o : Fin 1793) (k : Fin 512) : Fin 2304 := ⟨o.val + k.val, by omega⟩
def colB (o : Fin 2177) (k : Fin 128) : Fin 2304 := ⟨o.val + k.val, by omega⟩
def grp (n : Fin 8) : Fin 2 := ⟨n.val / 4, by omega⟩

/-- The keys (or values) of a head of the first group: kept, then new. -/
def kvA (C : KeptA) (H : Rows) (o : Fin 1793) (b : Fin 8) (j : Fin 544) (n : Fin 8) (d : Fin 64) : EReal :=
  if h : j.val < 512 then C (ix4 b (⟨j.val, h⟩ : Fin 512) n d) else H (ix2 (row b ⟨j.val - 512, by omega⟩) (colA o (ln n d)))

/-- The keys (or values) of a head of the second group; four heads share one. -/
def kvB (C : KeptB) (H : Rows) (o : Fin 2177) (b : Fin 8) (j : Fin 160) (n : Fin 8) (d : Fin 64) : EReal :=
  if h : j.val < 128 then C (ix4 b (⟨j.val, h⟩ : Fin 128) (grp n) d) else H (ix2 (row b ⟨j.val - 128, by omega⟩) (colB o (lg n d)))

/-- The column of the bias table read on a diagonal. -/
def word (k : ℕ) : BitVec 32 :=
  IntOp.addi (IntOp.minsi 128#32 (IntOp.maxsi 4294967168#32 (IntOp.subi 543#32 (BitVec.ofNat 32 k)))) 128#32

def bias (R : Table) (n : Fin 8) (i : Fin 32) (j : Fin 544) : EReal :=
  R (ix2 n (⟨min (word (31 + j.val - i.val)).toInt.toNat 256, by omega⟩ : Fin 257))

/-- The distance between a query and a key of the second group. -/
def far (i : Fin 32) (j : Fin 160) : EReal :=
  FloatOps.sitofp (F := Ideal) .f32 (IntOp.absi (IntOp.subi (IntOp.addi 128#32 (BitVec.ofNat 32 i.val)) (BitVec.ofNat 32 j.val)))

def slope (n : Fin 8) : EReal :=
  Ideal.pow (Ideal.ofBits .f32 0x40000000#32) (Ideal.div (Ideal.ofBits .f32 0xC1000000#32 *
    (Ideal.ofBits .f32 0x3F800000#32 + FloatOps.sitofp (F := Ideal) .f32 (BitVec.ofNat 32 n.val))) (Ideal.ofBits .f32 0x41000000#32))

def scA (H : Rows) (C : KeptA) (R : Table) (b n : Fin 8) (i : Fin 32) (j : Fin 544) : EReal :=
  (∑ d : Fin 64, H (ix2 (row b i) (colA 0 (ln n d))) * kvA C H 512 b j n d) * c8 + bias R n i j

def scB (H : Rows) (C : KeptB) (b n : Fin 8) (i : Fin 32) (j : Fin 160) : EReal :=
  (∑ d : Fin 64, H (ix2 (row b i) (colA 1536 (ln n d))) * kvB C H 2048 b j n d) * c8 - slope n * far i j

def headA (H : Rows) (CK CV : KeptA) (R : Table) (b n : Fin 8) (i : Fin 32) (d : Fin 64) : EReal :=
  whole (scA H CK R b n i) (mx (scA H CK R b n i)) 0 (fun j => kvA CV H 1024 b j n d)

def topB (H : Rows) (CK : KeptB) (K : Eight) (b n : Fin 8) (i : Fin 32) : EReal := max (mx (scB H CK b n i)) (K (ix1 n))

def headB (H : Rows) (CK CV : KeptB) (K : Eight) (b n : Fin 8) (i : Fin 32) (d : Fin 64) : EReal :=
  whole (scB H CK b n i) (topB H CK K b n i) (Ideal.exp (K (ix1 n) - topB H CK K b n i)) (fun j => kvB CV H 2176 b j n d)

def rowA (H : Rows) (CK CV : KeptA) (R : Table) (b : Fin 8) (i : Fin 32) (c : Fin 512) : EReal := headA H CK CV R b (hd c) i (ld c)
def rowB (H : Rows) (CK CV : KeptB) (K : Eight) (b : Fin 8) (i : Fin 32) (c : Fin 512) : EReal := headB H CK CV K b (hd c) i (ld c)

/-- A row of the result, of a request and a position. -/
def live (H : Rows) (CKA CVA : KeptA) (CKB CVB : KeptB) (R : Table) (K : Eight) (GA GB : Gain) (b : Fin 8) (i : Fin 32) (c : Fin 1024) : EReal :=
  if h : c.val < 512 then rowA H CKA CVA R b i ⟨c.val, h⟩ * rms (rowA H CKA CVA R b i) * GA (ix1 (⟨c.val, h⟩ : Fin 512))
  else rowB H CKB CVB K b i ⟨c.val - 512, by omega⟩ * rms (rowB H CKB CVB K b i) * GB (ix1 (⟨c.val - 512, by omega⟩ : Fin 512))

/-- The whole array: the rows of the eight requests, then zeros. -/
def result (H : Rows) (CKA CVA : KeptA) (CKB CVB : KeptB) (R : Table) (K : Eight) (GA GB : Gain) (r c : Fin 1024) : EReal :=
  if h : r.val < 256 then live H CKA CVA CKB CVB R K GA GB ⟨r.val / 32, by omega⟩ ⟨r.val % 32, Nat.mod_lt _ (by decide)⟩ c else 0

/-! ## The block of a grid point is the formula's row -/

theorem kvA_kept (C : KeptA) (H : Rows) (o b n d) (j : Fin 512) : kvA C H o b (Fin.castAdd 32 j) n d = C (ix4 b j n d) := by
  unfold kvA
  rw [dif_pos (show (Fin.castAdd 32 j : Fin 544).val < 512 from j.isLt)]; rfl
theorem kvA_new (C : KeptA) (H : Rows) (o b n d) (j : Fin 32) : kvA C H o b (Fin.natAdd 512 j) n d = H (ix2 (row b j) (colA o (ln n d))) := by
  unfold kvA
  have h : (Fin.natAdd 512 j : Fin 544).val = 512 + j.val := rfl
  rw [dif_neg (by omega)]
  have e : (⟨(Fin.natAdd 512 j : Fin 544).val - 512, by omega⟩ : Fin 32) = j := Fin.ext (by show (Fin.natAdd 512 j : Fin 544).val - 512 = j.val; omega)
  rw [e]
theorem kvB_kept (C : KeptB) (H : Rows) (o b n d) (j : Fin 128) : kvB C H o b (Fin.castAdd 32 j) n d = C (ix4 b j (grp n) d) := by
  unfold kvB
  rw [dif_pos (show (Fin.castAdd 32 j : Fin 160).val < 128 from j.isLt)]; rfl
theorem kvB_new (C : KeptB) (H : Rows) (o b n d) (j : Fin 32) : kvB C H o b (Fin.natAdd 128 j) n d = H (ix2 (row b j) (colB o (lg n d))) := by
  unfold kvB
  have h : (Fin.natAdd 128 j : Fin 160).val = 128 + j.val := rfl
  rw [dif_neg (by omega)]
  have e : (⟨(Fin.natAdd 128 j : Fin 160).val - 128, by omega⟩ : Fin 32) = j := Fin.ext (by show (Fin.natAdd 128 j : Fin 160).val - 128 = j.val; omega)
  rw [e]

theorem c8_nonneg : (0 : EReal) ≤ c8 := EReal.coe_nonneg.2 (by norm_num)
theorem c8_top : c8 ≠ ⊤ := EReal.coe_ne_top _

theorem sco_eq (q k : Fin 64 → EReal) (b : EReal) : sco q k b = (∑ d, q d * k d) * c8 + b := by
  unfold sco
  rw [sum_mul_pos _ _ c8_nonneg c8_top]
  exact congrArg (· + b) (Finset.sum_congr rfl fun d _ => mul_right_comm _ _ _)

theorem slope_rl (n : Fin 8) : Rl (slope n) := by
  have h2 : Ideal.ofBits .f32 0x40000000#32 = ((2 : ℝ) : EReal) := by
    simp [Ideal.ofBits, Ideal.ieee, -EReal.coe_mul]; norm_num
  have h8 : Ideal.ofBits .f32 0x41000000#32 = ((8 : ℝ) : EReal) := by
    simp [Ideal.ofBits, Ideal.ieee, -EReal.coe_mul]; norm_num
  have hm : Ideal.ofBits .f32 0xC1000000#32 = ((-8 : ℝ) : EReal) := by
    simp [Ideal.ofBits, Ideal.ieee, -EReal.coe_mul]; norm_num
  have h1 : Ideal.ofBits .f32 0x3F800000#32 = ((1 : ℝ) : EReal) := by
    simp [Ideal.ofBits, Ideal.ieee, -EReal.coe_mul]; norm_num
  unfold slope
  rw [h2, h8, hm, h1, Ideal.div_coe (by norm_num), show FloatOps.sitofp (F := Ideal) .f32 (BitVec.ofNat 32 n.val) = (((BitVec.ofNat 32 n.val).toInt : ℝ) : EReal) from rfl,
    ← EReal.coe_add, ← EReal.coe_mul, ← EReal.coe_mul]
  exact Rl.coe _

theorem far_rl (i : Fin 32) (j : Fin 160) : Rl (far i j) := Rl.coe _

section
variable (H : Rows) (CKA CVA : KeptA) (CKB CVB : KeptB) (R : Table) (K : Eight) (GA GB : Gain)

/-- What the arguments must be for the two arrangements of the softmax to agree. -/
structure Good : Prop where
  q0 : ∀ b i k, Rl (H (ix2 (row b i) (colA 0 k)))
  k0 : ∀ b i k, Rl (H (ix2 (row b i) (colA 512 k)))
  q1 : ∀ b i k, Rl (H (ix2 (row b i) (colA 1536 k)))
  k1 : ∀ b i k, Rl (H (ix2 (row b i) (colB 2048 k)))
  ca : ∀ j, Rl (CKA j)
  cb : ∀ j, Rl (CKB j)
  tb : ∀ j, Rl (R j)
  sk : ∀ n, K n ≠ ⊤

variable {H CKA CVA CKB CVB R K GA GB}

theorem kvA_rl (g : Good H CKA CKB R K) (b j n d) : Rl (kvA CKA H 512 b j n d) := by
  unfold kvA; split
  · exact g.ca _
  · exact g.k0 _ _ _
theorem kvB_rl (g : Good H CKA CKB R K) (b j n d) : Rl (kvB CKB H 2048 b j n d) := by
  unfold kvB; split
  · exact g.cb _
  · exact g.k1 _ _ _
theorem scA_rl (g : Good H CKA CKB R K) (b n i j) : Rl (scA H CKA R b n i j) :=
  ((Rl.sum _ fun d => (g.q0 _ _ _).mul (kvA_rl g _ _ _ _)).mul (Rl.coe _)).add (g.tb _)
theorem scB_rl (g : Good H CKA CKB R K) (b n i j) : Rl (scB H CKB b n i j) :=
  ((Rl.sum _ fun d => (g.q1 _ _ _).mul (kvB_rl g _ _ _ _)).mul (Rl.coe _)).sub ((slope_rl n).mul (far_rl i j))
theorem topB_rl (g : Good H CKA CKB R K) (b n i) : Rl (topB H CKB K b n i) := by
  have h := mx_rl (by decide) _ (scB_rl g b n i)
  unfold topB
  refine ⟨fun e => ?_, fun e => h.2 (le_bot_iff.1 (e ▸ le_max_left _ _))⟩
  rcases max_choice (mx (scB H CKB b n i)) (K (ix1 n)) with h' | h' <;> rw [h'] at e
  · exact h.1 e
  · exact g.sk _ e

variable (g : Good H CKA CKB R K)
variable {x0 : Eight} {x1 x2 x3 x4 : (⟨2, ![32, 512]⟩ : Shape).Idx → EReal} {x5 x6 : (⟨2, ![32, 128]⟩ : Shape).Idx → EReal} {x7 x8 : (⟨3, ![1, 512, 512]⟩ : Shape).Idx → EReal}
  {x9 x10 : (⟨3, ![1, 128, 128]⟩ : Shape).Idx → EReal} {x11 : (⟨3, ![8, 32, 512]⟩ : Shape).Idx → EReal} {x12 : (⟨3, ![8, 32, 32]⟩ : Shape).Idx → EReal}
  {x13 : (⟨3, ![8, 32, 128]⟩ : Shape).Idx → EReal} {x14 : (⟨3, ![8, 32, 32]⟩ : Shape).Idx → EReal} {x15 x16 : (⟨2, ![1, 512]⟩ : Shape).Idx → EReal} {b : Fin 8}
include g

theorem hA_eq (h1 : ∀ i k, x1 (ix2 i k) = H (ix2 (row b i) (colA 0 k))) (h2 : ∀ i k, x2 (ix2 i k) = H (ix2 (row b i) (colA 512 k)))
    (h3 : ∀ i k, x3 (ix2 i k) = H (ix2 (row b i) (colA 1024 k))) (h7 : ∀ j n d, x7 (ix3 0 j (ln n d)) = CKA (ix4 b j n d)) (h8 : ∀ j n d, x8 (ix3 0 j (ln n d)) = CVA (ix4 b j n d))
    (h11 : ∀ n i (j : Fin 512), x11 (ix3 n i j) = bias R n i (Fin.castAdd 32 j)) (h12 : ∀ n i (j : Fin 32), x12 (ix3 n i j) = bias R n i (Fin.natAdd 512 j)) (i : Fin 32) (n : Fin 8) (d : Fin 64) :
    hA x1 x2 x3 x7 x8 x11 x12 i n d = headA H CKA CVA R b n i d := by
  have ec : ∀ j : Fin 512, sco (fun e => x1 (ix2 i (ln n e))) (fun e => x7 (ix3 0 j (ln n e))) (x11 (ix3 n i j)) = scA H CKA R b n i (Fin.castAdd 32 j) := fun j => by
    rw [sco_eq, h11]; unfold scA
    exact congrArg (fun z => z * c8 + _) (Finset.sum_congr rfl fun e _ => by rw [h1, h7, kvA_kept])
  have en : ∀ j : Fin 32, sco (fun e => x1 (ix2 i (ln n e))) (fun e => x2 (ix2 j (ln n e))) (x12 (ix3 n i j)) = scA H CKA R b n i (Fin.natAdd 512 j) := fun j => by
    rw [sco_eq, h12]; unfold scA
    exact congrArg (fun z => z * c8 + _) (Finset.sum_congr rfl fun e _ => by rw [h1, h2, kvA_new])
  unfold hA hdA
  simp only [ec, en, h8, h3]
  have hm := mx_split (a := 512) (b := 32) (scA H CKA R b n i)
  rw [← hm]
  have hv : ∀ j : Fin 512, CVA (ix4 b j n d) = kvA CVA H 1024 b (Fin.castAdd 32 j) n d := fun j => (kvA_kept _ _ _ _ _ _ _).symm
  have hw : ∀ j : Fin 32, H (ix2 (row b j) (colA 1024 (ln n d))) = kvA CVA H 1024 b (Fin.natAdd 512 j) n d := fun j => (kvA_new _ _ _ _ _ _ _).symm
  simp only [hv, hw]
  exact split_eq_whole (a := 512) (b := 32) (by decide) (scA H CKA R b n i) (fun j => kvA CVA H 1024 b j n d) _ 0 (scA_rl g b n i) (mx_rl (by decide) _ (scA_rl g b n i)) le_rfl (Rl.coe 0)

theorem hB_eq (h0 : ∀ n, x0 (ix1 n) = K (ix1 n)) (h4 : ∀ i k, x4 (ix2 i k) = H (ix2 (row b i) (colA 1536 k))) (h5 : ∀ i k, x5 (ix2 i k) = H (ix2 (row b i) (colB 2048 k)))
    (h6 : ∀ i k, x6 (ix2 i k) = H (ix2 (row b i) (colB 2176 k))) (h9 : ∀ j n d, x9 (ix3 0 j (lg n d)) = CKB (ix4 b j (grp n) d)) (h10 : ∀ j n d, x10 (ix3 0 j (lg n d)) = CVB (ix4 b j (grp n) d))
    (h13 : ∀ n i (j : Fin 128), x13 (ix3 n i j) = -(slope n) * far i (Fin.castAdd 32 j)) (h14 : ∀ n i (j : Fin 32), x14 (ix3 n i j) = -(slope n) * far i (Fin.natAdd 128 j)) (i : Fin 32) (n : Fin 8) (d : Fin 64) :
    hB x0 x4 x5 x6 x9 x10 x13 x14 i n d = headB H CKB CVB K b n i d := by
  have ec : ∀ j : Fin 128, sco (fun e => x4 (ix2 i (ln n e))) (fun e => x9 (ix3 0 j (lg n e))) (x13 (ix3 n i j)) = scB H CKB b n i (Fin.castAdd 32 j) := fun j => by
    rw [sco_eq, h13]; unfold scB
    rw [EReal.neg_mul, ← sub_eq_add_neg]
    exact congrArg (fun z => z * c8 - _) (Finset.sum_congr rfl fun e _ => by rw [h4, h9, kvB_kept])
  have en : ∀ j : Fin 32, sco (fun e => x4 (ix2 i (ln n e))) (fun e => x5 (ix2 j (lg n e))) (x14 (ix3 n i j)) = scB H CKB b n i (Fin.natAdd 128 j) := fun j => by
    rw [sco_eq, h14]; unfold scB
    rw [EReal.neg_mul, ← sub_eq_add_neg]
    exact congrArg (fun z => z * c8 - _) (Finset.sum_congr rfl fun e _ => by rw [h4, h5, kvB_new])
  unfold hB hdB
  simp only [ec, en, h10, h6, h0]
  have hm := mx_split (a := 128) (b := 32) (scB H CKB b n i)
  rw [← hm]
  have hv : ∀ j : Fin 128, CVB (ix4 b j (grp n) d) = kvB CVB H 2176 b (Fin.castAdd 32 j) n d := fun j => (kvB_kept _ _ _ _ _ _ _).symm
  have hw : ∀ j : Fin 32, H (ix2 (row b j) (colB 2176 (lg n d))) = kvB CVB H 2176 b (Fin.natAdd 128 j) n d := fun j => (kvB_new _ _ _ _ _ _ _).symm
  simp only [hv, hw]
  have ht := topB_rl g b n i
  refine split_eq_whole (a := 128) (b := 32) (by decide) (scB H CKB b n i) (fun j => kvB CVB H 2176 b j n d) _ _ (scB_rl g b n i) ht (exp_nonneg _) (exp_rl ?_)
  have hk := g.sk (ix1 n)
  obtain ⟨r, hr⟩ := ht.lift
  show K (ix1 n) - topB H CKB K b n i ≠ ⊤
  rw [hr]
  intro e
  induction hz : K (ix1 n) using EReal.rec with
  | bot => rw [hz] at e; simp at e
  | top => exact hk hz
  | coe z => rw [hz, ← EReal.coe_sub] at e; exact EReal.coe_ne_top _ e

theorem outV_eq (h0 : ∀ n, x0 (ix1 n) = K (ix1 n)) (h1 : ∀ i k, x1 (ix2 i k) = H (ix2 (row b i) (colA 0 k))) (h2 : ∀ i k, x2 (ix2 i k) = H (ix2 (row b i) (colA 512 k)))
    (h3 : ∀ i k, x3 (ix2 i k) = H (ix2 (row b i) (colA 1024 k))) (h4 : ∀ i k, x4 (ix2 i k) = H (ix2 (row b i) (colA 1536 k))) (h5 : ∀ i k, x5 (ix2 i k) = H (ix2 (row b i) (colB 2048 k)))
    (h6 : ∀ i k, x6 (ix2 i k) = H (ix2 (row b i) (colB 2176 k))) (h7 : ∀ j n d, x7 (ix3 0 j (ln n d)) = CKA (ix4 b j n d)) (h8 : ∀ j n d, x8 (ix3 0 j (ln n d)) = CVA (ix4 b j n d))
    (h9 : ∀ j n d, x9 (ix3 0 j (lg n d)) = CKB (ix4 b j (grp n) d)) (h10 : ∀ j n d, x10 (ix3 0 j (lg n d)) = CVB (ix4 b j (grp n) d))
    (h11 : ∀ n i (j : Fin 512), x11 (ix3 n i j) = bias R n i (Fin.castAdd 32 j)) (h12 : ∀ n i (j : Fin 32), x12 (ix3 n i j) = bias R n i (Fin.natAdd 512 j))
    (h13 : ∀ n i (j : Fin 128), x13 (ix3 n i j) = -(slope n) * far i (Fin.castAdd 32 j)) (h14 : ∀ n i (j : Fin 32), x14 (ix3 n i j) = -(slope n) * far i (Fin.natAdd 128 j))
    (h15 : ∀ k, x15 (ix2 0 k) = GA (ix1 k)) (h16 : ∀ k, x16 (ix2 0 k) = GB (ix1 k)) (i : Fin 32) (c : Fin 1024) :
    outV x0 x1 x2 x3 x4 x5 x6 x7 x8 x9 x10 x11 x12 x13 x14 x15 x16 i c = live H CKA CVA CKB CVB R K GA GB b i c := by
  have eA : oA x1 x2 x3 x7 x8 x11 x12 i = rowA H CKA CVA R b i := funext fun k => hA_eq g h1 h2 h3 h7 h8 h11 h12 i _ _
  have eB : oB x0 x4 x5 x6 x9 x10 x13 x14 i = rowB H CKB CVB K b i := funext fun k => hB_eq g h0 h4 h5 h6 h9 h10 h13 h14 i _ _
  unfold outV live
  rw [eA, eB]
  split
  · rw [h15]
  · rw [h16]
end

end Cert.AttnSpec
-- ==== Proof.AttnPre.lean ====
/-
  What the precondition says of the attention call's arguments: queries, keys and the bias table finite, sinks below +inf.
-/
module

public import proofs.«01_k».proof.Defs
public import proofs.«01_k».proof.Proof.Gen.Pre_scores_finite
public import proofs.«01_k».proof.Proof.AttnSpec
public import Idealize.ShloMosaic.Lib.ReduceAll

@[expose] public section

namespace Cert.AttnPre

open Cert.Pre_scores_finite Cert.AttnMath Cert.AttnSpec
open Idealize.ShloMosaic
open Idealize.ShloMosaic.ValueIdx

theorem inf_f32 : Ideal.ofBits .f32 0x7F800000#32 = (⊤ : EReal) := by simp [Ideal.ofBits, Ideal.ieee]

theorem lt_of_one {x y : EReal} (h : FloatOps.cmpf (F := Ideal) (φ := .f32) .olt x y = 1#1) : x < y := by
  have h' : BitVec.ofBool (decide (x < y)) = 1#1 := h
  by_contra hc
  rw [decide_eq_false hc] at h'
  exact absurd h' (by decide)

theorem rl_of_abs {x : EReal} (h : max x (-x) < ⊤) : Rl x := by
  refine ⟨fun e => ?_, fun e => ?_⟩
  · rw [e] at h; exact absurd h (by simp)
  · rw [e] at h; exact absurd h (by simp)

/-- All of an array's magnitudes below +inf: all of its elements are finite. -/
theorem all_rl {s t u : Shape} {axes : List (Fin s.rank)} [Subsingleton t.Idx] (x : FVec Ideal s .f32) (hb : (⟨0, ![]⟩ : Shape).BroadcastsInDim s (![] : Fin 0 → Fin s.rank)) (init : u.Idx → BitVec 1)
    (h : s.ReducesTo axes t) (hu : 0 < u.numel) (j : t.Idx)
    (e : Host.reduce IntOp.andi (cmpf .olt (Host.absf x) (broadcastInDim s ![] hb (constant (F := Ideal) (⟨0, ![]⟩ : Shape) .f32 0x7F800000#32))) init h hu j = 1#1) (i : s.Idx) : Rl (x i) := by
  have h1 := lt_of_one (Host.reduce_andi_all _ init h hu j e i)
  have h2 : max (x i) (-(x i)) < Ideal.ofBits .f32 0x7F800000#32 := h1
  rw [inf_f32] at h2
  exact rl_of_abs h2

theorem all_lt {s t u : Shape} {axes : List (Fin s.rank)} [Subsingleton t.Idx] (x : FVec Ideal s .f32) (hb : (⟨0, ![]⟩ : Shape).BroadcastsInDim s (![] : Fin 0 → Fin s.rank)) (init : u.Idx → BitVec 1)
    (h : s.ReducesTo axes t) (hu : 0 < u.numel) (j : t.Idx)
    (e : Host.reduce IntOp.andi (cmpf .olt x (broadcastInDim s ![] hb (constant (F := Ideal) (⟨0, ![]⟩ : Shape) .f32 0x7F800000#32))) init h hu j = 1#1) (i : s.Idx) : x i ≠ ⊤ := by
  have h1 := lt_of_one (Host.reduce_andi_all _ init h hu j e i)
  have h2 : x i < Ideal.ofBits .f32 0x7F800000#32 := h1
  rw [inf_f32] at h2
  exact ne_of_lt h2

theorem and_one {a b : IVec S_ 1} {j : S_.Idx} (h : andi a b j = 1#1) : a j = 1#1 ∧ b j = 1#1 := by
  have h' : IntOp.andi (a j) (b j) = 1#1 := h
  generalize a j = p at h'
  generalize b j = q at h'
  revert p q; decide

theorem good_of_fn (H : Rows) (CKA CVA : KeptA) (CKB CVB : KeptB) (R : AttnSpec.Table) (K : Eight) (GA GB : Gain)
    (h : letI := Cert.Pre_scores_finite.Gen.facts; Cert.Pre_scores_finite.fn (F := Ideal) H CKA CVA CKB CVB R K GA GB = fun _ => 1#1) : Good H CKA CKB R K := by
  letI := Cert.Pre_scores_finite.Gen.facts
  haveI : Subsingleton S_.Idx := ⟨fun a b => funext fun x => x.elim0⟩
  let z : S_.Idx := fun a => a.elim0
  have e := congrFun h z
  unfold Cert.Pre_scores_finite.fn fn_part1 at e
  dsimp only at e
  obtain ⟨e, e6⟩ := and_one e
  obtain ⟨e, e5⟩ := and_one e
  obtain ⟨e, e3⟩ := and_one e
  obtain ⟨e, e1⟩ := and_one e
  obtain ⟨ea, eb⟩ := and_one e
  have ra := all_rl _ _ _ _ _ z ea
  have rb := all_rl _ _ _ _ _ z eb
  have cA (b : Fin 8) (i : Fin 32) (k : Fin 1024) (c : Fin 2304) (hc : c.val = k.val) : Rl (H (ix2 (row b i) c)) := by
    have r := ra (ix2 (⟨32 * b.val + i.val, by omega⟩ : Fin 256) k : S256x1024.Idx)
    refine (congrArg Rl (congrArg H (funext fun a => Fin.ext ?_))).mpr r
    match a with
    | ⟨0, _⟩ => show 65536 + (32 * b.val + i.val) = 65536 + (0 + (32 * b.val + i.val)); omega
    | ⟨1, _⟩ => show c.val = 0 + (0 + k.val); omega
  have cB (b : Fin 8) (i : Fin 32) (k : Fin 640) (c : Fin 2304) (hc : c.val = 1536 + k.val) : Rl (H (ix2 (row b i) c)) := by
    have r := rb (ix2 (⟨32 * b.val + i.val, by omega⟩ : Fin 256) k : S256x640.Idx)
    refine (congrArg Rl (congrArg H (funext fun a => Fin.ext ?_))).mpr r
    match a with
    | ⟨0, _⟩ => show 65536 + (32 * b.val + i.val) = 65536 + (0 + (32 * b.val + i.val)); omega
    | ⟨1, _⟩ => show c.val = 0 + (1536 + k.val); omega
  exact
    { q0 := fun b i k => cA b i ⟨k.val, by omega⟩ _ (by show 0 + k.val = k.val; omega)
      k0 := fun b i k => cA b i ⟨512 + k.val, by omega⟩ _ rfl
      q1 := fun b i k => cB b i ⟨k.val, by omega⟩ _ rfl
      k1 := fun b i k => cB b i ⟨512 + k.val, by omega⟩ _ (by show 2048 + k.val = 1536 + (512 + k.val); omega)
      ca := fun j => all_rl CKA _ _ _ _ z e1 j
      cb := fun j => all_rl CKB _ _ _ _ z e3 j
      tb := fun j => all_rl R _ _ _ _ z e5 j
      sk := fun n => all_lt K _ _ _ _ z e6 n }

end Cert.AttnPre

end
-- ==== Proof.AttnRef.lean ====
/-
  The plain attention's result, element by element, is the formula.
-/
module

public import proofs.«01_k».proof.Proof.Gen.AttnReferenceIdeal.Read
public import proofs.«01_k».proof.Proof.AttnSpec
public import Idealize.ShloMosaic.Lib.Pipeline.Value
public import Idealize.ShloMosaic.Lib.ValueIdxCore
public import Idealize.ShloMosaic.PureOps.Reduce

@[expose] public section

set_option maxRecDepth 16384

noncomputable section

namespace Cert.AttnRef

open Cert.AttnReferenceIdeal Cert.AttnReferenceIdeal.Gen Cert.AttnReferenceIdeal.Read Cert.AttnMath Cert.AttnBlock Cert.AttnSpec
open Idealize.ShloMosaic
open Idealize.ShloMosaic.ValueIdx
open scoped BigOperators

/-! ## Constants, folds and the gather -/

theorem c8_f32 : Ideal.ofBits .f32 0x3E000000#32 = c8 := by
  unfold c8; simp [Ideal.ofBits, Ideal.ieee, -EReal.coe_mul]; norm_num
theorem low : Ideal.ofBits .f32 0xFF800000#32 = (⊥ : EReal) := by simp [Ideal.ofBits, Ideal.ieee]

theorem fold_max {a b c n : ℕ} (x : (⟨4, ![a, b, c, n]⟩ : Shape).Idx → EReal) (h' : (⟨4, ![a, b, c, n]⟩ : Shape).ReducesTo [3] ⟨3, ![a, b, c]⟩)
    (h : (⟨4, ![a, b, c, n]⟩ : Shape).Reduces [3] ⟨3, ![a, b, c]⟩) (hu : 0 < (⟨0, ![]⟩ : Shape).numel) (i : Fin a) (j : Fin b) (k : Fin c) :
    Host.reduce (FloatOps.maximumf (F := Ideal) (φ := .f32)) x (constant (F := Ideal) (⟨0, ![]⟩ : Shape) .f32 0xFF800000#32) h' hu (ix3 i j k) = mx fun l => x (ix4 i j k l) := by
  rw [Host.reduce_eq_fold_single (FloatOps.maximumf (F := Ideal) (φ := .f32)) x _ h' h hu]
  have hf : (x ∘ h.lift (ix3 i j k)) = fun l : Fin n => x (ix4 i j k l) := funext fun l => congrArg x (by
    funext d; apply Fin.ext
    match d with | ⟨0, _⟩ => rfl | ⟨1, _⟩ => rfl | ⟨2, _⟩ => rfl | ⟨3, _⟩ => rfl)
  refine (congrArg (fun f => Finset.fold max (Ideal.ofBits .f32 0xFF800000#32) f (Finset.univ : Finset (Fin n))) hf).trans ?_
  rw [low]; rfl

theorem gather_apply (x : FVec Ideal S8x257 .f32) (idx : IVec S32x544x1 32) (n : Fin 8) (i : Fin 32) (j : Fin 544) :
    Host.gather gather_S8x257_S32x544x1_S8x32x544_0_1_n_n_1_2_81 x idx (ix3 n i j)
      = x (ix2 n (⟨min (idx (ix3 i j (0 : Fin 1))).toInt.toNat 256, by omega⟩ : Fin 257)) := by
  unfold Host.gather
  congr 1
  funext a
  refine Fin.ext ?_
  match a with
  | ⟨0, _⟩ =>
    show (gather_S8x257_S32x544x1_S8x32x544_0_1_n_n_1_2_81).start (ix3 n i j) idx 0 + (gather_S8x257_S32x544x1_S8x32x544_0_1_n_n_1_2_81).batchCoord (ix3 n i j) 0 + (gather_S8x257_S32x544x1_S8x32x544_0_1_n_n_1_2_81).offCoord (ix3 n i j) 0 = n.val
    rw [GatherDims.batchCoord_eq_zero _ _ _ List.not_mem_nil]
    unfold GatherDims.start
    rw [dif_neg (show ¬ (0 : Fin 2) ∈ (gather_S8x257_S32x544x1_S8x32x544_0_1_n_n_1_2_81).startIndexMap by decide)]
    unfold GatherDims.offCoord
    rw [dif_pos (show (0 : Fin 2) ∈ (gather_S8x257_S32x544x1_S8x32x544_0_1_n_n_1_2_81).sKept by decide)]
    show 0 + 0 + n.val = n.val
    omega
  | ⟨1, _⟩ =>
    show (gather_S8x257_S32x544x1_S8x32x544_0_1_n_n_1_2_81).start (ix3 n i j) idx 1 + (gather_S8x257_S32x544x1_S8x32x544_0_1_n_n_1_2_81).batchCoord (ix3 n i j) 1 + (gather_S8x257_S32x544x1_S8x32x544_0_1_n_n_1_2_81).offCoord (ix3 n i j) 1 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (gather_S8x257_S32x544x1_S8x32x544_0_1_n_n_1_2_81).startIndexMap from List.mem_singleton.mpr rfl)]
    have hsi : (gather_S8x257_S32x544x1_S8x32x544_0_1_n_n_1_2_81).siIdx (ix3 n i j) ⟨List.idxOf (1 : Fin 2) (gather_S8x257_S32x544x1_S8x32x544_0_1_n_n_1_2_81).startIndexMap,
        List.idxOf_lt_length_iff.2 (List.mem_singleton.mpr rfl)⟩ = ix3 i j (0 : Fin 1) := by
      funext b; refine Fin.ext ?_
      match b with
      | ⟨0, _⟩ => rfl
      | ⟨1, _⟩ => rfl
      | ⟨2, _⟩ => rfl
    rw [hsi]
    rfl

theorem diagonal (i : Fin 32) (j : Fin 544) : IntOp.subi (IntOp.addi 4096#32 (BitVec.ofNat 32 i.val)) (IntOp.addi 3584#32 (BitVec.ofNat 32 j.val))
    = IntOp.subi 543#32 (BitVec.ofNat 32 (31 + j.val - i.val)) := by
  unfold IntOp.subi IntOp.addi
  apply BitVec.eq_of_toNat_eq
  simp only [BitVec.toNat_sub, BitVec.toNat_add, BitVec.toNat_ofNat]
  omega

theorem short (i : Fin 32) (j : Fin 160) : IntOp.subi (IntOp.addi 4096#32 (BitVec.ofNat 32 i.val)) (IntOp.addi 3968#32 (BitVec.ofNat 32 j.val))
    = IntOp.subi (IntOp.addi 128#32 (BitVec.ofNat 32 i.val)) (BitVec.ofNat 32 j.val) := by
  unfold IntOp.subi IntOp.addi
  apply BitVec.eq_of_toNat_eq
  simp only [BitVec.toNat_sub, BitVec.toNat_add, BitVec.toNat_ofNat]
  omega

section
variable (x0 : Rows) (x1 x2 : KeptA) (x3 x4 : KeptB) (x5 : AttnSpec.Table) (x6 : Eight) (x7 x8 : Gain)

/-! ## Queries, keys and values -/

theorem at24 (b : Fin 8) (i : Fin 32) (n : Fin 8) (d : Fin 64) : val_main_v24 (F := Ideal) x0 (ix4 b i n d) = x0 (ix2 (row b i) (colA 0 (ln n d))) := by
  rw [val_main_v24_apply, val_main_v23_apply, val_main_v1_apply]
  show val_main_v0 (F := Ideal) x0 _ = _
  rw [val_main_v0_apply]
  refine congrArg x0 (funext fun a => Fin.ext ?_)
  match a with
  | ⟨0, _⟩ => show 65536 + (((b.val * 32 + i.val) * 8 + n.val) * 64 + d.val) / 512 = 65536 + (32 * b.val + i.val); omega
  | ⟨1, _⟩ => show (((b.val * 32 + i.val) * 8 + n.val) * 64 + d.val) % 512 = 0 + (64 * n.val + d.val); omega

theorem at6 (b : Fin 8) (i : Fin 32) (n : Fin 8) (d : Fin 64) : val_main_v6 (F := Ideal) x0 (ix4 b i n d) = x0 (ix2 (row b i) (colA 512 (ln n d))) := by
  rw [val_main_v6_apply, val_main_v5_apply, val_main_v1_apply]
  show val_main_v0 (F := Ideal) x0 _ = _
  rw [val_main_v0_apply]
  refine congrArg x0 (funext fun a => Fin.ext ?_)
  match a with
  | ⟨0, _⟩ => show 65536 + (((b.val * 32 + i.val) * 8 + n.val) * 64 + d.val) / 512 = 65536 + (32 * b.val + i.val); omega
  | ⟨1, _⟩ => show 512 + (((b.val * 32 + i.val) * 8 + n.val) * 64 + d.val) % 512 = 512 + (64 * n.val + d.val); omega

theorem at9 (b : Fin 8) (i : Fin 32) (n : Fin 8) (d : Fin 64) : val_main_v9 (F := Ideal) x0 (ix4 b i n d) = x0 (ix2 (row b i) (colA 1024 (ln n d))) := by
  rw [val_main_v9_apply, val_main_v8_apply, val_main_v1_apply]
  show val_main_v0 (F := Ideal) x0 _ = _
  rw [val_main_v0_apply]
  refine congrArg x0 (funext fun a => Fin.ext ?_)
  match a with
  | ⟨0, _⟩ => show 65536 + (((b.val * 32 + i.val) * 8 + n.val) * 64 + d.val) / 512 = 65536 + (32 * b.val + i.val); omega
  | ⟨1, _⟩ => show 1024 + (((b.val * 32 + i.val) * 8 + n.val) * 64 + d.val) % 512 = 1024 + (64 * n.val + d.val); omega

theorem at74 (b : Fin 8) (i : Fin 32) (n : Fin 8) (d : Fin 64) : val_main_v74 (F := Ideal) x0 (ix4 b i n d) = x0 (ix2 (row b i) (colA 1536 (ln n d))) := by
  rw [val_main_v74_apply, val_main_v73_apply, val_main_v1_apply]
  show val_main_v0 (F := Ideal) x0 _ = _
  rw [val_main_v0_apply]
  refine congrArg x0 (funext fun a => Fin.ext ?_)
  match a with
  | ⟨0, _⟩ => show 65536 + (((b.val * 32 + i.val) * 8 + n.val) * 64 + d.val) / 512 = 65536 + (32 * b.val + i.val); omega
  | ⟨1, _⟩ => show 1536 + (((b.val * 32 + i.val) * 8 + n.val) * 64 + d.val) % 512 = 1536 + (64 * n.val + d.val); omega

theorem at45 (b : Fin 8) (i : Fin 32) (g : Fin 2) (d : Fin 64) (k : Fin 128) (hk : k.val = 64 * g.val + d.val) : val_main_v45 (F := Ideal) x0 (ix4 b i g d) = x0 (ix2 (row b i) (colB 2048 k)) := by
  rw [val_main_v45_apply, val_main_v44_apply, val_main_v1_apply]
  show val_main_v0 (F := Ideal) x0 _ = _
  rw [val_main_v0_apply]
  refine congrArg x0 (funext fun a => Fin.ext ?_)
  match a with
  | ⟨0, _⟩ => show 65536 + (((b.val * 32 + i.val) * 2 + g.val) * 64 + d.val) / 128 = 65536 + (32 * b.val + i.val); omega
  | ⟨1, _⟩ => show 2048 + (((b.val * 32 + i.val) * 2 + g.val) * 64 + d.val) % 128 = 2048 + k.val; omega

theorem at50 (b : Fin 8) (i : Fin 32) (g : Fin 2) (d : Fin 64) (k : Fin 128) (hk : k.val = 64 * g.val + d.val) : val_main_v50 (F := Ideal) x0 (ix4 b i g d) = x0 (ix2 (row b i) (colB 2176 k)) := by
  rw [val_main_v50_apply, val_main_v49_apply, val_main_v1_apply]
  show val_main_v0 (F := Ideal) x0 _ = _
  rw [val_main_v0_apply]
  refine congrArg x0 (funext fun a => Fin.ext ?_)
  match a with
  | ⟨0, _⟩ => show 65536 + (((b.val * 32 + i.val) * 2 + g.val) * 64 + d.val) / 128 = 65536 + (32 * b.val + i.val); omega
  | ⟨1, _⟩ => show 2176 + (((b.val * 32 + i.val) * 2 + g.val) * 64 + d.val) % 128 = 2176 + k.val; omega

theorem at7 (b : Fin 8) (j : Fin 544) (n : Fin 8) (d : Fin 64) : val_main_v7 (F := Ideal) x0 x1 (ix4 b j n d) = kvA x1 x0 512 b j n d := by
  unfold val_main_v7 kvA
  split
  · next h =>
    exact concatenate_pair_apply_left (s₁ := S8x512x8x64) (s₂ := S8x32x8x64) (t := S8x544x8x64) 1 x1 (val_main_v6 (F := Ideal) x0) _ (ix4 b j n d : S8x544x8x64.Idx) rfl
      (ix4 b (⟨j.val, h⟩ : Fin 512) n d : S8x512x8x64.Idx) (fun a => match a with | ⟨0, _⟩ => rfl | ⟨1, _⟩ => rfl | ⟨2, _⟩ => rfl | ⟨3, _⟩ => rfl)
  · next h =>
    refine (concatenate_pair_apply_right (s₁ := S8x512x8x64) (s₂ := S8x32x8x64) (t := S8x544x8x64) 1 x1 (val_main_v6 (F := Ideal) x0) _ (ix4 b j n d : S8x544x8x64.Idx) rfl rfl
      (ix4 b (⟨j.val - 512, by omega⟩ : Fin 32) n d : S8x32x8x64.Idx) (fun a ha => match a, ha with | ⟨0, _⟩, _ => rfl | ⟨1, _⟩, ha => absurd rfl ha | ⟨2, _⟩, _ => rfl | ⟨3, _⟩, _ => rfl)
      (by show j.val - 512 + 512 = j.val; omega)).trans ?_
    exact at6 x0 b _ n d

theorem at10 (b : Fin 8) (j : Fin 544) (n : Fin 8) (d : Fin 64) : val_main_v10 (F := Ideal) x0 x2 (ix4 b j n d) = kvA x2 x0 1024 b j n d := by
  unfold val_main_v10 kvA
  split
  · next h =>
    exact concatenate_pair_apply_left (s₁ := S8x512x8x64) (s₂ := S8x32x8x64) (t := S8x544x8x64) 1 x2 (val_main_v9 (F := Ideal) x0) _ (ix4 b j n d : S8x544x8x64.Idx) rfl
      (ix4 b (⟨j.val, h⟩ : Fin 512) n d : S8x512x8x64.Idx) (fun a => match a with | ⟨0, _⟩ => rfl | ⟨1, _⟩ => rfl | ⟨2, _⟩ => rfl | ⟨3, _⟩ => rfl)
  · next h =>
    refine (concatenate_pair_apply_right (s₁ := S8x512x8x64) (s₂ := S8x32x8x64) (t := S8x544x8x64) 1 x2 (val_main_v9 (F := Ideal) x0) _ (ix4 b j n d : S8x544x8x64.Idx) rfl rfl
      (ix4 b (⟨j.val - 512, by omega⟩ : Fin 32) n d : S8x32x8x64.Idx) (fun a ha => match a, ha with | ⟨0, _⟩, _ => rfl | ⟨1, _⟩, ha => absurd rfl ha | ⟨2, _⟩, _ => rfl | ⟨3, _⟩, _ => rfl)
      (by show j.val - 512 + 512 = j.val; omega)).trans ?_
    exact at9 x0 b _ n d

theorem at48 (b : Fin 8) (j : Fin 160) (n : Fin 8) (d : Fin 64) : val_main_v48 (F := Ideal) x0 x3 (ix4 b j n d) = kvB x3 x0 2048 b j n d := by
  rw [val_main_v48_apply, val_main_v47_apply]
  have e : idx_main_v47 (idx_main_v48 (ix4 b j n d : S8x160x8x64.Idx)) = ix4 b j (grp n) d := by
    funext a; refine Fin.ext ?_
    match a with
    | ⟨0, _⟩ => show (((b.val * 160 + j.val) * 8 + n.val) * 64 + d.val) / 81920 = b.val; omega
    | ⟨1, _⟩ => show (((b.val * 160 + j.val) * 8 + n.val) * 64 + d.val) / 512 % 160 = j.val; omega
    | ⟨2, _⟩ => show (((b.val * 160 + j.val) * 8 + n.val) * 64 + d.val) / 256 % 2 = n.val / 4; omega
    | ⟨3, _⟩ => show (((b.val * 160 + j.val) * 8 + n.val) * 64 + d.val) % 64 = d.val; omega
  rw [e]
  unfold val_main_v46 kvB
  split
  · next h =>
    exact concatenate_pair_apply_left (s₁ := S8x128x2x64) (s₂ := S8x32x2x64) (t := S8x160x2x64) 1 x3 (val_main_v45 (F := Ideal) x0) _ (ix4 b j (grp n) d : S8x160x2x64.Idx) rfl
      (ix4 b (⟨j.val, h⟩ : Fin 128) (grp n) d : S8x128x2x64.Idx) (fun a => match a with | ⟨0, _⟩ => rfl | ⟨1, _⟩ => rfl | ⟨2, _⟩ => rfl | ⟨3, _⟩ => rfl)
  · next h =>
    refine (concatenate_pair_apply_right (s₁ := S8x128x2x64) (s₂ := S8x32x2x64) (t := S8x160x2x64) 1 x3 (val_main_v45 (F := Ideal) x0) _ (ix4 b j (grp n) d : S8x160x2x64.Idx) rfl rfl
      (ix4 b (⟨j.val - 128, by omega⟩ : Fin 32) (grp n) d : S8x32x2x64.Idx) (fun a ha => match a, ha with | ⟨0, _⟩, _ => rfl | ⟨1, _⟩, ha => absurd rfl ha | ⟨2, _⟩, _ => rfl | ⟨3, _⟩, _ => rfl)
      (by show j.val - 128 + 128 = j.val; omega)).trans ?_
    exact at45 x0 b _ (grp n) d (lg n d) rfl

theorem at53 (b : Fin 8) (j : Fin 160) (n : Fin 8) (d : Fin 64) : val_main_v53 (F := Ideal) x0 x4 (ix4 b j n d) = kvB x4 x0 2176 b j n d := by
  rw [val_main_v53_apply, val_main_v52_apply]
  have e : idx_main_v52 (idx_main_v53 (ix4 b j n d : S8x160x8x64.Idx)) = ix4 b j (grp n) d := by
    funext a; refine Fin.ext ?_
    match a with
    | ⟨0, _⟩ => show (((b.val * 160 + j.val) * 8 + n.val) * 64 + d.val) / 81920 = b.val; omega
    | ⟨1, _⟩ => show (((b.val * 160 + j.val) * 8 + n.val) * 64 + d.val) / 512 % 160 = j.val; omega
    | ⟨2, _⟩ => show (((b.val * 160 + j.val) * 8 + n.val) * 64 + d.val) / 256 % 2 = n.val / 4; omega
    | ⟨3, _⟩ => show (((b.val * 160 + j.val) * 8 + n.val) * 64 + d.val) % 64 = d.val; omega
  rw [e]
  unfold val_main_v51 kvB
  split
  · next h =>
    exact concatenate_pair_apply_left (s₁ := S8x128x2x64) (s₂ := S8x32x2x64) (t := S8x160x2x64) 1 x4 (val_main_v50 (F := Ideal) x0) _ (ix4 b j (grp n) d : S8x160x2x64.Idx) rfl
      (ix4 b (⟨j.val, h⟩ : Fin 128) (grp n) d : S8x128x2x64.Idx) (fun a => match a with | ⟨0, _⟩ => rfl | ⟨1, _⟩ => rfl | ⟨2, _⟩ => rfl | ⟨3, _⟩ => rfl)
  · next h =>
    refine (concatenate_pair_apply_right (s₁ := S8x128x2x64) (s₂ := S8x32x2x64) (t := S8x160x2x64) 1 x4 (val_main_v50 (F := Ideal) x0) _ (ix4 b j (grp n) d : S8x160x2x64.Idx) rfl rfl
      (ix4 b (⟨j.val - 128, by omega⟩ : Fin 32) (grp n) d : S8x32x2x64.Idx) (fun a ha => match a, ha with | ⟨0, _⟩, _ => rfl | ⟨1, _⟩, ha => absurd rfl ha | ⟨2, _⟩, _ => rfl | ⟨3, _⟩, _ => rfl)
      (by show j.val - 128 + 128 = j.val; omega)).trans ?_
    exact at50 x0 b _ (grp n) d (lg n d) rfl

/-! ## The first group -/

theorem at21 (i : Fin 32) (j : Fin 544) : val_main_v21 (F := Ideal) (ix2 i j) = word (31 + j.val - i.val) := by
  have h : val_main_v21 (F := Ideal) (ix2 i j) = IntOp.addi (IntOp.minsi 128#32 (IntOp.maxsi 4294967168#32
      (IntOp.subi (IntOp.addi 4096#32 (BitVec.ofNat 32 i.val)) (IntOp.addi 3584#32 (BitVec.ofNat 32 j.val))))) 128#32 := rfl
  rw [h, diagonal]; rfl

theorem at22 (n : Fin 8) (i : Fin 32) (j : Fin 544) : val_main_v22 (F := Ideal) x5 (ix3 n i j) = bias x5 n i j := by
  have hw : val_main_call1_v0 (F := Ideal) (ix3 i j (0 : Fin 1)) = word (31 + j.val - i.val) := by
    rw [val_main_call1_v0_apply]
    have e : idx_main_call1_v0 (ix3 i j (0 : Fin 1) : S32x544x1.Idx) = ix2 i j := by
      funext a; match a with | ⟨0, _⟩ => rfl | ⟨1, _⟩ => rfl
    rw [e, at21]
  unfold val_main_v22
  generalize val_main_call1_v0 (F := Ideal) = idx at hw
  refine (gather_apply x5 idx n i j).trans ?_
  simp only [hw]; rfl

theorem at30 (b n : Fin 8) (i : Fin 32) (j : Fin 544) : val_main_v30 (F := Ideal) x0 x1 x5 (ix4 b n i j) = scA x0 x1 x5 b n i j := by
  have e : idx_main_v28 (idx_main_v29 (ix4 b n i j : S8x8x32x544.Idx)) = ix3 n i j := by
    funext a; match a with | ⟨0, _⟩ => rfl | ⟨1, _⟩ => rfl | ⟨2, _⟩ => rfl
  have el : ∀ k, lidx_main_v25 (ix4 b n i j : S8x8x32x544.Idx) k = ix4 b i n k := fun k => by
    funext a; match a with | ⟨0, _⟩ => rfl | ⟨1, _⟩ => rfl | ⟨2, _⟩ => rfl | ⟨3, _⟩ => rfl
  have er : ∀ k, ridx_main_v25 (ix4 b n i j : S8x8x32x544.Idx) k = ix4 b j n k := fun k => by
    funext a; match a with | ⟨0, _⟩ => rfl | ⟨1, _⟩ => rfl | ⟨2, _⟩ => rfl | ⟨3, _⟩ => rfl
  rw [val_main_v30_apply, val_main_v27_apply, val_main_v29_apply, val_main_v28_apply, e, at22, val_main_v25_apply, val_main_v26_apply, val_main_cst_apply]
  simp only [el, er, at24, at7]
  show (∑ k : Fin 64, _) * Ideal.ofBits .f32 0x3E000000#32 + _ = _
  rw [c8_f32]; rfl

theorem at33 (b n : Fin 8) (i : Fin 32) : val_main_v33 (F := Ideal) x0 x1 x5 (ix3 b n i) = mx (scA x0 x1 x5 b n i) := by
  have h31 : val_main_v31 (F := Ideal) x0 x1 x5 (ix3 b n i) = mx (scA x0 x1 x5 b n i) := by
    unfold val_main_v31
    refine (fold_max (val_main_v30 (F := Ideal) x0 x1 x5) facts.reducesTo_S8x8x32x544_S8x8x32_d3 (by decide) facts.h_S_ b n i).trans ?_
    exact congrArg mx (funext fun j => at30 x0 x1 x5 b n i j)
  rw [val_main_v33_apply, h31, val_main_v32_apply, val_main_cst_5_apply]
  show max (Ideal.ofBits .f32 0xFF800000#32) _ = _
  rw [low]; exact max_eq_right bot_le

theorem at37 (b n : Fin 8) (i : Fin 32) (j : Fin 544) : val_main_v37 (F := Ideal) x0 x1 x5 (ix4 b n i j) = Ideal.exp (scA x0 x1 x5 b n i j - mx (scA x0 x1 x5 b n i)) := by
  have e : idx_main_v34 (idx_main_v35 (ix4 b n i j : S8x8x32x544.Idx)) = ix3 b n i := by
    funext a; match a with | ⟨0, _⟩ => rfl | ⟨1, _⟩ => rfl | ⟨2, _⟩ => rfl
  rw [val_main_v37_apply, val_main_v36_apply, val_main_v35_apply, val_main_v34_apply, e, at30, at33]; rfl

theorem at41 (b n : Fin 8) (i : Fin 32) (j : Fin 544) : val_main_v41 (F := Ideal) x0 x1 x5 (ix4 b n i j)
    = Ideal.div (Ideal.exp (scA x0 x1 x5 b n i j - mx (scA x0 x1 x5 b n i))) ((∑ k, Ideal.exp (scA x0 x1 x5 b n i k - mx (scA x0 x1 x5 b n i))) + 0) := by
  have e : idx_main_v39 (idx_main_v40 (ix4 b n i j : S8x8x32x544.Idx)) = ix3 b n i := by
    funext a; match a with | ⟨0, _⟩ => rfl | ⟨1, _⟩ => rfl | ⟨2, _⟩ => rfl
  have ek : ∀ k, idx_main_v38 (ix3 b n i : S8x8x32.Idx) k = ix4 b n i k := fun k => by
    funext a; match a with | ⟨0, _⟩ => rfl | ⟨1, _⟩ => rfl | ⟨2, _⟩ => rfl | ⟨3, _⟩ => rfl
  rw [val_main_v41_apply, val_main_v40_apply, val_main_v39_apply, e, at37, val_main_v38_apply, val_main_cst_6_apply]
  simp only [ek, at37]
  show Ideal.div _ (Ideal.ofBits .f32 0#32 + _) = _
  rw [Ideal.ofBits_zero_f32, zero_add, add_zero]

theorem at43 (b : Fin 8) (i : Fin 32) (n : Fin 8) (d : Fin 64) : val_main_v43 (F := Ideal) x0 x1 x2 x5 (ix4 b i n d) = headA x0 x1 x2 x5 b n i d := by
  have e : idx_main_v43 (ix4 b i n d : S8x32x8x64.Idx) = ix4 b n d i := by
    funext a; match a with | ⟨0, _⟩ => rfl | ⟨1, _⟩ => rfl | ⟨2, _⟩ => rfl | ⟨3, _⟩ => rfl
  have el : ∀ k, lidx_main_v42 (ix4 b n d i : S8x8x64x32.Idx) k = ix4 b k n d := fun k => by
    funext a; match a with | ⟨0, _⟩ => rfl | ⟨1, _⟩ => rfl | ⟨2, _⟩ => rfl | ⟨3, _⟩ => rfl
  have er : ∀ k, ridx_main_v42 (ix4 b n d i : S8x8x64x32.Idx) k = ix4 b n i k := fun k => by
    funext a; match a with | ⟨0, _⟩ => rfl | ⟨1, _⟩ => rfl | ⟨2, _⟩ => rfl | ⟨3, _⟩ => rfl
  rw [val_main_v43_apply, e, val_main_v42_apply]
  simp only [el, er, at10, at41]
  unfold AttnSpec.headA whole
  exact Finset.sum_congr rfl fun k _ => mul_comm _ _

/-! ## The second group -/

theorem at82 (n : Fin 8) (i : Fin 32) (j : Fin 160) : val_main_v82 (F := Ideal) (ix3 n i j) = slope n * far i j := by
  have h : val_main_v82 (F := Ideal) (ix3 n i j) = slope n * FloatOps.sitofp (F := Ideal) .f32 (IntOp.absi (IntOp.subi (IntOp.addi 4096#32 (BitVec.ofNat 32 i.val)) (IntOp.addi 3968#32 (BitVec.ofNat 32 j.val)))) := rfl
  rw [h, short]; rfl

theorem at85 (b n : Fin 8) (i : Fin 32) (j : Fin 160) : val_main_v85 (F := Ideal) x0 x3 (ix4 b n i j) = scB x0 x3 b n i j := by
  have e : idx_main_v83 (idx_main_v84 (ix4 b n i j : S8x8x32x160.Idx)) = ix3 n i j := by
    funext a; match a with | ⟨0, _⟩ => rfl | ⟨1, _⟩ => rfl | ⟨2, _⟩ => rfl
  have el : ∀ k, lidx_main_v75 (ix4 b n i j : S8x8x32x160.Idx) k = ix4 b i n k := fun k => by
    funext a; match a with | ⟨0, _⟩ => rfl | ⟨1, _⟩ => rfl | ⟨2, _⟩ => rfl | ⟨3, _⟩ => rfl
  have er : ∀ k, ridx_main_v75 (ix4 b n i j : S8x8x32x160.Idx) k = ix4 b j n k := fun k => by
    funext a; match a with | ⟨0, _⟩ => rfl | ⟨1, _⟩ => rfl | ⟨2, _⟩ => rfl | ⟨3, _⟩ => rfl
  rw [val_main_v85_apply, val_main_v77_apply, val_main_v84_apply, val_main_v83_apply, e, at82, val_main_v75_apply, val_main_v76_apply, val_main_cst_12_apply]
  simp only [el, er, at74, at48]
  show (∑ k : Fin 64, _) * Ideal.ofBits .f32 0x3E000000#32 - _ = _
  rw [c8_f32]; rfl

theorem at91 (b n : Fin 8) (i : Fin 32) : val_main_v91 (F := Ideal) x0 x3 x6 (ix4 b n i (0 : Fin 1)) = topB x0 x3 x6 b n i := by
  have h87 : val_main_v87 (F := Ideal) x0 x3 (ix3 b n i) = mx (scB x0 x3 b n i) := by
    unfold val_main_v87
    refine (fold_max (val_main_v85 (F := Ideal) x0 x3) facts.reducesTo_S8x8x32x160_S8x8x32_d3 (by decide) facts.h_S_ b n i).trans ?_
    exact congrArg mx (funext fun j => at85 x0 x3 b n i j)
  have e : idx_main_v88 (ix4 b n i (0 : Fin 1) : S8x8x32x1.Idx) = ix3 b n i := by
    funext a; match a with | ⟨0, _⟩ => rfl | ⟨1, _⟩ => rfl | ⟨2, _⟩ => rfl
  have e' : idx_main_v86 (idx_main_v89 (idx_main_v90 (ix4 b n i (0 : Fin 1) : S8x8x32x1.Idx))) = ix1 n := by
    funext a; match a with | ⟨0, _⟩ => rfl
  rw [val_main_v91_apply, val_main_v88_apply, e, h87, val_main_v90_apply, val_main_v89_apply, val_main_v86_apply, e']; rfl

theorem at94 (b n : Fin 8) (i : Fin 32) (j : Fin 160) : val_main_v94 (F := Ideal) x0 x3 x6 (ix4 b n i j) = Ideal.exp (scB x0 x3 b n i j - topB x0 x3 x6 b n i) := by
  have e : idx_main_v92 (ix4 b n i j : S8x8x32x160.Idx) = ix4 b n i (0 : Fin 1) := by
    funext a; match a with | ⟨0, _⟩ => rfl | ⟨1, _⟩ => rfl | ⟨2, _⟩ => rfl | ⟨3, _⟩ => rfl
  rw [val_main_v94_apply, val_main_v93_apply, val_main_v92_apply, e, at91, at85]; rfl

theorem at103 (b n : Fin 8) (i : Fin 32) (j : Fin 160) : val_main_v103 (F := Ideal) x0 x3 x6 (ix4 b n i j)
    = Ideal.div (Ideal.exp (scB x0 x3 b n i j - topB x0 x3 x6 b n i)) ((∑ k, Ideal.exp (scB x0 x3 b n i k - topB x0 x3 x6 b n i)) + Ideal.exp (x6 (ix1 n) - topB x0 x3 x6 b n i)) := by
  have e : idx_main_v102 (ix4 b n i j : S8x8x32x160.Idx) = ix4 b n i (0 : Fin 1) := by
    funext a; match a with | ⟨0, _⟩ => rfl | ⟨1, _⟩ => rfl | ⟨2, _⟩ => rfl | ⟨3, _⟩ => rfl
  have e' : idx_main_v96 (ix4 b n i (0 : Fin 1) : S8x8x32x1.Idx) = ix3 b n i := by
    funext a; match a with | ⟨0, _⟩ => rfl | ⟨1, _⟩ => rfl | ⟨2, _⟩ => rfl
  have es : idx_main_v86 (idx_main_v97 (idx_main_v98 (ix4 b n i (0 : Fin 1) : S8x8x32x1.Idx))) = ix1 n := by
    funext a; match a with | ⟨0, _⟩ => rfl
  have ek : ∀ k, idx_main_v95 (ix3 b n i : S8x8x32.Idx) k = ix4 b n i k := fun k => by
    funext a; match a with | ⟨0, _⟩ => rfl | ⟨1, _⟩ => rfl | ⟨2, _⟩ => rfl | ⟨3, _⟩ => rfl
  rw [val_main_v103_apply, val_main_v102_apply, e, val_main_v101_apply, val_main_v96_apply, e', val_main_v100_apply, val_main_v99_apply, val_main_v98_apply, val_main_v97_apply,
    val_main_v86_apply, es, at91, at94, val_main_v95_apply, val_main_cst_14_apply]
  simp only [ek, at94]
  show Ideal.div _ ((Ideal.ofBits .f32 0#32 + _) + _) = _
  rw [Ideal.ofBits_zero_f32, zero_add]; rfl

theorem at105 (b : Fin 8) (i : Fin 32) (n : Fin 8) (d : Fin 64) : val_main_v105 (F := Ideal) x0 x3 x4 x6 (ix4 b i n d) = headB x0 x3 x4 x6 b n i d := by
  have e : idx_main_v105 (ix4 b i n d : S8x32x8x64.Idx) = ix4 b n d i := by
    funext a; match a with | ⟨0, _⟩ => rfl | ⟨1, _⟩ => rfl | ⟨2, _⟩ => rfl | ⟨3, _⟩ => rfl
  have el : ∀ k, lidx_main_v104 (ix4 b n d i : S8x8x64x32.Idx) k = ix4 b k n d := fun k => by
    funext a; match a with | ⟨0, _⟩ => rfl | ⟨1, _⟩ => rfl | ⟨2, _⟩ => rfl | ⟨3, _⟩ => rfl
  have er : ∀ k, ridx_main_v104 (ix4 b n d i : S8x8x64x32.Idx) k = ix4 b n i k := fun k => by
    funext a; match a with | ⟨0, _⟩ => rfl | ⟨1, _⟩ => rfl | ⟨2, _⟩ => rfl | ⟨3, _⟩ => rfl
  rw [val_main_v105_apply, e, val_main_v104_apply]
  simp only [el, er, at53, at103]
  unfold AttnSpec.headB whole
  exact Finset.sum_congr rfl fun k _ => mul_comm _ _

/-! ## The normalisation and the result -/

def rb (r : Fin 256) : Fin 8 := ⟨r.val / 32, by omega⟩
def ri (r : Fin 256) : Fin 32 := ⟨r.val % 32, Nat.mod_lt _ (by decide)⟩

theorem at106 (r : Fin 256) (c : Fin 512) : val_main_v106 (F := Ideal) x0 x1 x2 x5 (ix2 r c) = rowA x0 x1 x2 x5 (rb r) (ri r) c := by
  have e : idx_main_v106 (ix2 r c : S256x512.Idx) = ix4 (rb r) (ri r) (hd c) (ld c) := by
    funext a; refine Fin.ext ?_
    match a with
    | ⟨0, _⟩ => show (r.val * 512 + c.val) / 16384 = r.val / 32; omega
    | ⟨1, _⟩ => show (r.val * 512 + c.val) / 512 % 32 = r.val % 32; omega
    | ⟨2, _⟩ => show (r.val * 512 + c.val) / 64 % 8 = c.val / 64; omega
    | ⟨3, _⟩ => show (r.val * 512 + c.val) % 64 = c.val % 64; omega
  rw [val_main_v106_apply, e, at43]; rfl

theorem at114 (r : Fin 256) : val_main_v114 (F := Ideal) x0 x1 x2 x5 (ix2 r (0 : Fin 1)) = rms (rowA x0 x1 x2 x5 (rb r) (ri r)) := by
  have e : idx_main_v109 (ix2 r (0 : Fin 1) : S256x1.Idx) = ix1 r := by
    funext a; match a with | ⟨0, _⟩ => rfl
  have ek : ∀ k, idx_main_v108 (ix1 r : S256.Idx) k = ix2 r k := fun k => by
    funext a; match a with | ⟨0, _⟩ => rfl | ⟨1, _⟩ => rfl
  have hs : ∀ k, val_main_v107 (F := Ideal) x0 x1 x2 x5 (ix2 r k) = rowA x0 x1 x2 x5 (rb r) (ri r) k * rowA x0 x1 x2 x5 (rb r) (ri r) k := fun k => by
    rw [val_main_v107_apply, at106]; rfl
  rw [val_main_v114_apply, val_main_v113_apply, val_main_v111_apply, val_main_v109_apply, e, val_main_v108_apply, val_main_cst_15_apply, val_main_v110_apply, val_main_cst_16_apply,
    val_main_v112_apply, val_main_cst_17_apply]
  simp only [ek, hs]
  show Ideal.rsqrt (Ideal.div (Ideal.ofBits .f32 0#32 + _) _ + _) = _
  rw [Ideal.ofBits_zero_f32, zero_add]; rfl

theorem at119 (r : Fin 256) (c : Fin 512) : val_main_v119 (F := Ideal) x0 x1 x2 x5 x7 (ix2 r c) = rowA x0 x1 x2 x5 (rb r) (ri r) c * rms (rowA x0 x1 x2 x5 (rb r) (ri r)) * x7 (ix1 c) := by
  have e : idx_main_v115 (ix2 r c : S256x512.Idx) = ix2 r (0 : Fin 1) := by
    funext a; match a with | ⟨0, _⟩ => rfl | ⟨1, _⟩ => rfl
  have eg : idx_main_v117 (idx_main_v118 (ix2 r c : S256x512.Idx)) = ix1 c := by
    funext a; match a with | ⟨0, _⟩ => rfl
  rw [val_main_v119_apply, val_main_v116_apply, val_main_v115_apply, e, at114, at106, val_main_v118_apply, val_main_v117_apply, eg]; rfl

theorem at120 (r : Fin 256) (c : Fin 512) : val_main_v120 (F := Ideal) x0 x3 x4 x6 (ix2 r c) = rowB x0 x3 x4 x6 (rb r) (ri r) c := by
  have e : idx_main_v120 (ix2 r c : S256x512.Idx) = ix4 (rb r) (ri r) (hd c) (ld c) := by
    funext a; refine Fin.ext ?_
    match a with
    | ⟨0, _⟩ => show (r.val * 512 + c.val) / 16384 = r.val / 32; omega
    | ⟨1, _⟩ => show (r.val * 512 + c.val) / 512 % 32 = r.val % 32; omega
    | ⟨2, _⟩ => show (r.val * 512 + c.val) / 64 % 8 = c.val / 64; omega
    | ⟨3, _⟩ => show (r.val * 512 + c.val) % 64 = c.val % 64; omega
  rw [val_main_v120_apply, e, at105]; rfl

theorem at128 (r : Fin 256) : val_main_v128 (F := Ideal) x0 x3 x4 x6 (ix2 r (0 : Fin 1)) = rms (rowB x0 x3 x4 x6 (rb r) (ri r)) := by
  have e : idx_main_v123 (ix2 r (0 : Fin 1) : S256x1.Idx) = ix1 r := by
    funext a; match a with | ⟨0, _⟩ => rfl
  have ek : ∀ k, idx_main_v122 (ix1 r : S256.Idx) k = ix2 r k := fun k => by
    funext a; match a with | ⟨0, _⟩ => rfl | ⟨1, _⟩ => rfl
  have hs : ∀ k, val_main_v121 (F := Ideal) x0 x3 x4 x6 (ix2 r k) = rowB x0 x3 x4 x6 (rb r) (ri r) k * rowB x0 x3 x4 x6 (rb r) (ri r) k := fun k => by
    rw [val_main_v121_apply, at120]; rfl
  rw [val_main_v128_apply, val_main_v127_apply, val_main_v125_apply, val_main_v123_apply, e, val_main_v122_apply, val_main_cst_18_apply, val_main_v124_apply, val_main_cst_19_apply,
    val_main_v126_apply, val_main_cst_20_apply]
  simp only [ek, hs]
  show Ideal.rsqrt (Ideal.div (Ideal.ofBits .f32 0#32 + _) _ + _) = _
  rw [Ideal.ofBits_zero_f32, zero_add]; rfl

theorem at133 (r : Fin 256) (c : Fin 512) : val_main_v133 (F := Ideal) x0 x3 x4 x6 x8 (ix2 r c) = rowB x0 x3 x4 x6 (rb r) (ri r) c * rms (rowB x0 x3 x4 x6 (rb r) (ri r)) * x8 (ix1 c) := by
  have e : idx_main_v129 (ix2 r c : S256x512.Idx) = ix2 r (0 : Fin 1) := by
    funext a; match a with | ⟨0, _⟩ => rfl | ⟨1, _⟩ => rfl
  have eg : idx_main_v131 (idx_main_v132 (ix2 r c : S256x512.Idx)) = ix1 c := by
    funext a; match a with | ⟨0, _⟩ => rfl
  rw [val_main_v133_apply, val_main_v130_apply, val_main_v129_apply, e, at128, at120, val_main_v132_apply, val_main_v131_apply, eg]; rfl

theorem at134 (r : Fin 256) (c : Fin 1024) : val_main_v134 (F := Ideal) x0 x1 x2 x3 x4 x5 x6 x7 x8 (ix2 r c) = live x0 x1 x2 x3 x4 x5 x6 x7 x8 (rb r) (ri r) c := by
  unfold val_main_v134 live
  split
  · next h =>
    refine (concatenate_pair_apply_left (s₁ := S256x512) (s₂ := S256x512) (t := S256x1024) 1 _ _ _ (ix2 r c : S256x1024.Idx) rfl
      (ix2 r (⟨c.val, h⟩ : Fin 512) : S256x512.Idx) (fun a => match a with | ⟨0, _⟩ => rfl | ⟨1, _⟩ => rfl)).trans ?_
    exact at119 x0 x1 x2 x5 x7 r _
  · next h =>
    refine (concatenate_pair_apply_right (s₁ := S256x512) (s₂ := S256x512) (t := S256x1024) 1 _ _ _ (ix2 r c : S256x1024.Idx) rfl rfl
      (ix2 r (⟨c.val - 512, by omega⟩ : Fin 512) : S256x512.Idx) (fun a ha => match a, ha with | ⟨0, _⟩, _ => rfl | ⟨1, _⟩, ha => absurd rfl ha) (by show c.val - 512 + 512 = c.val; omega)).trans ?_
    exact at133 x0 x3 x4 x6 x8 r _

theorem at137 (r c : Fin 1024) : val_main_v137 (F := Ideal) x0 x1 x2 x3 x4 x5 x6 x7 x8 (ix2 r c) = result x0 x1 x2 x3 x4 x5 x6 x7 x8 r c := by
  rw [val_main_v137_apply]
  show val_main_v136 (F := Ideal) x0 x1 x2 x3 x4 x5 x6 x7 x8 (ix2 r c) = _
  unfold val_main_v136 result
  split
  · next h =>
    refine (concatenate_pair_apply_left (s₁ := S256x1024) (s₂ := S768x1024) (t := S1024x1024) 0 _ _ _ (ix2 r c : S1024x1024.Idx) rfl
      (ix2 (⟨r.val, h⟩ : Fin 256) c : S256x1024.Idx) (fun a => match a with | ⟨0, _⟩ => rfl | ⟨1, _⟩ => rfl)).trans ?_
    exact at134 x0 x1 x2 x3 x4 x5 x6 x7 x8 _ c
  · next h =>
    refine (concatenate_pair_apply_right (s₁ := S256x1024) (s₂ := S768x1024) (t := S1024x1024) 0 _ _ _ (ix2 r c : S1024x1024.Idx) rfl rfl
      (ix2 (⟨r.val - 256, by omega⟩ : Fin 768) c : S768x1024.Idx) (fun a ha => match a, ha with | ⟨0, _⟩, ha => absurd rfl ha | ⟨1, _⟩, _ => rfl) (by show r.val - 256 + 256 = r.val; omega)).trans ?_
    rw [val_main_v135_apply, val_main_cst_21_apply]
    exact Ideal.ofBits_zero_f32
end

end Cert.AttnRef
-- ==== Proof.AttnHost.lean ====
/-
  The tables the attention call builds before its grid: the clipped relative bias by a shifted tiling, and the distance
  penalty, as plain functions; and the arrays each block is read from, as functions of the arguments.
-/
module

public import proofs.«01_k».proof.Proof.Gen.AttnIdeal.Frame

@[expose] public section

set_option maxRecDepth 16384

noncomputable section

namespace Cert.AttnHost

open Cert.AttnIdeal Cert.AttnIdeal.Gen Idealize.ShloMosaic Idealize.ShloMosaic.TcCoe Idealize.SL.Sem

section
variable (F : FTy → Type) [FloatOps F]

/-- Query position less key position over the short window. -/
def gapB : IVec S32x160 32 :=
  subi (broadcastInDim S32x160 ![0, 1] bcast_S32x1_S32x160_0_1 (addi (broadcastInDim S32x1 ![] bcast_S_S32x1 (constantI S_ 32 128#32)) (broadcastInDim S32x1 ![0] bcast_S32_S32x1_0 (iotaInDim S32 32 0))))
    (broadcastInDim S32x160 ![0, 1] bcast_S1x160_S32x160_0_1 (broadcastInDim S1x160 ![1] bcast_S160_S1x160_1 (iotaInDim S160 32 0)))

def slopes : FVec F S8 .f32 :=
  Host.powf (broadcastInDim S8 ![] bcast_S_S8 (constant S_ .f32 0x40000000#32))
    (Host.divf (mulf (broadcastInDim S8 ![] bcast_S_S8 (constant S_ .f32 0xC1000000#32))
      (addf (broadcastInDim S8 ![] bcast_S_S8 (constant S_ .f32 0x3F800000#32)) (sitofp .f32 (iotaInDim S8 32 0))))
      (broadcastInDim S8 ![] bcast_S_S8 (constant S_ .f32 0x41000000#32)))

def penalty : FVec F S8x32x160 .f32 :=
  mulf (broadcastInDim S8x32x160 ![0, 1, 2] bcast_S8x1x1_S8x32x160_0_1_2 (Host.negf (broadcastInDim S8x1x1 ![0] bcast_S8_S8x1x1_0 (slopes F))))
    (broadcastInDim S8x32x160 ![0, 1, 2] bcast_S1x32x160_S8x32x160_0_1_2 (broadcastInDim S1x32x160 ![1, 2] bcast_S32x160_S1x32x160_1_2 (sitofp .f32 (absi gapB))))

/-- The table's column of each diagonal. -/
def column : IVec S575 32 :=
  addi (minsi (broadcastInDim S575 ![] bcast_S_S575 (id (constantI S_ 32 128#32))) (maxsi (broadcastInDim S575 ![] bcast_S_S575 (id (constantI S_ 32 4294967168#32)))
    (subi (broadcastInDim S575 ![] bcast_S_S575 (constantI S_ 32 543#32)) (iotaInDim S575 32 0)))) (broadcastInDim S575 ![] bcast_S_S575 (constantI S_ 32 128#32))

def wrapped : IVec S575x1 32 :=
  broadcastInDim S575x1 ![0] bcast_S575_S575x1_0 (select (cmpi .slt column (broadcastInDim S575 ![] bcast_S_S575 (constantI S_ 32 0#32)))
    (addi column (broadcastInDim S575 ![] bcast_S_S575 (constantI S_ 32 257#32))) column)

def inside : IVec S575 1 :=
  Host.reduce IntOp.andi (andi (cmpi .sge wrapped (broadcastInDim S575x1 ![] bcast_S_S575x1 (constantI S_ 32 0#32)))
    (cmpi .sle wrapped (broadcastInDim S575x1 ![0, 1] bcast_S1x1_S575x1_0_1 (broadcastInDim S1x1 ![1] bcast_S1_S1x1_1 (constantI S1 32 256#32)))))
    (constantI S_ 1 1#1) reducesTo_S575x1_S575_d1 h_S_

/-- The bias of each diagonal. -/
def diag (rb : FVec F S8x257 .f32) : FVec F S8x575 .f32 :=
  select (broadcastInDim S8x575 ![1] bcast_S575_S8x575_1 inside) (Host.gather gather_S8x257_S575x1_S8x575_0_1_n_n_1_1_81 rb wrapped)
    (broadcastInDim S8x575 ![] bcast_S_S8x575 (constant S_ .f32 0x7FC00000#32))

/-- The diagonals laid out by query and key. -/
def spread (d : FVec F S8x575 .f32) : FVec F S8x32x544 .f32 :=
  extractStridedSlice S8x32x544 ![0, 0, 31] (shapeCast S8x32x575 (extractStridedSlice S8x18400 ![0, 0] (shapeCast S8x18432
    (broadcastInDim S1x8x32x576 ![0, 1, 2, 3] bcast_S1x8x1x576_S1x8x32x576_0_1_2_3 (shapeCast S1x8x1x576
      (concatenate S8x576 1 [⟨S8x575, d⟩, ⟨S8x1, broadcastInDim S8x1 ![] bcast_S_S8x1 (constant S_ .f32 0x00000000#32)⟩] concatenates_S8x575_S8x1_S8x576_d1)
      shapeCasts_S8x576_S1x8x1x576)) shapeCasts_S1x8x32x576_S8x18432) slices_S8x18432_S8x18400_0_0) shapeCasts_S8x18400_S8x32x575) slices_S8x32x575_S8x32x544_0_0_31
end

variable {F : FTy → Type} [FloatOps F]
variable (m : (ℓ : Loc nD τ sig) → Buf (Elt F) ℓ) (c : Dev nD)

theorem V_v26 : V m c main_v26 = shapeCast S1x512 (m ((c : Thread nD τ).loc main_arg7)) shapeCasts_S512_S1x512 := by
  simp only [V, hostOps0, hostOps0_1, hostOps0_2, hostOps0_3, hostOps0_4, List.flatten_cons, List.flatten_nil, List.cons_append, List.nil_append, List.append_nil,
    StableHlo.TRef.nullary, StableHlo.TRef.unary, StableHlo.TRef.binary, StableHlo.TRef.ternary, StableHlo.TRef.toBuf, StableHlo.TRef.ofBuf, cast_eq]
  after_results_simp <;> rfl

theorem V_v27 : V m c main_v27 = shapeCast S1x512 (m ((c : Thread nD τ).loc main_arg8)) shapeCasts_S512_S1x512 := by
  simp only [V, hostOps0, hostOps0_1, hostOps0_2, hostOps0_3, hostOps0_4, List.flatten_cons, List.flatten_nil, List.cons_append, List.nil_append, List.append_nil,
    StableHlo.TRef.nullary, StableHlo.TRef.unary, StableHlo.TRef.binary, StableHlo.TRef.ternary, StableHlo.TRef.toBuf, StableHlo.TRef.ofBuf, cast_eq]
  after_results_simp <;> rfl

theorem late43 (W : Valuation τ sig (Elt F)) : StableHlo.after hostOps0_4 W (Proc.tc.devRef main_v43)
    = extractStridedSlice S8x32x512 ![0, 0, 0] (spread F (W (Proc.tc.devRef main_v34))) slices_S8x32x544_S8x32x512_0_0_0 := by
  simp only [hostOps0_4]
  after_results_simp <;> rfl

theorem late44 (W : Valuation τ sig (Elt F)) : StableHlo.after hostOps0_4 W (Proc.tc.devRef main_v44)
    = extractStridedSlice S8x32x32 ![0, 0, 512] (spread F (W (Proc.tc.devRef main_v34))) slices_S8x32x544_S8x32x32_0_0_512 := by
  simp only [hostOps0_4]
  after_results_simp <;> rfl

theorem early34 (W : Valuation τ sig (Elt F)) : StableHlo.after (hostOps0 ++ (hostOps0_1 ++ (hostOps0_2 ++ hostOps0_3))) W (Proc.tc.devRef main_v34)
    = diag F (W (Proc.tc.devRef main_arg5)) := by
  simp only [hostOps0, hostOps0_1, hostOps0_2, hostOps0_3, List.cons_append, List.nil_append, List.append_nil,
    StableHlo.TRef.nullary, StableHlo.TRef.unary, StableHlo.TRef.binary, StableHlo.TRef.ternary, StableHlo.TRef.toBuf, StableHlo.TRef.ofBuf, cast_eq]
  after_results_simp <;> rfl

theorem V_early (b : Ref sig .tc) : V m c b = StableHlo.after hostOps0_4 (StableHlo.after (hostOps0 ++ (hostOps0_1 ++ (hostOps0_2 ++ hostOps0_3))) (fun b => m (c, b))) (Proc.tc.devRef b) := by
  have e : List.flatten [hostOps0, hostOps0_1, hostOps0_2, hostOps0_3, hostOps0_4] = (hostOps0 ++ (hostOps0_1 ++ (hostOps0_2 ++ hostOps0_3))) ++ (hostOps0_4 : List (HloOp τ sig (Elt F))) := by
    simp only [List.flatten_cons, List.flatten_nil, List.append_nil, List.append_assoc]
  show StableHlo.after (List.flatten [hostOps0, hostOps0_1, hostOps0_2, hostOps0_3, hostOps0_4]) (fun b => m (c, b)) (Proc.tc.devRef b) = _
  rw [e, StableHlo.after_append]

theorem V_v43 : V m c main_v43 = extractStridedSlice S8x32x512 ![0, 0, 0] (spread F (diag F (m ((c : Thread nD τ).loc main_arg5)))) slices_S8x32x544_S8x32x512_0_0_0 :=
  (V_early m c main_v43).trans ((late43 _).trans (by rw [early34]))

theorem V_v44 : V m c main_v44 = extractStridedSlice S8x32x32 ![0, 0, 512] (spread F (diag F (m ((c : Thread nD τ).loc main_arg5)))) slices_S8x32x544_S8x32x32_0_0_512 :=
  (V_early m c main_v44).trans ((late44 _).trans (by rw [early34]))

theorem V_v45 : V m c main_v45 = extractStridedSlice S8x32x128 ![0, 0, 0] (penalty F) slices_S8x32x160_S8x32x128_0_0_0 := by
  simp only [V, hostOps0, hostOps0_1, hostOps0_2, hostOps0_3, hostOps0_4, List.flatten_cons, List.flatten_nil, List.cons_append, List.nil_append, List.append_nil,
    StableHlo.TRef.nullary, StableHlo.TRef.unary, StableHlo.TRef.binary, StableHlo.TRef.ternary, StableHlo.TRef.toBuf, StableHlo.TRef.ofBuf, cast_eq]
  after_results_simp <;> rfl

theorem V_v46 : V m c main_v46 = extractStridedSlice S8x32x32 ![0, 0, 128] (penalty F) slices_S8x32x160_S8x32x32_0_0_128 := by
  simp only [V, hostOps0, hostOps0_1, hostOps0_2, hostOps0_3, hostOps0_4, List.flatten_cons, List.flatten_nil, List.cons_append, List.nil_append, List.append_nil,
    StableHlo.TRef.nullary, StableHlo.TRef.unary, StableHlo.TRef.binary, StableHlo.TRef.ternary, StableHlo.TRef.toBuf, StableHlo.TRef.ofBuf, cast_eq]
  after_results_simp <;> rfl

theorem V_v47 : V m c main_v47 = shapeCast S8x512x512 (m ((c : Thread nD τ).loc main_arg1)) shapeCasts_S8x512x8x64_S8x512x512 := by
  simp only [V, hostOps0, hostOps0_1, hostOps0_2, hostOps0_3, hostOps0_4, List.flatten_cons, List.flatten_nil, List.cons_append, List.nil_append, List.append_nil,
    StableHlo.TRef.nullary, StableHlo.TRef.unary, StableHlo.TRef.binary, StableHlo.TRef.ternary, StableHlo.TRef.toBuf, StableHlo.TRef.ofBuf, cast_eq]
  after_results_simp <;> rfl

theorem V_v48 : V m c main_v48 = shapeCast S8x512x512 (m ((c : Thread nD τ).loc main_arg2)) shapeCasts_S8x512x8x64_S8x512x512 := by
  simp only [V, hostOps0, hostOps0_1, hostOps0_2, hostOps0_3, hostOps0_4, List.flatten_cons, List.flatten_nil, List.cons_append, List.nil_append, List.append_nil,
    StableHlo.TRef.nullary, StableHlo.TRef.unary, StableHlo.TRef.binary, StableHlo.TRef.ternary, StableHlo.TRef.toBuf, StableHlo.TRef.ofBuf, cast_eq]
  after_results_simp <;> rfl

theorem V_v49 : V m c main_v49 = shapeCast S8x128x128 (m ((c : Thread nD τ).loc main_arg3)) shapeCasts_S8x128x2x64_S8x128x128 := by
  simp only [V, hostOps0, hostOps0_1, hostOps0_2, hostOps0_3, hostOps0_4, List.flatten_cons, List.flatten_nil, List.cons_append, List.nil_append, List.append_nil,
    StableHlo.TRef.nullary, StableHlo.TRef.unary, StableHlo.TRef.binary, StableHlo.TRef.ternary, StableHlo.TRef.toBuf, StableHlo.TRef.ofBuf, cast_eq]
  after_results_simp <;> rfl

theorem V_v50 : V m c main_v50 = shapeCast S8x128x128 (m ((c : Thread nD τ).loc main_arg4)) shapeCasts_S8x128x2x64_S8x128x128 := by
  simp only [V, hostOps0, hostOps0_1, hostOps0_2, hostOps0_3, hostOps0_4, List.flatten_cons, List.flatten_nil, List.cons_append, List.nil_append, List.append_nil,
    StableHlo.TRef.nullary, StableHlo.TRef.unary, StableHlo.TRef.binary, StableHlo.TRef.ternary, StableHlo.TRef.toBuf, StableHlo.TRef.ofBuf, cast_eq]
  after_results_simp <;> rfl

end Cert.AttnHost
-- ==== Proof.AttnTable.lean ====
/-
  The tables the attention call builds before its grid, read at an element: the clipped relative bias and the distance penalty.
-/
module

public import proofs.«01_k».proof.Proof.AttnHost
public import proofs.«01_k».proof.Proof.AttnSpec
public import Idealize.ShloMosaic.Lib.Pipeline.Value
public import Idealize.ShloMosaic.Lib.ValueIdxCore
public import Idealize.ShloMosaic.Lib.ReduceAll

@[expose] public section

set_option maxRecDepth 16384

noncomputable section

namespace Cert.AttnTable

open Cert.AttnIdeal Cert.AttnHost Cert.AttnSpec
open Idealize.ShloMosaic
open Idealize.ShloMosaic.TcCoe Idealize.ShloMosaic.ValueIdx

theorem spread_apply (d : FVec Ideal S8x575 .f32) (n : Fin 8) (i : Fin 32) (j : Fin 544) :
    spread Ideal d (ix3 n i j) = d (ix2 n (⟨31 + j.val - i.val, by omega⟩ : Fin 575)) := by
  have hq : (575 * i.val + (31 + j.val)) % 576 = 31 + j.val - i.val := by omega
  unfold spread
  refine (extractStridedSlice_apply ![0, 0, 31] _ _ (ix3 n i j : S8x32x544.Idx) (ix3 n i (⟨31 + j.val, by omega⟩ : Fin 575) : S8x32x575.Idx) (fun a => match a with
    | ⟨0, _⟩ => (Nat.zero_add _).symm
    | ⟨1, _⟩ => (Nat.zero_add _).symm
    | ⟨2, _⟩ => rfl)).trans ?_
  refine (shapeCast_apply _ _ (ix3 n i (⟨31 + j.val, by omega⟩ : Fin 575) : S8x32x575.Idx) (ix2 n (⟨575 * i.val + (31 + j.val), by omega⟩ : Fin 18400) : S8x18400.Idx) (by
    rw [Shape.rowMajor_val_two, Shape.rowMajor_val_three]
    show n.val * 18400 + (575 * i.val + (31 + j.val)) = (n.val * 32 + i.val) * 575 + (31 + j.val); omega)).trans ?_
  refine (extractStridedSlice_apply ![0, 0] _ _ (ix2 n (⟨575 * i.val + (31 + j.val), by omega⟩ : Fin 18400) : S8x18400.Idx) (ix2 n (⟨575 * i.val + (31 + j.val), by omega⟩ : Fin 18432) : S8x18432.Idx) (fun a => match a with
    | ⟨0, _⟩ => (Nat.zero_add _).symm
    | ⟨1, _⟩ => (Nat.zero_add _).symm)).trans ?_
  refine (shapeCast_apply _ _ (ix2 n (⟨575 * i.val + (31 + j.val), by omega⟩ : Fin 18432) : S8x18432.Idx)
    (ix4 (0 : Fin 1) n (⟨(575 * i.val + (31 + j.val)) / 576, by omega⟩ : Fin 32) (⟨31 + j.val - i.val, by omega⟩ : Fin 576) : S1x8x32x576.Idx) (by
    rw [Shape.rowMajor_val_two, Shape.rowMajor_val_four]
    show ((0 * 8 + n.val) * 32 + (575 * i.val + (31 + j.val)) / 576) * 576 + (31 + j.val - i.val) = n.val * 18432 + (575 * i.val + (31 + j.val)); omega)).trans ?_
  refine (broadcastInDim_apply _ _ _ (ix4 (0 : Fin 1) n (⟨(575 * i.val + (31 + j.val)) / 576, by omega⟩ : Fin 32) (⟨31 + j.val - i.val, by omega⟩ : Fin 576) : S1x8x32x576.Idx)
    (ix4 (0 : Fin 1) n (0 : Fin 1) (⟨31 + j.val - i.val, by omega⟩ : Fin 576) : S1x8x1x576.Idx) (fun a => match a with
    | ⟨0, _⟩ => rfl
    | ⟨1, _⟩ => rfl
    | ⟨2, _⟩ => rfl
    | ⟨3, _⟩ => rfl)).trans ?_
  refine (shapeCast_apply _ _ (ix4 (0 : Fin 1) n (0 : Fin 1) (⟨31 + j.val - i.val, by omega⟩ : Fin 576) : S1x8x1x576.Idx) (ix2 n (⟨31 + j.val - i.val, by omega⟩ : Fin 576) : S8x576.Idx) (by
    rw [Shape.rowMajor_val_two, Shape.rowMajor_val_four]
    show n.val * 576 + (31 + j.val - i.val) = ((0 * 8 + n.val) * 1 + 0) * 576 + (31 + j.val - i.val); omega)).trans ?_
  exact concatenate_pair_apply_left (s₁ := S8x575) (s₂ := S8x1) (t := S8x576) 1 d _ _ (ix2 n (⟨31 + j.val - i.val, by omega⟩ : Fin 576) : S8x576.Idx) rfl (ix2 n (⟨31 + j.val - i.val, by omega⟩ : Fin 575) : S8x575.Idx) (fun a => match a with
    | ⟨0, _⟩ => rfl
    | ⟨1, _⟩ => rfl)

theorem column_apply (k : Fin 575) : column (ix1 k) = word k.val := rfl

theorem word_pos : ∀ k : Fin 575, IntOp.cmpi .slt (word k.val) 0#32 = 0#1 ∧ IntOp.cmpi .sge (word k.val) 0#32 = 1#1 ∧ IntOp.cmpi .sle (word k.val) 256#32 = 1#1 := by
  decide +kernel

theorem wrapped_apply (k : Fin 575) : wrapped (ix2 k (0 : Fin 1)) = word k.val := by
  have h : wrapped (ix2 k (0 : Fin 1)) = if IntOp.cmpi .slt (word k.val) 0#32 = 1#1 then IntOp.addi (word k.val) 257#32 else word k.val := rfl
  rw [h, (word_pos k).1]
  exact if_neg (by decide)

theorem inside_apply (k : Fin 575) : inside (ix1 k) = 1#1 := by
  unfold inside
  refine Host.reduce_andi_one _ _ _ _ _ rfl fun i => ?_
  obtain ⟨a, b, rfl⟩ : ∃ (a : Fin 575) (b : Fin 1), i = ix2 a b := ⟨i 0, i 1, eq_ix2 i⟩
  obtain rfl : b = (0 : Fin 1) := Subsingleton.elim _ _
  show IntOp.andi (IntOp.cmpi .sge (wrapped (ix2 a (0 : Fin 1))) 0#32) (IntOp.cmpi .sle (wrapped (ix2 a (0 : Fin 1))) 256#32) = 1#1
  rw [wrapped_apply, (word_pos a).2.1, (word_pos a).2.2]; rfl

theorem gather_apply (x : FVec Ideal S8x257 .f32) (idx : IVec S575x1 32) (n : Fin 8) (k : Fin 575) :
    Host.gather gather_S8x257_S575x1_S8x575_0_1_n_n_1_1_81 x idx (ix2 n k)
      = x (ix2 n (⟨min (idx (ix2 k (0 : Fin 1))).toInt.toNat 256, by omega⟩ : Fin 257)) := by
  unfold Host.gather
  congr 1
  funext a
  refine Fin.ext ?_
  match a with
  | ⟨0, _⟩ =>
    show (gather_S8x257_S575x1_S8x575_0_1_n_n_1_1_81).start (ix2 n k) idx 0 + (gather_S8x257_S575x1_S8x575_0_1_n_n_1_1_81).batchCoord (ix2 n k) 0 + (gather_S8x257_S575x1_S8x575_0_1_n_n_1_1_81).offCoord (ix2 n k) 0 = n.val
    rw [GatherDims.batchCoord_eq_zero _ _ _ List.not_mem_nil]
    unfold GatherDims.start
    rw [dif_neg (show ¬ (0 : Fin 2) ∈ (gather_S8x257_S575x1_S8x575_0_1_n_n_1_1_81).startIndexMap by decide)]
    unfold GatherDims.offCoord
    rw [dif_pos (show (0 : Fin 2) ∈ (gather_S8x257_S575x1_S8x575_0_1_n_n_1_1_81).sKept by decide)]
    show 0 + 0 + n.val = n.val
    omega
  | ⟨1, _⟩ =>
    show (gather_S8x257_S575x1_S8x575_0_1_n_n_1_1_81).start (ix2 n k) idx 1 + (gather_S8x257_S575x1_S8x575_0_1_n_n_1_1_81).batchCoord (ix2 n k) 1 + (gather_S8x257_S575x1_S8x575_0_1_n_n_1_1_81).offCoord (ix2 n k) 1 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (gather_S8x257_S575x1_S8x575_0_1_n_n_1_1_81).startIndexMap from List.mem_singleton.mpr rfl)]
    have hsi : (gather_S8x257_S575x1_S8x575_0_1_n_n_1_1_81).siIdx (ix2 n k) ⟨List.idxOf (1 : Fin 2) (gather_S8x257_S575x1_S8x575_0_1_n_n_1_1_81).startIndexMap,
        List.idxOf_lt_length_iff.2 (List.mem_singleton.mpr rfl)⟩ = ix2 k (0 : Fin 1) := by
      funext b; refine Fin.ext ?_
      match b with
      | ⟨0, _⟩ => rfl
      | ⟨1, _⟩ => rfl
    rw [hsi]
    rfl

theorem chosen (p : IVec S575 1) (x y : FVec Ideal S8x575 .f32) (n : Fin 8) (k : Fin 575) (h : p (ix1 k) = 1#1) :
    select (broadcastInDim S8x575 ![1] Gen.bcast_S575_S8x575_1 p) x y (ix2 n k) = x (ix2 n k) := by
  have h0 : broadcastInDim S8x575 ![1] Gen.bcast_S575_S8x575_1 p (ix2 n k : S8x575.Idx) = 1#1 :=
    (broadcastInDim_apply _ _ _ (ix2 n k : S8x575.Idx) (ix1 k : S575.Idx) (fun a => match a with | ⟨0, _⟩ => rfl)).trans h
  exact if_pos h0

theorem diag_apply (rb : FVec Ideal S8x257 .f32) (n : Fin 8) (k : Fin 575) :
    diag Ideal rb (ix2 n k) = rb (ix2 n (⟨min (word k.val).toInt.toNat 256, by omega⟩ : Fin 257)) := by
  have hw := wrapped_apply k
  have hi := inside_apply k
  unfold diag
  generalize wrapped = w at hw
  generalize inside = p at hi
  refine (chosen p _ _ n k hi).trans ((gather_apply rb w n k).trans ?_)
  simp only [hw]

theorem bias_apply (rb : FVec Ideal S8x257 .f32) (n : Fin 8) (i : Fin 32) (j : Fin 544) :
    spread Ideal (diag Ideal rb) (ix3 n i j) = bias rb n i j := by
  rw [spread_apply, diag_apply]; rfl

theorem penalty_apply (n : Fin 8) (i : Fin 32) (j : Fin 160) : penalty Ideal (ix3 n i j) = -(slope n) * far i j := rfl

end Cert.AttnTable
-- ==== Proof.AttnValue.lean ====
/-
  The result array of the attention call over the extended reals: row by row the formula, and zero past the live rows.
-/
module

public import proofs.«01_k».proof.Proof.Gen.AttnIdeal.Value
public import proofs.«01_k».proof.Proof.AttnTable
public import Idealize.ShloMosaic.Lib.Pipeline.ValueKit.Point

@[expose] public section

set_option maxRecDepth 16384

noncomputable section

namespace Cert.AttnValue

open Cert.AttnIdeal Cert.AttnIdeal.Gen Cert.AttnMath Cert.AttnBlock Cert.AttnSpec Cert.AttnHost Cert.AttnTable
open Idealize.ShloMosaic hiding ix1 ix2 ix3 ix4 eq_ix1 eq_ix2 eq_ix3
open Idealize.ShloMosaic.TcCoe Idealize.ShloMosaic.ValueIdx Idealize.SL.Sem
open Idealize.ShloMosaic.Pipeline (Dat)
open scoped BigOperators

variable (m : (ℓ : Loc nD τ sig) → Buf (Elt Ideal) ℓ) (c : Dev nD)

/-! ## The arguments, and where each grid point's blocks lie -/

abbrev aH : Rows := m ((c : Thread nD τ).loc main_arg0)
abbrev aKA : KeptA := m ((c : Thread nD τ).loc main_arg1)
abbrev aVA : KeptA := m ((c : Thread nD τ).loc main_arg2)
abbrev aKB : KeptB := m ((c : Thread nD τ).loc main_arg3)
abbrev aVB : KeptB := m ((c : Thread nD τ).loc main_arg4)
abbrev aR : AttnSpec.Table := m ((c : Thread nD τ).loc main_arg5)
abbrev aS : Eight := m ((c : Thread nD τ).loc main_arg6)
abbrev aGA : Gain := m ((c : Thread nD τ).loc main_arg7)
abbrev aGB : Gain := m ((c : Thread nD τ).loc main_arg8)

/-- The batch a live grid point works on. -/
def bt (t : Fin cfg0.N) (ht : t.val < 8) : Fin 8 := ⟨t.val, ht⟩

theorem index1 : ∀ t : Fin cfg0.N, t.val < 8 → (cfg0.win 1).index t = ![2048 + t.val, 0] :=
  (by decide +kernel : ∀ t : Fin grid0.N, t.val < 8 → win0_1.index t = ![2048 + t.val, 0])
theorem index2 : ∀ t : Fin cfg0.N, t.val < 8 → (cfg0.win 2).index t = ![2048 + t.val, 1] :=
  (by decide +kernel : ∀ t : Fin grid0.N, t.val < 8 → win0_2.index t = ![2048 + t.val, 1])
theorem index3 : ∀ t : Fin cfg0.N, t.val < 8 → (cfg0.win 3).index t = ![2048 + t.val, 2] :=
  (by decide +kernel : ∀ t : Fin grid0.N, t.val < 8 → win0_3.index t = ![2048 + t.val, 2])
theorem index4 : ∀ t : Fin cfg0.N, t.val < 8 → (cfg0.win 4).index t = ![2048 + t.val, 3] :=
  (by decide +kernel : ∀ t : Fin grid0.N, t.val < 8 → win0_4.index t = ![2048 + t.val, 3])
theorem index5 : ∀ t : Fin cfg0.N, t.val < 8 → (cfg0.win 5).index t = ![2048 + t.val, 16] :=
  (by decide +kernel : ∀ t : Fin grid0.N, t.val < 8 → win0_5.index t = ![2048 + t.val, 16])
theorem index6 : ∀ t : Fin cfg0.N, t.val < 8 → (cfg0.win 6).index t = ![2048 + t.val, 17] :=
  (by decide +kernel : ∀ t : Fin grid0.N, t.val < 8 → win0_6.index t = ![2048 + t.val, 17])
theorem index7 : ∀ t : Fin cfg0.N, t.val < 8 → (cfg0.win 7).index t = ![t.val, 0, 0] :=
  (by decide +kernel : ∀ t : Fin grid0.N, t.val < 8 → win0_7.index t = ![t.val, 0, 0])
theorem index8 : ∀ t : Fin cfg0.N, t.val < 8 → (cfg0.win 8).index t = ![t.val, 0, 0] :=
  (by decide +kernel : ∀ t : Fin grid0.N, t.val < 8 → win0_8.index t = ![t.val, 0, 0])
theorem index9 : ∀ t : Fin cfg0.N, t.val < 8 → (cfg0.win 9).index t = ![t.val, 0, 0] :=
  (by decide +kernel : ∀ t : Fin grid0.N, t.val < 8 → win0_9.index t = ![t.val, 0, 0])
theorem index10 : ∀ t : Fin cfg0.N, t.val < 8 → (cfg0.win 10).index t = ![t.val, 0, 0] :=
  (by decide +kernel : ∀ t : Fin grid0.N, t.val < 8 → win0_10.index t = ![t.val, 0, 0])
theorem index17 : ∀ t : Fin cfg0.N, (cfg0.win 17).index t = ![t.val, 0] :=
  (by decide +kernel : ∀ t : Fin grid0.N, win0_17.index t = ![t.val, 0])
theorem index0 (t : Fin cfg0.N) : (cfg0.win 0).index t = ![0] := rfl
theorem index11 (t : Fin cfg0.N) : (cfg0.win 11).index t = ![0, 0, 0] := rfl
theorem index12 (t : Fin cfg0.N) : (cfg0.win 12).index t = ![0, 0, 0] := rfl
theorem index13 (t : Fin cfg0.N) : (cfg0.win 13).index t = ![0, 0, 0] := rfl
theorem index14 (t : Fin cfg0.N) : (cfg0.win 14).index t = ![0, 0, 0] := rfl
theorem index15 (t : Fin cfg0.N) : (cfg0.win 15).index t = ![0, 0] := rfl
theorem index16 (t : Fin cfg0.N) : (cfg0.win 16).index t = ![0, 0] := rfl

/-! ## The blocks -/

theorem blk0 (t : Fin cfg0.N) (n : Fin 8) : iblk m c 0 t (ix1 n : S8.Idx) = aS m c (ix1 n) := by
  have e : iblk m c 0 t (ix1 n : S8.Idx) = (V m c main_arg6 : S8.Idx → EReal) (ix1 n) := by
    show (V m c main_arg6 : S8.Idx → EReal) _ = _
    refine congrArg _ (funext fun a => Fin.ext ?_)
    refine (Pipeline.Window.rect_emb_val (cfg0.win 0) t (ix1 n : S8.Idx) a).trans ?_
    rw [index0]
    match a with
    | ⟨0, _⟩ => exact (by omega : 0 * 8 + n.val = n.val)
  exact e.trans (congrFun (V_main_arg6 m c) _)

theorem blk1 (t : Fin cfg0.N) (ht : t.val < 8) (i : Fin 32) (k : Fin 512) : X0_1 m c t (ix2 i k : S32x512.Idx) = aH m c (ix2 (row (bt t ht) i) (colA 0 k)) := by
  unfold X0_1 Pipeline.Window.fill
  rw [dif_pos (moved0_1 t _)]
  have e : iblk m c 1 t (fun a => ⟨((ix2 i k : S32x512.Idx) a).val, (Pipeline.Window.moved_iff (cfg0.win 1) (cfg0.grid.coords t) (ix2 i k : S32x512.Idx)).mp (moved0_1 t _) a⟩)
      = (V m c main_arg0 : Rows) (ix2 (row (bt t ht) i) (colA 0 k)) := by
    show (V m c main_arg0 : Rows) _ = _
    refine congrArg _ (funext fun a => Fin.ext ?_)
    refine (Pipeline.Window.rect_emb_val (cfg0.win 1) t _ a).trans ?_
    rw [index1 t ht]
    match a with
    | ⟨0, _⟩ => exact (by omega : (2048 + t.val) * 32 + i.val = 65536 + (32 * t.val + i.val))
    | ⟨1, _⟩ => exact (by omega : 0 * 512 + k.val = 0 + k.val)
  exact e.trans (congrFun (V_main_arg0 m c) _)

theorem blk2 (t : Fin cfg0.N) (ht : t.val < 8) (i : Fin 32) (k : Fin 512) : X0_2 m c t (ix2 i k : S32x512.Idx) = aH m c (ix2 (row (bt t ht) i) (colA 512 k)) := by
  unfold X0_2 Pipeline.Window.fill
  rw [dif_pos (moved0_2 t _)]
  have e : iblk m c 2 t (fun a => ⟨((ix2 i k : S32x512.Idx) a).val, (Pipeline.Window.moved_iff (cfg0.win 2) (cfg0.grid.coords t) (ix2 i k : S32x512.Idx)).mp (moved0_2 t _) a⟩)
      = (V m c main_arg0 : Rows) (ix2 (row (bt t ht) i) (colA 512 k)) := by
    show (V m c main_arg0 : Rows) _ = _
    refine congrArg _ (funext fun a => Fin.ext ?_)
    refine (Pipeline.Window.rect_emb_val (cfg0.win 2) t _ a).trans ?_
    rw [index2 t ht]
    match a with
    | ⟨0, _⟩ => exact (by omega : (2048 + t.val) * 32 + i.val = 65536 + (32 * t.val + i.val))
    | ⟨1, _⟩ => exact (by omega : 1 * 512 + k.val = 512 + k.val)
  exact e.trans (congrFun (V_main_arg0 m c) _)

theorem blk3 (t : Fin cfg0.N) (ht : t.val < 8) (i : Fin 32) (k : Fin 512) : X0_3 m c t (ix2 i k : S32x512.Idx) = aH m c (ix2 (row (bt t ht) i) (colA 1024 k)) := by
  unfold X0_3 Pipeline.Window.fill
  rw [dif_pos (moved0_3 t _)]
  have e : iblk m c 3 t (fun a => ⟨((ix2 i k : S32x512.Idx) a).val, (Pipeline.Window.moved_iff (cfg0.win 3) (cfg0.grid.coords t) (ix2 i k : S32x512.Idx)).mp (moved0_3 t _) a⟩)
      = (V m c main_arg0 : Rows) (ix2 (row (bt t ht) i) (colA 1024 k)) := by
    show (V m c main_arg0 : Rows) _ = _
    refine congrArg _ (funext fun a => Fin.ext ?_)
    refine (Pipeline.Window.rect_emb_val (cfg0.win 3) t _ a).trans ?_
    rw [index3 t ht]
    match a with
    | ⟨0, _⟩ => exact (by omega : (2048 + t.val) * 32 + i.val = 65536 + (32 * t.val + i.val))
    | ⟨1, _⟩ => exact (by omega : 2 * 512 + k.val = 1024 + k.val)
  exact e.trans (congrFun (V_main_arg0 m c) _)

theorem blk4 (t : Fin cfg0.N) (ht : t.val < 8) (i : Fin 32) (k : Fin 512) : X0_4 m c t (ix2 i k : S32x512.Idx) = aH m c (ix2 (row (bt t ht) i) (colA 1536 k)) := by
  unfold X0_4 Pipeline.Window.fill
  rw [dif_pos (moved0_4 t _)]
  have e : iblk m c 4 t (fun a => ⟨((ix2 i k : S32x512.Idx) a).val, (Pipeline.Window.moved_iff (cfg0.win 4) (cfg0.grid.coords t) (ix2 i k : S32x512.Idx)).mp (moved0_4 t _) a⟩)
      = (V m c main_arg0 : Rows) (ix2 (row (bt t ht) i) (colA 1536 k)) := by
    show (V m c main_arg0 : Rows) _ = _
    refine congrArg _ (funext fun a => Fin.ext ?_)
    refine (Pipeline.Window.rect_emb_val (cfg0.win 4) t _ a).trans ?_
    rw [index4 t ht]
    match a with
    | ⟨0, _⟩ => exact (by omega : (2048 + t.val) * 32 + i.val = 65536 + (32 * t.val + i.val))
    | ⟨1, _⟩ => exact (by omega : 3 * 512 + k.val = 1536 + k.val)
  exact e.trans (congrFun (V_main_arg0 m c) _)

theorem blk5 (t : Fin cfg0.N) (ht : t.val < 8) (i : Fin 32) (k : Fin 128) : iblk m c 5 t (ix2 i k : S32x128.Idx) = aH m c (ix2 (row (bt t ht) i) (colB 2048 k)) := by
  have e : iblk m c 5 t (ix2 i k : S32x128.Idx) = (V m c main_arg0 : Rows) (ix2 (row (bt t ht) i) (colB 2048 k)) := by
    show (V m c main_arg0 : Rows) _ = _
    refine congrArg _ (funext fun a => Fin.ext ?_)
    refine (Pipeline.Window.rect_emb_val (cfg0.win 5) t (ix2 i k : S32x128.Idx) a).trans ?_
    rw [index5 t ht]
    match a with
    | ⟨0, _⟩ => exact (by omega : (2048 + t.val) * 32 + i.val = 65536 + (32 * t.val + i.val))
    | ⟨1, _⟩ => exact (by omega : 16 * 128 + k.val = 2048 + k.val)
  exact e.trans (congrFun (V_main_arg0 m c) _)

theorem blk6 (t : Fin cfg0.N) (ht : t.val < 8) (i : Fin 32) (k : Fin 128) : iblk m c 6 t (ix2 i k : S32x128.Idx) = aH m c (ix2 (row (bt t ht) i) (colB 2176 k)) := by
  have e : iblk m c 6 t (ix2 i k : S32x128.Idx) = (V m c main_arg0 : Rows) (ix2 (row (bt t ht) i) (colB 2176 k)) := by
    show (V m c main_arg0 : Rows) _ = _
    refine congrArg _ (funext fun a => Fin.ext ?_)
    refine (Pipeline.Window.rect_emb_val (cfg0.win 6) t (ix2 i k : S32x128.Idx) a).trans ?_
    rw [index6 t ht]
    match a with
    | ⟨0, _⟩ => exact (by omega : (2048 + t.val) * 32 + i.val = 65536 + (32 * t.val + i.val))
    | ⟨1, _⟩ => exact (by omega : 17 * 128 + k.val = 2176 + k.val)
  exact e.trans (congrFun (V_main_arg0 m c) _)

theorem blk7 (t : Fin cfg0.N) (ht : t.val < 8) (j : Fin 512) (n : Fin 8) (d : Fin 64) : iblk m c 7 t (ix3 (0 : Fin 1) j (ln n d) : S1x512x512.Idx) = aKA m c (ix4 (bt t ht) j n d) := by
  have e : iblk m c 7 t (ix3 (0 : Fin 1) j (ln n d) : S1x512x512.Idx) = (V m c main_v47 : S8x512x512.Idx → EReal) (ix3 (bt t ht) j (ln n d)) := by
    show (V m c main_v47 : S8x512x512.Idx → EReal) _ = _
    refine congrArg _ (funext fun a => Fin.ext ?_)
    refine (Pipeline.Window.rect_emb_val (cfg0.win 7) t (ix3 (0 : Fin 1) j (ln n d) : S1x512x512.Idx) a).trans ?_
    rw [index7 t ht]
    match a with
    | ⟨0, _⟩ => exact (by omega : t.val * 1 + 0 = t.val)
    | ⟨1, _⟩ => exact (by omega : 0 * 512 + j.val = j.val)
    | ⟨2, _⟩ => exact (by omega : 0 * 512 + (ln n d).val = (ln n d).val)
  refine e.trans ((congrFun (V_v47 m c) _).trans ?_)
  refine shapeCast_apply (aKA m c) _ (ix3 (bt t ht) j (ln n d) : S8x512x512.Idx) (ix4 (bt t ht) j n d : S8x512x8x64.Idx) ?_
  rw [Shape.rowMajor_val_three, Shape.rowMajor_val_four]
  have h := n.isLt
  show ((t.val * 512 + j.val) * 8 + n.val) * 64 + d.val = (t.val * 512 + j.val) * 512 + (64 * n.val + d.val)
  omega

theorem blk8 (t : Fin cfg0.N) (ht : t.val < 8) (j : Fin 512) (n : Fin 8) (d : Fin 64) : iblk m c 8 t (ix3 (0 : Fin 1) j (ln n d) : S1x512x512.Idx) = aVA m c (ix4 (bt t ht) j n d) := by
  have e : iblk m c 8 t (ix3 (0 : Fin 1) j (ln n d) : S1x512x512.Idx) = (V m c main_v48 : S8x512x512.Idx → EReal) (ix3 (bt t ht) j (ln n d)) := by
    show (V m c main_v48 : S8x512x512.Idx → EReal) _ = _
    refine congrArg _ (funext fun a => Fin.ext ?_)
    refine (Pipeline.Window.rect_emb_val (cfg0.win 8) t (ix3 (0 : Fin 1) j (ln n d) : S1x512x512.Idx) a).trans ?_
    rw [index8 t ht]
    match a with
    | ⟨0, _⟩ => exact (by omega : t.val * 1 + 0 = t.val)
    | ⟨1, _⟩ => exact (by omega : 0 * 512 + j.val = j.val)
    | ⟨2, _⟩ => exact (by omega : 0 * 512 + (ln n d).val = (ln n d).val)
  refine e.trans ((congrFun (V_v48 m c) _).trans ?_)
  refine shapeCast_apply (aVA m c) _ (ix3 (bt t ht) j (ln n d) : S8x512x512.Idx) (ix4 (bt t ht) j n d : S8x512x8x64.Idx) ?_
  rw [Shape.rowMajor_val_three, Shape.rowMajor_val_four]
  have h := n.isLt
  show ((t.val * 512 + j.val) * 8 + n.val) * 64 + d.val = (t.val * 512 + j.val) * 512 + (64 * n.val + d.val)
  omega

theorem blk9 (t : Fin cfg0.N) (ht : t.val < 8) (j : Fin 128) (n : Fin 8) (d : Fin 64) : iblk m c 9 t (ix3 (0 : Fin 1) j (lg n d) : S1x128x128.Idx) = aKB m c (ix4 (bt t ht) j (grp n) d) := by
  have e : iblk m c 9 t (ix3 (0 : Fin 1) j (lg n d) : S1x128x128.Idx) = (V m c main_v49 : S8x128x128.Idx → EReal) (ix3 (bt t ht) j (lg n d)) := by
    show (V m c main_v49 : S8x128x128.Idx → EReal) _ = _
    refine congrArg _ (funext fun a => Fin.ext ?_)
    refine (Pipeline.Window.rect_emb_val (cfg0.win 9) t (ix3 (0 : Fin 1) j (lg n d) : S1x128x128.Idx) a).trans ?_
    rw [index9 t ht]
    match a with
    | ⟨0, _⟩ => exact (by omega : t.val * 1 + 0 = t.val)
    | ⟨1, _⟩ => exact (by omega : 0 * 128 + j.val = j.val)
    | ⟨2, _⟩ => exact (by omega : 0 * 128 + (lg n d).val = (lg n d).val)
  refine e.trans ((congrFun (V_v49 m c) _).trans ?_)
  refine shapeCast_apply (aKB m c) _ (ix3 (bt t ht) j (lg n d) : S8x128x128.Idx) (ix4 (bt t ht) j (grp n) d : S8x128x2x64.Idx) ?_
  rw [Shape.rowMajor_val_three, Shape.rowMajor_val_four]
  have h := n.isLt
  show ((t.val * 128 + j.val) * 2 + (n.val / 4)) * 64 + d.val = (t.val * 128 + j.val) * 128 + (64 * (n.val / 4) + d.val)
  omega

theorem blk10 (t : Fin cfg0.N) (ht : t.val < 8) (j : Fin 128) (n : Fin 8) (d : Fin 64) : iblk m c 10 t (ix3 (0 : Fin 1) j (lg n d) : S1x128x128.Idx) = aVB m c (ix4 (bt t ht) j (grp n) d) := by
  have e : iblk m c 10 t (ix3 (0 : Fin 1) j (lg n d) : S1x128x128.Idx) = (V m c main_v50 : S8x128x128.Idx → EReal) (ix3 (bt t ht) j (lg n d)) := by
    show (V m c main_v50 : S8x128x128.Idx → EReal) _ = _
    refine congrArg _ (funext fun a => Fin.ext ?_)
    refine (Pipeline.Window.rect_emb_val (cfg0.win 10) t (ix3 (0 : Fin 1) j (lg n d) : S1x128x128.Idx) a).trans ?_
    rw [index10 t ht]
    match a with
    | ⟨0, _⟩ => exact (by omega : t.val * 1 + 0 = t.val)
    | ⟨1, _⟩ => exact (by omega : 0 * 128 + j.val = j.val)
    | ⟨2, _⟩ => exact (by omega : 0 * 128 + (lg n d).val = (lg n d).val)
  refine e.trans ((congrFun (V_v50 m c) _).trans ?_)
  refine shapeCast_apply (aVB m c) _ (ix3 (bt t ht) j (lg n d) : S8x128x128.Idx) (ix4 (bt t ht) j (grp n) d : S8x128x2x64.Idx) ?_
  rw [Shape.rowMajor_val_three, Shape.rowMajor_val_four]
  have h := n.isLt
  show ((t.val * 128 + j.val) * 2 + (n.val / 4)) * 64 + d.val = (t.val * 128 + j.val) * 128 + (64 * (n.val / 4) + d.val)
  omega

theorem slice11 (f : S8x32x544.Idx → EReal) (n : Fin 8) (i : Fin 32) (j : Fin 512) :
    extractStridedSlice S8x32x512 ![0, 0, 0] f slices_S8x32x544_S8x32x512_0_0_0 (ix3 n i j) = f (ix3 n i (Fin.castAdd 32 j)) := by
  refine extractStridedSlice_apply ![0, 0, 0] f _ (ix3 n i j : S8x32x512.Idx) (ix3 n i (Fin.castAdd 32 j) : S8x32x544.Idx) (fun a => ?_)
  match a with
  | ⟨0, _⟩ => exact (by omega : n.val = 0 + n.val)
  | ⟨1, _⟩ => exact (by omega : i.val = 0 + i.val)
  | ⟨2, _⟩ => exact (by omega : j.val = 0 + j.val)

theorem blk11 (t : Fin cfg0.N) (n : Fin 8) (i : Fin 32) (j : Fin 512) : iblk m c 11 t (ix3 n i j : S8x32x512.Idx) = bias (aR m c) n i (Fin.castAdd 32 j) := by
  have e : iblk m c 11 t (ix3 n i j : S8x32x512.Idx) = (V m c main_v43 : S8x32x512.Idx → EReal) (ix3 n i j) := by
    show (V m c main_v43 : S8x32x512.Idx → EReal) _ = _
    refine congrArg _ (funext fun a => Fin.ext ?_)
    refine (Pipeline.Window.rect_emb_val (cfg0.win 11) t (ix3 n i j : S8x32x512.Idx) a).trans ?_
    rw [index11 t]
    match a with
    | ⟨0, _⟩ => exact (by omega : 0 * 8 + n.val = n.val)
    | ⟨1, _⟩ => exact (by omega : 0 * 32 + i.val = i.val)
    | ⟨2, _⟩ => exact (by omega : 0 * 512 + j.val = j.val)
  refine e.trans ((congrFun (V_v43 m c) _).trans ?_)
  exact (slice11 _ n i j).trans (bias_apply (aR m c) n i (Fin.castAdd 32 j))

theorem slice12 (f : S8x32x544.Idx → EReal) (n : Fin 8) (i : Fin 32) (j : Fin 32) :
    extractStridedSlice S8x32x32 ![0, 0, 512] f slices_S8x32x544_S8x32x32_0_0_512 (ix3 n i j) = f (ix3 n i (Fin.natAdd 512 j)) := by
  refine extractStridedSlice_apply ![0, 0, 512] f _ (ix3 n i j : S8x32x32.Idx) (ix3 n i (Fin.natAdd 512 j) : S8x32x544.Idx) (fun a => ?_)
  match a with
  | ⟨0, _⟩ => exact (by omega : n.val = 0 + n.val)
  | ⟨1, _⟩ => exact (by omega : i.val = 0 + i.val)
  | ⟨2, _⟩ => rfl

theorem blk12 (t : Fin cfg0.N) (n : Fin 8) (i : Fin 32) (j : Fin 32) : iblk m c 12 t (ix3 n i j : S8x32x32.Idx) = bias (aR m c) n i (Fin.natAdd 512 j) := by
  have e : iblk m c 12 t (ix3 n i j : S8x32x32.Idx) = (V m c main_v44 : S8x32x32.Idx → EReal) (ix3 n i j) := by
    show (V m c main_v44 : S8x32x32.Idx → EReal) _ = _
    refine congrArg _ (funext fun a => Fin.ext ?_)
    refine (Pipeline.Window.rect_emb_val (cfg0.win 12) t (ix3 n i j : S8x32x32.Idx) a).trans ?_
    rw [index12 t]
    match a with
    | ⟨0, _⟩ => exact (by omega : 0 * 8 + n.val = n.val)
    | ⟨1, _⟩ => exact (by omega : 0 * 32 + i.val = i.val)
    | ⟨2, _⟩ => exact (by omega : 0 * 32 + j.val = j.val)
  refine e.trans ((congrFun (V_v44 m c) _).trans ?_)
  exact (slice12 _ n i j).trans (bias_apply (aR m c) n i (Fin.natAdd 512 j))

theorem slice13 (f : S8x32x160.Idx → EReal) (n : Fin 8) (i : Fin 32) (j : Fin 128) :
    extractStridedSlice S8x32x128 ![0, 0, 0] f slices_S8x32x160_S8x32x128_0_0_0 (ix3 n i j) = f (ix3 n i (Fin.castAdd 32 j)) := by
  refine extractStridedSlice_apply ![0, 0, 0] f _ (ix3 n i j : S8x32x128.Idx) (ix3 n i (Fin.castAdd 32 j) : S8x32x160.Idx) (fun a => ?_)
  match a with
  | ⟨0, _⟩ => exact (by omega : n.val = 0 + n.val)
  | ⟨1, _⟩ => exact (by omega : i.val = 0 + i.val)
  | ⟨2, _⟩ => exact (by omega : j.val = 0 + j.val)

theorem blk13 (t : Fin cfg0.N) (n : Fin 8) (i : Fin 32) (j : Fin 128) : iblk m c 13 t (ix3 n i j : S8x32x128.Idx) = -(slope n) * far i (Fin.castAdd 32 j) := by
  have e : iblk m c 13 t (ix3 n i j : S8x32x128.Idx) = (V m c main_v45 : S8x32x128.Idx → EReal) (ix3 n i j) := by
    show (V m c main_v45 : S8x32x128.Idx → EReal) _ = _
    refine congrArg _ (funext fun a => Fin.ext ?_)
    refine (Pipeline.Window.rect_emb_val (cfg0.win 13) t (ix3 n i j : S8x32x128.Idx) a).trans ?_
    rw [index13 t]
    match a with
    | ⟨0, _⟩ => exact (by omega : 0 * 8 + n.val = n.val)
    | ⟨1, _⟩ => exact (by omega : 0 * 32 + i.val = i.val)
    | ⟨2, _⟩ => exact (by omega : 0 * 128 + j.val = j.val)
  refine e.trans ((congrFun (V_v45 m c) _).trans ?_)
  exact (slice13 _ n i j).trans (penalty_apply n i (Fin.castAdd 32 j))

theorem slice14 (f : S8x32x160.Idx → EReal) (n : Fin 8) (i : Fin 32) (j : Fin 32) :
    extractStridedSlice S8x32x32 ![0, 0, 128] f slices_S8x32x160_S8x32x32_0_0_128 (ix3 n i j) = f (ix3 n i (Fin.natAdd 128 j)) := by
  refine extractStridedSlice_apply ![0, 0, 128] f _ (ix3 n i j : S8x32x32.Idx) (ix3 n i (Fin.natAdd 128 j) : S8x32x160.Idx) (fun a => ?_)
  match a with
  | ⟨0, _⟩ => exact (by omega : n.val = 0 + n.val)
  | ⟨1, _⟩ => exact (by omega : i.val = 0 + i.val)
  | ⟨2, _⟩ => rfl

theorem blk14 (t : Fin cfg0.N) (n : Fin 8) (i : Fin 32) (j : Fin 32) : iblk m c 14 t (ix3 n i j : S8x32x32.Idx) = -(slope n) * far i (Fin.natAdd 128 j) := by
  have e : iblk m c 14 t (ix3 n i j : S8x32x32.Idx) = (V m c main_v46 : S8x32x32.Idx → EReal) (ix3 n i j) := by
    show (V m c main_v46 : S8x32x32.Idx → EReal) _ = _
    refine congrArg _ (funext fun a => Fin.ext ?_)
    refine (Pipeline.Window.rect_emb_val (cfg0.win 14) t (ix3 n i j : S8x32x32.Idx) a).trans ?_
    rw [index14 t]
    match a with
    | ⟨0, _⟩ => exact (by omega : 0 * 8 + n.val = n.val)
    | ⟨1, _⟩ => exact (by omega : 0 * 32 + i.val = i.val)
    | ⟨2, _⟩ => exact (by omega : 0 * 32 + j.val = j.val)
  refine e.trans ((congrFun (V_v46 m c) _).trans ?_)
  exact (slice14 _ n i j).trans (penalty_apply n i (Fin.natAdd 128 j))

theorem blk15 (t : Fin cfg0.N) (k : Fin 512) : iblk m c 15 t (ix2 (0 : Fin 1) k : S1x512.Idx) = aGA m c (ix1 k) := by
  have e : iblk m c 15 t (ix2 (0 : Fin 1) k : S1x512.Idx) = (V m c main_v26 : S1x512.Idx → EReal) (ix2 (0 : Fin 1) k) := by
    show (V m c main_v26 : S1x512.Idx → EReal) _ = _
    refine congrArg _ (funext fun a => Fin.ext ?_)
    refine (Pipeline.Window.rect_emb_val (cfg0.win 15) t (ix2 (0 : Fin 1) k : S1x512.Idx) a).trans ?_
    rw [index15 t]
    match a with
    | ⟨0, _⟩ => rfl
    | ⟨1, _⟩ => exact (by omega : 0 * 512 + k.val = k.val)
  refine e.trans ((congrFun (V_v26 m c) _).trans ?_)
  refine shapeCast_apply (aGA m c) _ (ix2 (0 : Fin 1) k : S1x512.Idx) (ix1 k : S512.Idx) ?_
  rw [Shape.rowMajor_val_one, Shape.rowMajor_val_two]
  show k.val = 0 * 512 + k.val
  omega

theorem blk16 (t : Fin cfg0.N) (k : Fin 512) : iblk m c 16 t (ix2 (0 : Fin 1) k : S1x512.Idx) = aGB m c (ix1 k) := by
  have e : iblk m c 16 t (ix2 (0 : Fin 1) k : S1x512.Idx) = (V m c main_v27 : S1x512.Idx → EReal) (ix2 (0 : Fin 1) k) := by
    show (V m c main_v27 : S1x512.Idx → EReal) _ = _
    refine congrArg _ (funext fun a => Fin.ext ?_)
    refine (Pipeline.Window.rect_emb_val (cfg0.win 16) t (ix2 (0 : Fin 1) k : S1x512.Idx) a).trans ?_
    rw [index16 t]
    match a with
    | ⟨0, _⟩ => rfl
    | ⟨1, _⟩ => exact (by omega : 0 * 512 + k.val = k.val)
  refine e.trans ((congrFun (V_v27 m c) _).trans ?_)
  refine shapeCast_apply (aGB m c) _ (ix2 (0 : Fin 1) k : S1x512.Idx) (ix1 k : S512.Idx) ?_
  rw [Shape.rowMajor_val_one, Shape.rowMajor_val_two]
  show k.val = 0 * 512 + k.val
  omega

/-! ## What a grid point leaves in its output block -/

section
variable (p : grid0.Coords) (arg1 : Memref sig .tc .smem S8 .f32) (harg1 : arg1.IsWhole) (arg2 : Memref sig .tc .vmem S32x512 .bf16) (harg2 : arg2.IsWhole) (arg3 : Memref sig .tc .vmem S32x512 .bf16) (harg3 : arg3.IsWhole) (arg4 : Memref sig .tc .vmem S32x512 .bf16) (harg4 : arg4.IsWhole) (arg5 : Memref sig .tc .vmem S32x512 .bf16) (harg5 : arg5.IsWhole) (arg6 : Memref sig .tc .vmem S32x128 .bf16) (harg6 : arg6.IsWhole) (arg7 : Memref sig .tc .vmem S32x128 .bf16) (harg7 : arg7.IsWhole) (arg8 : Memref sig .tc .vmem S1x512x512 .f32) (harg8 : arg8.IsWhole) (arg9 : Memref sig .tc .vmem S1x512x512 .f32) (harg9 : arg9.IsWhole) (arg10 : Memref sig .tc .vmem S1x128x128 .f32) (harg10 : arg10.IsWhole) (arg11 : Memref sig .tc .vmem S1x128x128 .f32) (harg11 : arg11.IsWhole) (arg12 : Memref sig .tc .vmem S8x32x512 .f32) (harg12 : arg12.IsWhole) (arg13 : Memref sig .tc .vmem S8x32x32 .f32) (harg13 : arg13.IsWhole) (arg14 : Memref sig .tc .vmem S8x32x128 .f32) (harg14 : arg14.IsWhole) (arg15 : Memref sig .tc .vmem S8x32x32 .f32) (harg15 : arg15.IsWhole) (arg16 : Memref sig .tc .vmem S1x512 .f32) (harg16 : arg16.IsWhole) (arg17 : Memref sig .tc .vmem S1x512 .f32) (harg17 : arg17.IsWhole) (arg18 : Memref sig .tc .vmem S32x1024 .bf16) (harg18 : arg18.IsWhole)
  (x0 : Vec Ideal S8 .f32) (x1 x2 x3 x4 : Vec Ideal S32x512 .bf16) (x5 x6 : Vec Ideal S32x128 .bf16) (x7 x8 : Vec Ideal S1x512x512 .f32) (x9 x10 : Vec Ideal S1x128x128 .f32) (x11 : Vec Ideal S8x32x512 .f32) (x12 : Vec Ideal S8x32x32 .f32) (x13 : Vec Ideal S8x32x128 .f32) (x14 : Vec Ideal S8x32x32 .f32) (x15 x16 : Vec Ideal S1x512 .f32)

theorem live_at (hc0 : ¬cond0_0 p) (hc1 : cond0_1 p) (i : Fin 32) (k : Fin 1024) :
    out0_A_17 (F := Ideal) c p arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 x13 x14 x15 x16 (ix2 i k : S32x1024.Idx) = outV x0 x1 x2 x3 x4 x5 x6 x7 x8 x9 x10 x11 x12 x13 x14 x15 x16 i k := by
  unfold out0_A_17
  have hcov := cover0_A_17 (F := Ideal) c p arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 x13 x14 x15 x16
  refine (congrFun (View.read_writes_eq_canon VO0_17 _ _ hcov) _).trans ?_
  have e := run_stores (F := Ideal) c p arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 x13 x14 x15 x16
  rw [e] at hcov ⊢
  exact stores_at x0 x1 x2 x3 x4 x5 x6 x7 x8 x9 x10 x11 x12 x13 x14 x15 x16 i k (hcov _)

theorem rest_at (hc0 : cond0_0 p) (hc1 : ¬cond0_1 p) (y : S32x1024.Idx) :
    out0_B_17 (F := Ideal) c p arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 x13 x14 x15 x16 y = 0 := by
  unfold out0_B_17
  have hcov := cover0_B_17 (F := Ideal) c p arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 x13 x14 x15 x16
  refine (congrFun (View.read_writes_eq_canon VO0_17 _ _ hcov) _).trans ?_
  unfold kernelRun0_B
  dsimp only
  refine (congrFun (View.canon_cons_unit_lit inb_S32x1024_S32x1024_0_0 _ [] (fun a => by fin_cases a <;> rfl)) y).trans ?_
  exact Ideal.ofBits_zero_bf16
end

/-- The call's result of the arrays it is given. -/
def G : S1024x1024.Idx → EReal := fun i =>
  result (aH m c) (aKA m c) (aVA m c) (aKB m c) (aVB m c) (aR m c) (aS m c) (aGA m c) (aGB m c) (i 0) (i 1)

variable (g : Good (aH m c) (aKA m c) (aKB m c) (aR m c) (aS m c))
include g

theorem left_at (t : Fin cfg0.N) (i : Fin 32) (k : Fin 1024) (r : Fin 1024) (hr : r.val = t.val * 32 + i.val) :
    outsAt0 m c t.val t.isLt (ix2 i k : S32x1024.Idx) = G m c (ix2 r k) := by
  have hN : t.val < 32 := t.isLt
  show _ = result (aH m c) (aKA m c) (aVA m c) (aKB m c) (aVB m c) (aR m c) (aS m c) (aGA m c) (aGB m c) r k
  unfold result
  by_cases ht : t.val < 8
  · rw [outsAt0_A m c t (by omega) ht, dif_pos (show r.val < 256 by omega)]
    refine (live_at c _ _ _ _ _ _ _ _ _ _ _ _ _ _ _ _ _ _ _ _ _ _ _ _ _ _ _ _ _ _ _ _ _ _ _ _ _ _ _ _ _ _ _ _ _ _ _ _ _ _ _ _ _ _ _ _ i k).trans ?_
    refine (outV_eq g (blk0 m c t) (blk1 m c t ht) (blk2 m c t ht) (blk3 m c t ht) (blk4 m c t ht) (blk5 m c t ht) (blk6 m c t ht) (blk7 m c t ht) (blk8 m c t ht)
      (blk9 m c t ht) (blk10 m c t ht) (blk11 m c t) (blk12 m c t) (blk13 m c t) (blk14 m c t) (blk15 m c t) (blk16 m c t) i k).trans ?_
    have e1 : bt t ht = (⟨r.val / 32, by omega⟩ : Fin 8) := Fin.ext (by show t.val = r.val / 32; omega)
    have e2 : i = (⟨r.val % 32, Nat.mod_lt _ (by decide)⟩ : Fin 32) := Fin.ext (by show i.val = r.val % 32; omega)
    rw [e1]
    exact congrArg (fun i' => live (aH m c) (aKA m c) (aVA m c) (aKB m c) (aVB m c) (aR m c) (aS m c) (aGA m c) (aGB m c) _ i' k) e2
  · rw [outsAt0_B m c t (by omega) ht, dif_neg (show ¬r.val < 256 by omega)]
    exact rest_at c _ _ _ _ _ _ _ _ _ _ _ _ _ _ _ _ _ _ _ _ _ _ _ _ _ _ _ _ _ _ _ _ _ _ _ _ _ _ _ _ _ _ _ _ _ _ _ _ _ _ _ _ _ _ _ _ _

theorem emb17 (t : Fin cfg0.N) (i : Fin 32) (k : Fin 1024) (r : Fin 1024) (hr : r.val = t.val * 32 + i.val) :
    ((cfg0.win 17).blk t).view.emb (ix2 i k : S32x1024.Idx) = (ix2 r k : S1024x1024.Idx) := by
  refine funext fun a => Fin.ext ?_
  refine (Pipeline.Window.rect_emb_val (cfg0.win 17) t (ix2 i k : S32x1024.Idx) a).trans ?_
  rw [index17 t]
  match a with
  | ⟨0, _⟩ => exact hr.symm
  | ⟨1, _⟩ => exact (by omega : 0 * 1024 + k.val = k.val)

theorem left_emb (t : Fin cfg0.N) (y : S32x1024.Idx) : outsAt0 m c t.val t.isLt y = G m c (((cfg0.win 17).blk t).view.emb y) := by
  have hN : t.val < 32 := t.isLt
  obtain ⟨i, k, rfl⟩ : ∃ (i : Fin 32) (k : Fin 1024), y = ix2 i k := ⟨y 0, y 1, eq_ix2 y⟩
  exact (left_at m c g t i k ⟨t.val * 32 + i.val, by have := i.isLt; omega⟩ rfl).trans (congrArg (G m c) (emb17 m c g t i k _ rfl).symm)

theorem covered (i : S1024x1024.Idx) : ∃ t : Fin cfg0.N, (cfg0.win 17).flush t = true ∧ i ∈ ((cfg0.win 17).blk t).view.set := by
  obtain ⟨r, k, rfl⟩ : ∃ (r : Fin 1024) (k : Fin 1024), i = ix2 r k := ⟨i 0, i 1, eq_ix2 i⟩
  have hr := r.isLt
  let t : Fin cfg0.N := (⟨r.val / 32, by omega⟩ : Fin 32)
  have h := emb17 m c g t ⟨r.val % 32, Nat.mod_lt _ (by decide)⟩ k r (by show r.val = r.val / 32 * 32 + r.val % 32; omega)
  exact ⟨t, flush0_17 t, h ▸ View.emb_mem_set _ _⟩

theorem array_eq : (dats m 0 c).arrAt 17 cfg0.N = G m c :=
  (dats m 0 c).arrAt_eq_of_emb 17 (G m c)
    (fun t _ y => (congrFun (after0_17 m c t) _).trans (left_emb m c g t y)) (fun i => covered m c g i)

end Cert.AttnValue
-- ==== Proof.AttnClaims.lean ====
/-
  The claims of the attention call: both programs run and keep their arguments, the reference runs, and over the extended
  reals the two results are equal.
-/
module

public import proofs.«01_k».proof.Defs
public import proofs.«01_k».proof.Proof.Gen.Attn.Frame
public import proofs.«01_k».proof.Proof.Gen.AttnIdeal.Value
public import proofs.«01_k».proof.Proof.Gen.AttnReferenceIdeal.Run
public import proofs.«01_k».proof.Proof.AttnPre
public import proofs.«01_k».proof.Proof.AttnRef
public import proofs.«01_k».proof.Proof.AttnValue
public import Idealize.ShloMosaic.Lib.Quiescent

@[expose] public section

noncomputable section

open Idealize.ShloMosaic Idealize.ShloMosaic.TcCoe Idealize.SL.Sem

namespace Cert.AttnClaims

theorem attn_runs : Cert.quiescent_Attn (hAttn := Cert.Attn.Gen.facts) := fun m g _ => Cert.Attn.Gen.frame m g

theorem attn_ideal_runs : Cert.quiescent_AttnIdeal (hAttnIdeal := Cert.AttnIdeal.Gen.facts) := fun m g _ => Cert.AttnIdeal.Gen.frame m g

theorem attn_ideal_runs_pre : Cert.quiescent_AttnIdeal_pre_scores_finite (hAttnIdeal := Cert.AttnIdeal.Gen.facts) (hPre_scores_finite := Cert.Pre_scores_finite.Gen.facts) :=
  fun m g _ => attn_ideal_runs m g trivial

/-- The reference is host operations only and declares no semaphore. -/
theorem attn_reference_runs : Cert.quiescent_AttnReferenceIdeal (hAttnReferenceIdeal := Cert.AttnReferenceIdeal.Gen.facts) := fun m g _ =>
  (θ_run Cert.AttnReferenceIdeal.defs _ _).mono (fun r h => ⟨fun c => (h c).2, sem_eq_zero_of_no_sems (by decide) r.2⟩)
    (Cert.AttnReferenceIdeal.Value.run (F := Ideal) m g)

theorem attn_reference_runs_pre : Cert.quiescent_AttnReferenceIdeal_pre_scores_finite (hAttnReferenceIdeal := Cert.AttnReferenceIdeal.Gen.facts)
    (hPre_scores_finite := Cert.Pre_scores_finite.Gen.facts) := fun m g _ => attn_reference_runs m g trivial

theorem attn_values_eq : Cert.algebraic_AttnIdeal_AttnReferenceIdeal_pre_scores_finite (hAttnIdeal := Cert.AttnIdeal.Gen.facts)
    (hAttnReferenceIdeal := Cert.AttnReferenceIdeal.Gen.facts) (hPre_scores_finite := Cert.Pre_scores_finite.Gen.facts) := by
  intro m g m' g' hp ha
  refine ⟨fun c => Cert.AttnValue.G m c, ?_, ?_⟩
  · exact (θ_run _ _ _).mono (fun r h c => ⟨(h c).1.trans (Cert.AttnValue.array_eq m c (Cert.AttnPre.good_of_fn _ _ _ _ _ _ _ _ _ (hp c))), (h c).2⟩)
      (Cert.AttnIdeal.Value.run_blocks m g)
  · refine (θ_run _ _ _).mono (fun r h c => ⟨(h c).1.trans ?_, (h c).2⟩) (Cert.AttnReferenceIdeal.Value.run m' g')
    obtain ⟨h0, h1, h2, h3, h4, h5, h6, h7, h8⟩ := ha c
    rw [Cert.AttnReferenceIdeal.Read.val_main_v137_eq, h0, h1, h2, h3, h4, h5, h6, h7, h8]
    funext i
    obtain ⟨r, d, rfl⟩ : ∃ (r : Fin 1024) (d : Fin 1024), i = ValueIdx.ix2 r d := ⟨i 0, i 1, ValueIdx.eq_ix2 i⟩
    exact Cert.AttnRef.at137 _ _ _ _ _ _ _ _ _ r d

end Cert.AttnClaims

end

end
-- ==== Proof.InProjBlock.lean ====
/-
  The input projection as a formula over the two batches, and what one grid point of the call leaves in its two output
  blocks.
-/
module

public import proofs.«01_k».proof.Proof.Gen.InProjIdeal.Frame
public import Idealize.ShloMosaic.Lib.Pipeline.Value
public import Idealize.ShloMosaic.Lib.Pipeline.ValueKit.Tiles
public import Idealize.ShloMosaic.Lib.ValueIdx
public import Idealize.ShloMosaic.Lib.ValueLayout
public import Idealize.ShloMosaic.Lib.MatmulPlain
public import Idealize.ShloMosaic.PureOps.Ideal.Laws

@[expose] public section

set_option maxRecDepth 16384

noncomputable section

namespace Cert.InProjBlock

open Cert.InProjIdeal Cert.InProjIdeal.Gen
open Idealize.ShloMosaic Idealize.ShloMosaic.TcCoe Idealize.ShloMosaic.ValueIdx
open scoped BigOperators

/-! ## The formula -/

abbrev Prompt := (⟨3, ![16, 4096, 1024]⟩ : Shape).Idx → EReal
abbrev Sample := (⟨3, ![8, 32, 1024]⟩ : Shape).Idx → EReal
abbrev Weight := (⟨2, ![1024, 2304]⟩ : Shape).Idx → EReal

/-- The rows the call projects: the prompt's, then the sample's, then zeros. -/
def xrow (xp : Prompt) (xs : Sample) (r : Fin 66560) (k : Fin 1024) : EReal :=
  if h : r.val < 65536 then xp (ix3 (⟨r.val / 4096, by omega⟩ : Fin 16) (⟨r.val % 4096, by omega⟩ : Fin 4096) k)
  else if h' : r.val < 65792 then xs (ix3 (⟨(r.val - 65536) / 32, by omega⟩ : Fin 8) (⟨(r.val - 65536) % 32, by omega⟩ : Fin 32) k)
  else 0

/-- A row's projection. -/
def H (xp : Prompt) (xs : Sample) (w : Weight) (r : Fin 66560) (q : Fin 2304) : EReal := ∑ k : Fin 1024, xrow xp xs r k * w (ix2 k q)

/-- The projected row a row of the kept keys and values is, and its column. -/
def kvrow (r : Fin 9216) : Fin 66560 := ⟨if r.val < 8192 then r.val / 512 * 4096 + 3584 + r.val % 512 else 57344 + r.val, by split <;> omega⟩
def kvcol (q : Fin 1280) : Fin 2304 := ⟨if q.val < 1024 then 512 + q.val else 1024 + q.val, by split <;> omega⟩

/-! ## The stored blocks as values -/

section
variable {F : FTy → Type} [FloatOps F]

theorem off2 : (![0, 0] : Fin 2 → ℕ) = fun _ => 0 := by funext a; match a with | ⟨0, _⟩ => rfl | ⟨1, _⟩ => rfl

variable (c : Dev nD) (i : grid0.Coords) (a1 : Memref sig .tc .vmem S512x1024 .f32) (ha1 : a1.IsWhole) (a2 : Memref sig .tc .vmem S512x1024 .f32) (ha2 : a2.IsWhole)
  (a3 : Memref sig .tc .vmem S1024x2304 .bf16) (ha3 : a3.IsWhole) (a4 : Memref sig .tc .vmem S512x2304 .bf16) (ha4 : a4.IsWhole)
  (a5 : Memref sig .tc .vmem S512x1280 .f32) (ha5 : a5.IsWhole) (x0 x1 : Vec F S512x1024 .f32) (x2 : Vec F S1024x2304 .bf16)

theorem outA3_eq (h : ¬cond0_0 i) : out0_A_3 c i a1 ha1 a2 ha2 a3 ha3 a4 ha4 a5 ha5 h x0 x1 x2 = k0_pay2 i x0 x1 x2 := by
  unfold out0_A_3
  rw [View.read_writes_eq_canon _ _ _ (cover0_A_3 c i a1 ha1 a2 ha2 a3 ha3 a4 ha4 a5 ha5 h x0 x1 x2)]
  unfold kernelRun0_A
  dsimp only
  try sl_unfold_words
  rw [View.canon_unit_zero (S := S512x2304) off2]
  simp only [View.readAt_eq_ld, ha1.read_unread, ha2.read_unread, ha3.read_unread, View.ld_unit_zero (S := S512x1024) off2, View.ld_unit_zero (S := S1024x2304) off2]

theorem outB3_eq (h : cond0_0 i) : out0_B_3 c i a1 ha1 a2 ha2 a3 ha3 a4 ha4 a5 ha5 h x0 x1 x2 = k0_pay2 i x0 x1 x2 := by
  unfold out0_B_3
  rw [View.read_writes_eq_canon _ _ _ (cover0_B_3 c i a1 ha1 a2 ha2 a3 ha3 a4 ha4 a5 ha5 h x0 x1 x2)]
  unfold kernelRun0_B
  dsimp only
  try sl_unfold_words
  rw [View.canon_unit_zero (S := S512x2304) off2]
  simp only [View.readAt_eq_ld, ha1.read_unread, ha2.read_unread, ha3.read_unread, View.ld_unit_zero (S := S512x1024) off2, View.ld_unit_zero (S := S1024x2304) off2]

/-- The kept columns of a block of projected rows. -/
def kept (y : Vec F S512x2304 .f32) : Vec F S512x1280 .f32 := fun j => y (ix2 (j 0) (kvcol (j 1)))

theorem left_eq (y : FVec F S512x2304 .f32) (p : Fin 512) (q : Fin 1024) :
    extractStridedSlice S512x1024 ![0, 512] y slices_S512x2304_o0_512_S512x1024 (ix2 p q) = y (ix2 p (⟨512 + q.val, by omega⟩ : Fin 2304)) :=
  extractStridedSlice_apply ![0, 512] y _ (ix2 p q) (ix2 p (⟨512 + q.val, by omega⟩ : Fin 2304)) (fun a => match a with
    | ⟨0, _⟩ => (Nat.zero_add _).symm
    | ⟨1, _⟩ => rfl)

theorem right_eq (y : FVec F S512x2304 .f32) (p : Fin 512) (q : Fin 256) :
    extractStridedSlice S512x256 ![0, 2048] y slices_S512x2304_o0_2048_S512x256 (ix2 p q) = y (ix2 p (⟨2048 + q.val, by omega⟩ : Fin 2304)) :=
  extractStridedSlice_apply ![0, 2048] y _ (ix2 p q) (ix2 p (⟨2048 + q.val, by omega⟩ : Fin 2304)) (fun a => match a with
    | ⟨0, _⟩ => (Nat.zero_add _).symm
    | ⟨1, _⟩ => rfl)

theorem left_piece (y : FVec F S512x2304 .f32) (x : S512x1024.Idx) :
    extractStridedSlice S512x1024 ![0, 512] y slices_S512x2304_o0_512_S512x1024 x
      = kept y ((Rect.unit (s := S512x1280) ![0, 0] S512x1024.size inb_S512x1280_S512x1024_0_0).emb x) := by
  obtain ⟨p, q, rfl⟩ : ∃ (p : Fin 512) (q : Fin 1024), x = ix2 p q := ⟨x 0, x 1, eq_ix2 x⟩
  rw [left_eq]
  unfold kept
  refine congrArg y (congrArg₂ ix2 (Fin.ext ?_) (Fin.ext ?_))
  · show p.val = 0 + 1 * p.val; omega
  · have hq := q.isLt
    show 512 + q.val = if 0 + 1 * q.val < 1024 then 512 + (0 + 1 * q.val) else 1024 + (0 + 1 * q.val)
    rw [if_pos (by omega)]; omega

theorem right_piece (y : FVec F S512x2304 .f32) (x : S512x256.Idx) :
    extractStridedSlice S512x256 ![0, 2048] y slices_S512x2304_o0_2048_S512x256 x
      = kept y ((Rect.unit (s := S512x1280) ![0, 1024] S512x256.size inb_S512x1280_S512x256_0_1024).emb x) := by
  obtain ⟨p, q, rfl⟩ : ∃ (p : Fin 512) (q : Fin 256), x = ix2 p q := ⟨x 0, x 1, eq_ix2 x⟩
  rw [right_eq]
  unfold kept
  refine congrArg y (congrArg₂ ix2 (Fin.ext ?_) (Fin.ext ?_))
  · show p.val = 0 + 1 * p.val; omega
  · show 2048 + q.val = if 1024 + 1 * q.val < 1024 then 512 + (1024 + 1 * q.val) else 1024 + (1024 + 1 * q.val)
    rw [if_neg (by omega)]; omega

theorem outB4_eq (h : cond0_0 i) : out0_B_4 c i a1 ha1 a2 ha2 a3 ha3 a4 ha4 a5 ha5 h x0 x1 x2 = kept (k0_pay1 i x0 x1 x2) := by
  unfold out0_B_4
  rw [View.read_writes_eq_canon _ _ _ (cover0_B_4 c i a1 ha1 a2 ha2 a3 ha3 a4 ha4 a5 ha5 h x0 x1 x2)]
  funext y
  have hcov := cover0_B_4 c i a1 ha1 a2 ha2 a3 ha3 a4 ha4 a5 ha5 h x0 x1 x2 y
  refine View.canon_apply_of_pieces _ _ ?_ y hcov
  clear hcov
  unfold kernelRun0_B
  dsimp only
  try sl_unfold_words
  simp only [View.readAt_eq_ld, ha1.read_unread, ha2.read_unread, ha3.read_unread, View.ld_unit_zero (S := S512x1024) off2, View.ld_unit_zero (S := S1024x2304) off2]
  intro pc hpc
  rcases List.mem_cons.mp hpc with rfl | hpc
  · exact fun x => right_piece (k0_pay1 i x0 x1 x2) x
  · obtain rfl := List.mem_singleton.mp hpc
    exact fun x => left_piece (k0_pay1 i x0 x1 x2) x

end

/-! ## The block's elements over the extended reals -/

theorem pick_lo {s : Shape} {φ : FTy} (i : grid0.Coords) (hi : (i 0).val < 128) (a b : FVec Ideal s φ) :
    Scalar.select (Scalar.cmpi .slt (BitVec.ofNat 32 (i 0).val) 128#32) a b = a := by
  have e : Scalar.cmpi .slt (BitVec.ofNat 32 (i 0).val) 128#32 = 1#1 := by
    show BitVec.ofBool (BitVec.slt _ _) = _
    have e1 : (BitVec.ofNat 32 (i 0).val).toInt = (i 0).val := by rw [BitVec.toInt_eq_toNat_of_lt (by rw [BitVec.toNat_ofNat]; omega), BitVec.toNat_ofNat]; omega
    rw [BitVec.slt, e1, decide_eq_true (by show ((i 0).val : ℤ) < 128; omega)]
    rfl
  rw [e]; rfl

theorem pick_hi {s : Shape} {φ : FTy} (i : grid0.Coords) (hi : ¬ (i 0).val < 128) (a b : FVec Ideal s φ) :
    Scalar.select (Scalar.cmpi .slt (BitVec.ofNat 32 (i 0).val) 128#32) a b = b := by
  have hlt : (i 0).val < 130 := (i 0).isLt
  have e : Scalar.cmpi .slt (BitVec.ofNat 32 (i 0).val) 128#32 = 0#1 := by
    show BitVec.ofBool (BitVec.slt _ _) = _
    have e1 : (BitVec.ofNat 32 (i 0).val).toInt = (i 0).val := by rw [BitVec.toInt_eq_toNat_of_lt (by rw [BitVec.toNat_ofNat]; omega), BitVec.toNat_ofNat]; omega
    rw [BitVec.slt, e1, decide_eq_false (by show ¬ ((i 0).val : ℤ) < 128; omega)]
    rfl
  rw [e]; rfl

theorem pay1_lo (i : grid0.Coords) (hi : (i 0).val < 128) (x0 x1 : Vec Ideal S512x1024 .f32) (w : Vec Ideal S1024x2304 .bf16) (p : Fin 512) (q : Fin 2304) :
    k0_pay1 i x0 x1 w (ix2 p q) = ∑ k : Fin 1024, x0 (ix2 p k) * w (ix2 k q) := by
  unfold k0_pay1
  dsimp only
  rw [shapeCast_self, shapeCast_self, shapeCast_self, pick_lo i hi]
  refine (Ideal.matmul_plain_apply (M := 512) (K := 1024) (N := 2304) none _ _ _ p q).trans ?_
  exact (congrArg (· + _) Ideal.ofBits_zero_f32).trans (zero_add _)

theorem pay1_hi (i : grid0.Coords) (hi : ¬ (i 0).val < 128) (x0 x1 : Vec Ideal S512x1024 .f32) (w : Vec Ideal S1024x2304 .bf16) (p : Fin 512) (q : Fin 2304) :
    k0_pay1 i x0 x1 w (ix2 p q) = ∑ k : Fin 1024, x1 (ix2 p k) * w (ix2 k q) := by
  unfold k0_pay1
  dsimp only
  rw [shapeCast_self, shapeCast_self, shapeCast_self, pick_hi i hi]
  refine (Ideal.matmul_plain_apply (M := 512) (K := 1024) (N := 2304) none _ _ _ p q).trans ?_
  exact (congrArg (· + _) Ideal.ofBits_zero_f32).trans (zero_add _)

end Cert.InProjBlock

end

end
-- ==== Proof.InProjRef.lean ====
/-
  The plain input projection's nine results, element by element, are the formula.
-/
module

public import proofs.«01_k».proof.Proof.Gen.InProjReferenceIdeal.Read
public import proofs.«01_k».proof.Proof.InProjBlock

@[expose] public section

set_option maxRecDepth 16384

noncomputable section

namespace Cert.InProjRef

open Cert.InProjReferenceIdeal Cert.InProjReferenceIdeal.Gen Cert.InProjReferenceIdeal.Read Cert.InProjBlock
open Idealize.ShloMosaic
open Idealize.ShloMosaic.ValueIdx
open scoped BigOperators

variable (xp : Prompt) (xs : Sample) (w : Weight)

/-! ## The formula at a prompt row, a sample row and a zero row -/

theorem H_prompt (b : Fin 16) (s : Fin 4096) (r : Fin 66560) (hr : r.val = b.val * 4096 + s.val) (q : Fin 2304) :
    H xp xs w r q = ∑ k : Fin 1024, xp (ix3 b s k) * w (ix2 k q) := by
  have hs := s.isLt
  have hb := b.isLt
  unfold H xrow
  refine Finset.sum_congr rfl fun k _ => ?_
  rw [dif_pos (by omega)]
  refine congrArg (· * _) (congrArg xp ?_)
  exact congrArg₂ (fun u v => ix3 u v k) (Fin.ext (by show r.val / 4096 = b.val; omega)) (Fin.ext (by show r.val % 4096 = s.val; omega))

theorem H_sample (b : Fin 8) (s : Fin 32) (r : Fin 66560) (hr : r.val = 65536 + b.val * 32 + s.val) (q : Fin 2304) :
    H xp xs w r q = ∑ k : Fin 1024, xs (ix3 b s k) * w (ix2 k q) := by
  have hs := s.isLt
  have hb := b.isLt
  unfold H xrow
  refine Finset.sum_congr rfl fun k _ => ?_
  rw [dif_neg (by omega), dif_pos (by omega)]
  refine congrArg (· * _) (congrArg xs ?_)
  exact congrArg₂ (fun u v => ix3 u v k) (Fin.ext (by show (r.val - 65536) / 32 = b.val; omega)) (Fin.ext (by show (r.val - 65536) % 32 = s.val; omega))

theorem H_zero (r : Fin 66560) (hr : 65792 ≤ r.val) (q : Fin 2304) : H xp xs w r q = 0 := by
  unfold H xrow
  refine Finset.sum_eq_zero fun k _ => ?_
  rw [dif_neg (by omega), dif_neg (by omega), zero_mul]

/-! ## The two products -/

theorem at0 (b : Fin 16) (s : Fin 4096) (q : Fin 2304) (r : Fin 66560) (hr : r.val = b.val * 4096 + s.val) :
    val_main_v0 (F := Ideal) xp w (ix3 b s q) = H xp xs w r q := by
  rw [val_main_v0_apply, H_prompt xp xs w b s r hr]
  refine Finset.sum_congr rfl fun k _ => congrArg₂ (· * ·) (congrArg xp ?_) (congrArg w ?_)
  · funext a; match a with | ⟨0, _⟩ => rfl | ⟨1, _⟩ => rfl | ⟨2, _⟩ => rfl
  · funext a; match a with | ⟨0, _⟩ => rfl | ⟨1, _⟩ => rfl

theorem at9 (b : Fin 8) (s : Fin 32) (q : Fin 2304) (r : Fin 66560) (hr : r.val = 65536 + b.val * 32 + s.val) :
    val_main_v9 (F := Ideal) xs w (ix3 b s q) = H xp xs w r q := by
  rw [val_main_v9_apply, H_sample xp xs w b s r hr]
  refine Finset.sum_congr rfl fun k _ => congrArg₂ (· * ·) (congrArg xs ?_) (congrArg w ?_)
  · funext a; match a with | ⟨0, _⟩ => rfl | ⟨1, _⟩ => rfl | ⟨2, _⟩ => rfl
  · funext a; match a with | ⟨0, _⟩ => rfl | ⟨1, _⟩ => rfl

/-! ## The sample's keys and values -/

theorem at11 (b : Fin 8) (s : Fin 32) (h : Fin 8) (d : Fin 64) :
    val_main_v11 (F := Ideal) xs w (ix4 b s h d) = H xp xs w (⟨65536 + b.val * 32 + s.val, by omega⟩ : Fin 66560) (⟨512 + (h.val * 64 + d.val), by omega⟩ : Fin 2304) := by
  rw [val_main_v11_apply, val_main_v10_apply, ← at9 xp xs w b s _ _ rfl]
  refine congrArg _ (funext fun a => Fin.ext ?_)
  match a with
  | ⟨0, _⟩ => show (((b.val * 32 + s.val) * 8 + h.val) * 64 + d.val) / 16384 = b.val; omega
  | ⟨1, _⟩ => show (((b.val * 32 + s.val) * 8 + h.val) * 64 + d.val) / 512 % 32 = s.val; omega
  | ⟨2, _⟩ => show 512 + (((b.val * 32 + s.val) * 8 + h.val) * 64 + d.val) % 512 = 512 + (h.val * 64 + d.val); omega

theorem at13 (b : Fin 8) (s : Fin 32) (h : Fin 8) (d : Fin 64) :
    val_main_v13 (F := Ideal) xs w (ix4 b s h d) = H xp xs w (⟨65536 + b.val * 32 + s.val, by omega⟩ : Fin 66560) (⟨1024 + (h.val * 64 + d.val), by omega⟩ : Fin 2304) := by
  rw [val_main_v13_apply, val_main_v12_apply, ← at9 xp xs w b s _ _ rfl]
  refine congrArg _ (funext fun a => Fin.ext ?_)
  match a with
  | ⟨0, _⟩ => show (((b.val * 32 + s.val) * 8 + h.val) * 64 + d.val) / 16384 = b.val; omega
  | ⟨1, _⟩ => show (((b.val * 32 + s.val) * 8 + h.val) * 64 + d.val) / 512 % 32 = s.val; omega
  | ⟨2, _⟩ => show 1024 + (((b.val * 32 + s.val) * 8 + h.val) * 64 + d.val) % 512 = 1024 + (h.val * 64 + d.val); omega

theorem at15 (b : Fin 8) (s : Fin 32) (h : Fin 2) (d : Fin 64) :
    val_main_v15 (F := Ideal) xs w (ix4 b s h d) = H xp xs w (⟨65536 + b.val * 32 + s.val, by omega⟩ : Fin 66560) (⟨2048 + (h.val * 64 + d.val), by omega⟩ : Fin 2304) := by
  rw [val_main_v15_apply, val_main_v14_apply, ← at9 xp xs w b s _ _ rfl]
  refine congrArg _ (funext fun a => Fin.ext ?_)
  match a with
  | ⟨0, _⟩ => show (((b.val * 32 + s.val) * 2 + h.val) * 64 + d.val) / 4096 = b.val; omega
  | ⟨1, _⟩ => show (((b.val * 32 + s.val) * 2 + h.val) * 64 + d.val) / 128 % 32 = s.val; omega
  | ⟨2, _⟩ => show 2048 + (((b.val * 32 + s.val) * 2 + h.val) * 64 + d.val) % 128 = 2048 + (h.val * 64 + d.val); omega

theorem at17 (b : Fin 8) (s : Fin 32) (h : Fin 2) (d : Fin 64) :
    val_main_v17 (F := Ideal) xs w (ix4 b s h d) = H xp xs w (⟨65536 + b.val * 32 + s.val, by omega⟩ : Fin 66560) (⟨2176 + (h.val * 64 + d.val), by omega⟩ : Fin 2304) := by
  rw [val_main_v17_apply, val_main_v16_apply, ← at9 xp xs w b s _ _ rfl]
  refine congrArg _ (funext fun a => Fin.ext ?_)
  match a with
  | ⟨0, _⟩ => show (((b.val * 32 + s.val) * 2 + h.val) * 64 + d.val) / 4096 = b.val; omega
  | ⟨1, _⟩ => show (((b.val * 32 + s.val) * 2 + h.val) * 64 + d.val) / 128 % 32 = s.val; omega
  | ⟨2, _⟩ => show 2176 + (((b.val * 32 + s.val) * 2 + h.val) * 64 + d.val) % 128 = 2176 + (h.val * 64 + d.val); omega

/-! ## The prompt's newest keys and values -/

theorem at23 (b : Fin 16) (s : Fin 512) (h : Fin 8) (d : Fin 64) :
    val_main_v23 (F := Ideal) xp w (ix4 b s h d) = H xp xs w (⟨b.val * 4096 + (3584 + s.val), by omega⟩ : Fin 66560) (⟨512 + (h.val * 64 + d.val), by omega⟩ : Fin 2304) := by
  rw [val_main_v23_apply, val_main_v2_apply, val_main_v1_apply, ← at0 xp xs w b (⟨3584 + s.val, by omega⟩ : Fin 4096) _ _ rfl]
  refine congrArg _ (funext fun a => Fin.ext ?_)
  match a with
  | ⟨0, _⟩ => show (((b.val * 4096 + (3584 + s.val)) * 8 + h.val) * 64 + d.val) / 2097152 = b.val; omega
  | ⟨1, _⟩ => show (((b.val * 4096 + (3584 + s.val)) * 8 + h.val) * 64 + d.val) / 512 % 4096 = 3584 + s.val; omega
  | ⟨2, _⟩ => show 512 + (((b.val * 4096 + (3584 + s.val)) * 8 + h.val) * 64 + d.val) % 512 = 512 + (h.val * 64 + d.val); omega

theorem at24 (b : Fin 16) (s : Fin 512) (h : Fin 8) (d : Fin 64) :
    val_main_v24 (F := Ideal) xp w (ix4 b s h d) = H xp xs w (⟨b.val * 4096 + (3584 + s.val), by omega⟩ : Fin 66560) (⟨1024 + (h.val * 64 + d.val), by omega⟩ : Fin 2304) := by
  rw [val_main_v24_apply, val_main_v4_apply, val_main_v3_apply, ← at0 xp xs w b (⟨3584 + s.val, by omega⟩ : Fin 4096) _ _ rfl]
  refine congrArg _ (funext fun a => Fin.ext ?_)
  match a with
  | ⟨0, _⟩ => show (((b.val * 4096 + (3584 + s.val)) * 8 + h.val) * 64 + d.val) / 2097152 = b.val; omega
  | ⟨1, _⟩ => show (((b.val * 4096 + (3584 + s.val)) * 8 + h.val) * 64 + d.val) / 512 % 4096 = 3584 + s.val; omega
  | ⟨2, _⟩ => show 1024 + (((b.val * 4096 + (3584 + s.val)) * 8 + h.val) * 64 + d.val) % 512 = 1024 + (h.val * 64 + d.val); omega

theorem at25 (b : Fin 16) (s : Fin 128) (h : Fin 2) (d : Fin 64) :
    val_main_v25 (F := Ideal) xp w (ix4 b s h d) = H xp xs w (⟨b.val * 4096 + (3968 + s.val), by omega⟩ : Fin 66560) (⟨2048 + (h.val * 64 + d.val), by omega⟩ : Fin 2304) := by
  rw [val_main_v25_apply, val_main_v6_apply, val_main_v5_apply, ← at0 xp xs w b (⟨3968 + s.val, by omega⟩ : Fin 4096) _ _ rfl]
  refine congrArg _ (funext fun a => Fin.ext ?_)
  match a with
  | ⟨0, _⟩ => show (((b.val * 4096 + (3968 + s.val)) * 2 + h.val) * 64 + d.val) / 524288 = b.val; omega
  | ⟨1, _⟩ => show (((b.val * 4096 + (3968 + s.val)) * 2 + h.val) * 64 + d.val) / 128 % 4096 = 3968 + s.val; omega
  | ⟨2, _⟩ => show 2048 + (((b.val * 4096 + (3968 + s.val)) * 2 + h.val) * 64 + d.val) % 128 = 2048 + (h.val * 64 + d.val); omega

theorem at26 (b : Fin 16) (s : Fin 128) (h : Fin 2) (d : Fin 64) :
    val_main_v26 (F := Ideal) xp w (ix4 b s h d) = H xp xs w (⟨b.val * 4096 + (3968 + s.val), by omega⟩ : Fin 66560) (⟨2176 + (h.val * 64 + d.val), by omega⟩ : Fin 2304) := by
  rw [val_main_v26_apply, val_main_v8_apply, val_main_v7_apply, ← at0 xp xs w b (⟨3968 + s.val, by omega⟩ : Fin 4096) _ _ rfl]
  refine congrArg _ (funext fun a => Fin.ext ?_)
  match a with
  | ⟨0, _⟩ => show (((b.val * 4096 + (3968 + s.val)) * 2 + h.val) * 64 + d.val) / 524288 = b.val; omega
  | ⟨1, _⟩ => show (((b.val * 4096 + (3968 + s.val)) * 2 + h.val) * 64 + d.val) / 128 % 4096 = 3968 + s.val; omega
  | ⟨2, _⟩ => show 2176 + (((b.val * 4096 + (3968 + s.val)) * 2 + h.val) * 64 + d.val) % 128 = 2176 + (h.val * 64 + d.val); omega

/-! ## The projected rows, joined -/

theorem at18 (r : Fin 65536) (q : Fin 2304) : val_main_v18 (F := Ideal) xp w (ix2 r q) = H xp xs w (⟨r.val, by omega⟩ : Fin 66560) q := by
  have hr := r.isLt
  rw [val_main_v18_apply, ← at0 xp xs w (⟨r.val / 4096, by omega⟩ : Fin 16) (⟨r.val % 4096, by omega⟩ : Fin 4096) q _ (by show r.val = r.val / 4096 * 4096 + r.val % 4096; omega)]
  refine congrArg _ (funext fun a => Fin.ext ?_)
  have hq := q.isLt
  match a with
  | ⟨0, _⟩ => show (r.val * 2304 + q.val) / 9437184 = r.val / 4096; omega
  | ⟨1, _⟩ => show (r.val * 2304 + q.val) / 2304 % 4096 = r.val % 4096; omega
  | ⟨2, _⟩ => show (r.val * 2304 + q.val) % 2304 = q.val; omega

theorem at19 (r : Fin 256) (q : Fin 2304) : val_main_v19 (F := Ideal) xs w (ix2 r q) = H xp xs w (⟨65536 + r.val, by omega⟩ : Fin 66560) q := by
  have hr := r.isLt
  rw [val_main_v19_apply, ← at9 xp xs w (⟨r.val / 32, by omega⟩ : Fin 8) (⟨r.val % 32, by omega⟩ : Fin 32) q _ (by show 65536 + r.val = 65536 + r.val / 32 * 32 + r.val % 32; omega)]
  refine congrArg _ (funext fun a => Fin.ext ?_)
  have hq := q.isLt
  match a with
  | ⟨0, _⟩ => show (r.val * 2304 + q.val) / 73728 = r.val / 32; omega
  | ⟨1, _⟩ => show (r.val * 2304 + q.val) / 2304 % 32 = r.val % 32; omega
  | ⟨2, _⟩ => show (r.val * 2304 + q.val) % 2304 = q.val; omega

theorem at20 (r : Fin 768) (q : Fin 2304) : val_main_v20 (F := Ideal) (ix2 r q) = 0 := by
  rw [val_main_v20_apply]; exact Ideal.ofBits_zero_f32

/-- Three arrays joined by rows, at a row of the first, the second and the third. -/
theorem join1 (x : S65536x2304.Idx → EReal) (y : S256x2304.Idx → EReal) (z : S768x2304.Idx → EReal) (h) (r : Fin 66560) (q : Fin 2304) (r' : Fin 65536) (hr : r.val = r'.val) :
    concatenate S66560x2304 0 [⟨S65536x2304, x⟩, ⟨S256x2304, y⟩, ⟨S768x2304, z⟩] h (ix2 r q) = x (ix2 r' q) :=
  concatenate_apply_piece (t := S66560x2304) 0 [⟨S65536x2304, x⟩, ⟨S256x2304, y⟩, ⟨S768x2304, z⟩] h (ix2 r q) 0 (by simp) S65536x2304 x rfl rfl 0 rfl (ix2 r' q)
    (fun b hb => match b with | ⟨0, _⟩ => absurd rfl hb | ⟨1, _⟩ => rfl) (by show 0 + r'.val = r.val; omega)

theorem join2 (x : S65536x2304.Idx → EReal) (y : S256x2304.Idx → EReal) (z : S768x2304.Idx → EReal) (h) (r : Fin 66560) (q : Fin 2304) (r' : Fin 256) (hr : r.val = 65536 + r'.val) :
    concatenate S66560x2304 0 [⟨S65536x2304, x⟩, ⟨S256x2304, y⟩, ⟨S768x2304, z⟩] h (ix2 r q) = y (ix2 r' q) :=
  concatenate_apply_piece (t := S66560x2304) 0 [⟨S65536x2304, x⟩, ⟨S256x2304, y⟩, ⟨S768x2304, z⟩] h (ix2 r q) 1 (by simp) S256x2304 y rfl rfl 65536 (by simp) (ix2 r' q)
    (fun b hb => match b with | ⟨0, _⟩ => absurd rfl hb | ⟨1, _⟩ => rfl) hr.symm

theorem join3 (x : S65536x2304.Idx → EReal) (y : S256x2304.Idx → EReal) (z : S768x2304.Idx → EReal) (h) (r : Fin 66560) (q : Fin 2304) (r' : Fin 768) (hr : r.val = 65792 + r'.val) :
    concatenate S66560x2304 0 [⟨S65536x2304, x⟩, ⟨S256x2304, y⟩, ⟨S768x2304, z⟩] h (ix2 r q) = z (ix2 r' q) :=
  concatenate_apply_piece (t := S66560x2304) 0 [⟨S65536x2304, x⟩, ⟨S256x2304, y⟩, ⟨S768x2304, z⟩] h (ix2 r q) 2 (by simp) S768x2304 z rfl rfl 65792 (by simp) (ix2 r' q)
    (fun b hb => match b with | ⟨0, _⟩ => absurd rfl hb | ⟨1, _⟩ => rfl) hr.symm

theorem at21 (r : Fin 66560) (q : Fin 2304) : val_main_v21 (F := Ideal) xp xs w (ix2 r q) = H xp xs w r q := by
  have hr := r.isLt
  unfold val_main_v21
  by_cases h1 : r.val < 65536
  · exact (join1 _ _ _ _ r q ⟨r.val, h1⟩ rfl).trans (at18 xp xs w _ q)
  · by_cases h2 : r.val < 65792
    · refine (join2 _ _ _ _ r q ⟨r.val - 65536, by omega⟩ (by show r.val = 65536 + (r.val - 65536); omega)).trans ((at19 xp xs w _ q).trans ?_)
      exact congrArg (fun u => H xp xs w u q) (Fin.ext (by show 65536 + (r.val - 65536) = r.val; omega))
    · refine (join3 _ _ _ _ r q ⟨r.val - 65792, by omega⟩ (by show r.val = 65792 + (r.val - 65792); omega)).trans ((at20 _ q).trans ?_)
      exact (H_zero xp xs w r (by omega) q).symm

theorem rounded (y : EReal) : FloatOps.truncf (F := Ideal) .bf16 bitsLt_bf16_f32 y = y := rfl

theorem at22 (r : Fin 66560) (q : Fin 2304) : val_main_v22 (F := Ideal) xp xs w (ix2 r q) = H xp xs w r q := by
  have e := at21 xp xs w r q
  rw [val_main_v22_apply]
  generalize val_main_v21 (F := Ideal) xp xs w (ix2 r q) = y at e ⊢
  exact e

end Cert.InProjRef

end

end
-- ==== Proof.InProjValue.lean ====
/-
  The arrays and the results of the input projection call over the extended reals: every projected row, and the kept keys
  and values cut from the projected rows.
-/
module

public import proofs.«01_k».proof.Proof.InProjBlock
public import Idealize.ShloMosaic.Lib.Pipeline.ValueKit.Point

@[expose] public section

set_option maxRecDepth 16384

noncomputable section

namespace Cert.InProjValue

open Cert.InProjIdeal Cert.InProjIdeal.Gen Cert.InProjBlock
open Idealize.ShloMosaic hiding ix1 ix2 ix3 ix4 eq_ix1 eq_ix2 eq_ix3
open Idealize.ShloMosaic.TcCoe Idealize.ShloMosaic.ValueIdx Idealize.SL.Sem
open Idealize.ShloMosaic.Pipeline (Dat)
open scoped BigOperators

variable (m : (ℓ : Loc nD τ sig) → Buf (Elt Ideal) ℓ) (c : Dev nD)

abbrev aP : Prompt := m ((c : Thread nD τ).loc main_arg0)
abbrev aS : Sample := m ((c : Thread nD τ).loc main_arg1)
abbrev aW : Weight := m ((c : Thread nD τ).loc main_arg2)

/-! ## The arrays the pipeline finds -/

theorem V_v0 : (V m c main_v0 : S65536x1024.Idx → EReal) = shapeCast S65536x1024 (aP m c) shapeCasts_S16x4096x1024_S65536x1024 := by
  unfold V V0; simp only [hostOps0, List.flatten_cons, List.flatten_nil, List.cons_append, List.nil_append, List.append_nil]; after_results; rfl

theorem V_v3 : (V m c main_v3 : S1024x1024.Idx → EReal) = concatenate S1024x1024 0 [⟨S256x1024, shapeCast S256x1024 (aS m c) shapeCasts_S8x32x1024_S256x1024⟩,
    ⟨S768x1024, broadcastInDim S768x1024 ![] bcast_S_S768x1024 (constant (F := Ideal) S_ .f32 0x00000000#32)⟩] concatenates_S256x1024_S768x1024_S1024x1024_d0 := by
  unfold V V0; simp only [hostOps0, List.flatten_cons, List.flatten_nil, List.cons_append, List.nil_append, List.append_nil]; after_results; rfl

theorem V_v4 : (V m c main_v4 : Weight) = aW m c := by
  unfold V V0; simp only [hostOps0, List.flatten_cons, List.flatten_nil, List.cons_append, List.nil_append, List.append_nil]; after_results; rfl

/-- A row of the prompt's array. -/
theorem rows0 (r : Fin 65536) (k : Fin 1024) (r' : Fin 66560) (hr : r'.val = r.val) : (V m c main_v0 : S65536x1024.Idx → EReal) (ix2 r k) = xrow (aP m c) (aS m c) r' k := by
  have h := r.isLt
  rw [V_v0]
  unfold xrow
  rw [dif_pos (by omega)]
  refine shapeCast_apply _ _ (ix2 r k) _ ?_
  rw [Shape.rowMajor_val_three, Shape.rowMajor_val_two]
  show ((r'.val / 4096) * 4096 + r'.val % 4096) * 1024 + k.val = r.val * 1024 + k.val
  omega

/-- A row of the sample's padded array. -/
theorem rows3 (r : Fin 1024) (k : Fin 1024) (r' : Fin 66560) (hr : r'.val = 65536 + r.val) : (V m c main_v3 : S1024x1024.Idx → EReal) (ix2 r k) = xrow (aP m c) (aS m c) r' k := by
  rw [V_v3]
  unfold xrow
  rw [dif_neg (by omega)]
  by_cases h : r.val < 256
  · rw [dif_pos (by omega)]
    refine (concatenate_pair_apply_left (s₁ := S256x1024) (s₂ := S768x1024) (t := S1024x1024) 0 _ _ _ (ix2 r k) rfl (ix2 (⟨r.val, h⟩ : Fin 256) k)
      (fun a => match a with | ⟨0, _⟩ => rfl | ⟨1, _⟩ => rfl)).trans ?_
    refine shapeCast_apply _ _ (ix2 (⟨r.val, h⟩ : Fin 256) k) _ ?_
    rw [Shape.rowMajor_val_three, Shape.rowMajor_val_two]
    show ((r'.val - 65536) / 32 * 32 + (r'.val - 65536) % 32) * 1024 + k.val = r.val * 1024 + k.val
    omega
  · have hr' := r.isLt
    rw [dif_neg (by omega)]
    refine (concatenate_pair_apply_right (s₁ := S256x1024) (s₂ := S768x1024) (t := S1024x1024) 0 _ _ _ (ix2 r k) rfl rfl (ix2 (⟨r.val - 256, by omega⟩ : Fin 768) k)
      (fun a => match a with | ⟨0, _⟩ => fun hb => absurd rfl hb | ⟨1, _⟩ => fun _ => rfl) (by show (r.val - 256) + 256 = r.val; omega)).trans ?_
    exact Ideal.ofBits_zero_f32

/-! ## The points -/

theorem coord_val (t : Fin cfg0.N) : (grid0.coords t 0).val = t.val :=
  (by decide +kernel : ∀ t : Fin grid0.N, (grid0.coords t 0).val = t.val) t

theorem index0 : ∀ t : Fin cfg0.N, t.val < 128 → (cfg0.win 0).index t = ![t.val, 0] :=
  (by decide +kernel : ∀ t : Fin grid0.N, t.val < 128 → win0_0.index t = ![t.val, 0])
theorem index1 : ∀ t : Fin cfg0.N, ¬ t.val < 128 → (cfg0.win 1).index t = ![t.val - 128, 0] :=
  (by decide +kernel : ∀ t : Fin grid0.N, ¬ t.val < 128 → win0_1.index t = ![t.val - 128, 0])
theorem index2 (t : Fin cfg0.N) : (cfg0.win 2).index t = ![0, 0] := rfl
theorem index3 : ∀ t : Fin cfg0.N, (cfg0.win 3).index t = ![t.val, 0] :=
  (by decide +kernel : ∀ t : Fin grid0.N, win0_3.index t = ![t.val, 0])
theorem index4 : ∀ t : Fin cfg0.N, (cfg0.win 4).index t = ![if t.val < 128 then t.val / 8 else t.val - 112, 0] :=
  (by decide +kernel : ∀ t : Fin grid0.N, win0_4.index t = ![if t.val < 128 then t.val / 8 else t.val - 112, 0])

theorem blk0 (t : Fin cfg0.N) (ht : t.val < 128) (p : Fin 512) (k : Fin 1024) (r : Fin 66560) (hr : r.val = t.val * 512 + p.val) :
    iblk m c 0 t (ix2 p k : S512x1024.Idx) = xrow (aP m c) (aS m c) r k := by
  have hp := p.isLt
  have e : iblk m c 0 t (ix2 p k : S512x1024.Idx) = (V m c main_v0 : S65536x1024.Idx → EReal) (ix2 (⟨t.val * 512 + p.val, by omega⟩ : Fin 65536) k) := by
    show (V m c main_v0 : S65536x1024.Idx → EReal) _ = _
    refine congrArg _ (funext fun a => Fin.ext ?_)
    refine (Pipeline.Window.rect_emb_val (cfg0.win 0) t (ix2 p k : S512x1024.Idx) a).trans ?_
    rw [index0 t ht]
    match a with
    | ⟨0, _⟩ => rfl
    | ⟨1, _⟩ => exact (by omega : 0 * 1024 + k.val = k.val)
  exact e.trans (rows0 m c _ k r hr)

theorem blk1 (t : Fin cfg0.N) (ht : ¬ t.val < 128) (p : Fin 512) (k : Fin 1024) (r : Fin 66560) (hr : r.val = t.val * 512 + p.val) :
    iblk m c 1 t (ix2 p k : S512x1024.Idx) = xrow (aP m c) (aS m c) r k := by
  have hp := p.isLt
  have hN : t.val < 130 := lt_of_lt_of_eq t.isLt (show cfg0.N = 130 from N_0)
  have e : iblk m c 1 t (ix2 p k : S512x1024.Idx) = (V m c main_v3 : S1024x1024.Idx → EReal) (ix2 (⟨(t.val - 128) * 512 + p.val, by omega⟩ : Fin 1024) k) := by
    show (V m c main_v3 : S1024x1024.Idx → EReal) _ = _
    refine congrArg _ (funext fun a => Fin.ext ?_)
    refine (Pipeline.Window.rect_emb_val (cfg0.win 1) t (ix2 p k : S512x1024.Idx) a).trans ?_
    rw [index1 t ht]
    match a with
    | ⟨0, _⟩ => rfl
    | ⟨1, _⟩ => exact (by omega : 0 * 1024 + k.val = k.val)
  exact e.trans (rows3 m c _ k r (by show r.val = 65536 + ((t.val - 128) * 512 + p.val); omega))

theorem blk2 (t : Fin cfg0.N) (k : Fin 1024) (q : Fin 2304) : iblk m c 2 t (ix2 k q : S1024x2304.Idx) = aW m c (ix2 k q) := by
  have e : iblk m c 2 t (ix2 k q : S1024x2304.Idx) = (V m c main_v4 : Weight) (ix2 k q) := by
    show (V m c main_v4 : Weight) _ = _
    refine congrArg _ (funext fun a => Fin.ext ?_)
    refine (Pipeline.Window.rect_emb_val (cfg0.win 2) t (ix2 k q : S1024x2304.Idx) a).trans ?_
    rw [index2]
    match a with
    | ⟨0, _⟩ => exact (by omega : 0 * 1024 + k.val = k.val)
    | ⟨1, _⟩ => exact (by omega : 0 * 2304 + q.val = q.val)
  exact e.trans (congrFun (V_v4 m c) _)

/-- Every grid point projects its own rows. -/
theorem point (t : Fin cfg0.N) (p : Fin 512) (q : Fin 2304) (r : Fin 66560) (hr : r.val = t.val * 512 + p.val) :
    k0_pay1 (F := Ideal) (grid0.coords t) (iblk m c 0 t) (iblk m c 1 t) (iblk m c 2 t) (ix2 p q) = H (aP m c) (aS m c) (aW m c) r q := by
  by_cases ht : t.val < 128
  · refine (pay1_lo (grid0.coords t) (by rw [coord_val]; exact ht) (iblk m c 0 t) (iblk m c 1 t) (iblk m c 2 t) p q).trans ?_
    unfold H
    exact Finset.sum_congr rfl fun k _ => congrArg₂ (· * ·) (blk0 m c t ht p k r hr) (blk2 m c t k q)
  · refine (pay1_hi (grid0.coords t) (by rw [coord_val]; exact ht) (iblk m c 0 t) (iblk m c 1 t) (iblk m c 2 t) p q).trans ?_
    unfold H
    exact Finset.sum_congr rfl fun k _ => congrArg₂ (· * ·) (blk1 m c t ht p k r hr) (blk2 m c t k q)

/-! ## The projected rows' array -/

def rowsOut : S66560x2304.Idx → EReal := fun j => H (aP m c) (aS m c) (aW m c) (j 0) (j 1)

/-- The stored rows are the projected rows: rounding to the narrow type changes nothing here. -/
theorem rounded (i : grid0.Coords) (x0 x1 : Vec Ideal S512x1024 .f32) (w : Vec Ideal S1024x2304 .bf16) (y : S512x2304.Idx) : k0_pay2 i x0 x1 w y = k0_pay1 i x0 x1 w y := rfl

theorem outs3 (t : Fin cfg0.N) : (outsAt0 m c t.val t.isLt).1 = k0_pay2 (F := Ideal) (grid0.coords t) (iblk m c 0 t) (iblk m c 1 t) (iblk m c 2 t) := by
  by_cases h0 : (t.val % 130 = 7 ∨ t.val % 130 = 15 ∨ t.val % 130 = 23 ∨ t.val % 130 = 31 ∨ t.val % 130 = 39 ∨ t.val % 130 = 47 ∨ t.val % 130 = 55 ∨ t.val % 130 = 63 ∨ t.val % 130 = 71 ∨ t.val % 130 = 79 ∨ t.val % 130 = 87 ∨ t.val % 130 = 95 ∨ t.val % 130 = 103 ∨ t.val % 130 = 111 ∨ t.val % 130 = 119 ∨ t.val % 130 = 127 ∨ t.val % 130 = 128 ∨ t.val % 130 = 129)
  · have e := congrArg Prod.fst (outsAt0_B m c t h0)
    dsimp only at e
    exact e.trans (outB3_eq (F := Ideal) c (grid0.coords t) (ms0_0 t) (hs0_0 t) (ms0_1 t) (hs0_1 t) (ms0_2 t) (hs0_2 t) (ms0_3 t) (hs0_3 t) (ms0_4 t) (hs0_4 t) (iblk m c 0 t) (iblk m c 1 t) (iblk m c 2 t) _)
  · have e := congrArg Prod.fst (outsAt0_A m c t h0)
    dsimp only at e
    exact e.trans (outA3_eq (F := Ideal) c (grid0.coords t) (ms0_0 t) (hs0_0 t) (ms0_1 t) (hs0_1 t) (ms0_2 t) (hs0_2 t) (ms0_3 t) (hs0_3 t) (ms0_4 t) (hs0_4 t) (iblk m c 0 t) (iblk m c 1 t) (iblk m c 2 t) _)

theorem emb3 (t : Fin cfg0.N) (p : Fin 512) (q : Fin 2304) (r : Fin 66560) (hr : r.val = t.val * 512 + p.val) :
    ((cfg0.win 3).blk t).view.emb (ix2 p q : S512x2304.Idx) = (ix2 r q : S66560x2304.Idx) := by
  refine funext fun a => Fin.ext ?_
  refine (Pipeline.Window.rect_emb_val (cfg0.win 3) t (ix2 p q : S512x2304.Idx) a).trans ?_
  rw [index3 t]
  match a with
  | ⟨0, _⟩ => exact hr.symm
  | ⟨1, _⟩ => exact (by omega : 0 * 2304 + q.val = q.val)

theorem rows_emb (t : Fin cfg0.N) (y : S512x2304.Idx) : (outsAt0 m c t.val t.isLt).1 y = rowsOut m c (((cfg0.win 3).blk t).view.emb y) := by
  have hN : t.val < 130 := lt_of_lt_of_eq t.isLt (show cfg0.N = 130 from N_0)
  obtain ⟨p, q, rfl⟩ : ∃ (p : Fin 512) (q : Fin 2304), y = ix2 p q := ⟨y 0, y 1, eq_ix2 y⟩
  refine (congrFun (outs3 m c t) (ix2 p q)).trans ((rounded _ _ _ _ _).trans ((point m c t p q ⟨t.val * 512 + p.val, by have := p.isLt; omega⟩ rfl).trans ?_))
  exact congrArg (rowsOut m c) (emb3 t p q _ rfl).symm

theorem rows_covered (i : S66560x2304.Idx) : ∃ t : Fin cfg0.N, (cfg0.win 3).flush t = true ∧ i ∈ ((cfg0.win 3).blk t).view.set := by
  obtain ⟨r, q, rfl⟩ : ∃ (r : Fin 66560) (q : Fin 2304), i = ix2 r q := ⟨i 0, i 1, eq_ix2 i⟩
  have hr := r.isLt
  let t : Fin cfg0.N := (⟨r.val / 512, by omega⟩ : Fin 130)
  have h := emb3 t ⟨r.val % 512, Nat.mod_lt _ (by decide)⟩ q r (by show r.val = r.val / 512 * 512 + r.val % 512; omega)
  exact ⟨t, flush0_3 t, h ▸ View.emb_mem_set _ _⟩

theorem rows_eq : (dats m 0 c).arrAt 3 cfg0.N = rowsOut m c :=
  (dats m 0 c).arrAt_eq_of_emb 3 (rowsOut m c) (fun t _ y => (congrFun (after0_3 m c t) _).trans (rows_emb m c t y)) (fun i => rows_covered i)

/-! ## The kept keys' and values' array -/

def keptOut : S9216x1280.Idx → EReal := fun j => H (aP m c) (aS m c) (aW m c) (kvrow (j 0)) (kvcol (j 1))

/-- The points that write a block of the kept rows: each prompt's last, and the sample's two. -/
theorem flush4 : ∀ t : Fin cfg0.N, (cfg0.win 4).flush t = true ↔ (t.val % 8 = 7 ∨ 128 ≤ t.val) :=
  (by decide +kernel : ∀ t : Fin grid0.N, win0_4.flush t = true ↔ (t.val % 8 = 7 ∨ 128 ≤ t.val))

theorem closed : ∀ t : Fin cfg0.N, (t.val % 8 = 7 ∨ 128 ≤ t.val) →
    (t.val % 130 = 7 ∨ t.val % 130 = 15 ∨ t.val % 130 = 23 ∨ t.val % 130 = 31 ∨ t.val % 130 = 39 ∨ t.val % 130 = 47 ∨ t.val % 130 = 55 ∨ t.val % 130 = 63 ∨ t.val % 130 = 71 ∨ t.val % 130 = 79 ∨ t.val % 130 = 87 ∨ t.val % 130 = 95 ∨ t.val % 130 = 103 ∨ t.val % 130 = 111 ∨ t.val % 130 = 119 ∨ t.val % 130 = 127 ∨ t.val % 130 = 128 ∨ t.val % 130 = 129) :=
  (by decide +kernel : ∀ t : Fin 130, (t.val % 8 = 7 ∨ 128 ≤ t.val) →
    (t.val % 130 = 7 ∨ t.val % 130 = 15 ∨ t.val % 130 = 23 ∨ t.val % 130 = 31 ∨ t.val % 130 = 39 ∨ t.val % 130 = 47 ∨ t.val % 130 = 55 ∨ t.val % 130 = 63 ∨ t.val % 130 = 71 ∨ t.val % 130 = 79 ∨ t.val % 130 = 87 ∨ t.val % 130 = 95 ∨ t.val % 130 = 103 ∨ t.val % 130 = 111 ∨ t.val % 130 = 119 ∨ t.val % 130 = 127 ∨ t.val % 130 = 128 ∨ t.val % 130 = 129))

theorem outs4 (t : Fin cfg0.N) (ht : t.val % 8 = 7 ∨ 128 ≤ t.val) :
    (outsAt0 m c t.val t.isLt).2 = kept (k0_pay1 (F := Ideal) (grid0.coords t) (iblk m c 0 t) (iblk m c 1 t) (iblk m c 2 t)) := by
  have e := congrArg Prod.snd (outsAt0_B m c t (closed t ht))
  dsimp only at e
  exact e.trans (outB4_eq (F := Ideal) c (grid0.coords t) (ms0_0 t) (hs0_0 t) (ms0_1 t) (hs0_1 t) (ms0_2 t) (hs0_2 t) (ms0_3 t) (hs0_3 t) (ms0_4 t) (hs0_4 t) (iblk m c 0 t) (iblk m c 1 t) (iblk m c 2 t) _)

theorem emb4 (t : Fin cfg0.N) (p : Fin 512) (q : Fin 1280) (r : Fin 9216) (hr : r.val = (if t.val < 128 then t.val / 8 else t.val - 112) * 512 + p.val) :
    ((cfg0.win 4).blk t).view.emb (ix2 p q : S512x1280.Idx) = (ix2 r q : S9216x1280.Idx) := by
  refine funext fun a => Fin.ext ?_
  refine (Pipeline.Window.rect_emb_val (cfg0.win 4) t (ix2 p q : S512x1280.Idx) a).trans ?_
  rw [index4 t]
  match a with
  | ⟨0, _⟩ => exact hr.symm
  | ⟨1, _⟩ => exact (by omega : 0 * 1280 + q.val = q.val)

theorem kept_emb (t : Fin cfg0.N) (ht : t.val % 8 = 7 ∨ 128 ≤ t.val) (y : S512x1280.Idx) : (outsAt0 m c t.val t.isLt).2 y = keptOut m c (((cfg0.win 4).blk t).view.emb y) := by
  have hN : t.val < 130 := lt_of_lt_of_eq t.isLt (show cfg0.N = 130 from N_0)
  obtain ⟨p, q, rfl⟩ : ∃ (p : Fin 512) (q : Fin 1280), y = ix2 p q := ⟨y 0, y 1, eq_ix2 y⟩
  have hp := p.isLt
  have hR : (if t.val < 128 then t.val / 8 else t.val - 112) * 512 + p.val < 9216 := by split <;> omega
  refine (congrFun (outs4 m c t ht) (ix2 p q)).trans ((point m c t p (kvcol q) (kvrow ⟨_, hR⟩) ?_).trans ?_)
  · show (if (if t.val < 128 then t.val / 8 else t.val - 112) * 512 + p.val < 8192 then ((if t.val < 128 then t.val / 8 else t.val - 112) * 512 + p.val) / 512 * 4096 + 3584 + ((if t.val < 128 then t.val / 8 else t.val - 112) * 512 + p.val) % 512
      else 57344 + ((if t.val < 128 then t.val / 8 else t.val - 112) * 512 + p.val)) = t.val * 512 + p.val
    by_cases h : t.val < 128
    · simp only [if_pos h]
      rw [if_pos (by omega)]; omega
    · simp only [if_neg h]
      rw [if_neg (by omega)]; omega
  · exact congrArg (keptOut m c) (emb4 t p q _ rfl).symm

theorem kept_covered (i : S9216x1280.Idx) : ∃ t : Fin cfg0.N, (cfg0.win 4).flush t = true ∧ i ∈ ((cfg0.win 4).blk t).view.set := by
  obtain ⟨r, q, rfl⟩ : ∃ (r : Fin 9216) (q : Fin 1280), i = ix2 r q := ⟨i 0, i 1, eq_ix2 i⟩
  have hr := r.isLt
  by_cases hlt : r.val < 8192
  · let t : Fin cfg0.N := (⟨r.val / 512 * 8 + 7, by omega⟩ : Fin 130)
    have h := emb4 t ⟨r.val % 512, Nat.mod_lt _ (by decide)⟩ q r (by
      show r.val = (if r.val / 512 * 8 + 7 < 128 then (r.val / 512 * 8 + 7) / 8 else r.val / 512 * 8 + 7 - 112) * 512 + r.val % 512
      rw [if_pos (by omega)]; omega)
    exact ⟨t, (flush4 t).2 (.inl (by show (r.val / 512 * 8 + 7) % 8 = 7; omega)), h ▸ View.emb_mem_set _ _⟩
  · let t : Fin cfg0.N := (⟨r.val / 512 + 112, by omega⟩ : Fin 130)
    have h := emb4 t ⟨r.val % 512, Nat.mod_lt _ (by decide)⟩ q r (by
      show r.val = (if r.val / 512 + 112 < 128 then (r.val / 512 + 112) / 8 else r.val / 512 + 112 - 112) * 512 + r.val % 512
      rw [if_neg (by omega)]; omega)
    exact ⟨t, (flush4 t).2 (.inr (by show 128 ≤ r.val / 512 + 112; omega)), h ▸ View.emb_mem_set _ _⟩

theorem kept_eq : (dats m 0 c).arrAt 4 cfg0.N = keptOut m c :=
  (dats m 0 c).arrAt_eq_of_emb 4 (keptOut m c) (fun t ht y => (congrFun (after0_4 m c t) _).trans (kept_emb m c t ((flush4 t).1 ht) y)) (fun i => kept_covered i)

end Cert.InProjValue

end

end
-- ==== Proof.InProjTail.lean ====
/-
  The kept keys and values the call returns: what the operations after its grid cut from the kept rows' array.
-/
module

public import proofs.«01_k».proof.Proof.InProjValue

@[expose] public section

set_option maxRecDepth 16384

noncomputable section

namespace Cert.InProjTail

open Cert.InProjIdeal Cert.InProjIdeal.Gen Cert.InProjBlock Cert.InProjValue
open Idealize.ShloMosaic hiding ix1 ix2 ix3 ix4 eq_ix1 eq_ix2 eq_ix3
open Idealize.ShloMosaic.TcCoe Idealize.ShloMosaic.ValueIdx Idealize.SL.Sem

/-! ## The operations after the grid, of any kept rows -/

section
variable {α : Type}

def promptRows (T : S9216x1280.Idx → α) : S16x512x1280.Idx → α :=
  shapeCast S16x512x1280 (extractStridedSlice S8192x1280 ![0, 0] T slices_S9216x1280_S8192x1280_0_0) shapeCasts_S8192x1280_S16x512x1280
def sampleRows (T : S9216x1280.Idx → α) : S8x32x1280.Idx → α :=
  shapeCast S8x32x1280 (extractStridedSlice S256x1280 ![8192, 0] T slices_S9216x1280_S256x1280_8192_0) shapeCasts_S256x1280_S8x32x1280

theorem promptRows_apply (T : S9216x1280.Idx → α) (b : Fin 16) (s : Fin 512) (q : Fin 1280) :
    promptRows T (ix3 b s q) = T (ix2 (⟨b.val * 512 + s.val, by omega⟩ : Fin 9216) q) := by
  unfold promptRows
  refine (shapeCast_apply _ _ (ix3 b s q) (ix2 (⟨b.val * 512 + s.val, by omega⟩ : Fin 8192) q) (by rw [Shape.rowMajor_val_two, Shape.rowMajor_val_three]; rfl)).trans ?_
  exact extractStridedSlice_apply ![0, 0] T _ (ix2 (⟨b.val * 512 + s.val, by omega⟩ : Fin 8192) q) (ix2 (⟨b.val * 512 + s.val, by omega⟩ : Fin 9216) q) (fun a => match a with
    | ⟨0, _⟩ => (Nat.zero_add _).symm
    | ⟨1, _⟩ => (Nat.zero_add _).symm)

theorem sampleRows_apply (T : S9216x1280.Idx → α) (b : Fin 8) (s : Fin 32) (q : Fin 1280) :
    sampleRows T (ix3 b s q) = T (ix2 (⟨8192 + (b.val * 32 + s.val), by omega⟩ : Fin 9216) q) := by
  unfold sampleRows
  refine (shapeCast_apply _ _ (ix3 b s q) (ix2 (⟨b.val * 32 + s.val, by omega⟩ : Fin 256) q) (by rw [Shape.rowMajor_val_two, Shape.rowMajor_val_three]; rfl)).trans ?_
  exact extractStridedSlice_apply ![8192, 0] T _ (ix2 (⟨b.val * 32 + s.val, by omega⟩ : Fin 256) q) (ix2 (⟨8192 + (b.val * 32 + s.val), by omega⟩ : Fin 9216) q) (fun a => match a with
    | ⟨0, _⟩ => rfl
    | ⟨1, _⟩ => (Nat.zero_add _).symm)

/-- Eight heads of 64 cut at column `o`. -/
theorem promptA (y : S16x512x1280.Idx → α) (o : ℕ) (ho : o + 512 ≤ 1280) (h) (h') (b : Fin 16) (s : Fin 512) (n : Fin 8) (d : Fin 64) :
    shapeCast S16x512x8x64 (extractStridedSlice S16x512x512 ![0, 0, o] y h) h' (ix4 b s n d) = y (ix3 b s (⟨o + (n.val * 64 + d.val), by omega⟩ : Fin 1280)) := by
  refine (shapeCast_apply _ _ (ix4 b s n d) (ix3 b s (⟨n.val * 64 + d.val, by omega⟩ : Fin 512)) (by
    rw [Shape.rowMajor_val_three, Shape.rowMajor_val_four]
    show (b.val * 512 + s.val) * 512 + (n.val * 64 + d.val) = ((b.val * 512 + s.val) * 8 + n.val) * 64 + d.val; omega)).trans ?_
  exact extractStridedSlice_apply ![0, 0, o] y _ (ix3 b s (⟨n.val * 64 + d.val, by omega⟩ : Fin 512)) (ix3 b s (⟨o + (n.val * 64 + d.val), by omega⟩ : Fin 1280)) (fun a => match a with
    | ⟨0, _⟩ => (Nat.zero_add _).symm
    | ⟨1, _⟩ => (Nat.zero_add _).symm
    | ⟨2, _⟩ => rfl)

theorem promptB (y : S16x512x1280.Idx → α) (o : ℕ) (ho : o + 128 ≤ 1280) (h) (h') (b : Fin 16) (s : Fin 128) (n : Fin 2) (d : Fin 64) :
    shapeCast S16x128x2x64 (extractStridedSlice S16x128x128 ![0, 384, o] y h) h' (ix4 b s n d)
      = y (ix3 b (⟨384 + s.val, by omega⟩ : Fin 512) (⟨o + (n.val * 64 + d.val), by omega⟩ : Fin 1280)) := by
  refine (shapeCast_apply _ _ (ix4 b s n d) (ix3 b s (⟨n.val * 64 + d.val, by omega⟩ : Fin 128)) (by
    rw [Shape.rowMajor_val_three, Shape.rowMajor_val_four]
    show (b.val * 128 + s.val) * 128 + (n.val * 64 + d.val) = ((b.val * 128 + s.val) * 2 + n.val) * 64 + d.val; omega)).trans ?_
  exact extractStridedSlice_apply ![0, 384, o] y _ (ix3 b s (⟨n.val * 64 + d.val, by omega⟩ : Fin 128)) (ix3 b (⟨384 + s.val, by omega⟩ : Fin 512) (⟨o + (n.val * 64 + d.val), by omega⟩ : Fin 1280)) (fun a => match a with
    | ⟨0, _⟩ => (Nat.zero_add _).symm
    | ⟨1, _⟩ => rfl
    | ⟨2, _⟩ => rfl)

theorem sampleA (y : S8x32x1280.Idx → α) (o : ℕ) (ho : o + 512 ≤ 1280) (h) (h') (b : Fin 8) (s : Fin 32) (n : Fin 8) (d : Fin 64) :
    shapeCast S8x32x8x64 (extractStridedSlice S8x32x512 ![0, 0, o] y h) h' (ix4 b s n d) = y (ix3 b s (⟨o + (n.val * 64 + d.val), by omega⟩ : Fin 1280)) := by
  refine (shapeCast_apply _ _ (ix4 b s n d) (ix3 b s (⟨n.val * 64 + d.val, by omega⟩ : Fin 512)) (by
    rw [Shape.rowMajor_val_three, Shape.rowMajor_val_four]
    show (b.val * 32 + s.val) * 512 + (n.val * 64 + d.val) = ((b.val * 32 + s.val) * 8 + n.val) * 64 + d.val; omega)).trans ?_
  exact extractStridedSlice_apply ![0, 0, o] y _ (ix3 b s (⟨n.val * 64 + d.val, by omega⟩ : Fin 512)) (ix3 b s (⟨o + (n.val * 64 + d.val), by omega⟩ : Fin 1280)) (fun a => match a with
    | ⟨0, _⟩ => (Nat.zero_add _).symm
    | ⟨1, _⟩ => (Nat.zero_add _).symm
    | ⟨2, _⟩ => rfl)

theorem sampleB (y : S8x32x1280.Idx → α) (o : ℕ) (ho : o + 128 ≤ 1280) (h) (h') (b : Fin 8) (s : Fin 32) (n : Fin 2) (d : Fin 64) :
    shapeCast S8x32x2x64 (extractStridedSlice S8x32x128 ![0, 0, o] y h) h' (ix4 b s n d) = y (ix3 b s (⟨o + (n.val * 64 + d.val), by omega⟩ : Fin 1280)) := by
  refine (shapeCast_apply _ _ (ix4 b s n d) (ix3 b s (⟨n.val * 64 + d.val, by omega⟩ : Fin 128)) (by
    rw [Shape.rowMajor_val_three, Shape.rowMajor_val_four]
    show (b.val * 32 + s.val) * 128 + (n.val * 64 + d.val) = ((b.val * 32 + s.val) * 2 + n.val) * 64 + d.val; omega)).trans ?_
  exact extractStridedSlice_apply ![0, 0, o] y _ (ix3 b s (⟨n.val * 64 + d.val, by omega⟩ : Fin 128)) (ix3 b s (⟨o + (n.val * 64 + d.val), by omega⟩ : Fin 1280)) (fun a => match a with
    | ⟨0, _⟩ => (Nat.zero_add _).symm
    | ⟨1, _⟩ => (Nat.zero_add _).symm
    | ⟨2, _⟩ => rfl)
end

/-! ## The results, of the kept rows' array -/

section
variable {F : FTy → Type} [FloatOps F] (W : Valuation τ sig (Elt F))

abbrev kv : S9216x1280.Idx → Elt F .f32 := W (Proc.tc.devRef main_v5_1)

theorem tail11 : StableHlo.after hostOps1 W (Proc.tc.devRef main_v11)
    = shapeCast S16x512x8x64 (extractStridedSlice S16x512x512 ![0, 0, 0] (promptRows (kv W)) slices_S16x512x1280_S16x512x512_0_0_0) shapeCasts_S16x512x512_S16x512x8x64 := by
  simp only [hostOps1]; after_results_simp <;> rfl
theorem tail13 : StableHlo.after hostOps1 W (Proc.tc.devRef main_v13)
    = shapeCast S16x512x8x64 (extractStridedSlice S16x512x512 ![0, 0, 512] (promptRows (kv W)) slices_S16x512x1280_S16x512x512_0_0_512) shapeCasts_S16x512x512_S16x512x8x64 := by
  simp only [hostOps1]; after_results_simp <;> rfl
theorem tail15 : StableHlo.after hostOps1 W (Proc.tc.devRef main_v15)
    = shapeCast S16x128x2x64 (extractStridedSlice S16x128x128 ![0, 384, 1024] (promptRows (kv W)) slices_S16x512x1280_S16x128x128_0_384_1024) shapeCasts_S16x128x128_S16x128x2x64 := by
  simp only [hostOps1]; after_results_simp <;> rfl
theorem tail17 : StableHlo.after hostOps1 W (Proc.tc.devRef main_v17)
    = shapeCast S16x128x2x64 (extractStridedSlice S16x128x128 ![0, 384, 1152] (promptRows (kv W)) slices_S16x512x1280_S16x128x128_0_384_1152) shapeCasts_S16x128x128_S16x128x2x64 := by
  simp only [hostOps1]; after_results_simp <;> rfl
theorem tail19 : StableHlo.after hostOps1 W (Proc.tc.devRef main_v19)
    = shapeCast S8x32x8x64 (extractStridedSlice S8x32x512 ![0, 0, 0] (sampleRows (kv W)) slices_S8x32x1280_S8x32x512_0_0_0) shapeCasts_S8x32x512_S8x32x8x64 := by
  simp only [hostOps1]; after_results_simp <;> rfl
theorem tail21 : StableHlo.after hostOps1 W (Proc.tc.devRef main_v21)
    = shapeCast S8x32x8x64 (extractStridedSlice S8x32x512 ![0, 0, 512] (sampleRows (kv W)) slices_S8x32x1280_S8x32x512_0_0_512) shapeCasts_S8x32x512_S8x32x8x64 := by
  simp only [hostOps1]; after_results_simp <;> rfl
theorem tail23 : StableHlo.after hostOps1 W (Proc.tc.devRef main_v23)
    = shapeCast S8x32x2x64 (extractStridedSlice S8x32x128 ![0, 0, 1024] (sampleRows (kv W)) slices_S8x32x1280_S8x32x128_0_0_1024) shapeCasts_S8x32x128_S8x32x2x64 := by
  simp only [hostOps1]; after_results_simp <;> rfl
theorem tail25 : StableHlo.after hostOps1 W (Proc.tc.devRef main_v25)
    = shapeCast S8x32x2x64 (extractStridedSlice S8x32x128 ![0, 0, 1152] (sampleRows (kv W)) slices_S8x32x1280_S8x32x128_0_0_1152) shapeCasts_S8x32x128_S8x32x2x64 := by
  simp only [hostOps1]; after_results_simp <;> rfl
end

/-! ## The results, of the arguments -/

variable (m : (ℓ : Loc nD τ sig) → Buf (Elt Ideal) ℓ) (c : Dev nD)

/-- The buffers when the operations after the grid begin. -/
abbrev W₁ : Valuation τ sig (Elt Ideal) := Pipeline.withArrays (cfgs 0).spec c (V0 m c) fun w => (dats m 0 c).arrAt w (cfgs 0).N

theorem kv_eq : kv (W₁ m c) = keptOut m c :=
  (Pipeline.withArrays_arr spec0 launch0.win.arr_inj c (V0 m c) (fun w => (dats m 0 c).arrAt w cfg0.N) 4).trans (kept_eq m c)

theorem tail_eq (b : Ref sig .tc) : Pipeline.afterTail₀ cfgs (dats m) 0 (V0 m) [hostOps1] c b = StableHlo.after hostOps1 (W₁ m c) (Proc.tc.devRef b) := by
  unfold Pipeline.afterTail₀
  rw [show List.flatten [(hostOps1 : List (HloOp τ sig (Elt Ideal)))] = hostOps1 from List.append_nil _]

/-- A kept row and column of the prompt and of the sample, as a projected row and column. -/
theorem keptOut_at (r : Fin 9216) (q : Fin 1280) (r' : Fin 66560) (q' : Fin 2304) (hr : (kvrow r).val = r'.val) (hq : (kvcol q).val = q'.val) :
    keptOut m c (ix2 r q) = H (aP m c) (aS m c) (aW m c) r' q' := by
  obtain rfl : kvrow r = r' := Fin.ext hr
  obtain rfl : kvcol q = q' := Fin.ext hq
  rfl

theorem row_prompt (b : Fin 16) (s : Fin 512) (h) : (kvrow (⟨b.val * 512 + s.val, h⟩ : Fin 9216)).val = b.val * 4096 + (3584 + s.val) := by
  show (if b.val * 512 + s.val < 8192 then (b.val * 512 + s.val) / 512 * 4096 + 3584 + (b.val * 512 + s.val) % 512 else 57344 + (b.val * 512 + s.val)) = _
  rw [if_pos (by omega)]; omega

theorem row_sample (b : Fin 8) (s : Fin 32) (h) : (kvrow (⟨8192 + (b.val * 32 + s.val), h⟩ : Fin 9216)).val = 65536 + b.val * 32 + s.val := by
  show (if 8192 + (b.val * 32 + s.val) < 8192 then (8192 + (b.val * 32 + s.val)) / 512 * 4096 + 3584 + (8192 + (b.val * 32 + s.val)) % 512 else 57344 + (8192 + (b.val * 32 + s.val))) = _
  rw [if_neg (by omega)]; omega

theorem col_low (o : ℕ) (h) (ho : o < 1024) : (kvcol (⟨o, h⟩ : Fin 1280)).val = 512 + o := if_pos ho
theorem col_high (o : ℕ) (h) (ho : ¬ o < 1024) : (kvcol (⟨o, h⟩ : Fin 1280)).val = 1024 + o := if_neg ho

theorem res11 (b : Fin 16) (s : Fin 512) (n : Fin 8) (d : Fin 64) (r' : Fin 66560) (q' : Fin 2304) (hr : b.val * 4096 + (3584 + s.val) = r'.val) (hq : 512 + (n.val * 64 + d.val) = q'.val) :
    (Pipeline.afterTail₀ cfgs (dats m) 0 (V0 m) [hostOps1] c main_v11 : S16x512x8x64.Idx → EReal) (ix4 b s n d) = H (aP m c) (aS m c) (aW m c) r' q' := by
  rw [tail_eq, tail11, kv_eq]
  refine (promptA _ 0 (by omega) _ _ b s n d).trans ((promptRows_apply _ b s _).trans (keptOut_at m c _ _ r' q' ((row_prompt b s _).trans hr) ?_))
  rw [col_low _ _ (by omega)]; omega

theorem res13 (b : Fin 16) (s : Fin 512) (n : Fin 8) (d : Fin 64) (r' : Fin 66560) (q' : Fin 2304) (hr : b.val * 4096 + (3584 + s.val) = r'.val) (hq : 1024 + (n.val * 64 + d.val) = q'.val) :
    (Pipeline.afterTail₀ cfgs (dats m) 0 (V0 m) [hostOps1] c main_v13 : S16x512x8x64.Idx → EReal) (ix4 b s n d) = H (aP m c) (aS m c) (aW m c) r' q' := by
  rw [tail_eq, tail13, kv_eq]
  refine (promptA _ 512 (by omega) _ _ b s n d).trans ((promptRows_apply _ b s _).trans (keptOut_at m c _ _ r' q' ((row_prompt b s _).trans hr) ?_))
  rw [col_low _ _ (by omega)]; omega

theorem res15 (b : Fin 16) (s : Fin 128) (n : Fin 2) (d : Fin 64) (r' : Fin 66560) (q' : Fin 2304) (hr : b.val * 4096 + (3968 + s.val) = r'.val) (hq : 2048 + (n.val * 64 + d.val) = q'.val) :
    (Pipeline.afterTail₀ cfgs (dats m) 0 (V0 m) [hostOps1] c main_v15 : S16x128x2x64.Idx → EReal) (ix4 b s n d) = H (aP m c) (aS m c) (aW m c) r' q' := by
  rw [tail_eq, tail15, kv_eq]
  refine (promptB _ 1024 (by omega) _ _ b s n d).trans ((promptRows_apply _ b _ _).trans (keptOut_at m c _ _ r' q' ((row_prompt b _ _).trans (by show b.val * 4096 + (3584 + (384 + s.val)) = r'.val; omega)) ?_))
  rw [col_high _ _ (by omega)]; omega

theorem res17 (b : Fin 16) (s : Fin 128) (n : Fin 2) (d : Fin 64) (r' : Fin 66560) (q' : Fin 2304) (hr : b.val * 4096 + (3968 + s.val) = r'.val) (hq : 2176 + (n.val * 64 + d.val) = q'.val) :
    (Pipeline.afterTail₀ cfgs (dats m) 0 (V0 m) [hostOps1] c main_v17 : S16x128x2x64.Idx → EReal) (ix4 b s n d) = H (aP m c) (aS m c) (aW m c) r' q' := by
  rw [tail_eq, tail17, kv_eq]
  refine (promptB _ 1152 (by omega) _ _ b s n d).trans ((promptRows_apply _ b _ _).trans (keptOut_at m c _ _ r' q' ((row_prompt b _ _).trans (by show b.val * 4096 + (3584 + (384 + s.val)) = r'.val; omega)) ?_))
  rw [col_high _ _ (by omega)]; omega

theorem res19 (b : Fin 8) (s : Fin 32) (n : Fin 8) (d : Fin 64) (r' : Fin 66560) (q' : Fin 2304) (hr : 65536 + b.val * 32 + s.val = r'.val) (hq : 512 + (n.val * 64 + d.val) = q'.val) :
    (Pipeline.afterTail₀ cfgs (dats m) 0 (V0 m) [hostOps1] c main_v19 : S8x32x8x64.Idx → EReal) (ix4 b s n d) = H (aP m c) (aS m c) (aW m c) r' q' := by
  rw [tail_eq, tail19, kv_eq]
  refine (sampleA _ 0 (by omega) _ _ b s n d).trans ((sampleRows_apply _ b s _).trans (keptOut_at m c _ _ r' q' ((row_sample b s _).trans hr) ?_))
  rw [col_low _ _ (by omega)]; omega

theorem res21 (b : Fin 8) (s : Fin 32) (n : Fin 8) (d : Fin 64) (r' : Fin 66560) (q' : Fin 2304) (hr : 65536 + b.val * 32 + s.val = r'.val) (hq : 1024 + (n.val * 64 + d.val) = q'.val) :
    (Pipeline.afterTail₀ cfgs (dats m) 0 (V0 m) [hostOps1] c main_v21 : S8x32x8x64.Idx → EReal) (ix4 b s n d) = H (aP m c) (aS m c) (aW m c) r' q' := by
  rw [tail_eq, tail21, kv_eq]
  refine (sampleA _ 512 (by omega) _ _ b s n d).trans ((sampleRows_apply _ b s _).trans (keptOut_at m c _ _ r' q' ((row_sample b s _).trans hr) ?_))
  rw [col_low _ _ (by omega)]; omega

theorem res23 (b : Fin 8) (s : Fin 32) (n : Fin 2) (d : Fin 64) (r' : Fin 66560) (q' : Fin 2304) (hr : 65536 + b.val * 32 + s.val = r'.val) (hq : 2048 + (n.val * 64 + d.val) = q'.val) :
    (Pipeline.afterTail₀ cfgs (dats m) 0 (V0 m) [hostOps1] c main_v23 : S8x32x2x64.Idx → EReal) (ix4 b s n d) = H (aP m c) (aS m c) (aW m c) r' q' := by
  rw [tail_eq, tail23, kv_eq]
  refine (sampleB _ 1024 (by omega) _ _ b s n d).trans ((sampleRows_apply _ b s _).trans (keptOut_at m c _ _ r' q' ((row_sample b s _).trans hr) ?_))
  rw [col_high _ _ (by omega)]; omega

theorem res25 (b : Fin 8) (s : Fin 32) (n : Fin 2) (d : Fin 64) (r' : Fin 66560) (q' : Fin 2304) (hr : 65536 + b.val * 32 + s.val = r'.val) (hq : 2176 + (n.val * 64 + d.val) = q'.val) :
    (Pipeline.afterTail₀ cfgs (dats m) 0 (V0 m) [hostOps1] c main_v25 : S8x32x2x64.Idx → EReal) (ix4 b s n d) = H (aP m c) (aS m c) (aW m c) r' q' := by
  rw [tail_eq, tail25, kv_eq]
  refine (sampleB _ 1152 (by omega) _ _ b s n d).trans ((sampleRows_apply _ b s _).trans (keptOut_at m c _ _ r' q' ((row_sample b s _).trans hr) ?_))
  rw [col_high _ _ (by omega)]; omega

end Cert.InProjTail

end

end
-- ==== Proof.InProjClaims.lean ====
/-
  The claims of the input projection: both programs run and keep their arguments, the reference runs, and over the
  extended reals each of the nine results is equal.
-/
module

public import proofs.«01_k».proof.Defs
public import proofs.«01_k».proof.Proof.Gen.InProj.Frame
public import proofs.«01_k».proof.Proof.Gen.InProjIdeal.Frame
public import proofs.«01_k».proof.Proof.Gen.InProjReferenceIdeal.Run
public import proofs.«01_k».proof.Proof.InProjRef
public import proofs.«01_k».proof.Proof.InProjTail
public import Idealize.ShloMosaic.Lib.Quiescent

@[expose] public section

set_option maxRecDepth 16384

noncomputable section

open Idealize.ShloMosaic Idealize.ShloMosaic.TcCoe Idealize.SL.Sem

namespace Cert.InProjClaims

theorem inproj_runs : Cert.quiescent_InProj (hInProj := Cert.InProj.Gen.facts) := fun m g _ => Cert.InProj.Gen.frame m g

theorem inproj_ideal_runs : Cert.quiescent_InProjIdeal (hInProjIdeal := Cert.InProjIdeal.Gen.facts) := fun m g _ => Cert.InProjIdeal.Gen.frame m g

theorem inproj_reference_runs : Cert.quiescent_InProjReferenceIdeal (hInProjReferenceIdeal := Cert.InProjReferenceIdeal.Gen.facts) := fun m g _ =>
  (θ_run Cert.InProjReferenceIdeal.defs _ _).mono (fun r h => ⟨fun c => (h c).2.2.2.2.2.2.2.2.2, sem_eq_zero_of_no_sems (by decide) r.2⟩)
    (Cert.InProjReferenceIdeal.Value.run (F := Ideal) m g)

section
open Cert.InProjIdeal Cert.InProjIdeal.Gen

variable (m : (ℓ : Loc nD τ sig) → Buf (Elt Ideal) ℓ) (g : Dev nD → PrngReg)

/-- What a buffer holds when the operations after the grid are done. -/
abbrev fin (c : Dev nD) (b : Ref sig .tc) := Pipeline.afterTail₀ cfgs (dats m) 0 (V0 m) [hostOps1] c b

/-- The kernel ends with the projected rows, the eight kept results and its arguments. -/
theorem kernel_values : θ_run (defs (F := Ideal)) (onTc (τ := τ) (main (F := Ideal))) ⟨m, fun _ => 0, g⟩ (fun r => ∀ c : Dev nD,
    r.2.mem ((c.tc : Thread nD τ).loc main_v5_0) = Cert.InProjValue.rowsOut m c
    ∧ r.2.mem ((c.tc : Thread nD τ).loc main_v11) = fin m c main_v11
    ∧ r.2.mem ((c.tc : Thread nD τ).loc main_v13) = fin m c main_v13
    ∧ r.2.mem ((c.tc : Thread nD τ).loc main_v15) = fin m c main_v15
    ∧ r.2.mem ((c.tc : Thread nD τ).loc main_v17) = fin m c main_v17
    ∧ r.2.mem ((c.tc : Thread nD τ).loc main_v19) = fin m c main_v19
    ∧ r.2.mem ((c.tc : Thread nD τ).loc main_v21) = fin m c main_v21
    ∧ r.2.mem ((c.tc : Thread nD τ).loc main_v23) = fin m c main_v23
    ∧ r.2.mem ((c.tc : Thread nD τ).loc main_v25) = fin m c main_v25
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)) :=
  (θ_run defs _ _).mono (fun _ h c => ⟨((h c).1 3).trans (Cert.InProjValue.rows_eq m c),
      (h c).2 main_v11 (Pipeline.mem_restRefs_of main_v11 (by decide) (by decide)),
      (h c).2 main_v13 (Pipeline.mem_restRefs_of main_v13 (by decide) (by decide)),
      (h c).2 main_v15 (Pipeline.mem_restRefs_of main_v15 (by decide) (by decide)),
      (h c).2 main_v17 (Pipeline.mem_restRefs_of main_v17 (by decide) (by decide)),
      (h c).2 main_v19 (Pipeline.mem_restRefs_of main_v19 (by decide) (by decide)),
      (h c).2 main_v21 (Pipeline.mem_restRefs_of main_v21 (by decide) (by decide)),
      (h c).2 main_v23 (Pipeline.mem_restRefs_of main_v23 (by decide) (by decide)),
      (h c).2 main_v25 (Pipeline.mem_restRefs_of main_v25 (by decide) (by decide)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m g)

/-- Two arrays of four axes that agree at every element are equal. -/
theorem ext4 {α : Type} {a b d e : ℕ} (f f' : (⟨4, ![a, b, d, e]⟩ : Shape).Idx → α)
    (h : ∀ (i : Fin a) (j : Fin b) (k : Fin d) (l : Fin e), f (ValueIdx.ix4 i j k l) = f' (ValueIdx.ix4 i j k l)) : f = f' := by
  funext i
  rw [show i = ValueIdx.ix4 (i 0) (i 1) (i 2) (i 3) from ValueIdx.eq_ix4 i]
  exact h _ _ _ _
end

theorem inproj_values_eq : Cert.algebraic_InProjIdeal_InProjReferenceIdeal (hInProjIdeal := Cert.InProjIdeal.Gen.facts)
    (hInProjReferenceIdeal := Cert.InProjReferenceIdeal.Gen.facts) := by
  intro m g m' g' hp ha
  refine ⟨fun c => Cert.InProjValue.rowsOut m c, fun c => fin m c Cert.InProjIdeal.main_v11, fun c => fin m c Cert.InProjIdeal.main_v13,
    fun c => fin m c Cert.InProjIdeal.main_v15, fun c => fin m c Cert.InProjIdeal.main_v17, fun c => fin m c Cert.InProjIdeal.main_v19,
    fun c => fin m c Cert.InProjIdeal.main_v21, fun c => fin m c Cert.InProjIdeal.main_v23, fun c => fin m c Cert.InProjIdeal.main_v25,
    kernel_values m g, ?_⟩
  refine (θ_run _ _ _).mono (fun r h c => ?_) (Cert.InProjReferenceIdeal.Value.run m' g')
  obtain ⟨h0, h1, h2⟩ := ha c
  refine ⟨(h c).1.trans ?_, (h c).2.1.trans ?_, (h c).2.2.1.trans ?_, (h c).2.2.2.1.trans ?_, (h c).2.2.2.2.1.trans ?_, (h c).2.2.2.2.2.1.trans ?_,
    (h c).2.2.2.2.2.2.1.trans ?_, (h c).2.2.2.2.2.2.2.1.trans ?_, (h c).2.2.2.2.2.2.2.2.1.trans ?_, (h c).2.2.2.2.2.2.2.2.2⟩
  · rw [Cert.InProjReferenceIdeal.Read.val_main_v22_eq, h0, h1, h2]
    funext i
    obtain ⟨r, d, rfl⟩ : ∃ (r : Fin 66560) (d : Fin 2304), i = ValueIdx.ix2 r d := ⟨i 0, i 1, ValueIdx.eq_ix2 i⟩
    exact Cert.InProjRef.at22 _ _ _ r d
  · rw [Cert.InProjReferenceIdeal.Read.val_main_v23_eq, h0, h2]
    exact ext4 _ _ fun b s n d => (Cert.InProjRef.at23 _ (Cert.InProjValue.aS m c) _ b s n d).trans (Cert.InProjTail.res11 m c b s n d _ _ rfl rfl).symm
  · rw [Cert.InProjReferenceIdeal.Read.val_main_v24_eq, h0, h2]
    exact ext4 _ _ fun b s n d => (Cert.InProjRef.at24 _ (Cert.InProjValue.aS m c) _ b s n d).trans (Cert.InProjTail.res13 m c b s n d _ _ rfl rfl).symm
  · rw [Cert.InProjReferenceIdeal.Read.val_main_v25_eq, h0, h2]
    exact ext4 _ _ fun b s n d => (Cert.InProjRef.at25 _ (Cert.InProjValue.aS m c) _ b s n d).trans (Cert.InProjTail.res15 m c b s n d _ _ rfl rfl).symm
  · rw [Cert.InProjReferenceIdeal.Read.val_main_v26_eq, h0, h2]
    exact ext4 _ _ fun b s n d => (Cert.InProjRef.at26 _ (Cert.InProjValue.aS m c) _ b s n d).trans (Cert.InProjTail.res17 m c b s n d _ _ rfl rfl).symm
  · rw [Cert.InProjReferenceIdeal.Read.val_main_v11_eq, h1, h2]
    exact ext4 _ _ fun b s n d => (Cert.InProjRef.at11 (Cert.InProjValue.aP m c) _ _ b s n d).trans (Cert.InProjTail.res19 m c b s n d _ _ rfl rfl).symm
  · rw [Cert.InProjReferenceIdeal.Read.val_main_v13_eq, h1, h2]
    exact ext4 _ _ fun b s n d => (Cert.InProjRef.at13 (Cert.InProjValue.aP m c) _ _ b s n d).trans (Cert.InProjTail.res21 m c b s n d _ _ rfl rfl).symm
  · rw [Cert.InProjReferenceIdeal.Read.val_main_v15_eq, h1, h2]
    exact ext4 _ _ fun b s n d => (Cert.InProjRef.at15 (Cert.InProjValue.aP m c) _ _ b s n d).trans (Cert.InProjTail.res23 m c b s n d _ _ rfl rfl).symm
  · rw [Cert.InProjReferenceIdeal.Read.val_main_v17_eq, h1, h2]
    exact ext4 _ _ fun b s n d => (Cert.InProjRef.at17 (Cert.InProjValue.aP m c) _ _ b s n d).trans (Cert.InProjTail.res25 m c b s n d _ _ rfl rfl).symm

end Cert.InProjClaims

end

end
-- ==== Proof.OutProjBlock.lean ====
/-
  The output projection with the norm after it as a formula over the rows, and what one grid point of the call leaves in
  the normed columns of its output block.
-/
module

public import proofs.«01_k».proof.Proof.Gen.OutProjIdeal.Frame
public import Idealize.ShloMosaic.Lib.Pipeline.Value
public import Idealize.ShloMosaic.Lib.Pipeline.ValueKit.Tiles
public import Idealize.ShloMosaic.Lib.ValueIdx
public import Idealize.ShloMosaic.Lib.ValueLayout
public import Idealize.ShloMosaic.Lib.ValueLayoutCasts
public import Idealize.ShloMosaic.Lib.MatmulPlain
public import Idealize.ShloMosaic.PureOps.Ideal.Laws

@[expose] public section

set_option maxRecDepth 16384

noncomputable section

namespace Cert.OutProjBlock

open Cert.OutProjIdeal Cert.OutProjIdeal.Gen
open Idealize.ShloMosaic Idealize.ShloMosaic.TcCoe Idealize.ShloMosaic.ValueIdx
open scoped BigOperators

/-! ## The formula -/

/-- The mean of 1024 numbers. -/
def mean (o : Fin 1024 → EReal) : EReal := Ideal.div (∑ c, o c) (Ideal.ofBits .f32 0x44800000#32)

/-- The norm of a row: its deviation from its mean over the root of the mean square deviation, scaled and shifted. -/
def lnorm (o g b : Fin 1024 → EReal) (q : Fin 1024) : EReal :=
  (o q - mean o) * Ideal.rsqrt (mean (fun c => (o c - mean o) * (o c - mean o)) + Ideal.ofBits .f32 0x3727C5AC#32) * g q + b q

/-- A row of the residual plus its projected attention row. -/
def resid (x a : Fin 1024 → EReal) (w : Fin 1024 → Fin 1024 → EReal) (q : Fin 1024) : EReal :=
  Ideal.ofBits .f32 0x3FD744FD#32 * x q + ∑ k : Fin 1024, a k * w k q

/-! ## The stored pieces' words -/

section
variable {F : FTy → Type} [FloatOps F]

theorem dot1 (i : grid0.Coords) (w : Vec F S1024x1024 .bf16) (y z : Vec F S128x1024 .bf16) : k0_pay5 i w y z = k0_pay4 i w y z := rfl
theorem dot2 (i : grid0.Coords) (w : Vec F S1024x1024 .bf16) (y z : Vec F S128x1024 .bf16) : k0_pay6 i w y z = k0_pay4 i w y z := rfl
theorem dot3 (i : grid0.Coords) (w : Vec F S1024x1024 .bf16) (y z : Vec F S128x1024 .bf16) : k0_pay7 i w y z = k0_pay4 i w y z := rfl
theorem norm0 (v x : FVec F S128x1024 .f32) (g b : Vec F S1x1024 .f32) : k0_pay10 v x k0_pay9 g b = k0_pay67 v x g b := rfl
theorem norm2 (v : FVec F S128x1024 .f32) (h : BitVec 1) (x y : FVec F S128x1024 .f32) (g b : Vec F S1x1024 .f32) : k0_pay122 v h x y g b = k0_pay67 v (Scalar.select h x y) g b := rfl
theorem norm3 (v : FVec F S128x1024 .f32) (h : BitVec 1) (x y : FVec F S128x1024 .f32) (g b : Vec F S1x1024 .f32) : k0_pay176 v h x y g b = k0_pay67 v (Scalar.select h x y) g b := rfl
end

/-! ## The words over the extended reals -/

theorem col_apply (v : FVec Ideal S128x1 .f32) (p : Fin 128) (q : Fin 1024) : broadcastTo S128x1024 v broadcasts_S128x1_S128x1024 (ix2 p q) = v (ix2 p (0 : Fin 1)) :=
  broadcastTo_apply v _ (ix2 p q) (ix2 p (0 : Fin 1)) fun ax => match ax with | ⟨0, _⟩ => rfl | ⟨1, _⟩ => rfl
theorem row_apply (v : Vec Ideal S1x1024 .f32) (p : Fin 128) (q : Fin 1024) :
    broadcastTo S128x1024 (shapeCast S1x1024 v shapeCasts_S1x1024_S1x1024) broadcasts_S1x1024_S128x1024 (ix2 p q) = v (ix2 (0 : Fin 1) q) := by
  rw [shapeCast_self]
  exact broadcastTo_apply v _ (ix2 p q) (ix2 (0 : Fin 1) q) fun ax => match ax with | ⟨0, _⟩ => rfl | ⟨1, _⟩ => rfl

theorem lift_eq (p : Fin 128) (k : Fin 1024) : reduces_S128x1024_S128.lift (ix1 p) k = ix2 p k := by
  funext a; match a with | ⟨0, _⟩ => rfl | ⟨1, _⟩ => rfl

theorem sum_apply (s : FVec Ideal S128x1024 .f32) (p : Fin 128) :
    shapeCast S128x1 (multiReduction .add [1] S128 s 0x00000000#32 reduces_S128x1024_S128 (.inl rfl) rfl : FVec Ideal S128 .f32) shapeCasts_S128_S128x1 (ix2 p (0 : Fin 1))
      = ∑ k : Fin 1024, s (ix2 p k) :=
  (shapeCast_a_a1_apply (a := 128) _ _ p 0).trans ((Ideal.multiReduction_add_single _ _ _ _ _ (ix1 p)).trans
    (Finset.sum_congr rfl fun j _ => congrArg s (lift_eq p j)))

/-- A sub-block's row means, its rows less their means, and the reciprocal roots of its rows' mean square deviations. -/
def means (s : FVec Ideal S128x1024 .f32) : FVec Ideal S128x1 .f32 :=
  divf (shapeCast S128x1 (multiReduction .add [1] S128 s 0x00000000#32 reduces_S128x1024_S128 (.inl rfl) rfl : FVec Ideal S128 .f32) shapeCasts_S128_S128x1)
    (broadcast S128x1 (Scalar.ofBits .f32 0x44800000#32 : Ideal .f32))
def dev (s : FVec Ideal S128x1024 .f32) : FVec Ideal S128x1024 .f32 := subf s (broadcastTo S128x1024 (means s) broadcasts_S128x1_S128x1024)
def root (s : FVec Ideal S128x1024 .f32) : FVec Ideal S128x1 .f32 :=
  rsqrt (addf (means (mulf (dev s) (dev s))) (broadcast S128x1 (Scalar.ofBits .f32 0x3727C5AC#32 : Ideal .f32)))

theorem means_apply (s : FVec Ideal S128x1024 .f32) (p : Fin 128) : means s (ix2 p (0 : Fin 1)) = mean fun c => s (ix2 p c) :=
  congrArg (fun y => Ideal.div y (Ideal.ofBits .f32 0x44800000#32)) (sum_apply s p)
theorem dev_apply (s : FVec Ideal S128x1024 .f32) (p : Fin 128) (q : Fin 1024) : dev s (ix2 p q) = s (ix2 p q) - mean fun c => s (ix2 p c) :=
  congrArg (fun y => s (ix2 p q) - y) ((col_apply _ p q).trans (means_apply s p))
theorem root_apply (s : FVec Ideal S128x1024 .f32) (p : Fin 128) : root s (ix2 p (0 : Fin 1))
    = Ideal.rsqrt (mean (fun c => (s (ix2 p c) - mean fun c => s (ix2 p c)) * (s (ix2 p c) - mean fun c => s (ix2 p c))) + Ideal.ofBits .f32 0x3727C5AC#32) :=
  congrArg (fun y => Ideal.rsqrt (y + Ideal.ofBits .f32 0x3727C5AC#32)) ((means_apply _ p).trans
    (congrArg mean (funext fun c => congrArg₂ (· * ·) (dev_apply s p c) (dev_apply s p c))))

theorem norm_eq (v x : FVec Ideal S128x1024 .f32) (g b : Vec Ideal S1x1024 .f32) :
    k0_pay67 (F := Ideal) v x g b
      = addf (mulf (mulf (dev (addf (mulf (broadcast S128x1024 (Scalar.ofBits .f32 0x3FD744FD#32 : Ideal .f32)) x) v))
          (broadcastTo S128x1024 (root (addf (mulf (broadcast S128x1024 (Scalar.ofBits .f32 0x3FD744FD#32 : Ideal .f32)) x) v)) broadcasts_S128x1_S128x1024))
          (broadcastTo S128x1024 (shapeCast S1x1024 g shapeCasts_S1x1024_S1x1024) broadcasts_S1x1024_S128x1024))
        (broadcastTo S128x1024 (shapeCast S1x1024 b shapeCasts_S1x1024_S1x1024) broadcasts_S1x1024_S128x1024) := rfl

/-- The stored norm of a sub-block, at a row and a column. -/
theorem norm_apply (v x : FVec Ideal S128x1024 .f32) (g b : Vec Ideal S1x1024 .f32) (p : Fin 128) (q : Fin 1024) :
    k0_pay67 (F := Ideal) v x g b (ix2 p q)
      = lnorm (fun c => Ideal.ofBits .f32 0x3FD744FD#32 * x (ix2 p c) + v (ix2 p c)) (fun c => g (ix2 (0 : Fin 1) c)) (fun c => b (ix2 (0 : Fin 1) c)) q := by
  rw [norm_eq]
  exact congrArg₂ (· + ·) (congrArg₂ (· * ·) (congrArg₂ (· * ·) (dev_apply _ p q) ((col_apply _ p q).trans (root_apply _ p))) (row_apply g p q)) (row_apply b p q)

/-! ## The attention rows and the residual rows a point reads -/

theorem coord_int (i : grid0.Coords) : (BitVec.ofNat 32 (i 0).val).toInt = (i 0).val := by
  have hlt : (i 0).val < 130 := (i 0).isLt
  rw [BitVec.toInt_eq_toNat_of_lt (by rw [BitVec.toNat_ofNat]; omega), BitVec.toNat_ofNat]; omega

theorem bit_lo (i : grid0.Coords) (n : ℕ) (hn : n < 1000) (hi : (i 0).val < n) : Scalar.cmpi .slt (BitVec.ofNat 32 (i 0).val) (BitVec.ofNat 32 n) = 1#1 := by
  show BitVec.ofBool (BitVec.slt _ _) = _
  have e2 : (BitVec.ofNat 32 n).toInt = n := by rw [BitVec.toInt_eq_toNat_of_lt (by rw [BitVec.toNat_ofNat]; omega), BitVec.toNat_ofNat]; omega
  rw [BitVec.slt, coord_int i, e2, decide_eq_true (by omega)]
  rfl
theorem bit_hi (i : grid0.Coords) (n : ℕ) (hn : n < 1000) (hi : ¬ (i 0).val < n) : Scalar.cmpi .slt (BitVec.ofNat 32 (i 0).val) (BitVec.ofNat 32 n) = 0#1 := by
  show BitVec.ofBool (BitVec.slt _ _) = _
  have e2 : (BitVec.ofNat 32 n).toInt = n := by rw [BitVec.toInt_eq_toNat_of_lt (by rw [BitVec.toNat_ofNat]; omega), BitVec.toNat_ofNat]; omega
  rw [BitVec.slt, coord_int i, e2, decide_eq_false (by omega)]
  rfl

/-- Every point is a row of the residual array. -/
theorem bit_rest (i : grid0.Coords) : Scalar.cmpi .slt (BitVec.ofNat 32 (i 0).val) 130#32 = 1#1 := bit_lo i 130 (by decide) (i 0).isLt

/-- The product of the rows a point reads, at a row and a column. -/
theorem dot_apply (i : grid0.Coords) (w : Vec Ideal S1024x1024 .bf16) (y z : Vec Ideal S128x1024 .bf16) (p : Fin 128) (q : Fin 1024) :
    k0_pay4 (F := Ideal) i w y z (ix2 p q) = ∑ k : Fin 1024, (if (i 0).val < 128 then y else z) (ix2 p k) * w (ix2 k q) := by
  have e : Scalar.select (Scalar.cmpi .slt (BitVec.ofNat 32 (i 0).val) 128#32) y z = if (i 0).val < 128 then y else z := by
    by_cases h : (i 0).val < 128
    · rw [if_pos h, bit_lo i 128 (by decide) h]; rfl
    · rw [if_neg h, bit_hi i 128 (by decide) h]; rfl
  unfold k0_pay4 k0_pay3
  dsimp only
  rw [shapeCast_self, e]
  refine (Ideal.matmul_plain_apply (M := 128) (K := 1024) (N := 1024) none _ _ _ p q).trans ?_
  exact (congrArg (· + _) Ideal.ofBits_zero_f32).trans (zero_add _)

/-! ## The block -/

theorem off2 : (![0, 0] : Fin 2 → ℕ) = fun _ => 0 := by funext a; match a with | ⟨0, _⟩ => rfl | ⟨1, _⟩ => rfl

variable (c : Dev nD) (i : grid0.Coords) (a1 : Memref sig .tc .vmem S512x1024 .bf16) (h1 : a1.IsWhole) (a2 : Memref sig .tc .vmem S512x1024 .bf16) (h2 : a2.IsWhole)
  (a3 : Memref sig .tc .vmem S512x1024 .f32) (h3 : a3.IsWhole) (a4 : Memref sig .tc .vmem S512x1024 .f32) (h4 : a4.IsWhole) (a5 : Memref sig .tc .vmem S1024x1024 .bf16) (h5 : a5.IsWhole)
  (a6 : Memref sig .tc .vmem S1x1024 .f32) (h6 : a6.IsWhole) (a7 : Memref sig .tc .vmem S1x1024 .f32) (h7 : a7.IsWhole) (a8 : Memref sig .tc .vmem S16x1024 .bf16) (h8 : a8.IsWhole)
  (a9 : Memref sig .tc .vmem S16x1024 .bf16) (h9 : a9.IsWhole) (a10 : Memref sig .tc .vmem S16x1 .f32) (h10 : a10.IsWhole) (a11 : Memref sig .tc .vmem S512x1152 .f32) (h11 : a11.IsWhole)
  (a12 : Memref sig .tc .vmem S1x512 .i32) (h12 : a12.IsWhole)
  (x0 x1 : Vec Ideal S512x1024 .bf16) (x2 x3 : Vec Ideal S512x1024 .f32) (x4 : Vec Ideal S1024x1024 .bf16) (x5 x6 : Vec Ideal S1x1024 .f32) (x7 x8 : Vec Ideal S16x1024 .bf16) (x9 : Vec Ideal S16x1 .f32)

/-- A row and a column of a sub-block of 128 rows, read through the block. -/
theorem rows_apply {e : EltTy} (x : Vec Ideal S512x1024 e) (o : ℕ) (inb) (p : Fin 128) (q : Fin 1024) (p' : Fin 512) (hp : p'.val = o + p.val) :
    View.ld x (Rect.unit (s := S512x1024) ![o, 0] ![128, 1024] inb) (ix2 p q : S128x1024.Idx) = x (ix2 p' q) := by
  refine congrArg x (funext fun a => Fin.ext ?_)
  match a with
  | ⟨0, _⟩ => show o + 1 * p.val = p'.val; omega
  | ⟨1, _⟩ => show 0 + 1 * q.val = q.val; omega

/-- A stored sub-block of normed rows, where it holds a row and a column of the block. -/
theorem sub_block (p : Fin 512) (q : Fin 1024) (q' : Fin 1152) (hq : q'.val = q.val) (o : ℕ) (inb) :
    View.TileAt (Val := Elt Ideal) (S := S512x1152) (e := .f32) (ix2 p q') ![o, 0] ![128, 1024]
      (k0_pay67 (F := Ideal) (k0_pay4 i x4 (View.ld x0 (Rect.unit (s := S512x1024) ![o, 0] ![128, 1024] inb)) (View.ld x1 (Rect.unit (s := S512x1024) ![o, 0] ![128, 1024] inb)))
        (Scalar.select (Scalar.cmpi .slt (BitVec.ofNat 32 (i 0).val) 130#32) (View.ld x2 (Rect.unit (s := S512x1024) ![o, 0] ![128, 1024] inb)) (View.ld x3 (Rect.unit (s := S512x1024) ![o, 0] ![128, 1024] inb))) x5 x6)
      (lnorm (resid (fun c => x2 (ix2 p c)) (fun k => (if (i 0).val < 128 then x0 else x1) (ix2 p k)) (fun k c => x4 (ix2 k c)))
          (fun c => x5 (ix2 (0 : Fin 1) c)) (fun c => x6 (ix2 (0 : Fin 1) c)) q) := by
  intro x hx
  obtain ⟨r, d, rfl⟩ : ∃ (r : Fin 128) (d : Fin 1024), x = ix2 r d := ⟨x 0, x 1, eq_ix2 x⟩
  have hr : p.val = o + r.val := hx 0
  have hd : q'.val = 0 + d.val := hx 1
  obtain rfl : q = d := Fin.ext (by omega)
  refine (norm_apply _ _ x5 x6 r q).trans ?_
  refine congrArg (fun f => lnorm f _ _ q) (funext fun c => congrArg₂ (· + ·) (congrArg (Ideal.ofBits .f32 0x3FD744FD#32 * ·) ?_) ((dot_apply i x4 _ _ r c).trans ?_))
  · rw [bit_rest]
    exact rows_apply x2 o inb r c p hr
  · refine Finset.sum_congr rfl fun k _ => congrArg (· * x4 (ix2 k c)) ?_
    by_cases h : (i 0).val < 128
    · rw [if_pos h, if_pos h]; exact rows_apply x0 o inb r k p hr
    · rw [if_neg h, if_neg h]; exact rows_apply x1 o inb r k p hr

/-- A stored sub-block of gates holds no normed column. -/
theorem gates (p : Fin 512) (q : Fin 1024) (q' : Fin 1152) (hq : q'.val = q.val) (o : ℕ) (w : (⟨2, ![128, 128]⟩ : Shape).Idx → EReal) (v : EReal) :
    View.TileAt (Val := Elt Ideal) (S := S512x1152) (e := .f32) (ix2 p q') ![o, 1024] ![128, 128] w v := by
  intro x hx
  have h : q'.val = 1024 + (x 1).val := hx 1
  have hlt := q.isLt
  omega

/-- What a point leaves at a row and a normed column of its block. -/
theorem block (p : Fin 512) (q : Fin 1024) (q' : Fin 1152) (hq : q'.val = q.val) :
    out0_A_10 (F := Ideal) c i a1 h1 a2 h2 a3 h3 a4 h4 a5 h5 a6 h6 a7 h7 a8 h8 a9 h9 a10 h10 a11 h11 a12 h12 x0 x1 x2 x3 x4 x5 x6 x7 x8 x9 (ix2 p q')
      = lnorm (resid (fun c => x2 (ix2 p c)) (fun k => (if (i 0).val < 128 then x0 else x1) (ix2 p k)) (fun k c => x4 (ix2 k c)))
          (fun c => x5 (ix2 (0 : Fin 1) c)) (fun c => x6 (ix2 (0 : Fin 1) c)) q := by
  unfold out0_A_10
  have hcov := cover0_A_10 (F := Ideal) c i a1 h1 a2 h2 a3 h3 a4 h4 a5 h5 a6 h6 a7 h7 a8 h8 a9 h9 a10 h10 a11 h11 a12 h12 x0 x1 x2 x3 x4 x5 x6 x7 x8 x9
  rw [View.read_writes_eq_canon _ _ _ hcov]
  refine View.canon_eq_of_allAt _ _ _ (hcov _) ?_
  clear hcov
  unfold kernelRun0_A
  dsimp only
  try sl_unfold_words
  simp only [View.readAt_eq_ld, h1.read_unread, h2.read_unread, h3.read_unread, h4.read_unread, h5.read_unread, h6.read_unread, h7.read_unread,
    View.ld_unit_zero (S := S1024x1024) off2, View.ld_unit_zero (S := S1x1024) off2]
  rw [norm0, norm2, norm3, dot1, dot2, dot3]
  refine View.allAt_cons_unit _ _ _ _ _ (gates p q q' hq 384 _ _) ?_
  refine View.allAt_cons_unit _ _ _ _ _ (sub_block i x0 x1 x2 x3 x4 x5 x6 p q q' hq 384 _) ?_
  refine View.allAt_cons_unit _ _ _ _ _ (gates p q q' hq 256 _ _) ?_
  refine View.allAt_cons_unit _ _ _ _ _ (sub_block i x0 x1 x2 x3 x4 x5 x6 p q q' hq 256 _) ?_
  refine View.allAt_cons_unit _ _ _ _ _ (gates p q q' hq 128 _ _) ?_
  refine View.allAt_cons_unit _ _ _ _ _ (sub_block i x0 x1 x2 x3 x4 x5 x6 p q q' hq 128 _) ?_
  refine View.allAt_cons_unit _ _ _ _ _ (gates p q q' hq 0 _ _) ?_
  refine View.allAt_cons_unit _ _ _ _ _ (sub_block i x0 x1 x2 x3 x4 x5 x6 p q q' hq 0 _) ?_
  exact View.allAt_nil _ _

end Cert.OutProjBlock

end

end
-- ==== Proof.OutProjValue.lean ====
/-
  The arrays and the result of the output projection call over the extended reals: every row of the residual plus its
  projected attention row, normed.
-/
module

public import proofs.«01_k».proof.Proof.OutProjBlock
public import Idealize.ShloMosaic.Lib.Pipeline.ValueKit.Point

@[expose] public section

set_option maxRecDepth 16384

noncomputable section

namespace Cert.OutProjValue

open Cert.OutProjIdeal Cert.OutProjIdeal.Gen Cert.OutProjBlock
open Idealize.ShloMosaic hiding ix1 ix2 ix3 ix4 eq_ix1 eq_ix2 eq_ix3
open Idealize.ShloMosaic.TcCoe Idealize.ShloMosaic.ValueIdx Idealize.SL.Sem
open Idealize.ShloMosaic.Pipeline (Dat)
open scoped BigOperators

abbrev Prompt := (⟨2, ![65536, 1024]⟩ : Shape).Idx → EReal
abbrev Sample := (⟨2, ![1024, 1024]⟩ : Shape).Idx → EReal
abbrev Rows := (⟨2, ![66560, 1024]⟩ : Shape).Idx → EReal
abbrev Weight := (⟨2, ![1024, 1024]⟩ : Shape).Idx → EReal
abbrev Scale := (⟨1, ![1024]⟩ : Shape).Idx → EReal

/-- The attention rows: the prompt's, then the sample's. -/
def arow (pa : Prompt) (sa : Sample) (r : Fin 66560) (k : Fin 1024) : EReal :=
  if h : r.val < 65536 then pa (ix2 (⟨r.val, h⟩ : Fin 65536) k) else sa (ix2 (⟨r.val - 65536, by omega⟩ : Fin 1024) k)

/-- The call's result at a row and a column. -/
def O (pa : Prompt) (sa : Sample) (x : Rows) (w : Weight) (g b : Scale) (r : Fin 66560) (q : Fin 1024) : EReal :=
  lnorm (resid (fun c => x (ix2 r c)) (arow pa sa r) (fun k c => w (ix2 k c))) (fun c => g (ix1 c)) (fun c => b (ix1 c)) q

variable (m : (ℓ : Loc nD τ sig) → Buf (Elt Ideal) ℓ) (c : Dev nD)

abbrev aP : Prompt := m ((c : Thread nD τ).loc main_arg0)
abbrev aS : Sample := m ((c : Thread nD τ).loc main_arg1)
abbrev aX : Rows := m ((c : Thread nD τ).loc main_arg2)
abbrev aW : Weight := m ((c : Thread nD τ).loc main_arg4)
abbrev aG : Scale := m ((c : Thread nD τ).loc main_arg5)
abbrev aB : Scale := m ((c : Thread nD τ).loc main_arg6)

/-! ## The arrays the pipeline finds -/

theorem V_arg0 : (V m c main_arg0 : Prompt) = aP m c := by
  unfold V V0; simp only [hostOps0, List.flatten_cons, List.flatten_nil, List.cons_append, List.nil_append, List.append_nil]; after_results
theorem V_arg1 : (V m c main_arg1 : Sample) = aS m c := by
  unfold V V0; simp only [hostOps0, List.flatten_cons, List.flatten_nil, List.cons_append, List.nil_append, List.append_nil]; after_results
theorem V_arg2 : (V m c main_arg2 : Rows) = aX m c := by
  unfold V V0; simp only [hostOps0, List.flatten_cons, List.flatten_nil, List.cons_append, List.nil_append, List.append_nil]; after_results
theorem V_v6 : (V m c main_v6 : Weight) = aW m c := by
  unfold V V0; simp only [hostOps0, List.flatten_cons, List.flatten_nil, List.cons_append, List.nil_append, List.append_nil]; after_results; rfl
theorem V_v7 : (V m c main_v7 : S1x1024.Idx → EReal) = shapeCast S1x1024 (aG m c) shapeCasts_S1024_S1x1024 := by
  unfold V V0; simp only [hostOps0, List.flatten_cons, List.flatten_nil, List.cons_append, List.nil_append, List.append_nil]; after_results; rfl
theorem V_v8 : (V m c main_v8 : S1x1024.Idx → EReal) = shapeCast S1x1024 (aB m c) shapeCasts_S1024_S1x1024 := by
  unfold V V0; simp only [hostOps0, List.flatten_cons, List.flatten_nil, List.cons_append, List.nil_append, List.append_nil]; after_results; rfl

/-! ## The points -/

theorem coord_val (t : Fin cfg0.N) : (grid0.coords t 0).val = t.val :=
  (by decide +kernel : ∀ t : Fin grid0.N, (grid0.coords t 0).val = t.val) t

theorem index0 : ∀ t : Fin cfg0.N, t.val < 128 → (cfg0.win 0).index t = ![t.val, 0] :=
  (by decide +kernel : ∀ t : Fin grid0.N, t.val < 128 → win0_0.index t = ![t.val, 0])
theorem index1 : ∀ t : Fin cfg0.N, ¬ t.val < 128 → (cfg0.win 1).index t = ![t.val - 128, 0] :=
  (by decide +kernel : ∀ t : Fin grid0.N, ¬ t.val < 128 → win0_1.index t = ![t.val - 128, 0])
theorem index2 : ∀ t : Fin cfg0.N, (cfg0.win 2).index t = ![t.val, 0] :=
  (by decide +kernel : ∀ t : Fin grid0.N, win0_2.index t = ![t.val, 0])
theorem index4 (t : Fin cfg0.N) : (cfg0.win 4).index t = ![0, 0] := rfl
theorem index5 (t : Fin cfg0.N) : (cfg0.win 5).index t = ![0, 0] := rfl
theorem index6 (t : Fin cfg0.N) : (cfg0.win 6).index t = ![0, 0] := rfl
theorem index10 : ∀ t : Fin cfg0.N, (cfg0.win 10).index t = ![t.val, 0] :=
  (by decide +kernel : ∀ t : Fin grid0.N, win0_10.index t = ![t.val, 0])

theorem blk0 (t : Fin cfg0.N) (ht : t.val < 128) (p : Fin 512) (k : Fin 1024) (r : Fin 66560) (hr : r.val = t.val * 512 + p.val) :
    iblk m c 0 t (ix2 p k : S512x1024.Idx) = arow (aP m c) (aS m c) r k := by
  have hp := p.isLt
  have e : iblk m c 0 t (ix2 p k : S512x1024.Idx) = (V m c main_arg0 : Prompt) (ix2 (⟨r.val, by omega⟩ : Fin 65536) k) := by
    show (V m c main_arg0 : Prompt) _ = _
    refine congrArg _ (funext fun a => Fin.ext ?_)
    refine (Pipeline.Window.rect_emb_val (cfg0.win 0) t (ix2 p k : S512x1024.Idx) a).trans ?_
    rw [index0 t ht]
    match a with
    | ⟨0, _⟩ => exact hr.symm
    | ⟨1, _⟩ => exact (by omega : 0 * 1024 + k.val = k.val)
  refine e.trans ((congrFun (V_arg0 m c) _).trans ?_)
  unfold arow
  rw [dif_pos (by omega)]

theorem blk1 (t : Fin cfg0.N) (ht : ¬ t.val < 128) (p : Fin 512) (k : Fin 1024) (r : Fin 66560) (hr : r.val = t.val * 512 + p.val) :
    iblk m c 1 t (ix2 p k : S512x1024.Idx) = arow (aP m c) (aS m c) r k := by
  have hp := p.isLt
  have e : iblk m c 1 t (ix2 p k : S512x1024.Idx) = (V m c main_arg1 : Sample) (ix2 (⟨r.val - 65536, by omega⟩ : Fin 1024) k) := by
    show (V m c main_arg1 : Sample) _ = _
    refine congrArg _ (funext fun a => Fin.ext ?_)
    refine (Pipeline.Window.rect_emb_val (cfg0.win 1) t (ix2 p k : S512x1024.Idx) a).trans ?_
    rw [index1 t ht]
    match a with
    | ⟨0, _⟩ => exact (by omega : (t.val - 128) * 512 + p.val = r.val - 65536)
    | ⟨1, _⟩ => exact (by omega : 0 * 1024 + k.val = k.val)
  refine e.trans ((congrFun (V_arg1 m c) _).trans ?_)
  unfold arow
  rw [dif_neg (by omega)]

theorem blk2 (t : Fin cfg0.N) (p : Fin 512) (k : Fin 1024) (r : Fin 66560) (hr : r.val = t.val * 512 + p.val) :
    iblk m c 2 t (ix2 p k : S512x1024.Idx) = aX m c (ix2 r k) := by
  have e : iblk m c 2 t (ix2 p k : S512x1024.Idx) = (V m c main_arg2 : Rows) (ix2 r k) := by
    show (V m c main_arg2 : Rows) _ = _
    refine congrArg _ (funext fun a => Fin.ext ?_)
    refine (Pipeline.Window.rect_emb_val (cfg0.win 2) t (ix2 p k : S512x1024.Idx) a).trans ?_
    rw [index2]
    match a with
    | ⟨0, _⟩ => exact hr.symm
    | ⟨1, _⟩ => exact (by omega : 0 * 1024 + k.val = k.val)
  exact e.trans (congrFun (V_arg2 m c) _)

theorem blk4 (t : Fin cfg0.N) (k q : Fin 1024) : iblk m c 4 t (ix2 k q : S1024x1024.Idx) = aW m c (ix2 k q) := by
  have e : iblk m c 4 t (ix2 k q : S1024x1024.Idx) = (V m c main_v6 : Weight) (ix2 k q) := by
    show (V m c main_v6 : Weight) _ = _
    refine congrArg _ (funext fun a => Fin.ext ?_)
    refine (Pipeline.Window.rect_emb_val (cfg0.win 4) t (ix2 k q : S1024x1024.Idx) a).trans ?_
    rw [index4]
    match a with
    | ⟨0, _⟩ => exact (by omega : 0 * 1024 + k.val = k.val)
    | ⟨1, _⟩ => exact (by omega : 0 * 1024 + q.val = q.val)
  exact e.trans (congrFun (V_v6 m c) _)

theorem one_row (y : Scale) (q : Fin 1024) : shapeCast S1x1024 y shapeCasts_S1024_S1x1024 (ix2 (0 : Fin 1) q) = y (ix1 q) :=
  shapeCast_apply _ _ (ix2 (0 : Fin 1) q) (ix1 q) (by rw [Shape.rowMajor_val_one, Shape.rowMajor_val_two]; show q.val = 0 * 1024 + q.val; omega)

theorem blk5 (t : Fin cfg0.N) (q : Fin 1024) : iblk m c 5 t (ix2 (0 : Fin 1) q : S1x1024.Idx) = aG m c (ix1 q) := by
  have e : iblk m c 5 t (ix2 (0 : Fin 1) q : S1x1024.Idx) = (V m c main_v7 : S1x1024.Idx → EReal) (ix2 (0 : Fin 1) q) := by
    show (V m c main_v7 : S1x1024.Idx → EReal) _ = _
    refine congrArg _ (funext fun a => Fin.ext ?_)
    refine (Pipeline.Window.rect_emb_val (cfg0.win 5) t (ix2 (0 : Fin 1) q : S1x1024.Idx) a).trans ?_
    rw [index5]
    match a with
    | ⟨0, _⟩ => rfl
    | ⟨1, _⟩ => exact (by omega : 0 * 1024 + q.val = q.val)
  exact e.trans ((congrFun (V_v7 m c) _).trans (one_row _ q))

theorem blk6 (t : Fin cfg0.N) (q : Fin 1024) : iblk m c 6 t (ix2 (0 : Fin 1) q : S1x1024.Idx) = aB m c (ix1 q) := by
  have e : iblk m c 6 t (ix2 (0 : Fin 1) q : S1x1024.Idx) = (V m c main_v8 : S1x1024.Idx → EReal) (ix2 (0 : Fin 1) q) := by
    show (V m c main_v8 : S1x1024.Idx → EReal) _ = _
    refine congrArg _ (funext fun a => Fin.ext ?_)
    refine (Pipeline.Window.rect_emb_val (cfg0.win 6) t (ix2 (0 : Fin 1) q : S1x1024.Idx) a).trans ?_
    rw [index6]
    match a with
    | ⟨0, _⟩ => rfl
    | ⟨1, _⟩ => exact (by omega : 0 * 1024 + q.val = q.val)
  exact e.trans ((congrFun (V_v8 m c) _).trans (one_row _ q))

/-- Every grid point leaves its own rows, normed, in the first 1024 columns of its block. -/
theorem point (t : Fin cfg0.N) (p : Fin 512) (q : Fin 1024) (q' : Fin 1152) (hq : q'.val = q.val) (r : Fin 66560) (hr : r.val = t.val * 512 + p.val) :
    (outsAt0 m c t).1 (ix2 p q') = O (aP m c) (aS m c) (aX m c) (aW m c) (aG m c) (aB m c) r q := by
  unfold outsAt0
  dsimp only
  refine (block c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t)
    (ms0_7 t) (hs0_7 t) (ms0_8 t) (hs0_8 t) (ms0_9 t) (hs0_9 t) (ms0_10 t) (hs0_10 t) (ms0_11 t) (hs0_11 t) (iblk m c 0 t) (iblk m c 1 t) (iblk m c 2 t) (iblk m c 3 t)
    (iblk m c 4 t) (iblk m c 5 t) (iblk m c 6 t) (iblk m c 7 t) (iblk m c 8 t) (iblk m c 9 t) p q q' hq).trans ?_
  unfold O
  have ea : (fun k => (if (grid0.coords t 0).val < 128 then iblk m c 0 t else iblk m c 1 t) (ix2 p k : S512x1024.Idx)) = arow (aP m c) (aS m c) r := by
    funext k
    rw [coord_val]
    by_cases ht : t.val < 128
    · rw [if_pos ht]; exact blk0 m c t ht p k r hr
    · rw [if_neg ht]; exact blk1 m c t ht p k r hr
  have ex : (fun k => iblk m c 2 t (ix2 p k : S512x1024.Idx)) = fun k => aX m c (ix2 r k) := funext fun k => blk2 m c t p k r hr
  have ew : (fun k q => iblk m c 4 t (ix2 k q : S1024x1024.Idx)) = fun k q => aW m c (ix2 k q) := funext fun k => funext fun q => blk4 m c t k q
  have eg : (fun q => iblk m c 5 t (ix2 (0 : Fin 1) q : S1x1024.Idx)) = fun q => aG m c (ix1 q) := funext fun q => blk5 m c t q
  have eb : (fun q => iblk m c 6 t (ix2 (0 : Fin 1) q : S1x1024.Idx)) = fun q => aB m c (ix1 q) := funext fun q => blk6 m c t q
  exact congrFun (congr (congrArg₂ lnorm (congr (congrArg₂ resid ex ea) ew) eg) eb) q

/-! ## The output array -/

theorem emb10 (t : Fin cfg0.N) (p : Fin 512) (q : Fin 1152) (r : Fin 66560) (hr : r.val = t.val * 512 + p.val) :
    ((cfg0.win 10).blk t).view.emb (ix2 p q : S512x1152.Idx) = (ix2 r q : S66560x1152.Idx) := by
  refine funext fun a => Fin.ext ?_
  refine (Pipeline.Window.rect_emb_val (cfg0.win 10) t (ix2 p q : S512x1152.Idx) a).trans ?_
  rw [index10 t]
  match a with
  | ⟨0, _⟩ => exact hr.symm
  | ⟨1, _⟩ => exact (by omega : 0 * 1152 + q.val = q.val)

/-- The point that leaves a row, and the row of its block. -/
def tileOf (r : Fin 66560) : Fin cfg0.N := (⟨r.val / 512, by omega⟩ : Fin 130)
def rowOf (r : Fin 66560) : Fin 512 := ⟨r.val % 512, Nat.mod_lt _ (by decide)⟩

/-- The whole array: each row is left by its point. -/
def wide : S66560x1152.Idx → EReal := fun j => (outsAt0 m c (tileOf (j 0))).1 (ix2 (rowOf (j 0)) (j 1))

theorem wide_emb (t : Fin cfg0.N) (y : S512x1152.Idx) : (outsAt0 m c t).1 y = wide m c (((cfg0.win 10).blk t).view.emb y) := by
  have hN : t.val < 130 := lt_of_lt_of_eq t.isLt (show cfg0.N = 130 from N_0)
  obtain ⟨p, q, rfl⟩ : ∃ (p : Fin 512) (q : Fin 1152), y = ix2 p q := ⟨y 0, y 1, eq_ix2 y⟩
  have hp := p.isLt
  rw [emb10 t p q (⟨t.val * 512 + p.val, by omega⟩ : Fin 66560) rfl]
  unfold wide
  have et : tileOf (⟨t.val * 512 + p.val, by omega⟩ : Fin 66560) = t := Fin.ext (by show (t.val * 512 + p.val) / 512 = t.val; omega)
  have ep : rowOf (⟨t.val * 512 + p.val, by omega⟩ : Fin 66560) = p := Fin.ext (by show (t.val * 512 + p.val) % 512 = p.val; omega)
  show _ = (outsAt0 m c (tileOf (⟨t.val * 512 + p.val, by omega⟩ : Fin 66560))).1 (ix2 (rowOf (⟨t.val * 512 + p.val, by omega⟩ : Fin 66560)) q)
  rw [et, ep]

theorem wide_covered (i : S66560x1152.Idx) : ∃ t : Fin cfg0.N, (cfg0.win 10).flush t = true ∧ i ∈ ((cfg0.win 10).blk t).view.set := by
  obtain ⟨r, q, rfl⟩ : ∃ (r : Fin 66560) (q : Fin 1152), i = ix2 r q := ⟨i 0, i 1, eq_ix2 i⟩
  have h := emb10 (tileOf r) (rowOf r) q r (by show r.val = r.val / 512 * 512 + r.val % 512; omega)
  exact ⟨tileOf r, flush0_10 _, h ▸ View.emb_mem_set _ _⟩

theorem wide_eq : (dats m 0 c).arrAt 10 cfg0.N = wide m c :=
  (dats m 0 c).arrAt_eq_of_emb 10 (wide m c) (fun t _ y => (congrFun (after0_10 m c t) _).trans (wide_emb m c t y)) (fun i => wide_covered i)

/-! ## The result: the normed columns -/

variable {F : FTy → Type} [FloatOps F] in
theorem tail10 (W : Valuation τ sig (Elt F)) : StableHlo.after hostOps1 W (Proc.tc.devRef main_v10)
    = extractStridedSlice S66560x1024 ![0, 0] (W (Proc.tc.devRef main_v9_0) : S66560x1152.Idx → Elt F .f32) slices_S66560x1152_S66560x1024_0_0 := by
  simp only [hostOps1]; after_results_simp <;> rfl

/-- The buffers when the operation after the grid begins. -/
abbrev W₁ : Valuation τ sig (Elt Ideal) := Pipeline.withArrays (cfgs 0).spec c (V0 m c) fun w => (dats m 0 c).arrAt w (cfgs 0).N

theorem wide_at : (W₁ m c (Proc.tc.devRef main_v9_0) : S66560x1152.Idx → EReal) = wide m c :=
  (Pipeline.withArrays_arr spec0 launch0.win.arr_inj c (V0 m c) (fun w => (dats m 0 c).arrAt w cfg0.N) 10).trans (wide_eq m c)

theorem tail_eq (b : Ref sig .tc) : Pipeline.afterTail₀ cfgs (dats m) 0 (V0 m) [hostOps1] c b = StableHlo.after hostOps1 (W₁ m c) (Proc.tc.devRef b) := by
  unfold Pipeline.afterTail₀
  rw [show List.flatten [(hostOps1 : List (HloOp τ sig (Elt Ideal)))] = hostOps1 from List.append_nil _]

def result : S66560x1024.Idx → EReal := fun j => O (aP m c) (aS m c) (aX m c) (aW m c) (aG m c) (aB m c) (j 0) (j 1)

theorem result_eq : Pipeline.afterTail₀ cfgs (dats m) 0 (V0 m) [hostOps1] c main_v10 = result m c := by
  refine (tail_eq m c main_v10).trans ((tail10 (W₁ m c)).trans ?_)
  rw [wide_at]
  funext j
  obtain ⟨r, q, rfl⟩ : ∃ (r : Fin 66560) (q : Fin 1024), j = ix2 r q := ⟨j 0, j 1, eq_ix2 j⟩
  refine (extractStridedSlice_apply ![0, 0] (wide m c) _ (ix2 r q) (ix2 r (⟨q.val, by omega⟩ : Fin 1152)) (fun a => match a with
    | ⟨0, _⟩ => (Nat.zero_add _).symm
    | ⟨1, _⟩ => (Nat.zero_add _).symm)).trans ?_
  exact point m c (tileOf r) (rowOf r) q (⟨q.val, by omega⟩ : Fin 1152) rfl r (by show r.val = r.val / 512 * 512 + r.val % 512; omega)

end Cert.OutProjValue

end

end
-- ==== Proof.OutProjRef.lean ====
/-
  The plain output projection and norm, element by element, are the formula.
-/
module

public import proofs.«01_k».proof.Proof.Gen.OutProjReferenceIdeal.Read
public import proofs.«01_k».proof.Proof.OutProjValue

@[expose] public section

set_option maxRecDepth 16384

noncomputable section

namespace Cert.OutProjRef

open Cert.OutProjReferenceIdeal Cert.OutProjReferenceIdeal.Gen Cert.OutProjReferenceIdeal.Read Cert.OutProjBlock Cert.OutProjValue
open Idealize.ShloMosaic hiding ix1 ix2 ix3 ix4 eq_ix1 eq_ix2 eq_ix3
open Idealize.ShloMosaic.ValueIdx
open scoped BigOperators

variable (pa : Prompt) (sa : Sample) (x : Rows) (w : Weight) (g b : Scale)

/-- The joined attention rows. -/
theorem at1 (r : Fin 66560) (k : Fin 1024) : val_main_v1 (F := Ideal) pa sa (ix2 r k) = arow pa sa r k := by
  have e : val_main_v0 (F := Ideal) pa sa (ix2 r k) = arow pa sa r k := by
    have hr := r.isLt
    unfold val_main_v0 arow
    by_cases h : r.val < 65536
    · rw [dif_pos h]
      exact concatenate_pair_apply_left (s₁ := S65536x1024) (s₂ := S1024x1024) (t := S66560x1024) 0 _ _ _ (ix2 r k) rfl (ix2 (⟨r.val, h⟩ : Fin 65536) k)
        (fun a => match a with | ⟨0, _⟩ => rfl | ⟨1, _⟩ => rfl)
    · rw [dif_neg h]
      exact concatenate_pair_apply_right (s₁ := S65536x1024) (s₂ := S1024x1024) (t := S66560x1024) 0 _ _ _ (ix2 r k) rfl rfl (ix2 (⟨r.val - 65536, by omega⟩ : Fin 1024) k)
        (fun a => match a with | ⟨0, _⟩ => fun hb => absurd rfl hb | ⟨1, _⟩ => fun _ => rfl) (by show (r.val - 65536) + 65536 = r.val; omega)
  rw [val_main_v1_apply]
  generalize val_main_v0 (F := Ideal) pa sa (ix2 r k) = y at e ⊢
  exact e

/-- The row that is normed. -/
abbrev rowR (r : Fin 66560) : Fin 1024 → EReal := resid (fun c => x (ix2 r c)) (arow pa sa r) (fun k c => w (ix2 k c))

theorem at5 (r : Fin 66560) (q : Fin 1024) : val_main_v5 (F := Ideal) pa sa x w (ix2 r q) = rowR pa sa x w r q := by
  have e : ∀ k, val_main_v1 (F := Ideal) pa sa (lidx_main_v4 (ix2 r q : S66560x1024.Idx) k) * w (ridx_main_v4 (ix2 r q : S66560x1024.Idx) k) = arow pa sa r k * w (ix2 k q) := fun k => by
    rw [show lidx_main_v4 (ix2 r q : S66560x1024.Idx) k = ix2 r k from funext fun a => match a with | ⟨0, _⟩ => rfl | ⟨1, _⟩ => rfl,
      show ridx_main_v4 (ix2 r q : S66560x1024.Idx) k = ix2 k q from funext fun a => match a with | ⟨0, _⟩ => rfl | ⟨1, _⟩ => rfl, at1]
  rw [val_main_v5_apply, val_main_v3_apply, val_main_v2_apply, val_main_cst_apply, val_main_v4_apply]
  simp only [e]
  rfl

theorem at9 (r : Fin 66560) : val_main_v9 (F := Ideal) pa sa x w (ix2 r (0 : Fin 1)) = mean (rowR pa sa x w r) := by
  have e : idx_main_v7 (ix2 r (0 : Fin 1) : S66560x1.Idx) = ix1 r := by
    funext a; match a with | ⟨0, _⟩ => rfl
  have ek : ∀ k, idx_main_v6 (ix1 r : S66560.Idx) k = ix2 r k := fun k => by
    funext a; match a with | ⟨0, _⟩ => rfl | ⟨1, _⟩ => rfl
  rw [val_main_v9_apply, val_main_v7_apply, e, val_main_v6_apply, val_main_cst_0_apply, val_main_v8_apply, val_main_cst_1_apply]
  simp only [ek, at5]
  show Ideal.div (Ideal.ofBits .f32 0#32 + _) _ = _
  rw [Ideal.ofBits_zero_f32, zero_add]; rfl

theorem at11 (r : Fin 66560) (q : Fin 1024) : val_main_v11 (F := Ideal) pa sa x w (ix2 r q) = rowR pa sa x w r q - mean (rowR pa sa x w r) := by
  have e : idx_main_v10 (ix2 r q : S66560x1024.Idx) = ix2 r (0 : Fin 1) := by
    funext a; match a with | ⟨0, _⟩ => rfl | ⟨1, _⟩ => rfl
  rw [val_main_v11_apply, val_main_v10_apply, e, at9, at5]; rfl

theorem at18 (r : Fin 66560) (q : Fin 1024) : val_main_v18 (F := Ideal) pa sa x w (ix2 r q) = rowR pa sa x w r q - mean (rowR pa sa x w r) := by
  have e : idx_main_v17 (ix2 r q : S66560x1024.Idx) = ix2 r (0 : Fin 1) := by
    funext a; match a with | ⟨0, _⟩ => rfl | ⟨1, _⟩ => rfl
  rw [val_main_v18_apply, val_main_v17_apply, e, at9, at5]; rfl

theorem at21 (r : Fin 66560) : val_main_v21 (F := Ideal) pa sa x w (ix2 r (0 : Fin 1))
    = Ideal.rsqrt (mean (fun c => (rowR pa sa x w r c - mean (rowR pa sa x w r)) * (rowR pa sa x w r c - mean (rowR pa sa x w r))) + Ideal.ofBits .f32 0x3727C5AC#32) := by
  have e : idx_main_v14 (ix2 r (0 : Fin 1) : S66560x1.Idx) = ix1 r := by
    funext a; match a with | ⟨0, _⟩ => rfl
  have ek : ∀ k, idx_main_v13 (ix1 r : S66560.Idx) k = ix2 r k := fun k => by
    funext a; match a with | ⟨0, _⟩ => rfl | ⟨1, _⟩ => rfl
  have hs : ∀ k, val_main_v12 (F := Ideal) pa sa x w (ix2 r k) = (rowR pa sa x w r k - mean (rowR pa sa x w r)) * (rowR pa sa x w r k - mean (rowR pa sa x w r)) := fun k => by
    rw [val_main_v12_apply, at11]; rfl
  rw [val_main_v21_apply, val_main_v20_apply, val_main_v16_apply, val_main_v14_apply, e, val_main_v13_apply, val_main_cst_2_apply, val_main_v15_apply, val_main_cst_3_apply,
    val_main_v19_apply, val_main_cst_4_apply]
  simp only [ek, hs]
  show Ideal.rsqrt (Ideal.div (Ideal.ofBits .f32 0#32 + _) _ + _) = _
  rw [Ideal.ofBits_zero_f32, zero_add]; rfl

theorem at29 (r : Fin 66560) (q : Fin 1024) : val_main_v29 (F := Ideal) pa sa x w g b (ix2 r q) = O pa sa x w g b r q := by
  have e : idx_main_v22 (ix2 r q : S66560x1024.Idx) = ix2 r (0 : Fin 1) := by
    funext a; match a with | ⟨0, _⟩ => rfl | ⟨1, _⟩ => rfl
  have eg : idx_main_v24 (idx_main_v25 (ix2 r q : S66560x1024.Idx)) = ix1 q := by
    funext a; match a with | ⟨0, _⟩ => rfl
  have eb : idx_main_v27 (idx_main_v28 (ix2 r q : S66560x1024.Idx)) = ix1 q := by
    funext a; match a with | ⟨0, _⟩ => rfl
  rw [val_main_v29_apply, val_main_v26_apply, val_main_v23_apply, val_main_v22_apply, e, at21, at18, val_main_v25_apply, val_main_v24_apply, eg,
    val_main_v28_apply, val_main_v27_apply, eb]
  rfl

end Cert.OutProjRef

end

end
-- ==== Proof.OutProjClaims.lean ====
/-
  The claims of the output projection: both programs run and keep their arguments, the reference runs, and over the
  extended reals the normed rows are equal.
-/
module

public import proofs.«01_k».proof.Defs
public import proofs.«01_k».proof.Proof.Gen.OutProj.Frame
public import proofs.«01_k».proof.Proof.Gen.OutProjIdeal.Frame
public import proofs.«01_k».proof.Proof.Gen.OutProjReferenceIdeal.Run
public import proofs.«01_k».proof.Proof.OutProjRef
public import proofs.«01_k».proof.Proof.OutProjValue
public import Idealize.ShloMosaic.Lib.Quiescent

@[expose] public section

set_option maxRecDepth 16384

noncomputable section

open Idealize.ShloMosaic Idealize.ShloMosaic.TcCoe Idealize.SL.Sem

namespace Cert.OutProjClaims

theorem outproj_runs : Cert.quiescent_OutProj (hOutProj := Cert.OutProj.Gen.facts) := fun m g _ => Cert.OutProj.Gen.frame m g

theorem outproj_ideal_runs : Cert.quiescent_OutProjIdeal (hOutProjIdeal := Cert.OutProjIdeal.Gen.facts) := fun m g _ => Cert.OutProjIdeal.Gen.frame m g

theorem outproj_reference_runs : Cert.quiescent_OutProjReferenceIdeal (hOutProjReferenceIdeal := Cert.OutProjReferenceIdeal.Gen.facts) := fun m g _ =>
  (θ_run Cert.OutProjReferenceIdeal.defs _ _).mono (fun r h => ⟨fun c => (h c).2, sem_eq_zero_of_no_sems (by decide) r.2⟩)
    (Cert.OutProjReferenceIdeal.Value.run (F := Ideal) m g)

section
open Cert.OutProjIdeal Cert.OutProjIdeal.Gen

variable (m : (ℓ : Loc nD τ sig) → Buf (Elt Ideal) ℓ) (g : Dev nD → PrngReg)

/-- The kernel ends with the normed rows and its arguments. -/
theorem kernel_values : θ_run (defs (F := Ideal)) (onTc (τ := τ) (main (F := Ideal))) ⟨m, fun _ => 0, g⟩ (fun r => ∀ c : Dev nD,
    r.2.mem ((c.tc : Thread nD τ).loc main_v10) = Cert.OutProjValue.result m c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)) :=
  (θ_run defs _ _).mono (fun _ h c => ⟨((h.2 c).2 main_v10 (Pipeline.mem_restRefs_of main_v10 (by decide) (by decide))).trans (Cert.OutProjValue.result_eq m c), h.1.1 c⟩)
    (θ_run_and (frame m g) (run_main m g))

end

theorem outproj_values_eq : Cert.algebraic_OutProjIdeal_OutProjReferenceIdeal (hOutProjIdeal := Cert.OutProjIdeal.Gen.facts)
    (hOutProjReferenceIdeal := Cert.OutProjReferenceIdeal.Gen.facts) := by
  intro m g m' g' hp ha
  refine ⟨fun c => Cert.OutProjValue.result m c, kernel_values m g, ?_⟩
  refine (θ_run _ _ _).mono (fun r h c => ?_) (Cert.OutProjReferenceIdeal.Value.run m' g')
  obtain ⟨h0, h1, h2, h3, h4, h5, h6, h7, h8⟩ := ha c
  refine ⟨(h c).1.trans ?_, (h c).2⟩
  rw [Cert.OutProjReferenceIdeal.Read.val_main_v29_eq, h0, h1, h2, h4, h5, h6]
  funext i
  obtain ⟨r, q, rfl⟩ : ∃ (r : Fin 66560) (q : Fin 1024), i = ValueIdx.ix2 r q := ⟨i 0, i 1, ValueIdx.eq_ix2 i⟩
  exact Cert.OutProjRef.at29 _ _ _ _ _ _ r q

end Cert.OutProjClaims

end

end
-- ==== Proof.lean ====
/-
  The certificate: the claims of the statement, assembled.
-/
module

public import proofs.«01_k».proof.Defs
public import proofs.«01_k».proof.Proof.Gen.Moe.Launch
public import proofs.«01_k».proof.Proof.Gen.Moe.Skeleton
public import proofs.«01_k».proof.Proof.Gen.MoeIdeal.Launch
public import proofs.«01_k».proof.Proof.Gen.MoeIdeal.Skeleton
public import proofs.«01_k».proof.Proof.Gen.MoeReferenceIdeal.Run
public import proofs.«01_k».proof.Proof.Gen.MoeReferenceIdeal.Read
public import proofs.«01_k».proof.Proof.Gen.Pre_in_range
public import proofs.«01_k».proof.Proof.Gen.Attn.Frame
public import proofs.«01_k».proof.Proof.Gen.AttnIdeal.Frame
public import proofs.«01_k».proof.Proof.Gen.AttnIdeal.Value
public import proofs.«01_k».proof.Proof.Gen.AttnReferenceIdeal.Run
public import proofs.«01_k».proof.Proof.Gen.AttnReferenceIdeal.Read
public import proofs.«01_k».proof.Proof.Gen.Pre_scores_finite
public import proofs.«01_k».proof.Proof.Gen.InProj.Frame
public import proofs.«01_k».proof.Proof.Gen.InProjIdeal.Frame
public import proofs.«01_k».proof.Proof.Gen.InProjReferenceIdeal.Run
public import proofs.«01_k».proof.Proof.Gen.InProjReferenceIdeal.Read
public import proofs.«01_k».proof.Proof.Gen.OutProj.Frame
public import proofs.«01_k».proof.Proof.Gen.OutProjIdeal.Frame
public import proofs.«01_k».proof.Proof.Gen.OutProjReferenceIdeal.Run
public import proofs.«01_k».proof.Proof.Gen.OutProjReferenceIdeal.Read
public import proofs.«01_k».proof.Proof.MoeClaims
public import proofs.«01_k».proof.Proof.AttnClaims
public import proofs.«01_k».proof.Proof.InProjClaims
public import proofs.«01_k».proof.Proof.OutProjClaims

@[expose] public section

open Cert.MoeClaims Cert.AttnClaims Cert.InProjClaims Cert.OutProjClaims in
theorem Cert.Proof.claim : Cert.Claim :=
  ⟨Cert.Moe.Gen.facts, Cert.MoeIdeal.Gen.facts, Cert.MoeReferenceIdeal.Gen.facts, Cert.Attn.Gen.facts, Cert.AttnIdeal.Gen.facts,
    Cert.AttnReferenceIdeal.Gen.facts, Cert.InProj.Gen.facts, Cert.InProjIdeal.Gen.facts, Cert.InProjReferenceIdeal.Gen.facts,
    Cert.OutProj.Gen.facts, Cert.OutProjIdeal.Gen.facts, Cert.OutProjReferenceIdeal.Gen.facts,
    Cert.Pre_in_range.Gen.facts, Cert.Pre_scores_finite.Gen.facts,
    kernel_runs, ideal_runs, reference_runs, reference_runs_pre, attn_runs, attn_ideal_runs, attn_ideal_runs_pre, attn_reference_runs,
    attn_reference_runs_pre, inproj_runs, inproj_ideal_runs, inproj_reference_runs,
    outproj_runs, outproj_ideal_runs, outproj_reference_runs, trivial, values_eq, trivial, attn_values_eq,
    trivial, inproj_values_eq, trivial, outproj_values_eq⟩

end
